-- ==== Defs.lean ====
def Pre_Kernel [hPre_pos_in_rows : Cert.Pre_pos_in_rows.Facts] (m : (ℓ : Loc Cert.Kernel.nD Cert.Kernel.τ Cert.Kernel.sig) → Buf (Elt Bits) ℓ) : Prop :=
  ∀ c : Dev Cert.Kernel.nD,
    (Cert.Pre_pos_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_in_rows : Cert.Pre_pos_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_in_rows [hPre_pos_in_rows : Cert.Pre_pos_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Dispatch [hPre_sel_is_expert : Cert.Pre_sel_is_expert.Facts] (m : (ℓ : Loc Cert.Dispatch.nD Cert.Dispatch.τ Cert.Dispatch.sig) → Buf (Elt Bits) ℓ) : Prop :=
  ∀ c : Dev Cert.Dispatch.nD,
    (Cert.Pre_sel_is_expert.fn (F := Bits) (m ((c.tc : Thread Cert.Dispatch.nD Cert.Dispatch.τ).loc Cert.Dispatch.main_arg0)) (m ((c.tc : Thread Cert.Dispatch.nD Cert.Dispatch.τ).loc Cert.Dispatch.main_arg1))) = (fun _ => 1#1)

def Pre_DispatchIdeal [hPre_sel_is_expert : Cert.Pre_sel_is_expert.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_sel_is_expert.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1))) = (fun _ => 1#1)

def Pre_DispatchReferenceIdeal (m : (ℓ : Loc Cert.DispatchReferenceIdeal.nD Cert.DispatchReferenceIdeal.τ Cert.DispatchReferenceIdeal.sig) → Buf (Elt Ideal) ℓ) : Prop :=
  True

def Pre_DispatchReferenceIdeal_sel_is_expert [hPre_sel_is_expert : Cert.Pre_sel_is_expert.Facts] (m : (ℓ : Loc Cert.DispatchReferenceIdeal.nD Cert.DispatchReferenceIdeal.τ Cert.DispatchReferenceIdeal.sig) → Buf (Elt Ideal) ℓ) : Prop :=
  ∀ c : Dev Cert.DispatchReferenceIdeal.nD,
    (Cert.Pre_sel_is_expert.fn (F := Ideal) (m ((c.tc : Thread Cert.DispatchReferenceIdeal.nD Cert.DispatchReferenceIdeal.τ).loc Cert.DispatchReferenceIdeal.main_arg0)) (m ((c.tc : Thread Cert.DispatchReferenceIdeal.nD Cert.DispatchReferenceIdeal.τ).loc Cert.DispatchReferenceIdeal.main_arg1))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_tokens_finite [hPre_tokens_finite : Cert.Pre_tokens_finite.Facts] (m : (ℓ : Loc Cert.RouterIdeal.nD Cert.RouterIdeal.τ Cert.RouterIdeal.sig) → Buf (Elt Ideal) ℓ) : Prop :=
  ∀ c : Dev Cert.RouterIdeal.nD,
    (Cert.Pre_tokens_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_tokens_finite [hPre_tokens_finite : Cert.Pre_tokens_finite.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_tokens_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1))) = (fun _ => 1#1)

def Pre_Ffn [hPre_block_table : Cert.Pre_block_table.Facts] (m : (ℓ : Loc Cert.Ffn.nD Cert.Ffn.τ Cert.Ffn.sig) → Buf (Elt Bits) ℓ) : Prop :=
  ∀ c : Dev Cert.Ffn.nD,
    (Cert.Pre_block_table.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7)) (m ((c.tc : Thread Cert.Ffn.nD Cert.Ffn.τ).loc Cert.Ffn.main_arg8)) (m ((c.tc : Thread Cert.Ffn.nD Cert.Ffn.τ).loc Cert.Ffn.main_arg9)) (m ((c.tc : Thread Cert.Ffn.nD Cert.Ffn.τ).loc Cert.Ffn.main_arg10)) (m ((c.tc : Thread Cert.Ffn.nD Cert.Ffn.τ).loc Cert.Ffn.main_arg11))) = (fun _ => 1#1)

def Pre_FfnIdeal [hPre_block_table : Cert.Pre_block_table.Facts] (m : (ℓ : Loc Cert.FfnIdeal.nD Cert.FfnIdeal.τ Cert.FfnIdeal.sig) → Buf (Elt Ideal) ℓ) : Prop :=
  ∀ c : Dev Cert.FfnIdeal.nD,
    (Cert.Pre_block_table.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))) = (fun _ => 1#1)

def Pre_FfnIdeal_block_table_and_gates [hPre_block_table_and_gates : Cert.Pre_block_table_and_gates.Facts] (m : (ℓ : Loc Cert.FfnIdeal.nD Cert.FfnIdeal.τ Cert.FfnIdeal.sig) → Buf (Elt Ideal) ℓ) : Prop :=
  ∀ c : Dev Cert.FfnIdeal.nD,
    (Cert.Pre_block_table_and_gates.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_block_table_and_gates [hPre_block_table_and_gates : Cert.Pre_block_table_and_gates.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_block_table_and_gates.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7)) (m ((c.tc : Thread Cert.FfnReferenceIdeal.nD Cert.FfnReferenceIdeal.τ).loc Cert.FfnReferenceIdeal.main_arg8)) (m ((c.tc : Thread Cert.FfnReferenceIdeal.nD Cert.FfnReferenceIdeal.τ).loc Cert.FfnReferenceIdeal.main_arg9)) (m ((c.tc : Thread Cert.FfnReferenceIdeal.nD Cert.FfnReferenceIdeal.τ).loc Cert.FfnReferenceIdeal.main_arg10)) (m ((c.tc : Thread Cert.FfnReferenceIdeal.nD Cert.FfnReferenceIdeal.τ).loc Cert.FfnReferenceIdeal.main_arg11))) = (fun _ => 1#1)

def quiescent_Kernel [hKernel : Cert.Kernel.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pos_in_rows [hReferenceIdeal : Cert.ReferenceIdeal.Facts] [hPre_pos_in_rows : Cert.Pre_pos_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Dispatch [hDispatch : Cert.Dispatch.Facts] [hPre_sel_is_expert : Cert.Pre_sel_is_expert.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (Cert.Dispatch.threads (F := Bits)) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1))
      ∧ r.2.sem = fun _ => 0)

def quiescent_DispatchIdeal [hDispatchIdeal : Cert.DispatchIdeal.Facts] [hPre_sel_is_expert : Cert.Pre_sel_is_expert.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (Cert.DispatchIdeal.threads (F := Ideal)) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchReferenceIdeal [hDispatchReferenceIdeal : Cert.DispatchReferenceIdeal.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1))
      ∧ r.2.sem = fun _ => 0)

def quiescent_DispatchReferenceIdeal_pre_sel_is_expert [hDispatchReferenceIdeal : Cert.DispatchReferenceIdeal.Facts] [hPre_sel_is_expert : Cert.Pre_sel_is_expert.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal_sel_is_expert m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_tokens_finite [hRouterIdeal : Cert.RouterIdeal.Facts] [hPre_tokens_finite : Cert.Pre_tokens_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_tokens_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_RouterReferenceIdeal_pre_tokens_finite [hRouterReferenceIdeal : Cert.RouterReferenceIdeal.Facts] [hPre_tokens_finite : Cert.Pre_tokens_finite.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_tokens_finite m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_Ffn [hFfn : Cert.Ffn.Facts] [hPre_block_table : Cert.Pre_block_table.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] [hPre_block_table : Cert.Pre_block_table.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnIdeal_pre_block_table_and_gates [hFfnIdeal : Cert.FfnIdeal.Facts] [hPre_block_table_and_gates : Cert.Pre_block_table_and_gates.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_block_table_and_gates m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11))
      ∧ r.2.sem = fun _ => 0)

def quiescent_FfnReferenceIdeal_pre_block_table_and_gates [hFfnReferenceIdeal : Cert.FfnReferenceIdeal.Facts] [hPre_block_table_and_gates : Cert.Pre_block_table_and_gates.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_block_table_and_gates m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Dispatch_DispatchIdeal : Prop :=
  True

def algebraic_DispatchIdeal_DispatchReferenceIdeal [hDispatchIdeal : Cert.DispatchIdeal.Facts] [hDispatchReferenceIdeal : Cert.DispatchReferenceIdeal.Facts] [hPre_sel_is_expert : Cert.Pre_sel_is_expert.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchReferenceIdeal.nD Cert.DispatchReferenceIdeal.τ Cert.DispatchReferenceIdeal.sig) → Buf (Elt Ideal) ℓ) (g' : Dev Cert.DispatchReferenceIdeal.nD → PrngReg), Pre_DispatchIdeal m →
    (∀ c : Dev Cert.DispatchIdeal.nD,
      m' ((c.tc : Thread Cert.DispatchReferenceIdeal.nD Cert.DispatchReferenceIdeal.τ).loc Cert.DispatchReferenceIdeal.main_arg0) = m ((c.tc : Thread Cert.DispatchIdeal.nD Cert.DispatchIdeal.τ).loc Cert.DispatchIdeal.main_arg0)
      ∧ m' ((c.tc : Thread Cert.DispatchReferenceIdeal.nD Cert.DispatchReferenceIdeal.τ).loc Cert.DispatchReferenceIdeal.main_arg1) = m ((c.tc : Thread Cert.DispatchIdeal.nD Cert.DispatchIdeal.τ).loc Cert.DispatchIdeal.main_arg1)) →
    ∃ (v0 : (c : Dev Cert.DispatchIdeal.nD) → Buf (Elt Ideal) ((c.tc : Thread Cert.DispatchIdeal.nD Cert.DispatchIdeal.τ).loc Cert.DispatchIdeal.main_v0_0)) (v1 : (c : Dev Cert.DispatchIdeal.nD) → Buf (Elt Ideal) ((c.tc : Thread Cert.DispatchIdeal.nD Cert.DispatchIdeal.τ).loc Cert.DispatchIdeal.main_v0_1)) (v2 : (c : Dev Cert.DispatchIdeal.nD) → Buf (Elt Ideal) ((c.tc : Thread Cert.DispatchIdeal.nD Cert.DispatchIdeal.τ).loc Cert.DispatchIdeal.main_v0_2)) (v3 : (c : Dev Cert.DispatchIdeal.nD) → Buf (Elt Ideal) ((c.tc : Thread Cert.DispatchIdeal.nD Cert.DispatchIdeal.τ).loc Cert.DispatchIdeal.main_v0_3)),
      θ_run (Cert.DispatchIdeal.defs (F := Ideal)) (Cert.DispatchIdeal.threads (F := Ideal)) ⟨m, fun _ => 0, g⟩ (fun r => ∀ c : Dev Cert.DispatchIdeal.nD,
          r.2.mem ((c.tc : Thread Cert.DispatchIdeal.nD Cert.DispatchIdeal.τ).loc Cert.DispatchIdeal.main_v0_0) = v0 c
          ∧ r.2.mem ((c.tc : Thread Cert.DispatchIdeal.nD Cert.DispatchIdeal.τ).loc Cert.DispatchIdeal.main_v0_1) = v1 c
          ∧ r.2.mem ((c.tc : Thread Cert.DispatchIdeal.nD Cert.DispatchIdeal.τ).loc Cert.DispatchIdeal.main_v0_2) = v2 c
          ∧ r.2.mem ((c.tc : Thread Cert.DispatchIdeal.nD Cert.DispatchIdeal.τ).loc Cert.DispatchIdeal.main_v0_3) = v3 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ θ_run (Cert.DispatchReferenceIdeal.defs (F := Ideal)) (onTc (τ := Cert.DispatchReferenceIdeal.τ) (Cert.DispatchReferenceIdeal.main (F := Ideal))) ⟨m', fun _ => 0, g'⟩ (fun r => ∀ c : Dev Cert.DispatchReferenceIdeal.nD,
          r.2.mem ((c.tc : Thread Cert.DispatchReferenceIdeal.nD Cert.DispatchReferenceIdeal.τ).loc Cert.DispatchReferenceIdeal.main_v47) = v0 c
          ∧ r.2.mem ((c.tc : Thread Cert.DispatchReferenceIdeal.nD Cert.DispatchReferenceIdeal.τ).loc Cert.DispatchReferenceIdeal.main_v55) = v1 c
          ∧ r.2.mem ((c.tc : Thread Cert.DispatchReferenceIdeal.nD Cert.DispatchReferenceIdeal.τ).loc Cert.DispatchReferenceIdeal.main_v37) = v2 c
          ∧ r.2.mem ((c.tc : Thread Cert.DispatchReferenceIdeal.nD Cert.DispatchReferenceIdeal.τ).loc Cert.DispatchReferenceIdeal.main_v71) = v3 c
          ∧ r.2.mem ((c.tc : Thread Cert.DispatchReferenceIdeal.nD Cert.DispatchReferenceIdeal.τ).loc Cert.DispatchReferenceIdeal.main_arg0) = m' ((c.tc : Thread Cert.DispatchReferenceIdeal.nD Cert.DispatchReferenceIdeal.τ).loc Cert.DispatchReferenceIdeal.main_arg0)
          ∧ r.2.mem ((c.tc : Thread Cert.DispatchReferenceIdeal.nD Cert.DispatchReferenceIdeal.τ).loc Cert.DispatchReferenceIdeal.main_arg1) = m' ((c.tc : Thread Cert.DispatchReferenceIdeal.nD Cert.DispatchReferenceIdeal.τ).loc Cert.DispatchReferenceIdeal.main_arg1))

def preserves_Router_RouterIdeal : Prop :=
  True

def algebraic_RouterIdeal_RouterReferenceIdeal_pre_tokens_finite [hRouterIdeal : Cert.RouterIdeal.Facts] [hRouterReferenceIdeal : Cert.RouterReferenceIdeal.Facts] [hPre_tokens_finite : Cert.Pre_tokens_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_tokens_finite m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v0_0)) (v1 : (c : Dev Cert.RouterIdeal.nD) → Buf (Elt Ideal) ((c.tc : Thread Cert.RouterIdeal.nD Cert.RouterIdeal.τ).loc Cert.RouterIdeal.main_v0_1)) (v2 : (c : Dev Cert.RouterIdeal.nD) → Buf (Elt Ideal) ((c.tc : Thread Cert.RouterIdeal.nD Cert.RouterIdeal.τ).loc Cert.RouterIdeal.main_v0_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_v0_1) = v1 c
          ∧ r.2.mem ((c.tc : Thread Cert.RouterIdeal.nD Cert.RouterIdeal.τ).loc Cert.RouterIdeal.main_v0_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_indices) = v0 c
          ∧ r.2.mem ((c.tc : Thread Cert.RouterReferenceIdeal.nD Cert.RouterReferenceIdeal.τ).loc Cert.RouterReferenceIdeal.main_v18) = v1 c
          ∧ r.2.mem ((c.tc : Thread Cert.RouterReferenceIdeal.nD Cert.RouterReferenceIdeal.τ).loc Cert.RouterReferenceIdeal.main_v19) = v2 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1))

def preserves_Ffn_FfnIdeal : Prop :=
  True

def algebraic_FfnIdeal_FfnReferenceIdeal_on_slots_of_used_blocks_pre_block_table_and_gates [hFfnIdeal : Cert.FfnIdeal.Facts] [hFfnReferenceIdeal : Cert.FfnReferenceIdeal.Facts] [hPre_block_table_and_gates : Cert.Pre_block_table_and_gates.Facts] [hOn_slots_of_used_blocks : Cert.On_slots_of_used_blocks.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_block_table_and_gates m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)
      ∧ m' ((c.tc : Thread Cert.FfnReferenceIdeal.nD Cert.FfnReferenceIdeal.τ).loc Cert.FfnReferenceIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          (∀ i : (⟨2, ![8192, 1024]⟩ : Shape).Idx, (Cert.On_slots_of_used_blocks.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))) i = 1#1 → r.2.mem ((c.tc : Thread Cert.FfnIdeal.nD Cert.FfnIdeal.τ).loc Cert.FfnIdeal.main_v0) i = v0 c i)
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          (∀ i : (⟨2, ![8192, 1024]⟩ : Shape).Idx, (Cert.On_slots_of_used_blocks.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))) i = 1#1 → r.2.mem ((c.tc : Thread Cert.FfnReferenceIdeal.nD Cert.FfnReferenceIdeal.τ).loc Cert.FfnReferenceIdeal.main_v36) i = v0 c i)
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10)
          ∧ r.2.mem ((c.tc : Thread Cert.FfnReferenceIdeal.nD Cert.FfnReferenceIdeal.τ).loc Cert.FfnReferenceIdeal.main_arg11) = m' ((c.tc : Thread Cert.FfnReferenceIdeal.nD Cert.FfnReferenceIdeal.τ).loc Cert.FfnReferenceIdeal.main_arg11))

def Claim : Prop :=
  ∃ (hKernel : Cert.Kernel.Facts) (hKernelIdeal : Cert.KernelIdeal.Facts) (hReferenceIdeal : Cert.ReferenceIdeal.Facts) (hDispatch : Cert.Dispatch.Facts) (hDispatchIdeal : Cert.DispatchIdeal.Facts) (hDispatchReferenceIdeal : Cert.DispatchReferenceIdeal.Facts) (hRouter : Cert.Router.Facts) (hRouterIdeal : Cert.RouterIdeal.Facts) (hRouterReferenceIdeal : Cert.RouterReferenceIdeal.Facts) (hFfn : Cert.Ffn.Facts) (hFfnIdeal : Cert.FfnIdeal.Facts) (hFfnReferenceIdeal : Cert.FfnReferenceIdeal.Facts) (hPre_pos_in_rows : Cert.Pre_pos_in_rows.Facts) (hPre_sel_is_expert : Cert.Pre_sel_is_expert.Facts) (hPre_tokens_finite : Cert.Pre_tokens_finite.Facts) (hPre_block_table : Cert.Pre_block_table.Facts) (hPre_block_table_and_gates : Cert.Pre_block_table_and_gates.Facts) (hOn_slots_of_used_blocks : Cert.On_slots_of_used_blocks.Facts),
    quiescent_Kernel (hKernel := hKernel) (hPre_pos_in_rows := hPre_pos_in_rows)
    ∧ quiescent_KernelIdeal (hKernelIdeal := hKernelIdeal) (hPre_pos_in_rows := hPre_pos_in_rows)
    ∧ quiescent_ReferenceIdeal (hReferenceIdeal := hReferenceIdeal)
    ∧ quiescent_ReferenceIdeal_pre_pos_in_rows (hReferenceIdeal := hReferenceIdeal) (hPre_pos_in_rows := hPre_pos_in_rows)
    ∧ quiescent_Dispatch (hDispatch := hDispatch) (hPre_sel_is_expert := hPre_sel_is_expert)
    ∧ quiescent_DispatchIdeal (hDispatchIdeal := hDispatchIdeal) (hPre_sel_is_expert := hPre_sel_is_expert)
    ∧ quiescent_DispatchReferenceIdeal (hDispatchReferenceIdeal := hDispatchReferenceIdeal)
    ∧ quiescent_DispatchReferenceIdeal_pre_sel_is_expert (hDispatchReferenceIdeal := hDispatchReferenceIdeal) (hPre_sel_is_expert := hPre_sel_is_expert)
    ∧ quiescent_Router (hRouter := hRouter)
    ∧ quiescent_RouterIdeal (hRouterIdeal := hRouterIdeal)
    ∧ quiescent_RouterIdeal_pre_tokens_finite (hRouterIdeal := hRouterIdeal) (hPre_tokens_finite := hPre_tokens_finite)
    ∧ quiescent_RouterReferenceIdeal (hRouterReferenceIdeal := hRouterReferenceIdeal)
    ∧ quiescent_RouterReferenceIdeal_pre_tokens_finite (hRouterReferenceIdeal := hRouterReferenceIdeal) (hPre_tokens_finite := hPre_tokens_finite)
    ∧ quiescent_Ffn (hFfn := hFfn) (hPre_block_table := hPre_block_table)
    ∧ quiescent_FfnIdeal (hFfnIdeal := hFfnIdeal) (hPre_block_table := hPre_block_table)
    ∧ quiescent_FfnIdeal_pre_block_table_and_gates (hFfnIdeal := hFfnIdeal) (hPre_block_table_and_gates := hPre_block_table_and_gates)
    ∧ quiescent_FfnReferenceIdeal (hFfnReferenceIdeal := hFfnReferenceIdeal)
    ∧ quiescent_FfnReferenceIdeal_pre_block_table_and_gates (hFfnReferenceIdeal := hFfnReferenceIdeal) (hPre_block_table_and_gates := hPre_block_table_and_gates)
    ∧ preserves_Kernel_KernelIdeal
    ∧ algebraic_KernelIdeal_ReferenceIdeal (hKernelIdeal := hKernelIdeal) (hReferenceIdeal := hReferenceIdeal) (hPre_pos_in_rows := hPre_pos_in_rows)
    ∧ preserves_Dispatch_DispatchIdeal
    ∧ algebraic_DispatchIdeal_DispatchReferenceIdeal (hDispatchIdeal := hDispatchIdeal) (hDispatchReferenceIdeal := hDispatchReferenceIdeal) (hPre_sel_is_expert := hPre_sel_is_expert)
    ∧ preserves_Router_RouterIdeal
    ∧ algebraic_RouterIdeal_RouterReferenceIdeal_pre_tokens_finite (hRouterIdeal := hRouterIdeal) (hRouterReferenceIdeal := hRouterReferenceIdeal) (hPre_tokens_finite := hPre_tokens_finite)
    ∧ preserves_Ffn_FfnIdeal
    ∧ algebraic_FfnIdeal_FfnReferenceIdeal_on_slots_of_used_blocks_pre_block_table_and_gates (hFfnIdeal := hFfnIdeal) (hFfnReferenceIdeal := hFfnReferenceIdeal) (hPre_block_table_and_gates := hPre_block_table_and_gates) (hOn_slots_of_used_blocks := hOn_slots_of_used_blocks)
-- ==== On_slots_of_used_blocks.lean ====
abbrev S32 : Shape := ⟨1, ![32]⟩
abbrev S2048x1024 : Shape := ⟨2, ![2048, 1024]⟩
abbrev S8192x1 : Shape := ⟨2, ![8192, 1]⟩
abbrev S8x1024x2736 : Shape := ⟨3, ![8, 1024, 2736]⟩
abbrev S8x1x2736 : Shape := ⟨3, ![8, 1, 2736]⟩
abbrev S8x2736x1024 : Shape := ⟨3, ![8, 2736, 1024]⟩
abbrev S8x1x1024 : Shape := ⟨3, ![8, 1, 1024]⟩
abbrev S8192x1024 : Shape := ⟨2, ![8192, 1024]⟩
abbrev S_ : Shape := ⟨0, ![]⟩
abbrev S1 : Shape := ⟨1, ![1]⟩

class Facts : Prop where
  bcast_S_S8192x1024 : S_.BroadcastsInDim S8192x1024 (![] : Fin 0 → Fin S8192x1024.rank)
  slices_S32_S1_31 : S32.Slices ![31] S1
  shapeCasts_S1_S_ : S1.ShapeCasts S_

variable [Facts]

def fn {F : FTy → Type} [FloatOps F] (main_arg0 : IVec S32 32) (main_arg1 : IVec S32 32) (main_arg2 : IVec S32 32) (main_arg3 : FVec F S2048x1024 .bf16) (main_arg4 : IVec S8192x1 32) (main_arg5 : FVec F S8x1024x2736 .f32) (main_arg6 : FVec F S8x1x2736 .f32) (main_arg7 : FVec F S8x1024x2736 .f32) (main_arg8 : FVec F S8x1x2736 .f32) (main_arg9 : FVec F S8x2736x1024 .f32) (main_arg10 : FVec F S8x1x1024 .f32) (main_arg11 : FVec F S8192x1 .f32) : IVec S8192x1024 1 :=
  let main_v0 : IVec S8192x1024 32 := iotaInDim S8192x1024 32 0
  let main_c : IVec S_ 32 := constantI S_ 32 512#32
  let main_v1 : IVec S8192x1024 32 := broadcastInDim S8192x1024 ![] bcast_S_S8192x1024 main_c
  let main_v2 : IVec S8192x1024 32 := Host.divsi main_v0 main_v1
  let main_v3 : IVec S1 32 := (extractStridedSlice S1 ![31] · slices_S32_S1_31) main_arg2
  let main_v4 : IVec S_ 32 := shapeCast S_ main_v3 shapeCasts_S1_S_
  let main_v5 : IVec S8192x1024 32 := broadcastInDim S8192x1024 ![] bcast_S_S8192x1024 main_v4
  let main_v6 : IVec S8192x1024 1 := cmpi .sle main_v2 main_v5
  main_v6
-- ==== Pre_block_table.lean ====
abbrev S32 : Shape := ⟨1, ![32]⟩
abbrev S2048x1024 : Shape := ⟨2, ![2048, 1024]⟩
abbrev S8192x1 : Shape := ⟨2, ![8192, 1]⟩
abbrev S8x1024x2736 : Shape := ⟨3, ![8, 1024, 2736]⟩
abbrev S8x1x2736 : Shape := ⟨3, ![8, 1, 2736]⟩
abbrev S8x2736x1024 : Shape := ⟨3, ![8, 2736, 1024]⟩
abbrev S8x1x1024 : Shape := ⟨3, ![8, 1, 1024]⟩
abbrev S1 : Shape := ⟨1, ![1]⟩
abbrev S_ : Shape := ⟨0, ![]⟩

class Facts : Prop where
  slices_S32_S1_31 : S32.Slices ![31] S1
  shapeCasts_S1_S_ : S1.ShapeCasts S_
  bcast_S_S32 : S_.BroadcastsInDim S32 (![] : Fin 0 → Fin S32.rank)
  reducesTo_S32_S_d0 : S32.ReducesTo [0] S_
  h_S_ : 0 < S_.numel
  natLt_1_32 : 1 < 32
  bcast_S_S8192x1 : S_.BroadcastsInDim S8192x1 (![] : Fin 0 → Fin S8192x1.rank)
  reducesTo_S8192x1_S_d0_1 : S8192x1.ReducesTo [0, 1] S_

variable [Facts]

def fn_part1 {F : FTy → Type} [FloatOps F] (main_arg1 : IVec S32 32) (main_arg4 : IVec S8192x1 32) (main_v2 : IVec S32 32) (main_v8 : IVec S_ 1) (main_v16 : IVec S_ 1) (main_v17 : IVec S32 32) : IVec S_ 1 :=
  let main_v18 : IVec S32 1 := cmpi .sle main_v2 main_v17
  let main_v19 : IVec S32 32 := (extui 32 · natLt_1_32) main_v18
  let main_v20 : IVec S32 1 := cmpi .eq main_arg1 main_v19
  let main_c_5 : IVec S_ 1 := constantI S_ 1 1#1
  let main_v21 : IVec S_ 1 := (fun x v => Host.reduce IntOp.andi x v reducesTo_S32_S_d0 h_S_) main_v20 main_c_5
  let main_v22 : IVec S_ 1 := andi main_v16 main_v21
  let main_v23 : IVec S_ 1 := andi main_v8 main_v22
  let main_c_6 : IVec S_ 32 := constantI S_ 32 0#32
  let main_v24 : IVec S8192x1 32 := broadcastInDim S8192x1 ![] bcast_S_S8192x1 main_c_6
  let main_v25 : IVec S8192x1 1 := cmpi .sge main_arg4 main_v24
  let main_c_7 : IVec S_ 32 := constantI S_ 32 2048#32
  let main_v26 : IVec S8192x1 32 := broadcastInDim S8192x1 ![] bcast_S_S8192x1 main_c_7
  let main_v27 : IVec S8192x1 1 := cmpi .slt main_arg4 main_v26
  let main_v28 : IVec S8192x1 1 := andi main_v25 main_v27
  let main_c_8 : IVec S_ 1 := constantI S_ 1 1#1
  let main_v29 : IVec S_ 1 := (fun x v => Host.reduce IntOp.andi x v reducesTo_S8192x1_S_d0_1 h_S_) main_v28 main_c_8
  let main_v30 : IVec S_ 1 := andi main_v23 main_v29
  main_v30

def fn {F : FTy → Type} [FloatOps F] (main_arg0 : IVec S32 32) (main_arg1 : IVec S32 32) (main_arg2 : IVec S32 32) (main_arg3 : FVec F S2048x1024 .bf16) (main_arg4 : IVec S8192x1 32) (main_arg5 : FVec F S8x1024x2736 .f32) (main_arg6 : FVec F S8x1x2736 .f32) (main_arg7 : FVec F S8x1024x2736 .f32) (main_arg8 : FVec F S8x1x2736 .f32) (main_arg9 : FVec F S8x2736x1024 .f32) (main_arg10 : FVec F S8x1x1024 .f32) (main_arg11 : FVec F S8192x1 .f32) : IVec S_ 1 :=
  let main_v0 : IVec S1 32 := (extractStridedSlice S1 ![31] · slices_S32_S1_31) main_arg2
  let main_v1 : IVec S_ 32 := shapeCast S_ main_v0 shapeCasts_S1_S_
  let main_v2 : IVec S32 32 := iotaInDim S32 32 0
  let main_c : IVec S_ 32 := constantI S_ 32 0#32
  let main_v3 : IVec S32 32 := broadcastInDim S32 ![] bcast_S_S32 main_c
  let main_v4 : IVec S32 1 := cmpi .sge main_arg0 main_v3
  let main_c_0 : IVec S_ 32 := constantI S_ 32 8#32
  let main_v5 : IVec S32 32 := broadcastInDim S32 ![] bcast_S_S32 main_c_0
  let main_v6 : IVec S32 1 := cmpi .slt main_arg0 main_v5
  let main_v7 : IVec S32 1 := andi main_v4 main_v6
  let main_c_1 : IVec S_ 1 := constantI S_ 1 1#1
  let main_v8 : IVec S_ 1 := (fun x v => Host.reduce IntOp.andi x v reducesTo_S32_S_d0 h_S_) main_v7 main_c_1
  let main_c_2 : IVec S_ 32 := constantI S_ 32 0#32
  let main_v9 : IVec S_ 1 := cmpi .sge main_v1 main_c_2
  let main_c_3 : IVec S_ 32 := constantI S_ 32 16#32
  let main_v10 : IVec S_ 1 := cmpi .slt main_v1 main_c_3
  let main_v11 : IVec S_ 1 := andi main_v9 main_v10
  let main_v12 : IVec S32 32 := broadcastInDim S32 ![] bcast_S_S32 main_v1
  let main_v13 : IVec S32 32 := minsi main_v2 main_v12
  let main_v14 : IVec S32 1 := cmpi .eq main_arg2 main_v13
  let main_c_4 : IVec S_ 1 := constantI S_ 1 1#1
  let main_v15 : IVec S_ 1 := (fun x v => Host.reduce IntOp.andi x v reducesTo_S32_S_d0 h_S_) main_v14 main_c_4
  let main_v16 : IVec S_ 1 := andi main_v11 main_v15
  let main_v17 : IVec S32 32 := broadcastInDim S32 ![] bcast_S_S32 main_v1
  fn_part1 (F := F) main_arg1 main_arg4 main_v2 main_v8 main_v16 main_v17
-- ==== Pre_block_table_and_gates.lean ====
abbrev S32 : Shape := ⟨1, ![32]⟩
abbrev S2048x1024 : Shape := ⟨2, ![2048, 1024]⟩
abbrev S8192x1 : Shape := ⟨2, ![8192, 1]⟩
abbrev S8x1024x2736 : Shape := ⟨3, ![8, 1024, 2736]⟩
abbrev S8x1x2736 : Shape := ⟨3, ![8, 1, 2736]⟩
abbrev S8x2736x1024 : Shape := ⟨3, ![8, 2736, 1024]⟩
abbrev S8x1x1024 : Shape := ⟨3, ![8, 1, 1024]⟩
abbrev S_ : Shape := ⟨0, ![]⟩
abbrev S1 : Shape := ⟨1, ![1]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  slices_S32_S1_31 : S32.Slices ![31] S1
  shapeCasts_S1_S_ : S1.ShapeCasts S_
  bcast_S_S32 : S_.BroadcastsInDim S32 (![] : Fin 0 → Fin S32.rank)
  reducesTo_S32_S_d0 : S32.ReducesTo [0] S_
  natLt_1_32 : 1 < 32

variable [Facts]

def fn_part2 {F : FTy → Type} [FloatOps F] (main_v5 : IVec S_ 1) (main_v29 : IVec S_ 1) (main_v34 : IVec S8192x1 1) (main_c_10 : IVec S_ 1) : IVec S_ 1 :=
  let main_v35 : IVec S_ 1 := (fun x v => Host.reduce IntOp.andi x v reducesTo_S8192x1_S_d0_1 h_S_) main_v34 main_c_10
  let main_v36 : IVec S_ 1 := andi main_v29 main_v35
  let main_v37 : IVec S_ 1 := andi main_v36 main_v5
  main_v37

def fn_part1 {F : FTy → Type} [FloatOps F] (main_arg1 : IVec S32 32) (main_arg2 : IVec S32 32) (main_arg4 : IVec S8192x1 32) (main_v5 : IVec S_ 1) (main_v7 : IVec S_ 32) (main_v8 : IVec S32 32) (main_v14 : IVec S_ 1) (main_v15 : IVec S_ 1) (main_c_5 : IVec S_ 32) : IVec S_ 1 :=
  let main_v16 : IVec S_ 1 := cmpi .slt main_v7 main_c_5
  let main_v17 : IVec S_ 1 := andi main_v15 main_v16
  let main_v18 : IVec S32 32 := broadcastInDim S32 ![] bcast_S_S32 main_v7
  let main_v19 : IVec S32 32 := minsi main_v8 main_v18
  let main_v20 : IVec S32 1 := cmpi .eq main_arg2 main_v19
  let main_c_6 : IVec S_ 1 := constantI S_ 1 1#1
  let main_v21 : IVec S_ 1 := (fun x v => Host.reduce IntOp.andi x v reducesTo_S32_S_d0 h_S_) main_v20 main_c_6
  let main_v22 : IVec S_ 1 := andi main_v17 main_v21
  let main_v23 : IVec S32 32 := broadcastInDim S32 ![] bcast_S_S32 main_v7
  let main_v24 : IVec S32 1 := cmpi .sle main_v8 main_v23
  let main_v25 : IVec S32 32 := (extui 32 · natLt_1_32) main_v24
  let main_v26 : IVec S32 1 := cmpi .eq main_arg1 main_v25
  let main_c_7 : IVec S_ 1 := constantI S_ 1 1#1
  let main_v27 : IVec S_ 1 := (fun x v => Host.reduce IntOp.andi x v reducesTo_S32_S_d0 h_S_) main_v26 main_c_7
  let main_v28 : IVec S_ 1 := andi main_v22 main_v27
  let main_v29 : IVec S_ 1 := andi main_v14 main_v28
  let main_c_8 : IVec S_ 32 := constantI S_ 32 0#32
  let main_v30 : IVec S8192x1 32 := broadcastInDim S8192x1 ![] bcast_S_S8192x1 main_c_8
  let main_v31 : IVec S8192x1 1 := cmpi .sge main_arg4 main_v30
  let main_c_9 : IVec S_ 32 := constantI S_ 32 2048#32
  let main_v32 : IVec S8192x1 32 := broadcastInDim S8192x1 ![] bcast_S_S8192x1 main_c_9
  let main_v33 : IVec S8192x1 1 := cmpi .slt main_arg4 main_v32
  let main_v34 : IVec S8192x1 1 := andi main_v31 main_v33
  let main_c_10 : IVec S_ 1 := constantI S_ 1 1#1
  fn_part2 (F := F) main_v5 main_v29 main_v34 main_c_10

def fn {F : FTy → Type} [FloatOps F] (main_arg0 : IVec S32 32) (main_arg1 : IVec S32 32) (main_arg2 : IVec S32 32) (main_arg3 : FVec F S2048x1024 .bf16) (main_arg4 : IVec S8192x1 32) (main_arg5 : FVec F S8x1024x2736 .f32) (main_arg6 : FVec F S8x1x2736 .f32) (main_arg7 : FVec F S8x1024x2736 .f32) (main_arg8 : FVec F S8x1x2736 .f32) (main_arg9 : FVec F S8x2736x1024 .f32) (main_arg10 : FVec F S8x1x1024 .f32) (main_arg11 : FVec F S8192x1 .f32) : IVec S_ 1 :=
  let main_cst : FVec F S_ .f32 := constant S_ .f32 0x00000000#32
  let main_v0 : FVec F S8192x1 .f32 := broadcastInDim S8192x1 ![] bcast_S_S8192x1 main_cst
  let main_v1 : IVec S8192x1 1 := cmpf .oge main_arg11 main_v0
  let main_cst_0 : FVec F S_ .f32 := constant S_ .f32 0x7F800000#32
  let main_v2 : FVec F S8192x1 .f32 := broadcastInDim S8192x1 ![] bcast_S_S8192x1 main_cst_0
  let main_v3 : IVec S8192x1 1 := cmpf .olt main_arg11 main_v2
  let main_v4 : IVec S8192x1 1 := andi main_v1 main_v3
  let main_c : IVec S_ 1 := constantI S_ 1 1#1
  let main_v5 : IVec S_ 1 := (fun x v => Host.reduce IntOp.andi x v reducesTo_S8192x1_S_d0_1 h_S_) main_v4 main_c
  let main_v6 : IVec S1 32 := (extractStridedSlice S1 ![31] · slices_S32_S1_31) main_arg2
  let main_v7 : IVec S_ 32 := shapeCast S_ main_v6 shapeCasts_S1_S_
  let main_v8 : IVec S32 32 := iotaInDim S32 32 0
  let main_c_1 : IVec S_ 32 := constantI S_ 32 0#32
  let main_v9 : IVec S32 32 := broadcastInDim S32 ![] bcast_S_S32 main_c_1
  let main_v10 : IVec S32 1 := cmpi .sge main_arg0 main_v9
  let main_c_2 : IVec S_ 32 := constantI S_ 32 8#32
  let main_v11 : IVec S32 32 := broadcastInDim S32 ![] bcast_S_S32 main_c_2
  let main_v12 : IVec S32 1 := cmpi .slt main_arg0 main_v11
  let main_v13 : IVec S32 1 := andi main_v10 main_v12
  let main_c_3 : IVec S_ 1 := constantI S_ 1 1#1
  let main_v14 : IVec S_ 1 := (fun x v => Host.reduce IntOp.andi x v reducesTo_S32_S_d0 h_S_) main_v13 main_c_3
  let main_c_4 : IVec S_ 32 := constantI S_ 32 0#32
  let main_v15 : IVec S_ 1 := cmpi .sge main_v7 main_c_4
  let main_c_5 : IVec S_ 32 := constantI S_ 32 16#32
  fn_part1 (F := F) main_arg1 main_arg2 main_arg4 main_v5 main_v7 main_v8 main_v14 main_v15 main_c_5
-- ==== Pre_pos_in_rows.lean ====
abbrev S8192x1024 : Shape := ⟨2, ![8192, 1024]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S8192x1024 .f32) (main_arg1 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 8192#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Pre_sel_is_expert.lean ====
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S4096 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 8#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Pre_tokens_finite.lean ====
abbrev S2048x1024 : Shape := ⟨2, ![2048, 1024]⟩
abbrev S8x1024 : Shape := ⟨2, ![8, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S2048x1024 .f32) (main_arg1 : FVec F S8x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Kernel.lean ====
abbrev S8192x1024 : Shape := ⟨2, ![8192, 1024]⟩
abbrev S4096 : Shape := ⟨1, ![4096]⟩
abbrev S2048x1024 : Shape := ⟨2, ![2048, 1024]⟩
abbrev S128 : Shape := ⟨1, ![128]⟩
abbrev S64x1024 : Shape := ⟨2, ![64, 1024]⟩
abbrev S32x1024 : Shape := ⟨2, ![32, 1024]⟩
abbrev S_ : Shape := ⟨0, ![]⟩
abbrev S64x128 : Shape := ⟨2, ![64, 128]⟩
abbrev S64 : Shape := ⟨1, ![64]⟩
abbrev S8192x128 : Shape := ⟨2, ![8192, 128]⟩
abbrev S16 : Shape := ⟨1, ![16]⟩
abbrev S1x16 : Shape := ⟨2, ![1, 16]⟩

abbrev nBuf : Table → Nat
  | .hbm => 3
  | .local .scVector .vmem => 3
  | _ => 0

abbrev bufTy : (tb : Table) → Fin (nBuf tb) → BufTy
  | .hbm, ⟨0, _⟩ => ⟨S8192x1024, .f32⟩
  | .hbm, ⟨1, _⟩ => ⟨S4096, .i32⟩
  | .hbm, ⟨2, _⟩ => ⟨S2048x1024, .f32⟩
  | .local .scVector .vmem, ⟨0, _⟩ => ⟨S128, .i32⟩
  | .local .scVector .vmem, ⟨1, _⟩ => ⟨S64x1024, .f32⟩
  | .local .scVector .vmem, ⟨2, _⟩ => ⟨S32x1024, .f32⟩
  | _, _ => ⟨S8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_0 : BitVec 32 := 2#32
  let v3 : BitVec 32 := Scalar.muli v2 c2_i32_0
  ![v3.toNat]
@[reducible] def k0_t1_loop : Scf.Loop 32 :=
  let c0_i32_73 : BitVec 32 := 0#32
  let c32_i32 : BitVec 32 := 32#32
  let v52 : BitVec 32 := Scalar.addi c0_i32_73 c32_i32
  let c1_i32 : BitVec 32 := 1#32
  ⟨c0_i32_73, v52, c1_i32⟩
def k0_off2 (k0_t1 : Fin k0_t1_loop.trips) : Fin 2 → Nat :=
  let c2_i32_161 : BitVec 32 := 2#32
  let c0_i32_73 : BitVec 32 := 0#32
  let c1_i32 : BitVec 32 := 1#32
  let arg9 : BitVec 32 := Scf.iv c0_i32_73 c1_i32 k0_t1
  let v104 : BitVec 32 := Scalar.muli c2_i32_161 arg9
  let v105 : Index := Scalar.indexCast v104
  let c0 : Index := 0#32
  ![v105.toNat, 0]
def k0_off3 (k0_t1 : Fin k0_t1_loop.trips) : Fin 2 → Nat :=
  let c2_i32_162 : BitVec 32 := 2#32
  let c0_i32_73 : BitVec 32 := 0#32
  let c1_i32 : BitVec 32 := 1#32
  let arg9 : BitVec 32 := Scf.iv c0_i32_73 c1_i32 k0_t1
  let v107 : BitVec 32 := Scalar.muli c2_i32_162 arg9
  let c1_i32_163 : BitVec 32 := 1#32
  let v108 : BitVec 32 := Scalar.addi v107 c1_i32_163
  let v109 : Index := Scalar.indexCast v108
  let c0_164 : Index := 0#32
  ![v109.toNat, 0]
def k0_off4 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v112 : Index := Scalar.indexCast arg9
  let c0_165 : Index := 0#32
  ![v112.toNat, 0]
def k0_off5 (k0_t1 : Fin k0_t1_loop.trips) : Fin 2 → Nat :=
  let c2_i32_166 : BitVec 32 := 2#32
  let c0_i32_73 : BitVec 32 := 0#32
  let c1_i32 : BitVec 32 := 1#32
  let arg9 : BitVec 32 := Scf.iv c0_i32_73 c1_i32 k0_t1
  let v114 : BitVec 32 := Scalar.muli c2_i32_166 arg9
  let v115 : Index := Scalar.indexCast v114
  let c16 : Index := 16#32
  ![v115.toNat, 16]
def k0_off6 (k0_t1 : Fin k0_t1_loop.trips) : Fin 2 → Nat :=
  let c2_i32_167 : BitVec 32 := 2#32
  let c0_i32_73 : BitVec 32 := 0#32
  let c1_i32 : BitVec 32 := 1#32
  let arg9 : BitVec 32 := Scf.iv c0_i32_73 c1_i32 k0_t1
  let v117 : BitVec 32 := Scalar.muli c2_i32_167 arg9
  let c1_i32_168 : BitVec 32 := 1#32
  let v118 : BitVec 32 := Scalar.addi v117 c1_i32_168
  let v119 : Index := Scalar.indexCast v118
  let c16_169 : Index := 16#32
  ![v119.toNat, 16]
def k0_off7 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v122 : Index := Scalar.indexCast arg9
  let c16_170 : Index := 16#32
  ![v122.toNat, 16]
def k0_off8 (k0_t1 : Fin k0_t1_loop.trips) : Fin 2 → Nat :=
  let c2_i32_171 : BitVec 32 := 2#32
  let c0_i32_73 : BitVec 32 := 0#32
  let c1_i32 : BitVec 32 := 1#32
  let arg9 : BitVec 32 := Scf.iv c0_i32_73 c1_i32 k0_t1
  let v124 : BitVec 32 := Scalar.muli c2_i32_171 arg9
  let v125 : Index := Scalar.indexCast v124
  let c32 : Index := 32#32
  ![v125.toNat, 32]
def k0_off9 (k0_t1 : Fin k0_t1_loop.trips) : Fin 2 → Nat :=
  let c2_i32_172 : BitVec 32 := 2#32
  let c0_i32_73 : BitVec 32 := 0#32
  let c1_i32 : BitVec 32 := 1#32
  let arg9 : BitVec 32 := Scf.iv c0_i32_73 c1_i32 k0_t1
  let v127 : BitVec 32 := Scalar.muli c2_i32_172 arg9
  let c1_i32_173 : BitVec 32 := 1#32
  let v128 : BitVec 32 := Scalar.addi v127 c1_i32_173
  let v129 : Index := Scalar.indexCast v128
  let c32_174 : Index := 32#32
  ![v129.toNat, 32]
def k0_off10 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v132 : Index := Scalar.indexCast arg9
  let c32_175 : Index := 32#32
  ![v132.toNat, 32]
def k0_off11 (k0_t1 : Fin k0_t1_loop.trips) : Fin 2 → Nat :=
  let c2_i32_176 : BitVec 32 := 2#32
  let c0_i32_73 : BitVec 32 := 0#32
  let c1_i32 : BitVec 32 := 1#32
  let arg9 : BitVec 32 := Scf.iv c0_i32_73 c1_i32 k0_t1
  let v134 : BitVec 32 := Scalar.muli c2_i32_176 arg9
  let v135 : Index := Scalar.indexCast v134
  let c48 : Index := 48#32
  ![v135.toNat, 48]
def k0_off12 (k0_t1 : Fin k0_t1_loop.trips) : Fin 2 → Nat :=
  let c2_i32_177 : BitVec 32 := 2#32
  let c0_i32_73 : BitVec 32 := 0#32
  let c1_i32 : BitVec 32 := 1#32
  let arg9 : BitVec 32 := Scf.iv c0_i32_73 c1_i32 k0_t1
  let v137 : BitVec 32 := Scalar.muli c2_i32_177 arg9
  let c1_i32_178 : BitVec 32 := 1#32
  let v138 : BitVec 32 := Scalar.addi v137 c1_i32_178
  let v139 : Index := Scalar.indexCast v138
  let c48_179 : Index := 48#32
  ![v139.toNat, 48]
def k0_off13 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v142 : Index := Scalar.indexCast arg9
  let c48_180 : Index := 48#32
  ![v142.toNat, 48]
def k0_off14 (k0_t1 : Fin k0_t1_loop.trips) : Fin 2 → Nat :=
  let c2_i32_181 : BitVec 32 := 2#32
  let c0_i32_73 : BitVec 32 := 0#32
  let c1_i32 : BitVec 32 := 1#32
  let arg9 : BitVec 32 := Scf.iv c0_i32_73 c1_i32 k0_t1
  let v144 : BitVec 32 := Scalar.muli c2_i32_181 arg9
  let v145 : Index := Scalar.indexCast v144
  let c64 : Index := 64#32
  ![v145.toNat, 64]
def k0_off15 (k0_t1 : Fin k0_t1_loop.trips) : Fin 2 → Nat :=
  let c2_i32_182 : BitVec 32 := 2#32
  let c0_i32_73 : BitVec 32 := 0#32
  let c1_i32 : BitVec 32 := 1#32
  let arg9 : BitVec 32 := Scf.iv c0_i32_73 c1_i32 k0_t1
  let v147 : BitVec 32 := Scalar.muli c2_i32_182 arg9
  let c1_i32_183 : BitVec 32 := 1#32
  let v148 : BitVec 32 := Scalar.addi v147 c1_i32_183
  let v149 : Index := Scalar.indexCast v148
  let c64_184 : Index := 64#32
  ![v149.toNat, 64]
def k0_off16 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v152 : Index := Scalar.indexCast arg9
  let c64_185 : Index := 64#32
  ![v152.toNat, 64]
def k0_off17 (k0_t1 : Fin k0_t1_loop.trips) : Fin 2 → Nat :=
  let c2_i32_186 : BitVec 32 := 2#32
  let c0_i32_73 : BitVec 32 := 0#32
  let c1_i32 : BitVec 32 := 1#32
  let arg9 : BitVec 32 := Scf.iv c0_i32_73 c1_i32 k0_t1
  let v154 : BitVec 32 := Scalar.muli c2_i32_186 arg9
  let v155 : Index := Scalar.indexCast v154
  let c80 : Index := 80#32
  ![v155.toNat, 80]
def k0_off18 (k0_t1 : Fin k0_t1_loop.trips) : Fin 2 → Nat :=
  let c2_i32_187 : BitVec 32 := 2#32
  let c0_i32_73 : BitVec 32 := 0#32
  let c1_i32 : BitVec 32 := 1#32
  let arg9 : BitVec 32 := Scf.iv c0_i32_73 c1_i32 k0_t1
  let v157 : BitVec 32 := Scalar.muli c2_i32_187 arg9
  let c1_i32_188 : BitVec 32 := 1#32
  let v158 : BitVec 32 := Scalar.addi v157 c1_i32_188
  let v159 : Index := Scalar.indexCast v158
  let c80_189 : Index := 80#32
  ![v159.toNat, 80]
def k0_off19 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v162 : Index := Scalar.indexCast arg9
  let c80_190 : Index := 80#32
  ![v162.toNat, 80]
def k0_off20 (k0_t1 : Fin k0_t1_loop.trips) : Fin 2 → Nat :=
  let c2_i32_191 : BitVec 32 := 2#32
  let c0_i32_73 : BitVec 32 := 0#32
  let c1_i32 : BitVec 32 := 1#32
  let arg9 : BitVec 32 := Scf.iv c0_i32_73 c1_i32 k0_t1
  let v164 : BitVec 32 := Scalar.muli c2_i32_191 arg9
  let v165 : Index := Scalar.indexCast v164
  let c96 : Index := 96#32
  ![v165.toNat, 96]
def k0_off21 (k0_t1 : Fin k0_t1_loop.trips) : Fin 2 → Nat :=
  let c2_i32_192 : BitVec 32 := 2#32
  let c0_i32_73 : BitVec 32 := 0#32
  let c1_i32 : BitVec 32 := 1#32
  let arg9 : BitVec 32 := Scf.iv c0_i32_73 c1_i32 k0_t1
  let v167 : BitVec 32 := Scalar.muli c2_i32_192 arg9
  let c1_i32_193 : BitVec 32 := 1#32
  let v168 : BitVec 32 := Scalar.addi v167 c1_i32_193
  let v169 : Index := Scalar.indexCast v168
  let c96_194 : Index := 96#32
  ![v169.toNat, 96]
def k0_off22 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v172 : Index := Scalar.indexCast arg9
  let c96_195 : Index := 96#32
  ![v172.toNat, 96]
def k0_off23 (k0_t1 : Fin k0_t1_loop.trips) : Fin 2 → Nat :=
  let c2_i32_196 : BitVec 32 := 2#32
  let c0_i32_73 : BitVec 32 := 0#32
  let c1_i32 : BitVec 32 := 1#32
  let arg9 : BitVec 32 := Scf.iv c0_i32_73 c1_i32 k0_t1
  let v174 : BitVec 32 := Scalar.muli c2_i32_196 arg9
  let v175 : Index := Scalar.indexCast v174
  let c112 : Index := 112#32
  ![v175.toNat, 112]
def k0_off24 (k0_t1 : Fin k0_t1_loop.trips) : Fin 2 → Nat :=
  let c2_i32_197 : BitVec 32 := 2#32
  let c0_i32_73 : BitVec 32 := 0#32
  let c1_i32 : BitVec 32 := 1#32
  let arg9 : BitVec 32 := Scf.iv c0_i32_73 c1_i32 k0_t1
  let v177 : BitVec 32 := Scalar.muli c2_i32_197 arg9
  let c1_i32_198 : BitVec 32 := 1#32
  let v178 : BitVec 32 := Scalar.addi v177 c1_i32_198
  let v179 : Index := Scalar.indexCast v178
  let c112_199 : Index := 112#32
  ![v179.toNat, 112]
def k0_off25 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v182 : Index := Scalar.indexCast arg9
  let c112_200 : Index := 112#32
  ![v182.toNat, 112]
def k0_off26 (k0_t1 : Fin k0_t1_loop.trips) : Fin 2 → Nat :=
  let c2_i32_201 : BitVec 32 := 2#32
  let c0_i32_73 : BitVec 32 := 0#32
  let c1_i32 : BitVec 32 := 1#32
  let arg9 : BitVec 32 := Scf.iv c0_i32_73 c1_i32 k0_t1
  let v184 : BitVec 32 := Scalar.muli c2_i32_201 arg9
  let v185 : Index := Scalar.indexCast v184
  let c128 : Index := 128#32
  ![v185.toNat, 128]
def k0_off27 (k0_t1 : Fin k0_t1_loop.trips) : Fin 2 → Nat :=
  let c2_i32_202 : BitVec 32 := 2#32
  let c0_i32_73 : BitVec 32 := 0#32
  let c1_i32 : BitVec 32 := 1#32
  let arg9 : BitVec 32 := Scf.iv c0_i32_73 c1_i32 k0_t1
  let v187 : BitVec 32 := Scalar.muli c2_i32_202 arg9
  let c1_i32_203 : BitVec 32 := 1#32
  let v188 : BitVec 32 := Scalar.addi v187 c1_i32_203
  let v189 : Index := Scalar.indexCast v188
  let c128_204 : Index := 128#32
  ![v189.toNat, 128]
def k0_off28 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v192 : Index := Scalar.indexCast arg9
  let c128_205 : Index := 128#32
  ![v192.toNat, 128]
def k0_off29 (k0_t1 : Fin k0_t1_loop.trips) : Fin 2 → Nat :=
  let c2_i32_206 : BitVec 32 := 2#32
  let c0_i32_73 : BitVec 32 := 0#32
  let c1_i32 : BitVec 32 := 1#32
  let arg9 : BitVec 32 := Scf.iv c0_i32_73 c1_i32 k0_t1
  let v194 : BitVec 32 := Scalar.muli c2_i32_206 arg9
  let v195 : Index := Scalar.indexCast v194
  let c144 : Index := 144#32
  ![v195.toNat, 144]
def k0_off30 (k0_t1 : Fin k0_t1_loop.trips) : Fin 2 → Nat :=
  let c2_i32_207 : BitVec 32 := 2#32
  let c0_i32_73 : BitVec 32 := 0#32
  let c1_i32 : BitVec 32 := 1#32
  let arg9 : BitVec 32 := Scf.iv c0_i32_73 c1_i32 k0_t1
  let v197 : BitVec 32 := Scalar.muli c2_i32_207 arg9
  let c1_i32_208 : BitVec 32 := 1#32
  let v198 : BitVec 32 := Scalar.addi v197 c1_i32_208
  let v199 : Index := Scalar.indexCast v198
  let c144_209 : Index := 144#32
  ![v199.toNat, 144]
def k0_off31 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v202 : Index := Scalar.indexCast arg9
  let c144_210 : Index := 144#32
  ![v202.toNat, 144]
def k0_off32 (k0_t1 : Fin k0_t1_loop.trips) : Fin 2 → Nat :=
  let c2_i32_211 : BitVec 32 := 2#32
  let c0_i32_73 : BitVec 32 := 0#32
  let c1_i32 : BitVec 32 := 1#32
  let arg9 : BitVec 32 := Scf.iv c0_i32_73 c1_i32 k0_t1
  let v204 : BitVec 32 := Scalar.muli c2_i32_211 arg9
  let v205 : Index := Scalar.indexCast v204
  let c160 : Index := 160#32
  ![v205.toNat, 160]
def k0_off33 (k0_t1 : Fin k0_t1_loop.trips) : Fin 2 → Nat :=
  let c2_i32_212 : BitVec 32 := 2#32
  let c0_i32_73 : BitVec 32 := 0#32
  let c1_i32 : BitVec 32 := 1#32
  let arg9 : BitVec 32 := Scf.iv c0_i32_73 c1_i32 k0_t1
  let v207 : BitVec 32 := Scalar.muli c2_i32_212 arg9
  let c1_i32_213 : BitVec 32 := 1#32
  let v208 : BitVec 32 := Scalar.addi v207 c1_i32_213
  let v209 : Index := Scalar.indexCast v208
  let c160_214 : Index := 160#32
  ![v209.toNat, 160]
def k0_off34 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v212 : Index := Scalar.indexCast arg9
  let c160_215 : Index := 160#32
  ![v212.toNat, 160]
def k0_off35 (k0_t1 : Fin k0_t1_loop.trips) : Fin 2 → Nat :=
  let c2_i32_216 : BitVec 32 := 2#32
  let c0_i32_73 : BitVec 32 := 0#32
  let c1_i32 : BitVec 32 := 1#32
  let arg9 : BitVec 32 := Scf.iv c0_i32_73 c1_i32 k0_t1
  let v214 : BitVec 32 := Scalar.muli c2_i32_216 arg9
  let v215 : Index := Scalar.indexCast v214
  let c176 : Index := 176#32
  ![v215.toNat, 176]
def k0_off36 (k0_t1 : Fin k0_t1_loop.trips) : Fin 2 → Nat :=
  let c2_i32_217 : BitVec 32 := 2#32
  let c0_i32_73 : BitVec 32 := 0#32
  let c1_i32 : BitVec 32 := 1#32
  let arg9 : BitVec 32 := Scf.iv c0_i32_73 c1_i32 k0_t1
  let v217 : BitVec 32 := Scalar.muli c2_i32_217 arg9
  let c1_i32_218 : BitVec 32 := 1#32
  let v218 : BitVec 32 := Scalar.addi v217 c1_i32_218
  let v219 : Index := Scalar.indexCast v218
  let c176_219 : Index := 176#32
  ![v219.toNat, 176]
def k0_off37 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v222 : Index := Scalar.indexCast arg9
  let c176_220 : Index := 176#32
  ![v222.toNat, 176]
def k0_off38 (k0_t1 : Fin k0_t1_loop.trips) : Fin 2 → Nat :=
  let c2_i32_221 : BitVec 32 := 2#32
  let c0_i32_73 : BitVec 32 := 0#32
  let c1_i32 : BitVec 32 := 1#32
  let arg9 : BitVec 32 := Scf.iv c0_i32_73 c1_i32 k0_t1
  let v224 : BitVec 32 := Scalar.muli c2_i32_221 arg9
  let v225 : Index := Scalar.indexCast v224
  let c192 : Index := 192#32
  ![v225.toNat, 192]
def k0_off39 (k0_t1 : Fin k0_t1_loop.trips) : Fin 2 → Nat :=
  let c2_i32_222 : BitVec 32 := 2#32
  let c0_i32_73 : BitVec 32 := 0#32
  let c1_i32 : BitVec 32 := 1#32
  let arg9 : BitVec 32 := Scf.iv c0_i32_73 c1_i32 k0_t1
  let v227 : BitVec 32 := Scalar.muli c2_i32_222 arg9
  let c1_i32_223 : BitVec 32 := 1#32
  let v228 : BitVec 32 := Scalar.addi v227 c1_i32_223
  let v229 : Index := Scalar.indexCast v228
  let c192_224 : Index := 192#32
  ![v229.toNat, 192]
def k0_off40 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v232 : Index := Scalar.indexCast arg9
  let c192_225 : Index := 192#32
  ![v232.toNat, 192]
def k0_off41 (k0_t1 : Fin k0_t1_loop.trips) : Fin 2 → Nat :=
  let c2_i32_226 : BitVec 32 := 2#32
  let c0_i32_73 : BitVec 32 := 0#32
  let c1_i32 : BitVec 32 := 1#32
  let arg9 : BitVec 32 := Scf.iv c0_i32_73 c1_i32 k0_t1
  let v234 : BitVec 32 := Scalar.muli c2_i32_226 arg9
  let v235 : Index := Scalar.indexCast v234
  let c208 : Index := 208#32
  ![v235.toNat, 208]
def k0_off42 (k0_t1 : Fin k0_t1_loop.trips) : Fin 2 → Nat :=
  let c2_i32_227 : BitVec 32 := 2#32
  let c0_i32_73 : BitVec 32 := 0#32
  let c1_i32 : BitVec 32 := 1#32
  let arg9 : BitVec 32 := Scf.iv c0_i32_73 c1_i32 k0_t1
  let v237 : BitVec 32 := Scalar.muli c2_i32_227 arg9
  let c1_i32_228 : BitVec 32 := 1#32
  let v238 : BitVec 32 := Scalar.addi v237 c1_i32_228
  let v239 : Index := Scalar.indexCast v238
  let c208_229 : Index := 208#32
  ![v239.toNat, 208]
def k0_off43 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v242 : Index := Scalar.indexCast arg9
  let c208_230 : Index := 208#32
  ![v242.toNat, 208]
def k0_off44 (k0_t1 : Fin k0_t1_loop.trips) : Fin 2 → Nat :=
  let c2_i32_231 : BitVec 32 := 2#32
  let c0_i32_73 : BitVec 32 := 0#32
  let c1_i32 : BitVec 32 := 1#32
  let arg9 : BitVec 32 := Scf.iv c0_i32_73 c1_i32 k0_t1
  let v244 : BitVec 32 := Scalar.muli c2_i32_231 arg9
  let v245 : Index := Scalar.indexCast v244
  let c224 : Index := 224#32
  ![v245.toNat, 224]
def k0_off45 (k0_t1 : Fin k0_t1_loop.trips) : Fin 2 → Nat :=
  let c2_i32_232 : BitVec 32 := 2#32
  let c0_i32_73 : BitVec 32 := 0#32
  let c1_i32 : BitVec 32 := 1#32
  let arg9 : BitVec 32 := Scf.iv c0_i32_73 c1_i32 k0_t1
  let v247 : BitVec 32 := Scalar.muli c2_i32_232 arg9
  let c1_i32_233 : BitVec 32 := 1#32
  let v248 : BitVec 32 := Scalar.addi v247 c1_i32_233
  let v249 : Index := Scalar.indexCast v248
  let c224_234 : Index := 224#32
  ![v249.toNat, 224]
def k0_off46 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v252 : Index := Scalar.indexCast arg9
  let c224_235 : Index := 224#32
  ![v252.toNat, 224]
def k0_off47 (k0_t1 : Fin k0_t1_loop.trips) : Fin 2 → Nat :=
  let c2_i32_236 : BitVec 32 := 2#32
  let c0_i32_73 : BitVec 32 := 0#32
  let c1_i32 : BitVec 32 := 1#32
  let arg9 : BitVec 32 := Scf.iv c0_i32_73 c1_i32 k0_t1
  let v254 : BitVec 32 := Scalar.muli c2_i32_236 arg9
  let v255 : Index := Scalar.indexCast v254
  let c240 : Index := 240#32
  ![v255.toNat, 240]
def k0_off48 (k0_t1 : Fin k0_t1_loop.trips) : Fin 2 → Nat :=
  let c2_i32_237 : BitVec 32 := 2#32
  let c0_i32_73 : BitVec 32 := 0#32
  let c1_i32 : BitVec 32 := 1#32
  let arg9 : BitVec 32 := Scf.iv c0_i32_73 c1_i32 k0_t1
  let v257 : BitVec 32 := Scalar.muli c2_i32_237 arg9
  let c1_i32_238 : BitVec 32 := 1#32
  let v258 : BitVec 32 := Scalar.addi v257 c1_i32_238
  let v259 : Index := Scalar.indexCast v258
  let c240_239 : Index := 240#32
  ![v259.toNat, 240]
def k0_off49 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v262 : Index := Scalar.indexCast arg9
  let c240_240 : Index := 240#32
  ![v262.toNat, 240]
def k0_off50 (k0_t1 : Fin k0_t1_loop.trips) : Fin 2 → Nat :=
  let c2_i32_241 : BitVec 32 := 2#32
  let c0_i32_73 : BitVec 32 := 0#32
  let c1_i32 : BitVec 32 := 1#32
  let arg9 : BitVec 32 := Scf.iv c0_i32_73 c1_i32 k0_t1
  let v264 : BitVec 32 := Scalar.muli c2_i32_241 arg9
  let v265 : Index := Scalar.indexCast v264
  let c256 : Index := 256#32
  ![v265.toNat, 256]
def k0_off51 (k0_t1 : Fin k0_t1_loop.trips) : Fin 2 → Nat :=
  let c2_i32_242 : BitVec 32 := 2#32
  let c0_i32_73 : BitVec 32 := 0#32
  let c1_i32 : BitVec 32 := 1#32
  let arg9 : BitVec 32 := Scf.iv c0_i32_73 c1_i32 k0_t1
  let v267 : BitVec 32 := Scalar.muli c2_i32_242 arg9
  let c1_i32_243 : BitVec 32 := 1#32
  let v268 : BitVec 32 := Scalar.addi v267 c1_i32_243
  let v269 : Index := Scalar.indexCast v268
  let c256_244 : Index := 256#32
  ![v269.toNat, 256]
def k0_off52 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v272 : Index := Scalar.indexCast arg9
  let c256_245 : Index := 256#32
  ![v272.toNat, 256]
def k0_off53 (k0_t1 : Fin k0_t1_loop.trips) : Fin 2 → Nat :=
  let c2_i32_246 : BitVec 32 := 2#32
  let c0_i32_73 : BitVec 32 := 0#32
  let c1_i32 : BitVec 32 := 1#32
  let arg9 : BitVec 32 := Scf.iv c0_i32_73 c1_i32 k0_t1
  let v274 : BitVec 32 := Scalar.muli c2_i32_246 arg9
  let v275 : Index := Scalar.indexCast v274
  let c272 : Index := 272#32
  ![v275.toNat, 272]
def k0_off54 (k0_t1 : Fin k0_t1_loop.trips) : Fin 2 → Nat :=
  let c2_i32_247 : BitVec 32 := 2#32
  let c0_i32_73 : BitVec 32 := 0#32
  let c1_i32 : BitVec 32 := 1#32
  let arg9 : BitVec 32 := Scf.iv c0_i32_73 c1_i32 k0_t1
  let v277 : BitVec 32 := Scalar.muli c2_i32_247 arg9
  let c1_i32_248 : BitVec 32 := 1#32
  let v278 : BitVec 32 := Scalar.addi v277 c1_i32_248
  let v279 : Index := Scalar.indexCast v278
  let c272_249 : Index := 272#32
  ![v279.toNat, 272]
def k0_off55 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v282 : Index := Scalar.indexCast arg9
  let c272_250 : Index := 272#32
  ![v282.toNat, 272]
def k0_off56 (k0_t1 : Fin k0_t1_loop.trips) : Fin 2 → Nat :=
  let c2_i32_251 : BitVec 32 := 2#32
  let c0_i32_73 : BitVec 32 := 0#32
  let c1_i32 : BitVec 32 := 1#32
  let arg9 : BitVec 32 := Scf.iv c0_i32_73 c1_i32 k0_t1
  let v284 : BitVec 32 := Scalar.muli c2_i32_251 arg9
  let v285 : Index := Scalar.indexCast v284
  let c288 : Index := 288#32
  ![v285.toNat, 288]
def k0_off57 (k0_t1 : Fin k0_t1_loop.trips) : Fin 2 → Nat :=
  let c2_i32_252 : BitVec 32 := 2#32
  let c0_i32_73 : BitVec 32 := 0#32
  let c1_i32 : BitVec 32 := 1#32
  let arg9 : BitVec 32 := Scf.iv c0_i32_73 c1_i32 k0_t1
  let v287 : BitVec 32 := Scalar.muli c2_i32_252 arg9
  let c1_i32_253 : BitVec 32 := 1#32
  let v288 : BitVec 32 := Scalar.addi v287 c1_i32_253
  let v289 : Index := Scalar.indexCast v288
  let c288_254 : Index := 288#32
  ![v289.toNat, 288]
def k0_off58 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v292 : Index := Scalar.indexCast arg9
  let c288_255 : Index := 288#32
  ![v292.toNat, 288]
def k0_off59 (k0_t1 : Fin k0_t1_loop.trips) : Fin 2 → Nat :=
  let c2_i32_256 : BitVec 32 := 2#32
  let c0_i32_73 : BitVec 32 := 0#32
  let c1_i32 : BitVec 32 := 1#32
  let arg9 : BitVec 32 := Scf.iv c0_i32_73 c1_i32 k0_t1
  let v294 : BitVec 32 := Scalar.muli c2_i32_256 arg9
  let v295 : Index := Scalar.indexCast v294
  let c304 : Index := 304#32
  ![v295.toNat, 304]
def k0_off60 (k0_t1 : Fin k0_t1_loop.trips) : Fin 2 → Nat :=
  let c2_i32_257 : BitVec 32 := 2#32
  let c0_i32_73 : BitVec 32 := 0#32
  let c1_i32 : BitVec 32 := 1#32
  let arg9 : BitVec 32 := Scf.iv c0_i32_73 c1_i32 k0_t1
  let v297 : BitVec 32 := Scalar.muli c2_i32_257 arg9
  let c1_i32_258 : BitVec 32 := 1#32
  let v298 : BitVec 32 := Scalar.addi v297 c1_i32_258
  let v299 : Index := Scalar.indexCast v298
  let c304_259 : Index := 304#32
  ![v299.toNat, 304]
def k0_off61 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v302 : Index := Scalar.indexCast arg9
  let c304_260 : Index := 304#32
  ![v302.toNat, 304]
def k0_off62 (k0_t1 : Fin k0_t1_loop.trips) : Fin 2 → Nat :=
  let c2_i32_261 : BitVec 32 := 2#32
  let c0_i32_73 : BitVec 32 := 0#32
  let c1_i32 : BitVec 32 := 1#32
  let arg9 : BitVec 32 := Scf.iv c0_i32_73 c1_i32 k0_t1
  let v304 : BitVec 32 := Scalar.muli c2_i32_261 arg9
  let v305 : Index := Scalar.indexCast v304
  let c320 : Index := 320#32
  ![v305.toNat, 320]
def k0_off63 (k0_t1 : Fin k0_t1_loop.trips) : Fin 2 → Nat :=
  let c2_i32_262 : BitVec 32 := 2#32
  let c0_i32_73 : BitVec 32 := 0#32
  let c1_i32 : BitVec 32 := 1#32
  let arg9 : BitVec 32 := Scf.iv c0_i32_73 c1_i32 k0_t1
  let v307 : BitVec 32 := Scalar.muli c2_i32_262 arg9
  let c1_i32_263 : BitVec 32 := 1#32
  let v308 : BitVec 32 := Scalar.addi v307 c1_i32_263
  let v309 : Index := Scalar.indexCast v308
  let c320_264 : Index := 320#32
  ![v309.toNat, 320]
def k0_off64 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v312 : Index := Scalar.indexCast arg9
  let c320_265 : Index := 320#32
  ![v312.toNat, 320]
def k0_off65 (k0_t1 : Fin k0_t1_loop.trips) : Fin 2 → Nat :=
  let c2_i32_266 : BitVec 32 := 2#32
  let c0_i32_73 : BitVec 32 := 0#32
  let c1_i32 : BitVec 32 := 1#32
  let arg9 : BitVec 32 := Scf.iv c0_i32_73 c1_i32 k0_t1
  let v314 : BitVec 32 := Scalar.muli c2_i32_266 arg9
  let v315 : Index := Scalar.indexCast v314
  let c336 : Index := 336#32
  ![v315.toNat, 336]
def k0_off66 (k0_t1 : Fin k0_t1_loop.trips) : Fin 2 → Nat :=
  let c2_i32_267 : BitVec 32 := 2#32
  let c0_i32_73 : BitVec 32 := 0#32
  let c1_i32 : BitVec 32 := 1#32
  let arg9 : BitVec 32 := Scf.iv c0_i32_73 c1_i32 k0_t1
  let v317 : BitVec 32 := Scalar.muli c2_i32_267 arg9
  let c1_i32_268 : BitVec 32 := 1#32
  let v318 : BitVec 32 := Scalar.addi v317 c1_i32_268
  let v319 : Index := Scalar.indexCast v318
  let c336_269 : Index := 336#32
  ![v319.toNat, 336]
def k0_off67 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v322 : Index := Scalar.indexCast arg9
  let c336_270 : Index := 336#32
  ![v322.toNat, 336]
def k0_off68 (k0_t1 : Fin k0_t1_loop.trips) : Fin 2 → Nat :=
  let c2_i32_271 : BitVec 32 := 2#32
  let c0_i32_73 : BitVec 32 := 0#32
  let c1_i32 : BitVec 32 := 1#32
  let arg9 : BitVec 32 := Scf.iv c0_i32_73 c1_i32 k0_t1
  let v324 : BitVec 32 := Scalar.muli c2_i32_271 arg9
  let v325 : Index := Scalar.indexCast v324
  let c352 : Index := 352#32
  ![v325.toNat, 352]
def k0_off69 (k0_t1 : Fin k0_t1_loop.trips) : Fin 2 → Nat :=
  let c2_i32_272 : BitVec 32 := 2#32
  let c0_i32_73 : BitVec 32 := 0#32
  let c1_i32 : BitVec 32 := 1#32
  let arg9 : BitVec 32 := Scf.iv c0_i32_73 c1_i32 k0_t1
  let v327 : BitVec 32 := Scalar.muli c2_i32_272 arg9
  let c1_i32_273 : BitVec 32 := 1#32
  let v328 : BitVec 32 := Scalar.addi v327 c1_i32_273
  let v329 : Index := Scalar.indexCast v328
  let c352_274 : Index := 352#32
  ![v329.toNat, 352]
def k0_off70 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v332 : Index := Scalar.indexCast arg9
  let c352_275 : Index := 352#32
  ![v332.toNat, 352]
def k0_off71 (k0_t1 : Fin k0_t1_loop.trips) : Fin 2 → Nat :=
  let c2_i32_276 : BitVec 32 := 2#32
  let c0_i32_73 : BitVec 32 := 0#32
  let c1_i32 : BitVec 32 := 1#32
  let arg9 : BitVec 32 := Scf.iv c0_i32_73 c1_i32 k0_t1
  let v334 : BitVec 32 := Scalar.muli c2_i32_276 arg9
  let v335 : Index := Scalar.indexCast v334
  let c368 : Index := 368#32
  ![v335.toNat, 368]
def k0_off72 (k0_t1 : Fin k0_t1_loop.trips) : Fin 2 → Nat :=
  let c2_i32_277 : BitVec 32 := 2#32
  let c0_i32_73 : BitVec 32 := 0#32
  let c1_i32 : BitVec 32 := 1#32
  let arg9 : BitVec 32 := Scf.iv c0_i32_73 c1_i32 k0_t1
  let v337 : BitVec 32 := Scalar.muli c2_i32_277 arg9
  let c1_i32_278 : BitVec 32 := 1#32
  let v338 : BitVec 32 := Scalar.addi v337 c1_i32_278
  let v339 : Index := Scalar.indexCast v338
  let c368_279 : Index := 368#32
  ![v339.toNat, 368]
def k0_off73 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v342 : Index := Scalar.indexCast arg9
  let c368_280 : Index := 368#32
  ![v342.toNat, 368]
def k0_off74 (k0_t1 : Fin k0_t1_loop.trips) : Fin 2 → Nat :=
  let c2_i32_281 : BitVec 32 := 2#32
  let c0_i32_73 : BitVec 32 := 0#32
  let c1_i32 : BitVec 32 := 1#32
  let arg9 : BitVec 32 := Scf.iv c0_i32_73 c1_i32 k0_t1
  let v344 : BitVec 32 := Scalar.muli c2_i32_281 arg9
  let v345 : Index := Scalar.indexCast v344
  let c384 : Index := 384#32
  ![v345.toNat, 384]
def k0_off75 (k0_t1 : Fin k0_t1_loop.trips) : Fin 2 → Nat :=
  let c2_i32_282 : BitVec 32 := 2#32
  let c0_i32_73 : BitVec 32 := 0#32
  let c1_i32 : BitVec 32 := 1#32
  let arg9 : BitVec 32 := Scf.iv c0_i32_73 c1_i32 k0_t1
  let v347 : BitVec 32 := Scalar.muli c2_i32_282 arg9
  let c1_i32_283 : BitVec 32 := 1#32
  let v348 : BitVec 32 := Scalar.addi v347 c1_i32_283
  let v349 : Index := Scalar.indexCast v348
  let c384_284 : Index := 384#32
  ![v349.toNat, 384]
def k0_off76 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v352 : Index := Scalar.indexCast arg9
  let c384_285 : Index := 384#32
  ![v352.toNat, 384]
def k0_off77 (k0_t1 : Fin k0_t1_loop.trips) : Fin 2 → Nat :=
  let c2_i32_286 : BitVec 32 := 2#32
  let c0_i32_73 : BitVec 32 := 0#32
  let c1_i32 : BitVec 32 := 1#32
  let arg9 : BitVec 32 := Scf.iv c0_i32_73 c1_i32 k0_t1
  let v354 : BitVec 32 := Scalar.muli c2_i32_286 arg9
  let v355 : Index := Scalar.indexCast v354
  let c400 : Index := 400#32
  ![v355.toNat, 400]
def k0_off78 (k0_t1 : Fin k0_t1_loop.trips) : Fin 2 → Nat :=
  let c2_i32_287 : BitVec 32 := 2#32
  let c0_i32_73 : BitVec 32 := 0#32
  let c1_i32 : BitVec 32 := 1#32
  let arg9 : BitVec 32 := Scf.iv c0_i32_73 c1_i32 k0_t1
  let v357 : BitVec 32 := Scalar.muli c2_i32_287 arg9
  let c1_i32_288 : BitVec 32 := 1#32
  let v358 : BitVec 32 := Scalar.addi v357 c1_i32_288
  let v359 : Index := Scalar.indexCast v358
  let c400_289 : Index := 400#32
  ![v359.toNat, 400]
def k0_off79 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v362 : Index := Scalar.indexCast arg9
  let c400_290 : Index := 400#32
  ![v362.toNat, 400]
def k0_off80 (k0_t1 : Fin k0_t1_loop.trips) : Fin 2 → Nat :=
  let c2_i32_291 : BitVec 32 := 2#32
  let c0_i32_73 : BitVec 32 := 0#32
  let c1_i32 : BitVec 32 := 1#32
  let arg9 : BitVec 32 := Scf.iv c0_i32_73 c1_i32 k0_t1
  let v364 : BitVec 32 := Scalar.muli c2_i32_291 arg9
  let v365 : Index := Scalar.indexCast v364
  let c416 : Index := 416#32
  ![v365.toNat, 416]
def k0_off81 (k0_t1 : Fin k0_t1_loop.trips) : Fin 2 → Nat :=
  let c2_i32_292 : BitVec 32 := 2#32
  let c0_i32_73 : BitVec 32 := 0#32
  let c1_i32 : BitVec 32 := 1#32
  let arg9 : BitVec 32 := Scf.iv c0_i32_73 c1_i32 k0_t1
  let v367 : BitVec 32 := Scalar.muli c2_i32_292 arg9
  let c1_i32_293 : BitVec 32 := 1#32
  let v368 : BitVec 32 := Scalar.addi v367 c1_i32_293
  let v369 : Index := Scalar.indexCast v368
  let c416_294 : Index := 416#32
  ![v369.toNat, 416]
def k0_off82 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v372 : Index := Scalar.indexCast arg9
  let c416_295 : Index := 416#32
  ![v372.toNat, 416]
def k0_off83 (k0_t1 : Fin k0_t1_loop.trips) : Fin 2 → Nat :=
  let c2_i32_296 : BitVec 32 := 2#32
  let c0_i32_73 : BitVec 32 := 0#32
  let c1_i32 : BitVec 32 := 1#32
  let arg9 : BitVec 32 := Scf.iv c0_i32_73 c1_i32 k0_t1
  let v374 : BitVec 32 := Scalar.muli c2_i32_296 arg9
  let v375 : Index := Scalar.indexCast v374
  let c432 : Index := 432#32
  ![v375.toNat, 432]
def k0_off84 (k0_t1 : Fin k0_t1_loop.trips) : Fin 2 → Nat :=
  let c2_i32_297 : BitVec 32 := 2#32
  let c0_i32_73 : BitVec 32 := 0#32
  let c1_i32 : BitVec 32 := 1#32
  let arg9 : BitVec 32 := Scf.iv c0_i32_73 c1_i32 k0_t1
  let v377 : BitVec 32 := Scalar.muli c2_i32_297 arg9
  let c1_i32_298 : BitVec 32 := 1#32
  let v378 : BitVec 32 := Scalar.addi v377 c1_i32_298
  let v379 : Index := Scalar.indexCast v378
  let c432_299 : Index := 432#32
  ![v379.toNat, 432]
def k0_off85 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v382 : Index := Scalar.indexCast arg9
  let c432_300 : Index := 432#32
  ![v382.toNat, 432]
def k0_off86 (k0_t1 : Fin k0_t1_loop.trips) : Fin 2 → Nat :=
  let c2_i32_301 : BitVec 32 := 2#32
  let c0_i32_73 : BitVec 32 := 0#32
  let c1_i32 : BitVec 32 := 1#32
  let arg9 : BitVec 32 := Scf.iv c0_i32_73 c1_i32 k0_t1
  let v384 : BitVec 32 := Scalar.muli c2_i32_301 arg9
  let v385 : Index := Scalar.indexCast v384
  let c448 : Index := 448#32
  ![v385.toNat, 448]
def k0_off87 (k0_t1 : Fin k0_t1_loop.trips) : Fin 2 → Nat :=
  let c2_i32_302 : BitVec 32 := 2#32
  let c0_i32_73 : BitVec 32 := 0#32
  let c1_i32 : BitVec 32 := 1#32
  let arg9 : BitVec 32 := Scf.iv c0_i32_73 c1_i32 k0_t1
  let v387 : BitVec 32 := Scalar.muli c2_i32_302 arg9
  let c1_i32_303 : BitVec 32 := 1#32
  let v388 : BitVec 32 := Scalar.addi v387 c1_i32_303
  let v389 : Index := Scalar.indexCast v388
  let c448_304 : Index := 448#32
  ![v389.toNat, 448]
def k0_off88 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v392 : Index := Scalar.indexCast arg9
  let c448_305 : Index := 448#32
  ![v392.toNat, 448]
def k0_off89 (k0_t1 : Fin k0_t1_loop.trips) : Fin 2 → Nat :=
  let c2_i32_306 : BitVec 32 := 2#32
  let c0_i32_73 : BitVec 32 := 0#32
  let c1_i32 : BitVec 32 := 1#32
  let arg9 : BitVec 32 := Scf.iv c0_i32_73 c1_i32 k0_t1
  let v394 : BitVec 32 := Scalar.muli c2_i32_306 arg9
  let v395 : Index := Scalar.indexCast v394
  let c464 : Index := 464#32
  ![v395.toNat, 464]
def k0_off90 (k0_t1 : Fin k0_t1_loop.trips) : Fin 2 → Nat :=
  let c2_i32_307 : BitVec 32 := 2#32
  let c0_i32_73 : BitVec 32 := 0#32
  let c1_i32 : BitVec 32 := 1#32
  let arg9 : BitVec 32 := Scf.iv c0_i32_73 c1_i32 k0_t1
  let v397 : BitVec 32 := Scalar.muli c2_i32_307 arg9
  let c1_i32_308 : BitVec 32 := 1#32
  let v398 : BitVec 32 := Scalar.addi v397 c1_i32_308
  let v399 : Index := Scalar.indexCast v398
  let c464_309 : Index := 464#32
  ![v399.toNat, 464]
def k0_off91 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v402 : Index := Scalar.indexCast arg9
  let c464_310 : Index := 464#32
  ![v402.toNat, 464]
def k0_off92 (k0_t1 : Fin k0_t1_loop.trips) : Fin 2 → Nat :=
  let c2_i32_311 : BitVec 32 := 2#32
  let c0_i32_73 : BitVec 32 := 0#32
  let c1_i32 : BitVec 32 := 1#32
  let arg9 : BitVec 32 := Scf.iv c0_i32_73 c1_i32 k0_t1
  let v404 : BitVec 32 := Scalar.muli c2_i32_311 arg9
  let v405 : Index := Scalar.indexCast v404
  let c480 : Index := 480#32
  ![v405.toNat, 480]
def k0_off93 (k0_t1 : Fin k0_t1_loop.trips) : Fin 2 → Nat :=
  let c2_i32_312 : BitVec 32 := 2#32
  let c0_i32_73 : BitVec 32 := 0#32
  let c1_i32 : BitVec 32 := 1#32
  let arg9 : BitVec 32 := Scf.iv c0_i32_73 c1_i32 k0_t1
  let v407 : BitVec 32 := Scalar.muli c2_i32_312 arg9
  let c1_i32_313 : BitVec 32 := 1#32
  let v408 : BitVec 32 := Scalar.addi v407 c1_i32_313
  let v409 : Index := Scalar.indexCast v408
  let c480_314 : Index := 480#32
  ![v409.toNat, 480]
def k0_off94 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v412 : Index := Scalar.indexCast arg9
  let c480_315 : Index := 480#32
  ![v412.toNat, 480]
def k0_off95 (k0_t1 : Fin k0_t1_loop.trips) : Fin 2 → Nat :=
  let c2_i32_316 : BitVec 32 := 2#32
  let c0_i32_73 : BitVec 32 := 0#32
  let c1_i32 : BitVec 32 := 1#32
  let arg9 : BitVec 32 := Scf.iv c0_i32_73 c1_i32 k0_t1
  let v414 : BitVec 32 := Scalar.muli c2_i32_316 arg9
  let v415 : Index := Scalar.indexCast v414
  let c496 : Index := 496#32
  ![v415.toNat, 496]
def k0_off96 (k0_t1 : Fin k0_t1_loop.trips) : Fin 2 → Nat :=
  let c2_i32_317 : BitVec 32 := 2#32
  let c0_i32_73 : BitVec 32 := 0#32
  let c1_i32 : BitVec 32 := 1#32
  let arg9 : BitVec 32 := Scf.iv c0_i32_73 c1_i32 k0_t1
  let v417 : BitVec 32 := Scalar.muli c2_i32_317 arg9
  let c1_i32_318 : BitVec 32 := 1#32
  let v418 : BitVec 32 := Scalar.addi v417 c1_i32_318
  let v419 : Index := Scalar.indexCast v418
  let c496_319 : Index := 496#32
  ![v419.toNat, 496]
def k0_off97 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v422 : Index := Scalar.indexCast arg9
  let c496_320 : Index := 496#32
  ![v422.toNat, 496]
def k0_off98 (k0_t1 : Fin k0_t1_loop.trips) : Fin 2 → Nat :=
  let c2_i32_321 : BitVec 32 := 2#32
  let c0_i32_73 : BitVec 32 := 0#32
  let c1_i32 : BitVec 32 := 1#32
  let arg9 : BitVec 32 := Scf.iv c0_i32_73 c1_i32 k0_t1
  let v424 : BitVec 32 := Scalar.muli c2_i32_321 arg9
  let v425 : Index := Scalar.indexCast v424
  let c512 : Index := 512#32
  ![v425.toNat, 512]
def k0_off99 (k0_t1 : Fin k0_t1_loop.trips) : Fin 2 → Nat :=
  let c2_i32_322 : BitVec 32 := 2#32
  let c0_i32_73 : BitVec 32 := 0#32
  let c1_i32 : BitVec 32 := 1#32
  let arg9 : BitVec 32 := Scf.iv c0_i32_73 c1_i32 k0_t1
  let v427 : BitVec 32 := Scalar.muli c2_i32_322 arg9
  let c1_i32_323 : BitVec 32 := 1#32
  let v428 : BitVec 32 := Scalar.addi v427 c1_i32_323
  let v429 : Index := Scalar.indexCast v428
  let c512_324 : Index := 512#32
  ![v429.toNat, 512]
def k0_off100 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v432 : Index := Scalar.indexCast arg9
  let c512_325 : Index := 512#32
  ![v432.toNat, 512]
def k0_off101 (k0_t1 : Fin k0_t1_loop.trips) : Fin 2 → Nat :=
  let c2_i32_326 : BitVec 32 := 2#32
  let c0_i32_73 : BitVec 32 := 0#32
  let c1_i32 : BitVec 32 := 1#32
  let arg9 : BitVec 32 := Scf.iv c0_i32_73 c1_i32 k0_t1
  let v434 : BitVec 32 := Scalar.muli c2_i32_326 arg9
  let v435 : Index := Scalar.indexCast v434
  let c528 : Index := 528#32
  ![v435.toNat, 528]
def k0_off102 (k0_t1 : Fin k0_t1_loop.trips) : Fin 2 → Nat :=
  let c2_i32_327 : BitVec 32 := 2#32
  let c0_i32_73 : BitVec 32 := 0#32
  let c1_i32 : BitVec 32 := 1#32
  let arg9 : BitVec 32 := Scf.iv c0_i32_73 c1_i32 k0_t1
  let v437 : BitVec 32 := Scalar.muli c2_i32_327 arg9
  let c1_i32_328 : BitVec 32 := 1#32
  let v438 : BitVec 32 := Scalar.addi v437 c1_i32_328
  let v439 : Index := Scalar.indexCast v438
  let c528_329 : Index := 528#32
  ![v439.toNat, 528]
def k0_off103 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v442 : Index := Scalar.indexCast arg9
  let c528_330 : Index := 528#32
  ![v442.toNat, 528]
def k0_off104 (k0_t1 : Fin k0_t1_loop.trips) : Fin 2 → Nat :=
  let c2_i32_331 : BitVec 32 := 2#32
  let c0_i32_73 : BitVec 32 := 0#32
  let c1_i32 : BitVec 32 := 1#32
  let arg9 : BitVec 32 := Scf.iv c0_i32_73 c1_i32 k0_t1
  let v444 : BitVec 32 := Scalar.muli c2_i32_331 arg9
  let v445 : Index := Scalar.indexCast v444
  let c544 : Index := 544#32
  ![v445.toNat, 544]
def k0_off105 (k0_t1 : Fin k0_t1_loop.trips) : Fin 2 → Nat :=
  let c2_i32_332 : BitVec 32 := 2#32
  let c0_i32_73 : BitVec 32 := 0#32
  let c1_i32 : BitVec 32 := 1#32
  let arg9 : BitVec 32 := Scf.iv c0_i32_73 c1_i32 k0_t1
  let v447 : BitVec 32 := Scalar.muli c2_i32_332 arg9
  let c1_i32_333 : BitVec 32 := 1#32
  let v448 : BitVec 32 := Scalar.addi v447 c1_i32_333
  let v449 : Index := Scalar.indexCast v448
  let c544_334 : Index := 544#32
  ![v449.toNat, 544]
def k0_off106 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v452 : Index := Scalar.indexCast arg9
  let c544_335 : Index := 544#32
  ![v452.toNat, 544]
def k0_off107 (k0_t1 : Fin k0_t1_loop.trips) : Fin 2 → Nat :=
  let c2_i32_336 : BitVec 32 := 2#32
  let c0_i32_73 : BitVec 32 := 0#32
  let c1_i32 : BitVec 32 := 1#32
  let arg9 : BitVec 32 := Scf.iv c0_i32_73 c1_i32 k0_t1
  let v454 : BitVec 32 := Scalar.muli c2_i32_336 arg9
  let v455 : Index := Scalar.indexCast v454
  let c560 : Index := 560#32
  ![v455.toNat, 560]
def k0_off108 (k0_t1 : Fin k0_t1_loop.trips) : Fin 2 → Nat :=
  let c2_i32_337 : BitVec 32 := 2#32
  let c0_i32_73 : BitVec 32 := 0#32
  let c1_i32 : BitVec 32 := 1#32
  let arg9 : BitVec 32 := Scf.iv c0_i32_73 c1_i32 k0_t1
  let v457 : BitVec 32 := Scalar.muli c2_i32_337 arg9
  let c1_i32_338 : BitVec 32 := 1#32
  let v458 : BitVec 32 := Scalar.addi v457 c1_i32_338
  let v459 : Index := Scalar.indexCast v458
  let c560_339 : Index := 560#32
  ![v459.toNat, 560]
def k0_off109 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v462 : Index := Scalar.indexCast arg9
  let c560_340 : Index := 560#32
  ![v462.toNat, 560]
def k0_off110 (k0_t1 : Fin k0_t1_loop.trips) : Fin 2 → Nat :=
  let c2_i32_341 : BitVec 32 := 2#32
  let c0_i32_73 : BitVec 32 := 0#32
  let c1_i32 : BitVec 32 := 1#32
  let arg9 : BitVec 32 := Scf.iv c0_i32_73 c1_i32 k0_t1
  let v464 : BitVec 32 := Scalar.muli c2_i32_341 arg9
  let v465 : Index := Scalar.indexCast v464
  let c576 : Index := 576#32
  ![v465.toNat, 576]
def k0_off111 (k0_t1 : Fin k0_t1_loop.trips) : Fin 2 → Nat :=
  let c2_i32_342 : BitVec 32 := 2#32
  let c0_i32_73 : BitVec 32 := 0#32
  let c1_i32 : BitVec 32 := 1#32
  let arg9 : BitVec 32 := Scf.iv c0_i32_73 c1_i32 k0_t1
  let v467 : BitVec 32 := Scalar.muli c2_i32_342 arg9
  let c1_i32_343 : BitVec 32 := 1#32
  let v468 : BitVec 32 := Scalar.addi v467 c1_i32_343
  let v469 : Index := Scalar.indexCast v468
  let c576_344 : Index := 576#32
  ![v469.toNat, 576]
def k0_off112 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v472 : Index := Scalar.indexCast arg9
  let c576_345 : Index := 576#32
  ![v472.toNat, 576]
def k0_off113 (k0_t1 : Fin k0_t1_loop.trips) : Fin 2 → Nat :=
  let c2_i32_346 : BitVec 32 := 2#32
  let c0_i32_73 : BitVec 32 := 0#32
  let c1_i32 : BitVec 32 := 1#32
  let arg9 : BitVec 32 := Scf.iv c0_i32_73 c1_i32 k0_t1
  let v474 : BitVec 32 := Scalar.muli c2_i32_346 arg9
  let v475 : Index := Scalar.indexCast v474
  let c592 : Index := 592#32
  ![v475.toNat, 592]
def k0_off114 (k0_t1 : Fin k0_t1_loop.trips) : Fin 2 → Nat :=
  let c2_i32_347 : BitVec 32 := 2#32
  let c0_i32_73 : BitVec 32 := 0#32
  let c1_i32 : BitVec 32 := 1#32
  let arg9 : BitVec 32 := Scf.iv c0_i32_73 c1_i32 k0_t1
  let v477 : BitVec 32 := Scalar.muli c2_i32_347 arg9
  let c1_i32_348 : BitVec 32 := 1#32
  let v478 : BitVec 32 := Scalar.addi v477 c1_i32_348
  let v479 : Index := Scalar.indexCast v478
  let c592_349 : Index := 592#32
  ![v479.toNat, 592]
def k0_off115 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v482 : Index := Scalar.indexCast arg9
  let c592_350 : Index := 592#32
  ![v482.toNat, 592]
def k0_off116 (k0_t1 : Fin k0_t1_loop.trips) : Fin 2 → Nat :=
  let c2_i32_351 : BitVec 32 := 2#32
  let c0_i32_73 : BitVec 32 := 0#32
  let c1_i32 : BitVec 32 := 1#32
  let arg9 : BitVec 32 := Scf.iv c0_i32_73 c1_i32 k0_t1
  let v484 : BitVec 32 := Scalar.muli c2_i32_351 arg9
  let v485 : Index := Scalar.indexCast v484
  let c608 : Index := 608#32
  ![v485.toNat, 608]
def k0_off117 (k0_t1 : Fin k0_t1_loop.trips) : Fin 2 → Nat :=
  let c2_i32_352 : BitVec 32 := 2#32
  let c0_i32_73 : BitVec 32 := 0#32
  let c1_i32 : BitVec 32 := 1#32
  let arg9 : BitVec 32 := Scf.iv c0_i32_73 c1_i32 k0_t1
  let v487 : BitVec 32 := Scalar.muli c2_i32_352 arg9
  let c1_i32_353 : BitVec 32 := 1#32
  let v488 : BitVec 32 := Scalar.addi v487 c1_i32_353
  let v489 : Index := Scalar.indexCast v488
  let c608_354 : Index := 608#32
  ![v489.toNat, 608]
def k0_off118 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v492 : Index := Scalar.indexCast arg9
  let c608_355 : Index := 608#32
  ![v492.toNat, 608]
def k0_off119 (k0_t1 : Fin k0_t1_loop.trips) : Fin 2 → Nat :=
  let c2_i32_356 : BitVec 32 := 2#32
  let c0_i32_73 : BitVec 32 := 0#32
  let c1_i32 : BitVec 32 := 1#32
  let arg9 : BitVec 32 := Scf.iv c0_i32_73 c1_i32 k0_t1
  let v494 : BitVec 32 := Scalar.muli c2_i32_356 arg9
  let v495 : Index := Scalar.indexCast v494
  let c624 : Index := 624#32
  ![v495.toNat, 624]
def k0_off120 (k0_t1 : Fin k0_t1_loop.trips) : Fin 2 → Nat :=
  let c2_i32_357 : BitVec 32 := 2#32
  let c0_i32_73 : BitVec 32 := 0#32
  let c1_i32 : BitVec 32 := 1#32
  let arg9 : BitVec 32 := Scf.iv c0_i32_73 c1_i32 k0_t1
  let v497 : BitVec 32 := Scalar.muli c2_i32_357 arg9
  let c1_i32_358 : BitVec 32 := 1#32
  let v498 : BitVec 32 := Scalar.addi v497 c1_i32_358
  let v499 : Index := Scalar.indexCast v498
  let c624_359 : Index := 624#32
  ![v499.toNat, 624]
def k0_off121 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v502 : Index := Scalar.indexCast arg9
  let c624_360 : Index := 624#32
  ![v502.toNat, 624]
def k0_off122 (k0_t1 : Fin k0_t1_loop.trips) : Fin 2 → Nat :=
  let c2_i32_361 : BitVec 32 := 2#32
  let c0_i32_73 : BitVec 32 := 0#32
  let c1_i32 : BitVec 32 := 1#32
  let arg9 : BitVec 32 := Scf.iv c0_i32_73 c1_i32 k0_t1
  let v504 : BitVec 32 := Scalar.muli c2_i32_361 arg9
  let v505 : Index := Scalar.indexCast v504
  let c640 : Index := 640#32
  ![v505.toNat, 640]
def k0_off123 (k0_t1 : Fin k0_t1_loop.trips) : Fin 2 → Nat :=
  let c2_i32_362 : BitVec 32 := 2#32
  let c0_i32_73 : BitVec 32 := 0#32
  let c1_i32 : BitVec 32 := 1#32
  let arg9 : BitVec 32 := Scf.iv c0_i32_73 c1_i32 k0_t1
  let v507 : BitVec 32 := Scalar.muli c2_i32_362 arg9
  let c1_i32_363 : BitVec 32 := 1#32
  let v508 : BitVec 32 := Scalar.addi v507 c1_i32_363
  let v509 : Index := Scalar.indexCast v508
  let c640_364 : Index := 640#32
  ![v509.toNat, 640]
def k0_off124 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v512 : Index := Scalar.indexCast arg9
  let c640_365 : Index := 640#32
  ![v512.toNat, 640]
def k0_off125 (k0_t1 : Fin k0_t1_loop.trips) : Fin 2 → Nat :=
  let c2_i32_366 : BitVec 32 := 2#32
  let c0_i32_73 : BitVec 32 := 0#32
  let c1_i32 : BitVec 32 := 1#32
  let arg9 : BitVec 32 := Scf.iv c0_i32_73 c1_i32 k0_t1
  let v514 : BitVec 32 := Scalar.muli c2_i32_366 arg9
  let v515 : Index := Scalar.indexCast v514
  let c656 : Index := 656#32
  ![v515.toNat, 656]
def k0_off126 (k0_t1 : Fin k0_t1_loop.trips) : Fin 2 → Nat :=
  let c2_i32_367 : BitVec 32 := 2#32
  let c0_i32_73 : BitVec 32 := 0#32
  let c1_i32 : BitVec 32 := 1#32
  let arg9 : BitVec 32 := Scf.iv c0_i32_73 c1_i32 k0_t1
  let v517 : BitVec 32 := Scalar.muli c2_i32_367 arg9
  let c1_i32_368 : BitVec 32 := 1#32
  let v518 : BitVec 32 := Scalar.addi v517 c1_i32_368
  let v519 : Index := Scalar.indexCast v518
  let c656_369 : Index := 656#32
  ![v519.toNat, 656]
def k0_off127 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v522 : Index := Scalar.indexCast arg9
  let c656_370 : Index := 656#32
  ![v522.toNat, 656]
def k0_off128 (k0_t1 : Fin k0_t1_loop.trips) : Fin 2 → Nat :=
  let c2_i32_371 : BitVec 32 := 2#32
  let c0_i32_73 : BitVec 32 := 0#32
  let c1_i32 : BitVec 32 := 1#32
  let arg9 : BitVec 32 := Scf.iv c0_i32_73 c1_i32 k0_t1
  let v524 : BitVec 32 := Scalar.muli c2_i32_371 arg9
  let v525 : Index := Scalar.indexCast v524
  let c672 : Index := 672#32
  ![v525.toNat, 672]
def k0_off129 (k0_t1 : Fin k0_t1_loop.trips) : Fin 2 → Nat :=
  let c2_i32_372 : BitVec 32 := 2#32
  let c0_i32_73 : BitVec 32 := 0#32
  let c1_i32 : BitVec 32 := 1#32
  let arg9 : BitVec 32 := Scf.iv c0_i32_73 c1_i32 k0_t1
  let v527 : BitVec 32 := Scalar.muli c2_i32_372 arg9
  let c1_i32_373 : BitVec 32 := 1#32
  let v528 : BitVec 32 := Scalar.addi v527 c1_i32_373
  let v529 : Index := Scalar.indexCast v528
  let c672_374 : Index := 672#32
  ![v529.toNat, 672]
def k0_off130 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v532 : Index := Scalar.indexCast arg9
  let c672_375 : Index := 672#32
  ![v532.toNat, 672]
def k0_off131 (k0_t1 : Fin k0_t1_loop.trips) : Fin 2 → Nat :=
  let c2_i32_376 : BitVec 32 := 2#32
  let c0_i32_73 : BitVec 32 := 0#32
  let c1_i32 : BitVec 32 := 1#32
  let arg9 : BitVec 32 := Scf.iv c0_i32_73 c1_i32 k0_t1
  let v534 : BitVec 32 := Scalar.muli c2_i32_376 arg9
  let v535 : Index := Scalar.indexCast v534
  let c688 : Index := 688#32
  ![v535.toNat, 688]
def k0_off132 (k0_t1 : Fin k0_t1_loop.trips) : Fin 2 → Nat :=
  let c2_i32_377 : BitVec 32 := 2#32
  let c0_i32_73 : BitVec 32 := 0#32
  let c1_i32 : BitVec 32 := 1#32
  let arg9 : BitVec 32 := Scf.iv c0_i32_73 c1_i32 k0_t1
  let v537 : BitVec 32 := Scalar.muli c2_i32_377 arg9
  let c1_i32_378 : BitVec 32 := 1#32
  let v538 : BitVec 32 := Scalar.addi v537 c1_i32_378
  let v539 : Index := Scalar.indexCast v538
  let c688_379 : Index := 688#32
  ![v539.toNat, 688]
def k0_off133 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v542 : Index := Scalar.indexCast arg9
  let c688_380 : Index := 688#32
  ![v542.toNat, 688]
def k0_off134 (k0_t1 : Fin k0_t1_loop.trips) : Fin 2 → Nat :=
  let c2_i32_381 : BitVec 32 := 2#32
  let c0_i32_73 : BitVec 32 := 0#32
  let c1_i32 : BitVec 32 := 1#32
  let arg9 : BitVec 32 := Scf.iv c0_i32_73 c1_i32 k0_t1
  let v544 : BitVec 32 := Scalar.muli c2_i32_381 arg9
  let v545 : Index := Scalar.indexCast v544
  let c704 : Index := 704#32
  ![v545.toNat, 704]
def k0_off135 (k0_t1 : Fin k0_t1_loop.trips) : Fin 2 → Nat :=
  let c2_i32_382 : BitVec 32 := 2#32
  let c0_i32_73 : BitVec 32 := 0#32
  let c1_i32 : BitVec 32 := 1#32
  let arg9 : BitVec 32 := Scf.iv c0_i32_73 c1_i32 k0_t1
  let v547 : BitVec 32 := Scalar.muli c2_i32_382 arg9
  let c1_i32_383 : BitVec 32 := 1#32
  let v548 : BitVec 32 := Scalar.addi v547 c1_i32_383
  let v549 : Index := Scalar.indexCast v548
  let c704_384 : Index := 704#32
  ![v549.toNat, 704]
def k0_off136 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v552 : Index := Scalar.indexCast arg9
  let c704_385 : Index := 704#32
  ![v552.toNat, 704]
def k0_off137 (k0_t1 : Fin k0_t1_loop.trips) : Fin 2 → Nat :=
  let c2_i32_386 : BitVec 32 := 2#32
  let c0_i32_73 : BitVec 32 := 0#32
  let c1_i32 : BitVec 32 := 1#32
  let arg9 : BitVec 32 := Scf.iv c0_i32_73 c1_i32 k0_t1
  let v554 : BitVec 32 := Scalar.muli c2_i32_386 arg9
  let v555 : Index := Scalar.indexCast v554
  let c720 : Index := 720#32
  ![v555.toNat, 720]
def k0_off138 (k0_t1 : Fin k0_t1_loop.trips) : Fin 2 → Nat :=
  let c2_i32_387 : BitVec 32 := 2#32
  let c0_i32_73 : BitVec 32 := 0#32
  let c1_i32 : BitVec 32 := 1#32
  let arg9 : BitVec 32 := Scf.iv c0_i32_73 c1_i32 k0_t1
  let v557 : BitVec 32 := Scalar.muli c2_i32_387 arg9
  let c1_i32_388 : BitVec 32 := 1#32
  let v558 : BitVec 32 := Scalar.addi v557 c1_i32_388
  let v559 : Index := Scalar.indexCast v558
  let c720_389 : Index := 720#32
  ![v559.toNat, 720]
def k0_off139 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v562 : Index := Scalar.indexCast arg9
  let c720_390 : Index := 720#32
  ![v562.toNat, 720]
def k0_off140 (k0_t1 : Fin k0_t1_loop.trips) : Fin 2 → Nat :=
  let c2_i32_391 : BitVec 32 := 2#32
  let c0_i32_73 : BitVec 32 := 0#32
  let c1_i32 : BitVec 32 := 1#32
  let arg9 : BitVec 32 := Scf.iv c0_i32_73 c1_i32 k0_t1
  let v564 : BitVec 32 := Scalar.muli c2_i32_391 arg9
  let v565 : Index := Scalar.indexCast v564
  let c736 : Index := 736#32
  ![v565.toNat, 736]
def k0_off141 (k0_t1 : Fin k0_t1_loop.trips) : Fin 2 → Nat :=
  let c2_i32_392 : BitVec 32 := 2#32
  let c0_i32_73 : BitVec 32 := 0#32
  let c1_i32 : BitVec 32 := 1#32
  let arg9 : BitVec 32 := Scf.iv c0_i32_73 c1_i32 k0_t1
  let v567 : BitVec 32 := Scalar.muli c2_i32_392 arg9
  let c1_i32_393 : BitVec 32 := 1#32
  let v568 : BitVec 32 := Scalar.addi v567 c1_i32_393
  let v569 : Index := Scalar.indexCast v568
  let c736_394 : Index := 736#32
  ![v569.toNat, 736]
def k0_off142 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v572 : Index := Scalar.indexCast arg9
  let c736_395 : Index := 736#32
  ![v572.toNat, 736]
def k0_off143 (k0_t1 : Fin k0_t1_loop.trips) : Fin 2 → Nat :=
  let c2_i32_396 : BitVec 32 := 2#32
  let c0_i32_73 : BitVec 32 := 0#32
  let c1_i32 : BitVec 32 := 1#32
  let arg9 : BitVec 32 := Scf.iv c0_i32_73 c1_i32 k0_t1
  let v574 : BitVec 32 := Scalar.muli c2_i32_396 arg9
  let v575 : Index := Scalar.indexCast v574
  let c752 : Index := 752#32
  ![v575.toNat, 752]
def k0_off144 (k0_t1 : Fin k0_t1_loop.trips) : Fin 2 → Nat :=
  let c2_i32_397 : BitVec 32 := 2#32
  let c0_i32_73 : BitVec 32 := 0#32
  let c1_i32 : BitVec 32 := 1#32
  let arg9 : BitVec 32 := Scf.iv c0_i32_73 c1_i32 k0_t1
  let v577 : BitVec 32 := Scalar.muli c2_i32_397 arg9
  let c1_i32_398 : BitVec 32 := 1#32
  let v578 : BitVec 32 := Scalar.addi v577 c1_i32_398
  let v579 : Index := Scalar.indexCast v578
  let c752_399 : Index := 752#32
  ![v579.toNat, 752]
def k0_off145 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v582 : Index := Scalar.indexCast arg9
  let c752_400 : Index := 752#32
  ![v582.toNat, 752]
def k0_off146 (k0_t1 : Fin k0_t1_loop.trips) : Fin 2 → Nat :=
  let c2_i32_401 : BitVec 32 := 2#32
  let c0_i32_73 : BitVec 32 := 0#32
  let c1_i32 : BitVec 32 := 1#32
  let arg9 : BitVec 32 := Scf.iv c0_i32_73 c1_i32 k0_t1
  let v584 : BitVec 32 := Scalar.muli c2_i32_401 arg9
  let v585 : Index := Scalar.indexCast v584
  let c768 : Index := 768#32
  ![v585.toNat, 768]
def k0_off147 (k0_t1 : Fin k0_t1_loop.trips) : Fin 2 → Nat :=
  let c2_i32_402 : BitVec 32 := 2#32
  let c0_i32_73 : BitVec 32 := 0#32
  let c1_i32 : BitVec 32 := 1#32
  let arg9 : BitVec 32 := Scf.iv c0_i32_73 c1_i32 k0_t1
  let v587 : BitVec 32 := Scalar.muli c2_i32_402 arg9
  let c1_i32_403 : BitVec 32 := 1#32
  let v588 : BitVec 32 := Scalar.addi v587 c1_i32_403
  let v589 : Index := Scalar.indexCast v588
  let c768_404 : Index := 768#32
  ![v589.toNat, 768]
def k0_off148 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v592 : Index := Scalar.indexCast arg9
  let c768_405 : Index := 768#32
  ![v592.toNat, 768]
def k0_off149 (k0_t1 : Fin k0_t1_loop.trips) : Fin 2 → Nat :=
  let c2_i32_406 : BitVec 32 := 2#32
  let c0_i32_73 : BitVec 32 := 0#32
  let c1_i32 : BitVec 32 := 1#32
  let arg9 : BitVec 32 := Scf.iv c0_i32_73 c1_i32 k0_t1
  let v594 : BitVec 32 := Scalar.muli c2_i32_406 arg9
  let v595 : Index := Scalar.indexCast v594
  let c784 : Index := 784#32
  ![v595.toNat, 784]
def k0_off150 (k0_t1 : Fin k0_t1_loop.trips) : Fin 2 → Nat :=
  let c2_i32_407 : BitVec 32 := 2#32
  let c0_i32_73 : BitVec 32 := 0#32
  let c1_i32 : BitVec 32 := 1#32
  let arg9 : BitVec 32 := Scf.iv c0_i32_73 c1_i32 k0_t1
  let v597 : BitVec 32 := Scalar.muli c2_i32_407 arg9
  let c1_i32_408 : BitVec 32 := 1#32
  let v598 : BitVec 32 := Scalar.addi v597 c1_i32_408
  let v599 : Index := Scalar.indexCast v598
  let c784_409 : Index := 784#32
  ![v599.toNat, 784]
def k0_off151 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v602 : Index := Scalar.indexCast arg9
  let c784_410 : Index := 784#32
  ![v602.toNat, 784]
def k0_off152 (k0_t1 : Fin k0_t1_loop.trips) : Fin 2 → Nat :=
  let c2_i32_411 : BitVec 32 := 2#32
  let c0_i32_73 : BitVec 32 := 0#32
  let c1_i32 : BitVec 32 := 1#32
  let arg9 : BitVec 32 := Scf.iv c0_i32_73 c1_i32 k0_t1
  let v604 : BitVec 32 := Scalar.muli c2_i32_411 arg9
  let v605 : Index := Scalar.indexCast v604
  let c800 : Index := 800#32
  ![v605.toNat, 800]
def k0_off153 (k0_t1 : Fin k0_t1_loop.trips) : Fin 2 → Nat :=
  let c2_i32_412 : BitVec 32 := 2#32
  let c0_i32_73 : BitVec 32 := 0#32
  let c1_i32 : BitVec 32 := 1#32
  let arg9 : BitVec 32 := Scf.iv c0_i32_73 c1_i32 k0_t1
  let v607 : BitVec 32 := Scalar.muli c2_i32_412 arg9
  let c1_i32_413 : BitVec 32 := 1#32
  let v608 : BitVec 32 := Scalar.addi v607 c1_i32_413
  let v609 : Index := Scalar.indexCast v608
  let c800_414 : Index := 800#32
  ![v609.toNat, 800]
def k0_off154 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v612 : Index := Scalar.indexCast arg9
  let c800_415 : Index := 800#32
  ![v612.toNat, 800]
def k0_off155 (k0_t1 : Fin k0_t1_loop.trips) : Fin 2 → Nat :=
  let c2_i32_416 : BitVec 32 := 2#32
  let c0_i32_73 : BitVec 32 := 0#32
  let c1_i32 : BitVec 32 := 1#32
  let arg9 : BitVec 32 := Scf.iv c0_i32_73 c1_i32 k0_t1
  let v614 : BitVec 32 := Scalar.muli c2_i32_416 arg9
  let v615 : Index := Scalar.indexCast v614
  let c816 : Index := 816#32
  ![v615.toNat, 816]
def k0_off156 (k0_t1 : Fin k0_t1_loop.trips) : Fin 2 → Nat :=
  let c2_i32_417 : BitVec 32 := 2#32
  let c0_i32_73 : BitVec 32 := 0#32
  let c1_i32 : BitVec 32 := 1#32
  let arg9 : BitVec 32 := Scf.iv c0_i32_73 c1_i32 k0_t1
  let v617 : BitVec 32 := Scalar.muli c2_i32_417 arg9
  let c1_i32_418 : BitVec 32 := 1#32
  let v618 : BitVec 32 := Scalar.addi v617 c1_i32_418
  let v619 : Index := Scalar.indexCast v618
  let c816_419 : Index := 816#32
  ![v619.toNat, 816]
def k0_off157 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v622 : Index := Scalar.indexCast arg9
  let c816_420 : Index := 816#32
  ![v622.toNat, 816]
def k0_off158 (k0_t1 : Fin k0_t1_loop.trips) : Fin 2 → Nat :=
  let c2_i32_421 : BitVec 32 := 2#32
  let c0_i32_73 : BitVec 32 := 0#32
  let c1_i32 : BitVec 32 := 1#32
  let arg9 : BitVec 32 := Scf.iv c0_i32_73 c1_i32 k0_t1
  let v624 : BitVec 32 := Scalar.muli c2_i32_421 arg9
  let v625 : Index := Scalar.indexCast v624
  let c832 : Index := 832#32
  ![v625.toNat, 832]
def k0_off159 (k0_t1 : Fin k0_t1_loop.trips) : Fin 2 → Nat :=
  let c2_i32_422 : BitVec 32 := 2#32
  let c0_i32_73 : BitVec 32 := 0#32
  let c1_i32 : BitVec 32 := 1#32
  let arg9 : BitVec 32 := Scf.iv c0_i32_73 c1_i32 k0_t1
  let v627 : BitVec 32 := Scalar.muli c2_i32_422 arg9
  let c1_i32_423 : BitVec 32 := 1#32
  let v628 : BitVec 32 := Scalar.addi v627 c1_i32_423
  let v629 : Index := Scalar.indexCast v628
  let c832_424 : Index := 832#32
  ![v629.toNat, 832]
def k0_off160 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v632 : Index := Scalar.indexCast arg9
  let c832_425 : Index := 832#32
  ![v632.toNat, 832]
def k0_off161 (k0_t1 : Fin k0_t1_loop.trips) : Fin 2 → Nat :=
  let c2_i32_426 : BitVec 32 := 2#32
  let c0_i32_73 : BitVec 32 := 0#32
  let c1_i32 : BitVec 32 := 1#32
  let arg9 : BitVec 32 := Scf.iv c0_i32_73 c1_i32 k0_t1
  let v634 : BitVec 32 := Scalar.muli c2_i32_426 arg9
  let v635 : Index := Scalar.indexCast v634
  let c848 : Index := 848#32
  ![v635.toNat, 848]
def k0_off162 (k0_t1 : Fin k0_t1_loop.trips) : Fin 2 → Nat :=
  let c2_i32_427 : BitVec 32 := 2#32
  let c0_i32_73 : BitVec 32 := 0#32
  let c1_i32 : BitVec 32 := 1#32
  let arg9 : BitVec 32 := Scf.iv c0_i32_73 c1_i32 k0_t1
  let v637 : BitVec 32 := Scalar.muli c2_i32_427 arg9
  let c1_i32_428 : BitVec 32 := 1#32
  let v638 : BitVec 32 := Scalar.addi v637 c1_i32_428
  let v639 : Index := Scalar.indexCast v638
  let c848_429 : Index := 848#32
  ![v639.toNat, 848]
def k0_off163 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v642 : Index := Scalar.indexCast arg9
  let c848_430 : Index := 848#32
  ![v642.toNat, 848]
def k0_off164 (k0_t1 : Fin k0_t1_loop.trips) : Fin 2 → Nat :=
  let c2_i32_431 : BitVec 32 := 2#32
  let c0_i32_73 : BitVec 32 := 0#32
  let c1_i32 : BitVec 32 := 1#32
  let arg9 : BitVec 32 := Scf.iv c0_i32_73 c1_i32 k0_t1
  let v644 : BitVec 32 := Scalar.muli c2_i32_431 arg9
  let v645 : Index := Scalar.indexCast v644
  let c864 : Index := 864#32
  ![v645.toNat, 864]
def k0_off165 (k0_t1 : Fin k0_t1_loop.trips) : Fin 2 → Nat :=
  let c2_i32_432 : BitVec 32 := 2#32
  let c0_i32_73 : BitVec 32 := 0#32
  let c1_i32 : BitVec 32 := 1#32
  let arg9 : BitVec 32 := Scf.iv c0_i32_73 c1_i32 k0_t1
  let v647 : BitVec 32 := Scalar.muli c2_i32_432 arg9
  let c1_i32_433 : BitVec 32 := 1#32
  let v648 : BitVec 32 := Scalar.addi v647 c1_i32_433
  let v649 : Index := Scalar.indexCast v648
  let c864_434 : Index := 864#32
  ![v649.toNat, 864]
def k0_off166 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v652 : Index := Scalar.indexCast arg9
  let c864_435 : Index := 864#32
  ![v652.toNat, 864]
def k0_off167 (k0_t1 : Fin k0_t1_loop.trips) : Fin 2 → Nat :=
  let c2_i32_436 : BitVec 32 := 2#32
  let c0_i32_73 : BitVec 32 := 0#32
  let c1_i32 : BitVec 32 := 1#32
  let arg9 : BitVec 32 := Scf.iv c0_i32_73 c1_i32 k0_t1
  let v654 : BitVec 32 := Scalar.muli c2_i32_436 arg9
  let v655 : Index := Scalar.indexCast v654
  let c880 : Index := 880#32
  ![v655.toNat, 880]
def k0_off168 (k0_t1 : Fin k0_t1_loop.trips) : Fin 2 → Nat :=
  let c2_i32_437 : BitVec 32 := 2#32
  let c0_i32_73 : BitVec 32 := 0#32
  let c1_i32 : BitVec 32 := 1#32
  let arg9 : BitVec 32 := Scf.iv c0_i32_73 c1_i32 k0_t1
  let v657 : BitVec 32 := Scalar.muli c2_i32_437 arg9
  let c1_i32_438 : BitVec 32 := 1#32
  let v658 : BitVec 32 := Scalar.addi v657 c1_i32_438
  let v659 : Index := Scalar.indexCast v658
  let c880_439 : Index := 880#32
  ![v659.toNat, 880]
def k0_off169 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v662 : Index := Scalar.indexCast arg9
  let c880_440 : Index := 880#32
  ![v662.toNat, 880]
def k0_off170 (k0_t1 : Fin k0_t1_loop.trips) : Fin 2 → Nat :=
  let c2_i32_441 : BitVec 32 := 2#32
  let c0_i32_73 : BitVec 32 := 0#32
  let c1_i32 : BitVec 32 := 1#32
  let arg9 : BitVec 32 := Scf.iv c0_i32_73 c1_i32 k0_t1
  let v664 : BitVec 32 := Scalar.muli c2_i32_441 arg9
  let v665 : Index := Scalar.indexCast v664
  let c896 : Index := 896#32
  ![v665.toNat, 896]
def k0_off171 (k0_t1 : Fin k0_t1_loop.trips) : Fin 2 → Nat :=
  let c2_i32_442 : BitVec 32 := 2#32
  let c0_i32_73 : BitVec 32 := 0#32
  let c1_i32 : BitVec 32 := 1#32
  let arg9 : BitVec 32 := Scf.iv c0_i32_73 c1_i32 k0_t1
  let v667 : BitVec 32 := Scalar.muli c2_i32_442 arg9
  let c1_i32_443 : BitVec 32 := 1#32
  let v668 : BitVec 32 := Scalar.addi v667 c1_i32_443
  let v669 : Index := Scalar.indexCast v668
  let c896_444 : Index := 896#32
  ![v669.toNat, 896]
def k0_off172 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v672 : Index := Scalar.indexCast arg9
  let c896_445 : Index := 896#32
  ![v672.toNat, 896]
def k0_off173 (k0_t1 : Fin k0_t1_loop.trips) : Fin 2 → Nat :=
  let c2_i32_446 : BitVec 32 := 2#32
  let c0_i32_73 : BitVec 32 := 0#32
  let c1_i32 : BitVec 32 := 1#32
  let arg9 : BitVec 32 := Scf.iv c0_i32_73 c1_i32 k0_t1
  let v674 : BitVec 32 := Scalar.muli c2_i32_446 arg9
  let v675 : Index := Scalar.indexCast v674
  let c912 : Index := 912#32
  ![v675.toNat, 912]
def k0_off174 (k0_t1 : Fin k0_t1_loop.trips) : Fin 2 → Nat :=
  let c2_i32_447 : BitVec 32 := 2#32
  let c0_i32_73 : BitVec 32 := 0#32
  let c1_i32 : BitVec 32 := 1#32
  let arg9 : BitVec 32 := Scf.iv c0_i32_73 c1_i32 k0_t1
  let v677 : BitVec 32 := Scalar.muli c2_i32_447 arg9
  let c1_i32_448 : BitVec 32 := 1#32
  let v678 : BitVec 32 := Scalar.addi v677 c1_i32_448
  let v679 : Index := Scalar.indexCast v678
  let c912_449 : Index := 912#32
  ![v679.toNat, 912]
def k0_off175 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v682 : Index := Scalar.indexCast arg9
  let c912_450 : Index := 912#32
  ![v682.toNat, 912]
def k0_off176 (k0_t1 : Fin k0_t1_loop.trips) : Fin 2 → Nat :=
  let c2_i32_451 : BitVec 32 := 2#32
  let c0_i32_73 : BitVec 32 := 0#32
  let c1_i32 : BitVec 32 := 1#32
  let arg9 : BitVec 32 := Scf.iv c0_i32_73 c1_i32 k0_t1
  let v684 : BitVec 32 := Scalar.muli c2_i32_451 arg9
  let v685 : Index := Scalar.indexCast v684
  let c928 : Index := 928#32
  ![v685.toNat, 928]
def k0_off177 (k0_t1 : Fin k0_t1_loop.trips) : Fin 2 → Nat :=
  let c2_i32_452 : BitVec 32 := 2#32
  let c0_i32_73 : BitVec 32 := 0#32
  let c1_i32 : BitVec 32 := 1#32
  let arg9 : BitVec 32 := Scf.iv c0_i32_73 c1_i32 k0_t1
  let v687 : BitVec 32 := Scalar.muli c2_i32_452 arg9
  let c1_i32_453 : BitVec 32 := 1#32
  let v688 : BitVec 32 := Scalar.addi v687 c1_i32_453
  let v689 : Index := Scalar.indexCast v688
  let c928_454 : Index := 928#32
  ![v689.toNat, 928]
def k0_off178 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v692 : Index := Scalar.indexCast arg9
  let c928_455 : Index := 928#32
  ![v692.toNat, 928]
def k0_off179 (k0_t1 : Fin k0_t1_loop.trips) : Fin 2 → Nat :=
  let c2_i32_456 : BitVec 32 := 2#32
  let c0_i32_73 : BitVec 32 := 0#32
  let c1_i32 : BitVec 32 := 1#32
  let arg9 : BitVec 32 := Scf.iv c0_i32_73 c1_i32 k0_t1
  let v694 : BitVec 32 := Scalar.muli c2_i32_456 arg9
  let v695 : Index := Scalar.indexCast v694
  let c944 : Index := 944#32
  ![v695.toNat, 944]
def k0_off180 (k0_t1 : Fin k0_t1_loop.trips) : Fin 2 → Nat :=
  let c2_i32_457 : BitVec 32 := 2#32
  let c0_i32_73 : BitVec 32 := 0#32
  let c1_i32 : BitVec 32 := 1#32
  let arg9 : BitVec 32 := Scf.iv c0_i32_73 c1_i32 k0_t1
  let v697 : BitVec 32 := Scalar.muli c2_i32_457 arg9
  let c1_i32_458 : BitVec 32 := 1#32
  let v698 : BitVec 32 := Scalar.addi v697 c1_i32_458
  let v699 : Index := Scalar.indexCast v698
  let c944_459 : Index := 944#32
  ![v699.toNat, 944]
def k0_off181 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v702 : Index := Scalar.indexCast arg9
  let c944_460 : Index := 944#32
  ![v702.toNat, 944]
def k0_off182 (k0_t1 : Fin k0_t1_loop.trips) : Fin 2 → Nat :=
  let c2_i32_461 : BitVec 32 := 2#32
  let c0_i32_73 : BitVec 32 := 0#32
  let c1_i32 : BitVec 32 := 1#32
  let arg9 : BitVec 32 := Scf.iv c0_i32_73 c1_i32 k0_t1
  let v704 : BitVec 32 := Scalar.muli c2_i32_461 arg9
  let v705 : Index := Scalar.indexCast v704
  let c960 : Index := 960#32
  ![v705.toNat, 960]
def k0_off183 (k0_t1 : Fin k0_t1_loop.trips) : Fin 2 → Nat :=
  let c2_i32_462 : BitVec 32 := 2#32
  let c0_i32_73 : BitVec 32 := 0#32
  let c1_i32 : BitVec 32 := 1#32
  let arg9 : BitVec 32 := Scf.iv c0_i32_73 c1_i32 k0_t1
  let v707 : BitVec 32 := Scalar.muli c2_i32_462 arg9
  let c1_i32_463 : BitVec 32 := 1#32
  let v708 : BitVec 32 := Scalar.addi v707 c1_i32_463
  let v709 : Index := Scalar.indexCast v708
  let c960_464 : Index := 960#32
  ![v709.toNat, 960]
def k0_off184 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v712 : Index := Scalar.indexCast arg9
  let c960_465 : Index := 960#32
  ![v712.toNat, 960]
def k0_off185 (k0_t1 : Fin k0_t1_loop.trips) : Fin 2 → Nat :=
  let c2_i32_466 : BitVec 32 := 2#32
  let c0_i32_73 : BitVec 32 := 0#32
  let c1_i32 : BitVec 32 := 1#32
  let arg9 : BitVec 32 := Scf.iv c0_i32_73 c1_i32 k0_t1
  let v714 : BitVec 32 := Scalar.muli c2_i32_466 arg9
  let v715 : Index := Scalar.indexCast v714
  let c976 : Index := 976#32
  ![v715.toNat, 976]
def k0_off186 (k0_t1 : Fin k0_t1_loop.trips) : Fin 2 → Nat :=
  let c2_i32_467 : BitVec 32 := 2#32
  let c0_i32_73 : BitVec 32 := 0#32
  let c1_i32 : BitVec 32 := 1#32
  let arg9 : BitVec 32 := Scf.iv c0_i32_73 c1_i32 k0_t1
  let v717 : BitVec 32 := Scalar.muli c2_i32_467 arg9
  let c1_i32_468 : BitVec 32 := 1#32
  let v718 : BitVec 32 := Scalar.addi v717 c1_i32_468
  let v719 : Index := Scalar.indexCast v718
  let c976_469 : Index := 976#32
  ![v719.toNat, 976]
def k0_off187 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v722 : Index := Scalar.indexCast arg9
  let c976_470 : Index := 976#32
  ![v722.toNat, 976]
def k0_off188 (k0_t1 : Fin k0_t1_loop.trips) : Fin 2 → Nat :=
  let c2_i32_471 : BitVec 32 := 2#32
  let c0_i32_73 : BitVec 32 := 0#32
  let c1_i32 : BitVec 32 := 1#32
  let arg9 : BitVec 32 := Scf.iv c0_i32_73 c1_i32 k0_t1
  let v724 : BitVec 32 := Scalar.muli c2_i32_471 arg9
  let v725 : Index := Scalar.indexCast v724
  let c992 : Index := 992#32
  ![v725.toNat, 992]
def k0_off189 (k0_t1 : Fin k0_t1_loop.trips) : Fin 2 → Nat :=
  let c2_i32_472 : BitVec 32 := 2#32
  let c0_i32_73 : BitVec 32 := 0#32
  let c1_i32 : BitVec 32 := 1#32
  let arg9 : BitVec 32 := Scf.iv c0_i32_73 c1_i32 k0_t1
  let v727 : BitVec 32 := Scalar.muli c2_i32_472 arg9
  let c1_i32_473 : BitVec 32 := 1#32
  let v728 : BitVec 32 := Scalar.addi v727 c1_i32_473
  let v729 : Index := Scalar.indexCast v728
  let c992_474 : Index := 992#32
  ![v729.toNat, 992]
def k0_off190 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v732 : Index := Scalar.indexCast arg9
  let c992_475 : Index := 992#32
  ![v732.toNat, 992]
def k0_off191 (k0_t1 : Fin k0_t1_loop.trips) : Fin 2 → Nat :=
  let c2_i32_476 : BitVec 32 := 2#32
  let c0_i32_73 : BitVec 32 := 0#32
  let c1_i32 : BitVec 32 := 1#32
  let arg9 : BitVec 32 := Scf.iv c0_i32_73 c1_i32 k0_t1
  let v734 : BitVec 32 := Scalar.muli c2_i32_476 arg9
  let v735 : Index := Scalar.indexCast v734
  let c1008 : Index := 1008#32
  ![v735.toNat, 1008]
def k0_off192 (k0_t1 : Fin k0_t1_loop.trips) : Fin 2 → Nat :=
  let c2_i32_477 : BitVec 32 := 2#32
  let c0_i32_73 : BitVec 32 := 0#32
  let c1_i32 : BitVec 32 := 1#32
  let arg9 : BitVec 32 := Scf.iv c0_i32_73 c1_i32 k0_t1
  let v737 : BitVec 32 := Scalar.muli c2_i32_477 arg9
  let c1_i32_478 : BitVec 32 := 1#32
  let v738 : BitVec 32 := Scalar.addi v737 c1_i32_478
  let v739 : Index := Scalar.indexCast v738
  let c1008_479 : Index := 1008#32
  ![v739.toNat, 1008]
def k0_off193 (k0_t1 : Fin k0_t1_loop.trips) : Fin 2 → Nat :=
  let c0_i32_73 : BitVec 32 := 0#32
  let c1_i32 : BitVec 32 := 1#32
  let arg9 : BitVec 32 := Scf.iv c0_i32_73 c1_i32 k0_t1
  let v742 : Index := Scalar.indexCast arg9
  let c1008_480 : Index := 1008#32
  ![v742.toNat, 1008]
def k0_off194 (i : grid0.Coords) (c0_i32_75 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v53 : BitVec 32 := Scalar.addi v2 c0_i32_75
  let c0_i32_161_r1 : BitVec 32 := 0#32
  ![v53.toNat, 0]
@[reducible] def k0_t2_loop : Scf.Loop 32 :=
  let c0_i32_156 : BitVec 32 := 0#32
  let c32_i32_157 : BitVec 32 := 32#32
  let v102 : BitVec 32 := Scalar.addi c0_i32_156 c32_i32_157
  let c1_i32_158 : BitVec 32 := 1#32
  ⟨c0_i32_156, v102, c1_i32_158⟩
def k0_off195 (k0_t2 : Fin k0_t2_loop.trips) : Fin 2 → Nat :=
  let c2_i32_161 : BitVec 32 := 2#32
  let c0_i32_156 : BitVec 32 := 0#32
  let c1_i32_158 : BitVec 32 := 1#32
  let arg9 : BitVec 32 := Scf.iv c0_i32_156 c1_i32_158 k0_t2
  let v104 : BitVec 32 := Scalar.muli c2_i32_161 arg9
  let v105 : Index := Scalar.indexCast v104
  let c0 : Index := 0#32
  ![v105.toNat, 0]
def k0_off196 (k0_t2 : Fin k0_t2_loop.trips) : Fin 2 → Nat :=
  let c2_i32_162 : BitVec 32 := 2#32
  let c0_i32_156 : BitVec 32 := 0#32
  let c1_i32_158 : BitVec 32 := 1#32
  let arg9 : BitVec 32 := Scf.iv c0_i32_156 c1_i32_158 k0_t2
  let v107 : BitVec 32 := Scalar.muli c2_i32_162 arg9
  let c1_i32_163 : BitVec 32 := 1#32
  let v108 : BitVec 32 := Scalar.addi v107 c1_i32_163
  let v109 : Index := Scalar.indexCast v108
  let c0_164 : Index := 0#32
  ![v109.toNat, 0]
def k0_off197 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v112 : Index := Scalar.indexCast arg9
  let c0_165 : Index := 0#32
  ![v112.toNat, 0]
def k0_off198 (k0_t2 : Fin k0_t2_loop.trips) : Fin 2 → Nat :=
  let c2_i32_166 : BitVec 32 := 2#32
  let c0_i32_156 : BitVec 32 := 0#32
  let c1_i32_158 : BitVec 32 := 1#32
  let arg9 : BitVec 32 := Scf.iv c0_i32_156 c1_i32_158 k0_t2
  let v114 : BitVec 32 := Scalar.muli c2_i32_166 arg9
  let v115 : Index := Scalar.indexCast v114
  let c16 : Index := 16#32
  ![v115.toNat, 16]
def k0_off199 (k0_t2 : Fin k0_t2_loop.trips) : Fin 2 → Nat :=
  let c2_i32_167 : BitVec 32 := 2#32
  let c0_i32_156 : BitVec 32 := 0#32
  let c1_i32_158 : BitVec 32 := 1#32
  let arg9 : BitVec 32 := Scf.iv c0_i32_156 c1_i32_158 k0_t2
  let v117 : BitVec 32 := Scalar.muli c2_i32_167 arg9
  let c1_i32_168 : BitVec 32 := 1#32
  let v118 : BitVec 32 := Scalar.addi v117 c1_i32_168
  let v119 : Index := Scalar.indexCast v118
  let c16_169 : Index := 16#32
  ![v119.toNat, 16]
def k0_off200 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v122 : Index := Scalar.indexCast arg9
  let c16_170 : Index := 16#32
  ![v122.toNat, 16]
def k0_off201 (k0_t2 : Fin k0_t2_loop.trips) : Fin 2 → Nat :=
  let c2_i32_171 : BitVec 32 := 2#32
  let c0_i32_156 : BitVec 32 := 0#32
  let c1_i32_158 : BitVec 32 := 1#32
  let arg9 : BitVec 32 := Scf.iv c0_i32_156 c1_i32_158 k0_t2
  let v124 : BitVec 32 := Scalar.muli c2_i32_171 arg9
  let v125 : Index := Scalar.indexCast v124
  let c32 : Index := 32#32
  ![v125.toNat, 32]
def k0_off202 (k0_t2 : Fin k0_t2_loop.trips) : Fin 2 → Nat :=
  let c2_i32_172 : BitVec 32 := 2#32
  let c0_i32_156 : BitVec 32 := 0#32
  let c1_i32_158 : BitVec 32 := 1#32
  let arg9 : BitVec 32 := Scf.iv c0_i32_156 c1_i32_158 k0_t2
  let v127 : BitVec 32 := Scalar.muli c2_i32_172 arg9
  let c1_i32_173 : BitVec 32 := 1#32
  let v128 : BitVec 32 := Scalar.addi v127 c1_i32_173
  let v129 : Index := Scalar.indexCast v128
  let c32_174 : Index := 32#32
  ![v129.toNat, 32]
def k0_off203 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v132 : Index := Scalar.indexCast arg9
  let c32_175 : Index := 32#32
  ![v132.toNat, 32]
def k0_off204 (k0_t2 : Fin k0_t2_loop.trips) : Fin 2 → Nat :=
  let c2_i32_176 : BitVec 32 := 2#32
  let c0_i32_156 : BitVec 32 := 0#32
  let c1_i32_158 : BitVec 32 := 1#32
  let arg9 : BitVec 32 := Scf.iv c0_i32_156 c1_i32_158 k0_t2
  let v134 : BitVec 32 := Scalar.muli c2_i32_176 arg9
  let v135 : Index := Scalar.indexCast v134
  let c48 : Index := 48#32
  ![v135.toNat, 48]
def k0_off205 (k0_t2 : Fin k0_t2_loop.trips) : Fin 2 → Nat :=
  let c2_i32_177 : BitVec 32 := 2#32
  let c0_i32_156 : BitVec 32 := 0#32
  let c1_i32_158 : BitVec 32 := 1#32
  let arg9 : BitVec 32 := Scf.iv c0_i32_156 c1_i32_158 k0_t2
  let v137 : BitVec 32 := Scalar.muli c2_i32_177 arg9
  let c1_i32_178 : BitVec 32 := 1#32
  let v138 : BitVec 32 := Scalar.addi v137 c1_i32_178
  let v139 : Index := Scalar.indexCast v138
  let c48_179 : Index := 48#32
  ![v139.toNat, 48]
def k0_off206 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v142 : Index := Scalar.indexCast arg9
  let c48_180 : Index := 48#32
  ![v142.toNat, 48]
def k0_off207 (k0_t2 : Fin k0_t2_loop.trips) : Fin 2 → Nat :=
  let c2_i32_181 : BitVec 32 := 2#32
  let c0_i32_156 : BitVec 32 := 0#32
  let c1_i32_158 : BitVec 32 := 1#32
  let arg9 : BitVec 32 := Scf.iv c0_i32_156 c1_i32_158 k0_t2
  let v144 : BitVec 32 := Scalar.muli c2_i32_181 arg9
  let v145 : Index := Scalar.indexCast v144
  let c64 : Index := 64#32
  ![v145.toNat, 64]
def k0_off208 (k0_t2 : Fin k0_t2_loop.trips) : Fin 2 → Nat :=
  let c2_i32_182 : BitVec 32 := 2#32
  let c0_i32_156 : BitVec 32 := 0#32
  let c1_i32_158 : BitVec 32 := 1#32
  let arg9 : BitVec 32 := Scf.iv c0_i32_156 c1_i32_158 k0_t2
  let v147 : BitVec 32 := Scalar.muli c2_i32_182 arg9
  let c1_i32_183 : BitVec 32 := 1#32
  let v148 : BitVec 32 := Scalar.addi v147 c1_i32_183
  let v149 : Index := Scalar.indexCast v148
  let c64_184 : Index := 64#32
  ![v149.toNat, 64]
def k0_off209 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v152 : Index := Scalar.indexCast arg9
  let c64_185 : Index := 64#32
  ![v152.toNat, 64]
def k0_off210 (k0_t2 : Fin k0_t2_loop.trips) : Fin 2 → Nat :=
  let c2_i32_186 : BitVec 32 := 2#32
  let c0_i32_156 : BitVec 32 := 0#32
  let c1_i32_158 : BitVec 32 := 1#32
  let arg9 : BitVec 32 := Scf.iv c0_i32_156 c1_i32_158 k0_t2
  let v154 : BitVec 32 := Scalar.muli c2_i32_186 arg9
  let v155 : Index := Scalar.indexCast v154
  let c80 : Index := 80#32
  ![v155.toNat, 80]
def k0_off211 (k0_t2 : Fin k0_t2_loop.trips) : Fin 2 → Nat :=
  let c2_i32_187 : BitVec 32 := 2#32
  let c0_i32_156 : BitVec 32 := 0#32
  let c1_i32_158 : BitVec 32 := 1#32
  let arg9 : BitVec 32 := Scf.iv c0_i32_156 c1_i32_158 k0_t2
  let v157 : BitVec 32 := Scalar.muli c2_i32_187 arg9
  let c1_i32_188 : BitVec 32 := 1#32
  let v158 : BitVec 32 := Scalar.addi v157 c1_i32_188
  let v159 : Index := Scalar.indexCast v158
  let c80_189 : Index := 80#32
  ![v159.toNat, 80]
def k0_off212 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v162 : Index := Scalar.indexCast arg9
  let c80_190 : Index := 80#32
  ![v162.toNat, 80]
def k0_off213 (k0_t2 : Fin k0_t2_loop.trips) : Fin 2 → Nat :=
  let c2_i32_191 : BitVec 32 := 2#32
  let c0_i32_156 : BitVec 32 := 0#32
  let c1_i32_158 : BitVec 32 := 1#32
  let arg9 : BitVec 32 := Scf.iv c0_i32_156 c1_i32_158 k0_t2
  let v164 : BitVec 32 := Scalar.muli c2_i32_191 arg9
  let v165 : Index := Scalar.indexCast v164
  let c96 : Index := 96#32
  ![v165.toNat, 96]
def k0_off214 (k0_t2 : Fin k0_t2_loop.trips) : Fin 2 → Nat :=
  let c2_i32_192 : BitVec 32 := 2#32
  let c0_i32_156 : BitVec 32 := 0#32
  let c1_i32_158 : BitVec 32 := 1#32
  let arg9 : BitVec 32 := Scf.iv c0_i32_156 c1_i32_158 k0_t2
  let v167 : BitVec 32 := Scalar.muli c2_i32_192 arg9
  let c1_i32_193 : BitVec 32 := 1#32
  let v168 : BitVec 32 := Scalar.addi v167 c1_i32_193
  let v169 : Index := Scalar.indexCast v168
  let c96_194 : Index := 96#32
  ![v169.toNat, 96]
def k0_off215 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v172 : Index := Scalar.indexCast arg9
  let c96_195 : Index := 96#32
  ![v172.toNat, 96]
def k0_off216 (k0_t2 : Fin k0_t2_loop.trips) : Fin 2 → Nat :=
  let c2_i32_196 : BitVec 32 := 2#32
  let c0_i32_156 : BitVec 32 := 0#32
  let c1_i32_158 : BitVec 32 := 1#32
  let arg9 : BitVec 32 := Scf.iv c0_i32_156 c1_i32_158 k0_t2
  let v174 : BitVec 32 := Scalar.muli c2_i32_196 arg9
  let v175 : Index := Scalar.indexCast v174
  let c112 : Index := 112#32
  ![v175.toNat, 112]
def k0_off217 (k0_t2 : Fin k0_t2_loop.trips) : Fin 2 → Nat :=
  let c2_i32_197 : BitVec 32 := 2#32
  let c0_i32_156 : BitVec 32 := 0#32
  let c1_i32_158 : BitVec 32 := 1#32
  let arg9 : BitVec 32 := Scf.iv c0_i32_156 c1_i32_158 k0_t2
  let v177 : BitVec 32 := Scalar.muli c2_i32_197 arg9
  let c1_i32_198 : BitVec 32 := 1#32
  let v178 : BitVec 32 := Scalar.addi v177 c1_i32_198
  let v179 : Index := Scalar.indexCast v178
  let c112_199 : Index := 112#32
  ![v179.toNat, 112]
def k0_off218 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v182 : Index := Scalar.indexCast arg9
  let c112_200 : Index := 112#32
  ![v182.toNat, 112]
def k0_off219 (k0_t2 : Fin k0_t2_loop.trips) : Fin 2 → Nat :=
  let c2_i32_201 : BitVec 32 := 2#32
  let c0_i32_156 : BitVec 32 := 0#32
  let c1_i32_158 : BitVec 32 := 1#32
  let arg9 : BitVec 32 := Scf.iv c0_i32_156 c1_i32_158 k0_t2
  let v184 : BitVec 32 := Scalar.muli c2_i32_201 arg9
  let v185 : Index := Scalar.indexCast v184
  let c128 : Index := 128#32
  ![v185.toNat, 128]
def k0_off220 (k0_t2 : Fin k0_t2_loop.trips) : Fin 2 → Nat :=
  let c2_i32_202 : BitVec 32 := 2#32
  let c0_i32_156 : BitVec 32 := 0#32
  let c1_i32_158 : BitVec 32 := 1#32
  let arg9 : BitVec 32 := Scf.iv c0_i32_156 c1_i32_158 k0_t2
  let v187 : BitVec 32 := Scalar.muli c2_i32_202 arg9
  let c1_i32_203 : BitVec 32 := 1#32
  let v188 : BitVec 32 := Scalar.addi v187 c1_i32_203
  let v189 : Index := Scalar.indexCast v188
  let c128_204 : Index := 128#32
  ![v189.toNat, 128]
def k0_off221 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v192 : Index := Scalar.indexCast arg9
  let c128_205 : Index := 128#32
  ![v192.toNat, 128]
def k0_off222 (k0_t2 : Fin k0_t2_loop.trips) : Fin 2 → Nat :=
  let c2_i32_206 : BitVec 32 := 2#32
  let c0_i32_156 : BitVec 32 := 0#32
  let c1_i32_158 : BitVec 32 := 1#32
  let arg9 : BitVec 32 := Scf.iv c0_i32_156 c1_i32_158 k0_t2
  let v194 : BitVec 32 := Scalar.muli c2_i32_206 arg9
  let v195 : Index := Scalar.indexCast v194
  let c144 : Index := 144#32
  ![v195.toNat, 144]
def k0_off223 (k0_t2 : Fin k0_t2_loop.trips) : Fin 2 → Nat :=
  let c2_i32_207 : BitVec 32 := 2#32
  let c0_i32_156 : BitVec 32 := 0#32
  let c1_i32_158 : BitVec 32 := 1#32
  let arg9 : BitVec 32 := Scf.iv c0_i32_156 c1_i32_158 k0_t2
  let v197 : BitVec 32 := Scalar.muli c2_i32_207 arg9
  let c1_i32_208 : BitVec 32 := 1#32
  let v198 : BitVec 32 := Scalar.addi v197 c1_i32_208
  let v199 : Index := Scalar.indexCast v198
  let c144_209 : Index := 144#32
  ![v199.toNat, 144]
def k0_off224 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v202 : Index := Scalar.indexCast arg9
  let c144_210 : Index := 144#32
  ![v202.toNat, 144]
def k0_off225 (k0_t2 : Fin k0_t2_loop.trips) : Fin 2 → Nat :=
  let c2_i32_211 : BitVec 32 := 2#32
  let c0_i32_156 : BitVec 32 := 0#32
  let c1_i32_158 : BitVec 32 := 1#32
  let arg9 : BitVec 32 := Scf.iv c0_i32_156 c1_i32_158 k0_t2
  let v204 : BitVec 32 := Scalar.muli c2_i32_211 arg9
  let v205 : Index := Scalar.indexCast v204
  let c160 : Index := 160#32
  ![v205.toNat, 160]
def k0_off226 (k0_t2 : Fin k0_t2_loop.trips) : Fin 2 → Nat :=
  let c2_i32_212 : BitVec 32 := 2#32
  let c0_i32_156 : BitVec 32 := 0#32
  let c1_i32_158 : BitVec 32 := 1#32
  let arg9 : BitVec 32 := Scf.iv c0_i32_156 c1_i32_158 k0_t2
  let v207 : BitVec 32 := Scalar.muli c2_i32_212 arg9
  let c1_i32_213 : BitVec 32 := 1#32
  let v208 : BitVec 32 := Scalar.addi v207 c1_i32_213
  let v209 : Index := Scalar.indexCast v208
  let c160_214 : Index := 160#32
  ![v209.toNat, 160]
def k0_off227 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v212 : Index := Scalar.indexCast arg9
  let c160_215 : Index := 160#32
  ![v212.toNat, 160]
def k0_off228 (k0_t2 : Fin k0_t2_loop.trips) : Fin 2 → Nat :=
  let c2_i32_216 : BitVec 32 := 2#32
  let c0_i32_156 : BitVec 32 := 0#32
  let c1_i32_158 : BitVec 32 := 1#32
  let arg9 : BitVec 32 := Scf.iv c0_i32_156 c1_i32_158 k0_t2
  let v214 : BitVec 32 := Scalar.muli c2_i32_216 arg9
  let v215 : Index := Scalar.indexCast v214
  let c176 : Index := 176#32
  ![v215.toNat, 176]
def k0_off229 (k0_t2 : Fin k0_t2_loop.trips) : Fin 2 → Nat :=
  let c2_i32_217 : BitVec 32 := 2#32
  let c0_i32_156 : BitVec 32 := 0#32
  let c1_i32_158 : BitVec 32 := 1#32
  let arg9 : BitVec 32 := Scf.iv c0_i32_156 c1_i32_158 k0_t2
  let v217 : BitVec 32 := Scalar.muli c2_i32_217 arg9
  let c1_i32_218 : BitVec 32 := 1#32
  let v218 : BitVec 32 := Scalar.addi v217 c1_i32_218
  let v219 : Index := Scalar.indexCast v218
  let c176_219 : Index := 176#32
  ![v219.toNat, 176]
def k0_off230 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v222 : Index := Scalar.indexCast arg9
  let c176_220 : Index := 176#32
  ![v222.toNat, 176]
def k0_off231 (k0_t2 : Fin k0_t2_loop.trips) : Fin 2 → Nat :=
  let c2_i32_221 : BitVec 32 := 2#32
  let c0_i32_156 : BitVec 32 := 0#32
  let c1_i32_158 : BitVec 32 := 1#32
  let arg9 : BitVec 32 := Scf.iv c0_i32_156 c1_i32_158 k0_t2
  let v224 : BitVec 32 := Scalar.muli c2_i32_221 arg9
  let v225 : Index := Scalar.indexCast v224
  let c192 : Index := 192#32
  ![v225.toNat, 192]
def k0_off232 (k0_t2 : Fin k0_t2_loop.trips) : Fin 2 → Nat :=
  let c2_i32_222 : BitVec 32 := 2#32
  let c0_i32_156 : BitVec 32 := 0#32
  let c1_i32_158 : BitVec 32 := 1#32
  let arg9 : BitVec 32 := Scf.iv c0_i32_156 c1_i32_158 k0_t2
  let v227 : BitVec 32 := Scalar.muli c2_i32_222 arg9
  let c1_i32_223 : BitVec 32 := 1#32
  let v228 : BitVec 32 := Scalar.addi v227 c1_i32_223
  let v229 : Index := Scalar.indexCast v228
  let c192_224 : Index := 192#32
  ![v229.toNat, 192]
def k0_off233 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v232 : Index := Scalar.indexCast arg9
  let c192_225 : Index := 192#32
  ![v232.toNat, 192]
def k0_off234 (k0_t2 : Fin k0_t2_loop.trips) : Fin 2 → Nat :=
  let c2_i32_226 : BitVec 32 := 2#32
  let c0_i32_156 : BitVec 32 := 0#32
  let c1_i32_158 : BitVec 32 := 1#32
  let arg9 : BitVec 32 := Scf.iv c0_i32_156 c1_i32_158 k0_t2
  let v234 : BitVec 32 := Scalar.muli c2_i32_226 arg9
  let v235 : Index := Scalar.indexCast v234
  let c208 : Index := 208#32
  ![v235.toNat, 208]
def k0_off235 (k0_t2 : Fin k0_t2_loop.trips) : Fin 2 → Nat :=
  let c2_i32_227 : BitVec 32 := 2#32
  let c0_i32_156 : BitVec 32 := 0#32
  let c1_i32_158 : BitVec 32 := 1#32
  let arg9 : BitVec 32 := Scf.iv c0_i32_156 c1_i32_158 k0_t2
  let v237 : BitVec 32 := Scalar.muli c2_i32_227 arg9
  let c1_i32_228 : BitVec 32 := 1#32
  let v238 : BitVec 32 := Scalar.addi v237 c1_i32_228
  let v239 : Index := Scalar.indexCast v238
  let c208_229 : Index := 208#32
  ![v239.toNat, 208]
def k0_off236 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v242 : Index := Scalar.indexCast arg9
  let c208_230 : Index := 208#32
  ![v242.toNat, 208]
def k0_off237 (k0_t2 : Fin k0_t2_loop.trips) : Fin 2 → Nat :=
  let c2_i32_231 : BitVec 32 := 2#32
  let c0_i32_156 : BitVec 32 := 0#32
  let c1_i32_158 : BitVec 32 := 1#32
  let arg9 : BitVec 32 := Scf.iv c0_i32_156 c1_i32_158 k0_t2
  let v244 : BitVec 32 := Scalar.muli c2_i32_231 arg9
  let v245 : Index := Scalar.indexCast v244
  let c224 : Index := 224#32
  ![v245.toNat, 224]
def k0_off238 (k0_t2 : Fin k0_t2_loop.trips) : Fin 2 → Nat :=
  let c2_i32_232 : BitVec 32 := 2#32
  let c0_i32_156 : BitVec 32 := 0#32
  let c1_i32_158 : BitVec 32 := 1#32
  let arg9 : BitVec 32 := Scf.iv c0_i32_156 c1_i32_158 k0_t2
  let v247 : BitVec 32 := Scalar.muli c2_i32_232 arg9
  let c1_i32_233 : BitVec 32 := 1#32
  let v248 : BitVec 32 := Scalar.addi v247 c1_i32_233
  let v249 : Index := Scalar.indexCast v248
  let c224_234 : Index := 224#32
  ![v249.toNat, 224]
def k0_off239 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v252 : Index := Scalar.indexCast arg9
  let c224_235 : Index := 224#32
  ![v252.toNat, 224]
def k0_off240 (k0_t2 : Fin k0_t2_loop.trips) : Fin 2 → Nat :=
  let c2_i32_236 : BitVec 32 := 2#32
  let c0_i32_156 : BitVec 32 := 0#32
  let c1_i32_158 : BitVec 32 := 1#32
  let arg9 : BitVec 32 := Scf.iv c0_i32_156 c1_i32_158 k0_t2
  let v254 : BitVec 32 := Scalar.muli c2_i32_236 arg9
  let v255 : Index := Scalar.indexCast v254
  let c240 : Index := 240#32
  ![v255.toNat, 240]
def k0_off241 (k0_t2 : Fin k0_t2_loop.trips) : Fin 2 → Nat :=
  let c2_i32_237 : BitVec 32 := 2#32
  let c0_i32_156 : BitVec 32 := 0#32
  let c1_i32_158 : BitVec 32 := 1#32
  let arg9 : BitVec 32 := Scf.iv c0_i32_156 c1_i32_158 k0_t2
  let v257 : BitVec 32 := Scalar.muli c2_i32_237 arg9
  let c1_i32_238 : BitVec 32 := 1#32
  let v258 : BitVec 32 := Scalar.addi v257 c1_i32_238
  let v259 : Index := Scalar.indexCast v258
  let c240_239 : Index := 240#32
  ![v259.toNat, 240]
def k0_off242 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v262 : Index := Scalar.indexCast arg9
  let c240_240 : Index := 240#32
  ![v262.toNat, 240]
def k0_off243 (k0_t2 : Fin k0_t2_loop.trips) : Fin 2 → Nat :=
  let c2_i32_241 : BitVec 32 := 2#32
  let c0_i32_156 : BitVec 32 := 0#32
  let c1_i32_158 : BitVec 32 := 1#32
  let arg9 : BitVec 32 := Scf.iv c0_i32_156 c1_i32_158 k0_t2
  let v264 : BitVec 32 := Scalar.muli c2_i32_241 arg9
  let v265 : Index := Scalar.indexCast v264
  let c256 : Index := 256#32
  ![v265.toNat, 256]
def k0_off244 (k0_t2 : Fin k0_t2_loop.trips) : Fin 2 → Nat :=
  let c2_i32_242 : BitVec 32 := 2#32
  let c0_i32_156 : BitVec 32 := 0#32
  let c1_i32_158 : BitVec 32 := 1#32
  let arg9 : BitVec 32 := Scf.iv c0_i32_156 c1_i32_158 k0_t2
  let v267 : BitVec 32 := Scalar.muli c2_i32_242 arg9
  let c1_i32_243 : BitVec 32 := 1#32
  let v268 : BitVec 32 := Scalar.addi v267 c1_i32_243
  let v269 : Index := Scalar.indexCast v268
  let c256_244 : Index := 256#32
  ![v269.toNat, 256]
def k0_off245 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v272 : Index := Scalar.indexCast arg9
  let c256_245 : Index := 256#32
  ![v272.toNat, 256]
def k0_off246 (k0_t2 : Fin k0_t2_loop.trips) : Fin 2 → Nat :=
  let c2_i32_246 : BitVec 32 := 2#32
  let c0_i32_156 : BitVec 32 := 0#32
  let c1_i32_158 : BitVec 32 := 1#32
  let arg9 : BitVec 32 := Scf.iv c0_i32_156 c1_i32_158 k0_t2
  let v274 : BitVec 32 := Scalar.muli c2_i32_246 arg9
  let v275 : Index := Scalar.indexCast v274
  let c272 : Index := 272#32
  ![v275.toNat, 272]
def k0_off247 (k0_t2 : Fin k0_t2_loop.trips) : Fin 2 → Nat :=
  let c2_i32_247 : BitVec 32 := 2#32
  let c0_i32_156 : BitVec 32 := 0#32
  let c1_i32_158 : BitVec 32 := 1#32
  let arg9 : BitVec 32 := Scf.iv c0_i32_156 c1_i32_158 k0_t2
  let v277 : BitVec 32 := Scalar.muli c2_i32_247 arg9
  let c1_i32_248 : BitVec 32 := 1#32
  let v278 : BitVec 32 := Scalar.addi v277 c1_i32_248
  let v279 : Index := Scalar.indexCast v278
  let c272_249 : Index := 272#32
  ![v279.toNat, 272]
def k0_off248 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v282 : Index := Scalar.indexCast arg9
  let c272_250 : Index := 272#32
  ![v282.toNat, 272]
def k0_off249 (k0_t2 : Fin k0_t2_loop.trips) : Fin 2 → Nat :=
  let c2_i32_251 : BitVec 32 := 2#32
  let c0_i32_156 : BitVec 32 := 0#32
  let c1_i32_158 : BitVec 32 := 1#32
  let arg9 : BitVec 32 := Scf.iv c0_i32_156 c1_i32_158 k0_t2
  let v284 : BitVec 32 := Scalar.muli c2_i32_251 arg9
  let v285 : Index := Scalar.indexCast v284
  let c288 : Index := 288#32
  ![v285.toNat, 288]
def k0_off250 (k0_t2 : Fin k0_t2_loop.trips) : Fin 2 → Nat :=
  let c2_i32_252 : BitVec 32 := 2#32
  let c0_i32_156 : BitVec 32 := 0#32
  let c1_i32_158 : BitVec 32 := 1#32
  let arg9 : BitVec 32 := Scf.iv c0_i32_156 c1_i32_158 k0_t2
  let v287 : BitVec 32 := Scalar.muli c2_i32_252 arg9
  let c1_i32_253 : BitVec 32 := 1#32
  let v288 : BitVec 32 := Scalar.addi v287 c1_i32_253
  let v289 : Index := Scalar.indexCast v288
  let c288_254 : Index := 288#32
  ![v289.toNat, 288]
def k0_off251 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v292 : Index := Scalar.indexCast arg9
  let c288_255 : Index := 288#32
  ![v292.toNat, 288]
def k0_off252 (k0_t2 : Fin k0_t2_loop.trips) : Fin 2 → Nat :=
  let c2_i32_256 : BitVec 32 := 2#32
  let c0_i32_156 : BitVec 32 := 0#32
  let c1_i32_158 : BitVec 32 := 1#32
  let arg9 : BitVec 32 := Scf.iv c0_i32_156 c1_i32_158 k0_t2
  let v294 : BitVec 32 := Scalar.muli c2_i32_256 arg9
  let v295 : Index := Scalar.indexCast v294
  let c304 : Index := 304#32
  ![v295.toNat, 304]
def k0_off253 (k0_t2 : Fin k0_t2_loop.trips) : Fin 2 → Nat :=
  let c2_i32_257 : BitVec 32 := 2#32
  let c0_i32_156 : BitVec 32 := 0#32
  let c1_i32_158 : BitVec 32 := 1#32
  let arg9 : BitVec 32 := Scf.iv c0_i32_156 c1_i32_158 k0_t2
  let v297 : BitVec 32 := Scalar.muli c2_i32_257 arg9
  let c1_i32_258 : BitVec 32 := 1#32
  let v298 : BitVec 32 := Scalar.addi v297 c1_i32_258
  let v299 : Index := Scalar.indexCast v298
  let c304_259 : Index := 304#32
  ![v299.toNat, 304]
def k0_off254 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v302 : Index := Scalar.indexCast arg9
  let c304_260 : Index := 304#32
  ![v302.toNat, 304]
def k0_off255 (k0_t2 : Fin k0_t2_loop.trips) : Fin 2 → Nat :=
  let c2_i32_261 : BitVec 32 := 2#32
  let c0_i32_156 : BitVec 32 := 0#32
  let c1_i32_158 : BitVec 32 := 1#32
  let arg9 : BitVec 32 := Scf.iv c0_i32_156 c1_i32_158 k0_t2
  let v304 : BitVec 32 := Scalar.muli c2_i32_261 arg9
  let v305 : Index := Scalar.indexCast v304
  let c320 : Index := 320#32
  ![v305.toNat, 320]
def k0_off256 (k0_t2 : Fin k0_t2_loop.trips) : Fin 2 → Nat :=
  let c2_i32_262 : BitVec 32 := 2#32
  let c0_i32_156 : BitVec 32 := 0#32
  let c1_i32_158 : BitVec 32 := 1#32
  let arg9 : BitVec 32 := Scf.iv c0_i32_156 c1_i32_158 k0_t2
  let v307 : BitVec 32 := Scalar.muli c2_i32_262 arg9
  let c1_i32_263 : BitVec 32 := 1#32
  let v308 : BitVec 32 := Scalar.addi v307 c1_i32_263
  let v309 : Index := Scalar.indexCast v308
  let c320_264 : Index := 320#32
  ![v309.toNat, 320]
def k0_off257 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v312 : Index := Scalar.indexCast arg9
  let c320_265 : Index := 320#32
  ![v312.toNat, 320]
def k0_off258 (k0_t2 : Fin k0_t2_loop.trips) : Fin 2 → Nat :=
  let c2_i32_266 : BitVec 32 := 2#32
  let c0_i32_156 : BitVec 32 := 0#32
  let c1_i32_158 : BitVec 32 := 1#32
  let arg9 : BitVec 32 := Scf.iv c0_i32_156 c1_i32_158 k0_t2
  let v314 : BitVec 32 := Scalar.muli c2_i32_266 arg9
  let v315 : Index := Scalar.indexCast v314
  let c336 : Index := 336#32
  ![v315.toNat, 336]
def k0_off259 (k0_t2 : Fin k0_t2_loop.trips) : Fin 2 → Nat :=
  let c2_i32_267 : BitVec 32 := 2#32
  let c0_i32_156 : BitVec 32 := 0#32
  let c1_i32_158 : BitVec 32 := 1#32
  let arg9 : BitVec 32 := Scf.iv c0_i32_156 c1_i32_158 k0_t2
  let v317 : BitVec 32 := Scalar.muli c2_i32_267 arg9
  let c1_i32_268 : BitVec 32 := 1#32
  let v318 : BitVec 32 := Scalar.addi v317 c1_i32_268
  let v319 : Index := Scalar.indexCast v318
  let c336_269 : Index := 336#32
  ![v319.toNat, 336]
def k0_off260 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v322 : Index := Scalar.indexCast arg9
  let c336_270 : Index := 336#32
  ![v322.toNat, 336]
def k0_off261 (k0_t2 : Fin k0_t2_loop.trips) : Fin 2 → Nat :=
  let c2_i32_271 : BitVec 32 := 2#32
  let c0_i32_156 : BitVec 32 := 0#32
  let c1_i32_158 : BitVec 32 := 1#32
  let arg9 : BitVec 32 := Scf.iv c0_i32_156 c1_i32_158 k0_t2
  let v324 : BitVec 32 := Scalar.muli c2_i32_271 arg9
  let v325 : Index := Scalar.indexCast v324
  let c352 : Index := 352#32
  ![v325.toNat, 352]
def k0_off262 (k0_t2 : Fin k0_t2_loop.trips) : Fin 2 → Nat :=
  let c2_i32_272 : BitVec 32 := 2#32
  let c0_i32_156 : BitVec 32 := 0#32
  let c1_i32_158 : BitVec 32 := 1#32
  let arg9 : BitVec 32 := Scf.iv c0_i32_156 c1_i32_158 k0_t2
  let v327 : BitVec 32 := Scalar.muli c2_i32_272 arg9
  let c1_i32_273 : BitVec 32 := 1#32
  let v328 : BitVec 32 := Scalar.addi v327 c1_i32_273
  let v329 : Index := Scalar.indexCast v328
  let c352_274 : Index := 352#32
  ![v329.toNat, 352]
def k0_off263 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v332 : Index := Scalar.indexCast arg9
  let c352_275 : Index := 352#32
  ![v332.toNat, 352]
def k0_off264 (k0_t2 : Fin k0_t2_loop.trips) : Fin 2 → Nat :=
  let c2_i32_276 : BitVec 32 := 2#32
  let c0_i32_156 : BitVec 32 := 0#32
  let c1_i32_158 : BitVec 32 := 1#32
  let arg9 : BitVec 32 := Scf.iv c0_i32_156 c1_i32_158 k0_t2
  let v334 : BitVec 32 := Scalar.muli c2_i32_276 arg9
  let v335 : Index := Scalar.indexCast v334
  let c368 : Index := 368#32
  ![v335.toNat, 368]
def k0_off265 (k0_t2 : Fin k0_t2_loop.trips) : Fin 2 → Nat :=
  let c2_i32_277 : BitVec 32 := 2#32
  let c0_i32_156 : BitVec 32 := 0#32
  let c1_i32_158 : BitVec 32 := 1#32
  let arg9 : BitVec 32 := Scf.iv c0_i32_156 c1_i32_158 k0_t2
  let v337 : BitVec 32 := Scalar.muli c2_i32_277 arg9
  let c1_i32_278 : BitVec 32 := 1#32
  let v338 : BitVec 32 := Scalar.addi v337 c1_i32_278
  let v339 : Index := Scalar.indexCast v338
  let c368_279 : Index := 368#32
  ![v339.toNat, 368]
def k0_off266 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v342 : Index := Scalar.indexCast arg9
  let c368_280 : Index := 368#32
  ![v342.toNat, 368]
def k0_off267 (k0_t2 : Fin k0_t2_loop.trips) : Fin 2 → Nat :=
  let c2_i32_281 : BitVec 32 := 2#32
  let c0_i32_156 : BitVec 32 := 0#32
  let c1_i32_158 : BitVec 32 := 1#32
  let arg9 : BitVec 32 := Scf.iv c0_i32_156 c1_i32_158 k0_t2
  let v344 : BitVec 32 := Scalar.muli c2_i32_281 arg9
  let v345 : Index := Scalar.indexCast v344
  let c384 : Index := 384#32
  ![v345.toNat, 384]
def k0_off268 (k0_t2 : Fin k0_t2_loop.trips) : Fin 2 → Nat :=
  let c2_i32_282 : BitVec 32 := 2#32
  let c0_i32_156 : BitVec 32 := 0#32
  let c1_i32_158 : BitVec 32 := 1#32
  let arg9 : BitVec 32 := Scf.iv c0_i32_156 c1_i32_158 k0_t2
  let v347 : BitVec 32 := Scalar.muli c2_i32_282 arg9
  let c1_i32_283 : BitVec 32 := 1#32
  let v348 : BitVec 32 := Scalar.addi v347 c1_i32_283
  let v349 : Index := Scalar.indexCast v348
  let c384_284 : Index := 384#32
  ![v349.toNat, 384]
def k0_off269 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v352 : Index := Scalar.indexCast arg9
  let c384_285 : Index := 384#32
  ![v352.toNat, 384]
def k0_off270 (k0_t2 : Fin k0_t2_loop.trips) : Fin 2 → Nat :=
  let c2_i32_286 : BitVec 32 := 2#32
  let c0_i32_156 : BitVec 32 := 0#32
  let c1_i32_158 : BitVec 32 := 1#32
  let arg9 : BitVec 32 := Scf.iv c0_i32_156 c1_i32_158 k0_t2
  let v354 : BitVec 32 := Scalar.muli c2_i32_286 arg9
  let v355 : Index := Scalar.indexCast v354
  let c400 : Index := 400#32
  ![v355.toNat, 400]
def k0_off271 (k0_t2 : Fin k0_t2_loop.trips) : Fin 2 → Nat :=
  let c2_i32_287 : BitVec 32 := 2#32
  let c0_i32_156 : BitVec 32 := 0#32
  let c1_i32_158 : BitVec 32 := 1#32
  let arg9 : BitVec 32 := Scf.iv c0_i32_156 c1_i32_158 k0_t2
  let v357 : BitVec 32 := Scalar.muli c2_i32_287 arg9
  let c1_i32_288 : BitVec 32 := 1#32
  let v358 : BitVec 32 := Scalar.addi v357 c1_i32_288
  let v359 : Index := Scalar.indexCast v358
  let c400_289 : Index := 400#32
  ![v359.toNat, 400]
def k0_off272 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v362 : Index := Scalar.indexCast arg9
  let c400_290 : Index := 400#32
  ![v362.toNat, 400]
def k0_off273 (k0_t2 : Fin k0_t2_loop.trips) : Fin 2 → Nat :=
  let c2_i32_291 : BitVec 32 := 2#32
  let c0_i32_156 : BitVec 32 := 0#32
  let c1_i32_158 : BitVec 32 := 1#32
  let arg9 : BitVec 32 := Scf.iv c0_i32_156 c1_i32_158 k0_t2
  let v364 : BitVec 32 := Scalar.muli c2_i32_291 arg9
  let v365 : Index := Scalar.indexCast v364
  let c416 : Index := 416#32
  ![v365.toNat, 416]
def k0_off274 (k0_t2 : Fin k0_t2_loop.trips) : Fin 2 → Nat :=
  let c2_i32_292 : BitVec 32 := 2#32
  let c0_i32_156 : BitVec 32 := 0#32
  let c1_i32_158 : BitVec 32 := 1#32
  let arg9 : BitVec 32 := Scf.iv c0_i32_156 c1_i32_158 k0_t2
  let v367 : BitVec 32 := Scalar.muli c2_i32_292 arg9
  let c1_i32_293 : BitVec 32 := 1#32
  let v368 : BitVec 32 := Scalar.addi v367 c1_i32_293
  let v369 : Index := Scalar.indexCast v368
  let c416_294 : Index := 416#32
  ![v369.toNat, 416]
def k0_off275 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v372 : Index := Scalar.indexCast arg9
  let c416_295 : Index := 416#32
  ![v372.toNat, 416]
def k0_off276 (k0_t2 : Fin k0_t2_loop.trips) : Fin 2 → Nat :=
  let c2_i32_296 : BitVec 32 := 2#32
  let c0_i32_156 : BitVec 32 := 0#32
  let c1_i32_158 : BitVec 32 := 1#32
  let arg9 : BitVec 32 := Scf.iv c0_i32_156 c1_i32_158 k0_t2
  let v374 : BitVec 32 := Scalar.muli c2_i32_296 arg9
  let v375 : Index := Scalar.indexCast v374
  let c432 : Index := 432#32
  ![v375.toNat, 432]
def k0_off277 (k0_t2 : Fin k0_t2_loop.trips) : Fin 2 → Nat :=
  let c2_i32_297 : BitVec 32 := 2#32
  let c0_i32_156 : BitVec 32 := 0#32
  let c1_i32_158 : BitVec 32 := 1#32
  let arg9 : BitVec 32 := Scf.iv c0_i32_156 c1_i32_158 k0_t2
  let v377 : BitVec 32 := Scalar.muli c2_i32_297 arg9
  let c1_i32_298 : BitVec 32 := 1#32
  let v378 : BitVec 32 := Scalar.addi v377 c1_i32_298
  let v379 : Index := Scalar.indexCast v378
  let c432_299 : Index := 432#32
  ![v379.toNat, 432]
def k0_off278 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v382 : Index := Scalar.indexCast arg9
  let c432_300 : Index := 432#32
  ![v382.toNat, 432]
def k0_off279 (k0_t2 : Fin k0_t2_loop.trips) : Fin 2 → Nat :=
  let c2_i32_301 : BitVec 32 := 2#32
  let c0_i32_156 : BitVec 32 := 0#32
  let c1_i32_158 : BitVec 32 := 1#32
  let arg9 : BitVec 32 := Scf.iv c0_i32_156 c1_i32_158 k0_t2
  let v384 : BitVec 32 := Scalar.muli c2_i32_301 arg9
  let v385 : Index := Scalar.indexCast v384
  let c448 : Index := 448#32
  ![v385.toNat, 448]
def k0_off280 (k0_t2 : Fin k0_t2_loop.trips) : Fin 2 → Nat :=
  let c2_i32_302 : BitVec 32 := 2#32
  let c0_i32_156 : BitVec 32 := 0#32
  let c1_i32_158 : BitVec 32 := 1#32
  let arg9 : BitVec 32 := Scf.iv c0_i32_156 c1_i32_158 k0_t2
  let v387 : BitVec 32 := Scalar.muli c2_i32_302 arg9
  let c1_i32_303 : BitVec 32 := 1#32
  let v388 : BitVec 32 := Scalar.addi v387 c1_i32_303
  let v389 : Index := Scalar.indexCast v388
  let c448_304 : Index := 448#32
  ![v389.toNat, 448]
def k0_off281 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v392 : Index := Scalar.indexCast arg9
  let c448_305 : Index := 448#32
  ![v392.toNat, 448]
def k0_off282 (k0_t2 : Fin k0_t2_loop.trips) : Fin 2 → Nat :=
  let c2_i32_306 : BitVec 32 := 2#32
  let c0_i32_156 : BitVec 32 := 0#32
  let c1_i32_158 : BitVec 32 := 1#32
  let arg9 : BitVec 32 := Scf.iv c0_i32_156 c1_i32_158 k0_t2
  let v394 : BitVec 32 := Scalar.muli c2_i32_306 arg9
  let v395 : Index := Scalar.indexCast v394
  let c464 : Index := 464#32
  ![v395.toNat, 464]
def k0_off283 (k0_t2 : Fin k0_t2_loop.trips) : Fin 2 → Nat :=
  let c2_i32_307 : BitVec 32 := 2#32
  let c0_i32_156 : BitVec 32 := 0#32
  let c1_i32_158 : BitVec 32 := 1#32
  let arg9 : BitVec 32 := Scf.iv c0_i32_156 c1_i32_158 k0_t2
  let v397 : BitVec 32 := Scalar.muli c2_i32_307 arg9
  let c1_i32_308 : BitVec 32 := 1#32
  let v398 : BitVec 32 := Scalar.addi v397 c1_i32_308
  let v399 : Index := Scalar.indexCast v398
  let c464_309 : Index := 464#32
  ![v399.toNat, 464]
def k0_off284 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v402 : Index := Scalar.indexCast arg9
  let c464_310 : Index := 464#32
  ![v402.toNat, 464]
def k0_off285 (k0_t2 : Fin k0_t2_loop.trips) : Fin 2 → Nat :=
  let c2_i32_311 : BitVec 32 := 2#32
  let c0_i32_156 : BitVec 32 := 0#32
  let c1_i32_158 : BitVec 32 := 1#32
  let arg9 : BitVec 32 := Scf.iv c0_i32_156 c1_i32_158 k0_t2
  let v404 : BitVec 32 := Scalar.muli c2_i32_311 arg9
  let v405 : Index := Scalar.indexCast v404
  let c480 : Index := 480#32
  ![v405.toNat, 480]
def k0_off286 (k0_t2 : Fin k0_t2_loop.trips) : Fin 2 → Nat :=
  let c2_i32_312 : BitVec 32 := 2#32
  let c0_i32_156 : BitVec 32 := 0#32
  let c1_i32_158 : BitVec 32 := 1#32
  let arg9 : BitVec 32 := Scf.iv c0_i32_156 c1_i32_158 k0_t2
  let v407 : BitVec 32 := Scalar.muli c2_i32_312 arg9
  let c1_i32_313 : BitVec 32 := 1#32
  let v408 : BitVec 32 := Scalar.addi v407 c1_i32_313
  let v409 : Index := Scalar.indexCast v408
  let c480_314 : Index := 480#32
  ![v409.toNat, 480]
def k0_off287 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v412 : Index := Scalar.indexCast arg9
  let c480_315 : Index := 480#32
  ![v412.toNat, 480]
def k0_off288 (k0_t2 : Fin k0_t2_loop.trips) : Fin 2 → Nat :=
  let c2_i32_316 : BitVec 32 := 2#32
  let c0_i32_156 : BitVec 32 := 0#32
  let c1_i32_158 : BitVec 32 := 1#32
  let arg9 : BitVec 32 := Scf.iv c0_i32_156 c1_i32_158 k0_t2
  let v414 : BitVec 32 := Scalar.muli c2_i32_316 arg9
  let v415 : Index := Scalar.indexCast v414
  let c496 : Index := 496#32
  ![v415.toNat, 496]
def k0_off289 (k0_t2 : Fin k0_t2_loop.trips) : Fin 2 → Nat :=
  let c2_i32_317 : BitVec 32 := 2#32
  let c0_i32_156 : BitVec 32 := 0#32
  let c1_i32_158 : BitVec 32 := 1#32
  let arg9 : BitVec 32 := Scf.iv c0_i32_156 c1_i32_158 k0_t2
  let v417 : BitVec 32 := Scalar.muli c2_i32_317 arg9
  let c1_i32_318 : BitVec 32 := 1#32
  let v418 : BitVec 32 := Scalar.addi v417 c1_i32_318
  let v419 : Index := Scalar.indexCast v418
  let c496_319 : Index := 496#32
  ![v419.toNat, 496]
def k0_off290 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v422 : Index := Scalar.indexCast arg9
  let c496_320 : Index := 496#32
  ![v422.toNat, 496]
def k0_off291 (k0_t2 : Fin k0_t2_loop.trips) : Fin 2 → Nat :=
  let c2_i32_321 : BitVec 32 := 2#32
  let c0_i32_156 : BitVec 32 := 0#32
  let c1_i32_158 : BitVec 32 := 1#32
  let arg9 : BitVec 32 := Scf.iv c0_i32_156 c1_i32_158 k0_t2
  let v424 : BitVec 32 := Scalar.muli c2_i32_321 arg9
  let v425 : Index := Scalar.indexCast v424
  let c512 : Index := 512#32
  ![v425.toNat, 512]
def k0_off292 (k0_t2 : Fin k0_t2_loop.trips) : Fin 2 → Nat :=
  let c2_i32_322 : BitVec 32 := 2#32
  let c0_i32_156 : BitVec 32 := 0#32
  let c1_i32_158 : BitVec 32 := 1#32
  let arg9 : BitVec 32 := Scf.iv c0_i32_156 c1_i32_158 k0_t2
  let v427 : BitVec 32 := Scalar.muli c2_i32_322 arg9
  let c1_i32_323 : BitVec 32 := 1#32
  let v428 : BitVec 32 := Scalar.addi v427 c1_i32_323
  let v429 : Index := Scalar.indexCast v428
  let c512_324 : Index := 512#32
  ![v429.toNat, 512]
def k0_off293 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v432 : Index := Scalar.indexCast arg9
  let c512_325 : Index := 512#32
  ![v432.toNat, 512]
def k0_off294 (k0_t2 : Fin k0_t2_loop.trips) : Fin 2 → Nat :=
  let c2_i32_326 : BitVec 32 := 2#32
  let c0_i32_156 : BitVec 32 := 0#32
  let c1_i32_158 : BitVec 32 := 1#32
  let arg9 : BitVec 32 := Scf.iv c0_i32_156 c1_i32_158 k0_t2
  let v434 : BitVec 32 := Scalar.muli c2_i32_326 arg9
  let v435 : Index := Scalar.indexCast v434
  let c528 : Index := 528#32
  ![v435.toNat, 528]
def k0_off295 (k0_t2 : Fin k0_t2_loop.trips) : Fin 2 → Nat :=
  let c2_i32_327 : BitVec 32 := 2#32
  let c0_i32_156 : BitVec 32 := 0#32
  let c1_i32_158 : BitVec 32 := 1#32
  let arg9 : BitVec 32 := Scf.iv c0_i32_156 c1_i32_158 k0_t2
  let v437 : BitVec 32 := Scalar.muli c2_i32_327 arg9
  let c1_i32_328 : BitVec 32 := 1#32
  let v438 : BitVec 32 := Scalar.addi v437 c1_i32_328
  let v439 : Index := Scalar.indexCast v438
  let c528_329 : Index := 528#32
  ![v439.toNat, 528]
def k0_off296 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v442 : Index := Scalar.indexCast arg9
  let c528_330 : Index := 528#32
  ![v442.toNat, 528]
def k0_off297 (k0_t2 : Fin k0_t2_loop.trips) : Fin 2 → Nat :=
  let c2_i32_331 : BitVec 32 := 2#32
  let c0_i32_156 : BitVec 32 := 0#32
  let c1_i32_158 : BitVec 32 := 1#32
  let arg9 : BitVec 32 := Scf.iv c0_i32_156 c1_i32_158 k0_t2
  let v444 : BitVec 32 := Scalar.muli c2_i32_331 arg9
  let v445 : Index := Scalar.indexCast v444
  let c544 : Index := 544#32
  ![v445.toNat, 544]
def k0_off298 (k0_t2 : Fin k0_t2_loop.trips) : Fin 2 → Nat :=
  let c2_i32_332 : BitVec 32 := 2#32
  let c0_i32_156 : BitVec 32 := 0#32
  let c1_i32_158 : BitVec 32 := 1#32
  let arg9 : BitVec 32 := Scf.iv c0_i32_156 c1_i32_158 k0_t2
  let v447 : BitVec 32 := Scalar.muli c2_i32_332 arg9
  let c1_i32_333 : BitVec 32 := 1#32
  let v448 : BitVec 32 := Scalar.addi v447 c1_i32_333
  let v449 : Index := Scalar.indexCast v448
  let c544_334 : Index := 544#32
  ![v449.toNat, 544]
def k0_off299 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v452 : Index := Scalar.indexCast arg9
  let c544_335 : Index := 544#32
  ![v452.toNat, 544]
def k0_off300 (k0_t2 : Fin k0_t2_loop.trips) : Fin 2 → Nat :=
  let c2_i32_336 : BitVec 32 := 2#32
  let c0_i32_156 : BitVec 32 := 0#32
  let c1_i32_158 : BitVec 32 := 1#32
  let arg9 : BitVec 32 := Scf.iv c0_i32_156 c1_i32_158 k0_t2
  let v454 : BitVec 32 := Scalar.muli c2_i32_336 arg9
  let v455 : Index := Scalar.indexCast v454
  let c560 : Index := 560#32
  ![v455.toNat, 560]
def k0_off301 (k0_t2 : Fin k0_t2_loop.trips) : Fin 2 → Nat :=
  let c2_i32_337 : BitVec 32 := 2#32
  let c0_i32_156 : BitVec 32 := 0#32
  let c1_i32_158 : BitVec 32 := 1#32
  let arg9 : BitVec 32 := Scf.iv c0_i32_156 c1_i32_158 k0_t2
  let v457 : BitVec 32 := Scalar.muli c2_i32_337 arg9
  let c1_i32_338 : BitVec 32 := 1#32
  let v458 : BitVec 32 := Scalar.addi v457 c1_i32_338
  let v459 : Index := Scalar.indexCast v458
  let c560_339 : Index := 560#32
  ![v459.toNat, 560]
def k0_off302 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v462 : Index := Scalar.indexCast arg9
  let c560_340 : Index := 560#32
  ![v462.toNat, 560]
def k0_off303 (k0_t2 : Fin k0_t2_loop.trips) : Fin 2 → Nat :=
  let c2_i32_341 : BitVec 32 := 2#32
  let c0_i32_156 : BitVec 32 := 0#32
  let c1_i32_158 : BitVec 32 := 1#32
  let arg9 : BitVec 32 := Scf.iv c0_i32_156 c1_i32_158 k0_t2
  let v464 : BitVec 32 := Scalar.muli c2_i32_341 arg9
  let v465 : Index := Scalar.indexCast v464
  let c576 : Index := 576#32
  ![v465.toNat, 576]
def k0_off304 (k0_t2 : Fin k0_t2_loop.trips) : Fin 2 → Nat :=
  let c2_i32_342 : BitVec 32 := 2#32
  let c0_i32_156 : BitVec 32 := 0#32
  let c1_i32_158 : BitVec 32 := 1#32
  let arg9 : BitVec 32 := Scf.iv c0_i32_156 c1_i32_158 k0_t2
  let v467 : BitVec 32 := Scalar.muli c2_i32_342 arg9
  let c1_i32_343 : BitVec 32 := 1#32
  let v468 : BitVec 32 := Scalar.addi v467 c1_i32_343
  let v469 : Index := Scalar.indexCast v468
  let c576_344 : Index := 576#32
  ![v469.toNat, 576]
def k0_off305 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v472 : Index := Scalar.indexCast arg9
  let c576_345 : Index := 576#32
  ![v472.toNat, 576]
def k0_off306 (k0_t2 : Fin k0_t2_loop.trips) : Fin 2 → Nat :=
  let c2_i32_346 : BitVec 32 := 2#32
  let c0_i32_156 : BitVec 32 := 0#32
  let c1_i32_158 : BitVec 32 := 1#32
  let arg9 : BitVec 32 := Scf.iv c0_i32_156 c1_i32_158 k0_t2
  let v474 : BitVec 32 := Scalar.muli c2_i32_346 arg9
  let v475 : Index := Scalar.indexCast v474
  let c592 : Index := 592#32
  ![v475.toNat, 592]
def k0_off307 (k0_t2 : Fin k0_t2_loop.trips) : Fin 2 → Nat :=
  let c2_i32_347 : BitVec 32 := 2#32
  let c0_i32_156 : BitVec 32 := 0#32
  let c1_i32_158 : BitVec 32 := 1#32
  let arg9 : BitVec 32 := Scf.iv c0_i32_156 c1_i32_158 k0_t2
  let v477 : BitVec 32 := Scalar.muli c2_i32_347 arg9
  let c1_i32_348 : BitVec 32 := 1#32
  let v478 : BitVec 32 := Scalar.addi v477 c1_i32_348
  let v479 : Index := Scalar.indexCast v478
  let c592_349 : Index := 592#32
  ![v479.toNat, 592]
def k0_off308 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v482 : Index := Scalar.indexCast arg9
  let c592_350 : Index := 592#32
  ![v482.toNat, 592]
def k0_off309 (k0_t2 : Fin k0_t2_loop.trips) : Fin 2 → Nat :=
  let c2_i32_351 : BitVec 32 := 2#32
  let c0_i32_156 : BitVec 32 := 0#32
  let c1_i32_158 : BitVec 32 := 1#32
  let arg9 : BitVec 32 := Scf.iv c0_i32_156 c1_i32_158 k0_t2
  let v484 : BitVec 32 := Scalar.muli c2_i32_351 arg9
  let v485 : Index := Scalar.indexCast v484
  let c608 : Index := 608#32
  ![v485.toNat, 608]
def k0_off310 (k0_t2 : Fin k0_t2_loop.trips) : Fin 2 → Nat :=
  let c2_i32_352 : BitVec 32 := 2#32
  let c0_i32_156 : BitVec 32 := 0#32
  let c1_i32_158 : BitVec 32 := 1#32
  let arg9 : BitVec 32 := Scf.iv c0_i32_156 c1_i32_158 k0_t2
  let v487 : BitVec 32 := Scalar.muli c2_i32_352 arg9
  let c1_i32_353 : BitVec 32 := 1#32
  let v488 : BitVec 32 := Scalar.addi v487 c1_i32_353
  let v489 : Index := Scalar.indexCast v488
  let c608_354 : Index := 608#32
  ![v489.toNat, 608]
def k0_off311 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v492 : Index := Scalar.indexCast arg9
  let c608_355 : Index := 608#32
  ![v492.toNat, 608]
def k0_off312 (k0_t2 : Fin k0_t2_loop.trips) : Fin 2 → Nat :=
  let c2_i32_356 : BitVec 32 := 2#32
  let c0_i32_156 : BitVec 32 := 0#32
  let c1_i32_158 : BitVec 32 := 1#32
  let arg9 : BitVec 32 := Scf.iv c0_i32_156 c1_i32_158 k0_t2
  let v494 : BitVec 32 := Scalar.muli c2_i32_356 arg9
  let v495 : Index := Scalar.indexCast v494
  let c624 : Index := 624#32
  ![v495.toNat, 624]
def k0_off313 (k0_t2 : Fin k0_t2_loop.trips) : Fin 2 → Nat :=
  let c2_i32_357 : BitVec 32 := 2#32
  let c0_i32_156 : BitVec 32 := 0#32
  let c1_i32_158 : BitVec 32 := 1#32
  let arg9 : BitVec 32 := Scf.iv c0_i32_156 c1_i32_158 k0_t2
  let v497 : BitVec 32 := Scalar.muli c2_i32_357 arg9
  let c1_i32_358 : BitVec 32 := 1#32
  let v498 : BitVec 32 := Scalar.addi v497 c1_i32_358
  let v499 : Index := Scalar.indexCast v498
  let c624_359 : Index := 624#32
  ![v499.toNat, 624]
def k0_off314 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v502 : Index := Scalar.indexCast arg9
  let c624_360 : Index := 624#32
  ![v502.toNat, 624]
def k0_off315 (k0_t2 : Fin k0_t2_loop.trips) : Fin 2 → Nat :=
  let c2_i32_361 : BitVec 32 := 2#32
  let c0_i32_156 : BitVec 32 := 0#32
  let c1_i32_158 : BitVec 32 := 1#32
  let arg9 : BitVec 32 := Scf.iv c0_i32_156 c1_i32_158 k0_t2
  let v504 : BitVec 32 := Scalar.muli c2_i32_361 arg9
  let v505 : Index := Scalar.indexCast v504
  let c640 : Index := 640#32
  ![v505.toNat, 640]
def k0_off316 (k0_t2 : Fin k0_t2_loop.trips) : Fin 2 → Nat :=
  let c2_i32_362 : BitVec 32 := 2#32
  let c0_i32_156 : BitVec 32 := 0#32
  let c1_i32_158 : BitVec 32 := 1#32
  let arg9 : BitVec 32 := Scf.iv c0_i32_156 c1_i32_158 k0_t2
  let v507 : BitVec 32 := Scalar.muli c2_i32_362 arg9
  let c1_i32_363 : BitVec 32 := 1#32
  let v508 : BitVec 32 := Scalar.addi v507 c1_i32_363
  let v509 : Index := Scalar.indexCast v508
  let c640_364 : Index := 640#32
  ![v509.toNat, 640]
def k0_off317 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v512 : Index := Scalar.indexCast arg9
  let c640_365 : Index := 640#32
  ![v512.toNat, 640]
def k0_off318 (k0_t2 : Fin k0_t2_loop.trips) : Fin 2 → Nat :=
  let c2_i32_366 : BitVec 32 := 2#32
  let c0_i32_156 : BitVec 32 := 0#32
  let c1_i32_158 : BitVec 32 := 1#32
  let arg9 : BitVec 32 := Scf.iv c0_i32_156 c1_i32_158 k0_t2
  let v514 : BitVec 32 := Scalar.muli c2_i32_366 arg9
  let v515 : Index := Scalar.indexCast v514
  let c656 : Index := 656#32
  ![v515.toNat, 656]
def k0_off319 (k0_t2 : Fin k0_t2_loop.trips) : Fin 2 → Nat :=
  let c2_i32_367 : BitVec 32 := 2#32
  let c0_i32_156 : BitVec 32 := 0#32
  let c1_i32_158 : BitVec 32 := 1#32
  let arg9 : BitVec 32 := Scf.iv c0_i32_156 c1_i32_158 k0_t2
  let v517 : BitVec 32 := Scalar.muli c2_i32_367 arg9
  let c1_i32_368 : BitVec 32 := 1#32
  let v518 : BitVec 32 := Scalar.addi v517 c1_i32_368
  let v519 : Index := Scalar.indexCast v518
  let c656_369 : Index := 656#32
  ![v519.toNat, 656]
def k0_off320 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v522 : Index := Scalar.indexCast arg9
  let c656_370 : Index := 656#32
  ![v522.toNat, 656]
def k0_off321 (k0_t2 : Fin k0_t2_loop.trips) : Fin 2 → Nat :=
  let c2_i32_371 : BitVec 32 := 2#32
  let c0_i32_156 : BitVec 32 := 0#32
  let c1_i32_158 : BitVec 32 := 1#32
  let arg9 : BitVec 32 := Scf.iv c0_i32_156 c1_i32_158 k0_t2
  let v524 : BitVec 32 := Scalar.muli c2_i32_371 arg9
  let v525 : Index := Scalar.indexCast v524
  let c672 : Index := 672#32
  ![v525.toNat, 672]
def k0_off322 (k0_t2 : Fin k0_t2_loop.trips) : Fin 2 → Nat :=
  let c2_i32_372 : BitVec 32 := 2#32
  let c0_i32_156 : BitVec 32 := 0#32
  let c1_i32_158 : BitVec 32 := 1#32
  let arg9 : BitVec 32 := Scf.iv c0_i32_156 c1_i32_158 k0_t2
  let v527 : BitVec 32 := Scalar.muli c2_i32_372 arg9
  let c1_i32_373 : BitVec 32 := 1#32
  let v528 : BitVec 32 := Scalar.addi v527 c1_i32_373
  let v529 : Index := Scalar.indexCast v528
  let c672_374 : Index := 672#32
  ![v529.toNat, 672]
def k0_off323 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v532 : Index := Scalar.indexCast arg9
  let c672_375 : Index := 672#32
  ![v532.toNat, 672]
def k0_off324 (k0_t2 : Fin k0_t2_loop.trips) : Fin 2 → Nat :=
  let c2_i32_376 : BitVec 32 := 2#32
  let c0_i32_156 : BitVec 32 := 0#32
  let c1_i32_158 : BitVec 32 := 1#32
  let arg9 : BitVec 32 := Scf.iv c0_i32_156 c1_i32_158 k0_t2
  let v534 : BitVec 32 := Scalar.muli c2_i32_376 arg9
  let v535 : Index := Scalar.indexCast v534
  let c688 : Index := 688#32
  ![v535.toNat, 688]
def k0_off325 (k0_t2 : Fin k0_t2_loop.trips) : Fin 2 → Nat :=
  let c2_i32_377 : BitVec 32 := 2#32
  let c0_i32_156 : BitVec 32 := 0#32
  let c1_i32_158 : BitVec 32 := 1#32
  let arg9 : BitVec 32 := Scf.iv c0_i32_156 c1_i32_158 k0_t2
  let v537 : BitVec 32 := Scalar.muli c2_i32_377 arg9
  let c1_i32_378 : BitVec 32 := 1#32
  let v538 : BitVec 32 := Scalar.addi v537 c1_i32_378
  let v539 : Index := Scalar.indexCast v538
  let c688_379 : Index := 688#32
  ![v539.toNat, 688]
def k0_off326 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v542 : Index := Scalar.indexCast arg9
  let c688_380 : Index := 688#32
  ![v542.toNat, 688]
def k0_off327 (k0_t2 : Fin k0_t2_loop.trips) : Fin 2 → Nat :=
  let c2_i32_381 : BitVec 32 := 2#32
  let c0_i32_156 : BitVec 32 := 0#32
  let c1_i32_158 : BitVec 32 := 1#32
  let arg9 : BitVec 32 := Scf.iv c0_i32_156 c1_i32_158 k0_t2
  let v544 : BitVec 32 := Scalar.muli c2_i32_381 arg9
  let v545 : Index := Scalar.indexCast v544
  let c704 : Index := 704#32
  ![v545.toNat, 704]
def k0_off328 (k0_t2 : Fin k0_t2_loop.trips) : Fin 2 → Nat :=
  let c2_i32_382 : BitVec 32 := 2#32
  let c0_i32_156 : BitVec 32 := 0#32
  let c1_i32_158 : BitVec 32 := 1#32
  let arg9 : BitVec 32 := Scf.iv c0_i32_156 c1_i32_158 k0_t2
  let v547 : BitVec 32 := Scalar.muli c2_i32_382 arg9
  let c1_i32_383 : BitVec 32 := 1#32
  let v548 : BitVec 32 := Scalar.addi v547 c1_i32_383
  let v549 : Index := Scalar.indexCast v548
  let c704_384 : Index := 704#32
  ![v549.toNat, 704]
def k0_off329 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v552 : Index := Scalar.indexCast arg9
  let c704_385 : Index := 704#32
  ![v552.toNat, 704]
def k0_off330 (k0_t2 : Fin k0_t2_loop.trips) : Fin 2 → Nat :=
  let c2_i32_386 : BitVec 32 := 2#32
  let c0_i32_156 : BitVec 32 := 0#32
  let c1_i32_158 : BitVec 32 := 1#32
  let arg9 : BitVec 32 := Scf.iv c0_i32_156 c1_i32_158 k0_t2
  let v554 : BitVec 32 := Scalar.muli c2_i32_386 arg9
  let v555 : Index := Scalar.indexCast v554
  let c720 : Index := 720#32
  ![v555.toNat, 720]
def k0_off331 (k0_t2 : Fin k0_t2_loop.trips) : Fin 2 → Nat :=
  let c2_i32_387 : BitVec 32 := 2#32
  let c0_i32_156 : BitVec 32 := 0#32
  let c1_i32_158 : BitVec 32 := 1#32
  let arg9 : BitVec 32 := Scf.iv c0_i32_156 c1_i32_158 k0_t2
  let v557 : BitVec 32 := Scalar.muli c2_i32_387 arg9
  let c1_i32_388 : BitVec 32 := 1#32
  let v558 : BitVec 32 := Scalar.addi v557 c1_i32_388
  let v559 : Index := Scalar.indexCast v558
  let c720_389 : Index := 720#32
  ![v559.toNat, 720]
def k0_off332 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v562 : Index := Scalar.indexCast arg9
  let c720_390 : Index := 720#32
  ![v562.toNat, 720]
def k0_off333 (k0_t2 : Fin k0_t2_loop.trips) : Fin 2 → Nat :=
  let c2_i32_391 : BitVec 32 := 2#32
  let c0_i32_156 : BitVec 32 := 0#32
  let c1_i32_158 : BitVec 32 := 1#32
  let arg9 : BitVec 32 := Scf.iv c0_i32_156 c1_i32_158 k0_t2
  let v564 : BitVec 32 := Scalar.muli c2_i32_391 arg9
  let v565 : Index := Scalar.indexCast v564
  let c736 : Index := 736#32
  ![v565.toNat, 736]
def k0_off334 (k0_t2 : Fin k0_t2_loop.trips) : Fin 2 → Nat :=
  let c2_i32_392 : BitVec 32 := 2#32
  let c0_i32_156 : BitVec 32 := 0#32
  let c1_i32_158 : BitVec 32 := 1#32
  let arg9 : BitVec 32 := Scf.iv c0_i32_156 c1_i32_158 k0_t2
  let v567 : BitVec 32 := Scalar.muli c2_i32_392 arg9
  let c1_i32_393 : BitVec 32 := 1#32
  let v568 : BitVec 32 := Scalar.addi v567 c1_i32_393
  let v569 : Index := Scalar.indexCast v568
  let c736_394 : Index := 736#32
  ![v569.toNat, 736]
def k0_off335 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v572 : Index := Scalar.indexCast arg9
  let c736_395 : Index := 736#32
  ![v572.toNat, 736]
def k0_off336 (k0_t2 : Fin k0_t2_loop.trips) : Fin 2 → Nat :=
  let c2_i32_396 : BitVec 32 := 2#32
  let c0_i32_156 : BitVec 32 := 0#32
  let c1_i32_158 : BitVec 32 := 1#32
  let arg9 : BitVec 32 := Scf.iv c0_i32_156 c1_i32_158 k0_t2
  let v574 : BitVec 32 := Scalar.muli c2_i32_396 arg9
  let v575 : Index := Scalar.indexCast v574
  let c752 : Index := 752#32
  ![v575.toNat, 752]
def k0_off337 (k0_t2 : Fin k0_t2_loop.trips) : Fin 2 → Nat :=
  let c2_i32_397 : BitVec 32 := 2#32
  let c0_i32_156 : BitVec 32 := 0#32
  let c1_i32_158 : BitVec 32 := 1#32
  let arg9 : BitVec 32 := Scf.iv c0_i32_156 c1_i32_158 k0_t2
  let v577 : BitVec 32 := Scalar.muli c2_i32_397 arg9
  let c1_i32_398 : BitVec 32 := 1#32
  let v578 : BitVec 32 := Scalar.addi v577 c1_i32_398
  let v579 : Index := Scalar.indexCast v578
  let c752_399 : Index := 752#32
  ![v579.toNat, 752]
def k0_off338 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v582 : Index := Scalar.indexCast arg9
  let c752_400 : Index := 752#32
  ![v582.toNat, 752]
def k0_off339 (k0_t2 : Fin k0_t2_loop.trips) : Fin 2 → Nat :=
  let c2_i32_401 : BitVec 32 := 2#32
  let c0_i32_156 : BitVec 32 := 0#32
  let c1_i32_158 : BitVec 32 := 1#32
  let arg9 : BitVec 32 := Scf.iv c0_i32_156 c1_i32_158 k0_t2
  let v584 : BitVec 32 := Scalar.muli c2_i32_401 arg9
  let v585 : Index := Scalar.indexCast v584
  let c768 : Index := 768#32
  ![v585.toNat, 768]
def k0_off340 (k0_t2 : Fin k0_t2_loop.trips) : Fin 2 → Nat :=
  let c2_i32_402 : BitVec 32 := 2#32
  let c0_i32_156 : BitVec 32 := 0#32
  let c1_i32_158 : BitVec 32 := 1#32
  let arg9 : BitVec 32 := Scf.iv c0_i32_156 c1_i32_158 k0_t2
  let v587 : BitVec 32 := Scalar.muli c2_i32_402 arg9
  let c1_i32_403 : BitVec 32 := 1#32
  let v588 : BitVec 32 := Scalar.addi v587 c1_i32_403
  let v589 : Index := Scalar.indexCast v588
  let c768_404 : Index := 768#32
  ![v589.toNat, 768]
def k0_off341 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v592 : Index := Scalar.indexCast arg9
  let c768_405 : Index := 768#32
  ![v592.toNat, 768]
def k0_off342 (k0_t2 : Fin k0_t2_loop.trips) : Fin 2 → Nat :=
  let c2_i32_406 : BitVec 32 := 2#32
  let c0_i32_156 : BitVec 32 := 0#32
  let c1_i32_158 : BitVec 32 := 1#32
  let arg9 : BitVec 32 := Scf.iv c0_i32_156 c1_i32_158 k0_t2
  let v594 : BitVec 32 := Scalar.muli c2_i32_406 arg9
  let v595 : Index := Scalar.indexCast v594
  let c784 : Index := 784#32
  ![v595.toNat, 784]
def k0_off343 (k0_t2 : Fin k0_t2_loop.trips) : Fin 2 → Nat :=
  let c2_i32_407 : BitVec 32 := 2#32
  let c0_i32_156 : BitVec 32 := 0#32
  let c1_i32_158 : BitVec 32 := 1#32
  let arg9 : BitVec 32 := Scf.iv c0_i32_156 c1_i32_158 k0_t2
  let v597 : BitVec 32 := Scalar.muli c2_i32_407 arg9
  let c1_i32_408 : BitVec 32 := 1#32
  let v598 : BitVec 32 := Scalar.addi v597 c1_i32_408
  let v599 : Index := Scalar.indexCast v598
  let c784_409 : Index := 784#32
  ![v599.toNat, 784]
def k0_off344 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v602 : Index := Scalar.indexCast arg9
  let c784_410 : Index := 784#32
  ![v602.toNat, 784]
def k0_off345 (k0_t2 : Fin k0_t2_loop.trips) : Fin 2 → Nat :=
  let c2_i32_411 : BitVec 32 := 2#32
  let c0_i32_156 : BitVec 32 := 0#32
  let c1_i32_158 : BitVec 32 := 1#32
  let arg9 : BitVec 32 := Scf.iv c0_i32_156 c1_i32_158 k0_t2
  let v604 : BitVec 32 := Scalar.muli c2_i32_411 arg9
  let v605 : Index := Scalar.indexCast v604
  let c800 : Index := 800#32
  ![v605.toNat, 800]
def k0_off346 (k0_t2 : Fin k0_t2_loop.trips) : Fin 2 → Nat :=
  let c2_i32_412 : BitVec 32 := 2#32
  let c0_i32_156 : BitVec 32 := 0#32
  let c1_i32_158 : BitVec 32 := 1#32
  let arg9 : BitVec 32 := Scf.iv c0_i32_156 c1_i32_158 k0_t2
  let v607 : BitVec 32 := Scalar.muli c2_i32_412 arg9
  let c1_i32_413 : BitVec 32 := 1#32
  let v608 : BitVec 32 := Scalar.addi v607 c1_i32_413
  let v609 : Index := Scalar.indexCast v608
  let c800_414 : Index := 800#32
  ![v609.toNat, 800]
def k0_off347 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v612 : Index := Scalar.indexCast arg9
  let c800_415 : Index := 800#32
  ![v612.toNat, 800]
def k0_off348 (k0_t2 : Fin k0_t2_loop.trips) : Fin 2 → Nat :=
  let c2_i32_416 : BitVec 32 := 2#32
  let c0_i32_156 : BitVec 32 := 0#32
  let c1_i32_158 : BitVec 32 := 1#32
  let arg9 : BitVec 32 := Scf.iv c0_i32_156 c1_i32_158 k0_t2
  let v614 : BitVec 32 := Scalar.muli c2_i32_416 arg9
  let v615 : Index := Scalar.indexCast v614
  let c816 : Index := 816#32
  ![v615.toNat, 816]
def k0_off349 (k0_t2 : Fin k0_t2_loop.trips) : Fin 2 → Nat :=
  let c2_i32_417 : BitVec 32 := 2#32
  let c0_i32_156 : BitVec 32 := 0#32
  let c1_i32_158 : BitVec 32 := 1#32
  let arg9 : BitVec 32 := Scf.iv c0_i32_156 c1_i32_158 k0_t2
  let v617 : BitVec 32 := Scalar.muli c2_i32_417 arg9
  let c1_i32_418 : BitVec 32 := 1#32
  let v618 : BitVec 32 := Scalar.addi v617 c1_i32_418
  let v619 : Index := Scalar.indexCast v618
  let c816_419 : Index := 816#32
  ![v619.toNat, 816]
def k0_off350 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v622 : Index := Scalar.indexCast arg9
  let c816_420 : Index := 816#32
  ![v622.toNat, 816]
def k0_off351 (k0_t2 : Fin k0_t2_loop.trips) : Fin 2 → Nat :=
  let c2_i32_421 : BitVec 32 := 2#32
  let c0_i32_156 : BitVec 32 := 0#32
  let c1_i32_158 : BitVec 32 := 1#32
  let arg9 : BitVec 32 := Scf.iv c0_i32_156 c1_i32_158 k0_t2
  let v624 : BitVec 32 := Scalar.muli c2_i32_421 arg9
  let v625 : Index := Scalar.indexCast v624
  let c832 : Index := 832#32
  ![v625.toNat, 832]
def k0_off352 (k0_t2 : Fin k0_t2_loop.trips) : Fin 2 → Nat :=
  let c2_i32_422 : BitVec 32 := 2#32
  let c0_i32_156 : BitVec 32 := 0#32
  let c1_i32_158 : BitVec 32 := 1#32
  let arg9 : BitVec 32 := Scf.iv c0_i32_156 c1_i32_158 k0_t2
  let v627 : BitVec 32 := Scalar.muli c2_i32_422 arg9
  let c1_i32_423 : BitVec 32 := 1#32
  let v628 : BitVec 32 := Scalar.addi v627 c1_i32_423
  let v629 : Index := Scalar.indexCast v628
  let c832_424 : Index := 832#32
  ![v629.toNat, 832]
def k0_off353 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v632 : Index := Scalar.indexCast arg9
  let c832_425 : Index := 832#32
  ![v632.toNat, 832]
def k0_off354 (k0_t2 : Fin k0_t2_loop.trips) : Fin 2 → Nat :=
  let c2_i32_426 : BitVec 32 := 2#32
  let c0_i32_156 : BitVec 32 := 0#32
  let c1_i32_158 : BitVec 32 := 1#32
  let arg9 : BitVec 32 := Scf.iv c0_i32_156 c1_i32_158 k0_t2
  let v634 : BitVec 32 := Scalar.muli c2_i32_426 arg9
  let v635 : Index := Scalar.indexCast v634
  let c848 : Index := 848#32
  ![v635.toNat, 848]
def k0_off355 (k0_t2 : Fin k0_t2_loop.trips) : Fin 2 → Nat :=
  let c2_i32_427 : BitVec 32 := 2#32
  let c0_i32_156 : BitVec 32 := 0#32
  let c1_i32_158 : BitVec 32 := 1#32
  let arg9 : BitVec 32 := Scf.iv c0_i32_156 c1_i32_158 k0_t2
  let v637 : BitVec 32 := Scalar.muli c2_i32_427 arg9
  let c1_i32_428 : BitVec 32 := 1#32
  let v638 : BitVec 32 := Scalar.addi v637 c1_i32_428
  let v639 : Index := Scalar.indexCast v638
  let c848_429 : Index := 848#32
  ![v639.toNat, 848]
def k0_off356 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v642 : Index := Scalar.indexCast arg9
  let c848_430 : Index := 848#32
  ![v642.toNat, 848]
def k0_off357 (k0_t2 : Fin k0_t2_loop.trips) : Fin 2 → Nat :=
  let c2_i32_431 : BitVec 32 := 2#32
  let c0_i32_156 : BitVec 32 := 0#32
  let c1_i32_158 : BitVec 32 := 1#32
  let arg9 : BitVec 32 := Scf.iv c0_i32_156 c1_i32_158 k0_t2
  let v644 : BitVec 32 := Scalar.muli c2_i32_431 arg9
  let v645 : Index := Scalar.indexCast v644
  let c864 : Index := 864#32
  ![v645.toNat, 864]
def k0_off358 (k0_t2 : Fin k0_t2_loop.trips) : Fin 2 → Nat :=
  let c2_i32_432 : BitVec 32 := 2#32
  let c0_i32_156 : BitVec 32 := 0#32
  let c1_i32_158 : BitVec 32 := 1#32
  let arg9 : BitVec 32 := Scf.iv c0_i32_156 c1_i32_158 k0_t2
  let v647 : BitVec 32 := Scalar.muli c2_i32_432 arg9
  let c1_i32_433 : BitVec 32 := 1#32
  let v648 : BitVec 32 := Scalar.addi v647 c1_i32_433
  let v649 : Index := Scalar.indexCast v648
  let c864_434 : Index := 864#32
  ![v649.toNat, 864]
def k0_off359 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v652 : Index := Scalar.indexCast arg9
  let c864_435 : Index := 864#32
  ![v652.toNat, 864]
def k0_off360 (k0_t2 : Fin k0_t2_loop.trips) : Fin 2 → Nat :=
  let c2_i32_436 : BitVec 32 := 2#32
  let c0_i32_156 : BitVec 32 := 0#32
  let c1_i32_158 : BitVec 32 := 1#32
  let arg9 : BitVec 32 := Scf.iv c0_i32_156 c1_i32_158 k0_t2
  let v654 : BitVec 32 := Scalar.muli c2_i32_436 arg9
  let v655 : Index := Scalar.indexCast v654
  let c880 : Index := 880#32
  ![v655.toNat, 880]
def k0_off361 (k0_t2 : Fin k0_t2_loop.trips) : Fin 2 → Nat :=
  let c2_i32_437 : BitVec 32 := 2#32
  let c0_i32_156 : BitVec 32 := 0#32
  let c1_i32_158 : BitVec 32 := 1#32
  let arg9 : BitVec 32 := Scf.iv c0_i32_156 c1_i32_158 k0_t2
  let v657 : BitVec 32 := Scalar.muli c2_i32_437 arg9
  let c1_i32_438 : BitVec 32 := 1#32
  let v658 : BitVec 32 := Scalar.addi v657 c1_i32_438
  let v659 : Index := Scalar.indexCast v658
  let c880_439 : Index := 880#32
  ![v659.toNat, 880]
def k0_off362 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v662 : Index := Scalar.indexCast arg9
  let c880_440 : Index := 880#32
  ![v662.toNat, 880]
def k0_off363 (k0_t2 : Fin k0_t2_loop.trips) : Fin 2 → Nat :=
  let c2_i32_441 : BitVec 32 := 2#32
  let c0_i32_156 : BitVec 32 := 0#32
  let c1_i32_158 : BitVec 32 := 1#32
  let arg9 : BitVec 32 := Scf.iv c0_i32_156 c1_i32_158 k0_t2
  let v664 : BitVec 32 := Scalar.muli c2_i32_441 arg9
  let v665 : Index := Scalar.indexCast v664
  let c896 : Index := 896#32
  ![v665.toNat, 896]
def k0_off364 (k0_t2 : Fin k0_t2_loop.trips) : Fin 2 → Nat :=
  let c2_i32_442 : BitVec 32 := 2#32
  let c0_i32_156 : BitVec 32 := 0#32
  let c1_i32_158 : BitVec 32 := 1#32
  let arg9 : BitVec 32 := Scf.iv c0_i32_156 c1_i32_158 k0_t2
  let v667 : BitVec 32 := Scalar.muli c2_i32_442 arg9
  let c1_i32_443 : BitVec 32 := 1#32
  let v668 : BitVec 32 := Scalar.addi v667 c1_i32_443
  let v669 : Index := Scalar.indexCast v668
  let c896_444 : Index := 896#32
  ![v669.toNat, 896]
def k0_off365 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v672 : Index := Scalar.indexCast arg9
  let c896_445 : Index := 896#32
  ![v672.toNat, 896]
def k0_off366 (k0_t2 : Fin k0_t2_loop.trips) : Fin 2 → Nat :=
  let c2_i32_446 : BitVec 32 := 2#32
  let c0_i32_156 : BitVec 32 := 0#32
  let c1_i32_158 : BitVec 32 := 1#32
  let arg9 : BitVec 32 := Scf.iv c0_i32_156 c1_i32_158 k0_t2
  let v674 : BitVec 32 := Scalar.muli c2_i32_446 arg9
  let v675 : Index := Scalar.indexCast v674
  let c912 : Index := 912#32
  ![v675.toNat, 912]
def k0_off367 (k0_t2 : Fin k0_t2_loop.trips) : Fin 2 → Nat :=
  let c2_i32_447 : BitVec 32 := 2#32
  let c0_i32_156 : BitVec 32 := 0#32
  let c1_i32_158 : BitVec 32 := 1#32
  let arg9 : BitVec 32 := Scf.iv c0_i32_156 c1_i32_158 k0_t2
  let v677 : BitVec 32 := Scalar.muli c2_i32_447 arg9
  let c1_i32_448 : BitVec 32 := 1#32
  let v678 : BitVec 32 := Scalar.addi v677 c1_i32_448
  let v679 : Index := Scalar.indexCast v678
  let c912_449 : Index := 912#32
  ![v679.toNat, 912]
def k0_off368 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v682 : Index := Scalar.indexCast arg9
  let c912_450 : Index := 912#32
  ![v682.toNat, 912]
def k0_off369 (k0_t2 : Fin k0_t2_loop.trips) : Fin 2 → Nat :=
  let c2_i32_451 : BitVec 32 := 2#32
  let c0_i32_156 : BitVec 32 := 0#32
  let c1_i32_158 : BitVec 32 := 1#32
  let arg9 : BitVec 32 := Scf.iv c0_i32_156 c1_i32_158 k0_t2
  let v684 : BitVec 32 := Scalar.muli c2_i32_451 arg9
  let v685 : Index := Scalar.indexCast v684
  let c928 : Index := 928#32
  ![v685.toNat, 928]
def k0_off370 (k0_t2 : Fin k0_t2_loop.trips) : Fin 2 → Nat :=
  let c2_i32_452 : BitVec 32 := 2#32
  let c0_i32_156 : BitVec 32 := 0#32
  let c1_i32_158 : BitVec 32 := 1#32
  let arg9 : BitVec 32 := Scf.iv c0_i32_156 c1_i32_158 k0_t2
  let v687 : BitVec 32 := Scalar.muli c2_i32_452 arg9
  let c1_i32_453 : BitVec 32 := 1#32
  let v688 : BitVec 32 := Scalar.addi v687 c1_i32_453
  let v689 : Index := Scalar.indexCast v688
  let c928_454 : Index := 928#32
  ![v689.toNat, 928]
def k0_off371 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v692 : Index := Scalar.indexCast arg9
  let c928_455 : Index := 928#32
  ![v692.toNat, 928]
def k0_off372 (k0_t2 : Fin k0_t2_loop.trips) : Fin 2 → Nat :=
  let c2_i32_456 : BitVec 32 := 2#32
  let c0_i32_156 : BitVec 32 := 0#32
  let c1_i32_158 : BitVec 32 := 1#32
  let arg9 : BitVec 32 := Scf.iv c0_i32_156 c1_i32_158 k0_t2
  let v694 : BitVec 32 := Scalar.muli c2_i32_456 arg9
  let v695 : Index := Scalar.indexCast v694
  let c944 : Index := 944#32
  ![v695.toNat, 944]
def k0_off373 (k0_t2 : Fin k0_t2_loop.trips) : Fin 2 → Nat :=
  let c2_i32_457 : BitVec 32 := 2#32
  let c0_i32_156 : BitVec 32 := 0#32
  let c1_i32_158 : BitVec 32 := 1#32
  let arg9 : BitVec 32 := Scf.iv c0_i32_156 c1_i32_158 k0_t2
  let v697 : BitVec 32 := Scalar.muli c2_i32_457 arg9
  let c1_i32_458 : BitVec 32 := 1#32
  let v698 : BitVec 32 := Scalar.addi v697 c1_i32_458
  let v699 : Index := Scalar.indexCast v698
  let c944_459 : Index := 944#32
  ![v699.toNat, 944]
def k0_off374 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v702 : Index := Scalar.indexCast arg9
  let c944_460 : Index := 944#32
  ![v702.toNat, 944]
def k0_off375 (k0_t2 : Fin k0_t2_loop.trips) : Fin 2 → Nat :=
  let c2_i32_461 : BitVec 32 := 2#32
  let c0_i32_156 : BitVec 32 := 0#32
  let c1_i32_158 : BitVec 32 := 1#32
  let arg9 : BitVec 32 := Scf.iv c0_i32_156 c1_i32_158 k0_t2
  let v704 : BitVec 32 := Scalar.muli c2_i32_461 arg9
  let v705 : Index := Scalar.indexCast v704
  let c960 : Index := 960#32
  ![v705.toNat, 960]
def k0_off376 (k0_t2 : Fin k0_t2_loop.trips) : Fin 2 → Nat :=
  let c2_i32_462 : BitVec 32 := 2#32
  let c0_i32_156 : BitVec 32 := 0#32
  let c1_i32_158 : BitVec 32 := 1#32
  let arg9 : BitVec 32 := Scf.iv c0_i32_156 c1_i32_158 k0_t2
  let v707 : BitVec 32 := Scalar.muli c2_i32_462 arg9
  let c1_i32_463 : BitVec 32 := 1#32
  let v708 : BitVec 32 := Scalar.addi v707 c1_i32_463
  let v709 : Index := Scalar.indexCast v708
  let c960_464 : Index := 960#32
  ![v709.toNat, 960]
def k0_off377 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v712 : Index := Scalar.indexCast arg9
  let c960_465 : Index := 960#32
  ![v712.toNat, 960]
def k0_off378 (k0_t2 : Fin k0_t2_loop.trips) : Fin 2 → Nat :=
  let c2_i32_466 : BitVec 32 := 2#32
  let c0_i32_156 : BitVec 32 := 0#32
  let c1_i32_158 : BitVec 32 := 1#32
  let arg9 : BitVec 32 := Scf.iv c0_i32_156 c1_i32_158 k0_t2
  let v714 : BitVec 32 := Scalar.muli c2_i32_466 arg9
  let v715 : Index := Scalar.indexCast v714
  let c976 : Index := 976#32
  ![v715.toNat, 976]
def k0_off379 (k0_t2 : Fin k0_t2_loop.trips) : Fin 2 → Nat :=
  let c2_i32_467 : BitVec 32 := 2#32
  let c0_i32_156 : BitVec 32 := 0#32
  let c1_i32_158 : BitVec 32 := 1#32
  let arg9 : BitVec 32 := Scf.iv c0_i32_156 c1_i32_158 k0_t2
  let v717 : BitVec 32 := Scalar.muli c2_i32_467 arg9
  let c1_i32_468 : BitVec 32 := 1#32
  let v718 : BitVec 32 := Scalar.addi v717 c1_i32_468
  let v719 : Index := Scalar.indexCast v718
  let c976_469 : Index := 976#32
  ![v719.toNat, 976]
def k0_off380 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v722 : Index := Scalar.indexCast arg9
  let c976_470 : Index := 976#32
  ![v722.toNat, 976]
def k0_off381 (k0_t2 : Fin k0_t2_loop.trips) : Fin 2 → Nat :=
  let c2_i32_471 : BitVec 32 := 2#32
  let c0_i32_156 : BitVec 32 := 0#32
  let c1_i32_158 : BitVec 32 := 1#32
  let arg9 : BitVec 32 := Scf.iv c0_i32_156 c1_i32_158 k0_t2
  let v724 : BitVec 32 := Scalar.muli c2_i32_471 arg9
  let v725 : Index := Scalar.indexCast v724
  let c992 : Index := 992#32
  ![v725.toNat, 992]
def k0_off382 (k0_t2 : Fin k0_t2_loop.trips) : Fin 2 → Nat :=
  let c2_i32_472 : BitVec 32 := 2#32
  let c0_i32_156 : BitVec 32 := 0#32
  let c1_i32_158 : BitVec 32 := 1#32
  let arg9 : BitVec 32 := Scf.iv c0_i32_156 c1_i32_158 k0_t2
  let v727 : BitVec 32 := Scalar.muli c2_i32_472 arg9
  let c1_i32_473 : BitVec 32 := 1#32
  let v728 : BitVec 32 := Scalar.addi v727 c1_i32_473
  let v729 : Index := Scalar.indexCast v728
  let c992_474 : Index := 992#32
  ![v729.toNat, 992]
def k0_off383 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v732 : Index := Scalar.indexCast arg9
  let c992_475 : Index := 992#32
  ![v732.toNat, 992]
def k0_off384 (k0_t2 : Fin k0_t2_loop.trips) : Fin 2 → Nat :=
  let c2_i32_476 : BitVec 32 := 2#32
  let c0_i32_156 : BitVec 32 := 0#32
  let c1_i32_158 : BitVec 32 := 1#32
  let arg9 : BitVec 32 := Scf.iv c0_i32_156 c1_i32_158 k0_t2
  let v734 : BitVec 32 := Scalar.muli c2_i32_476 arg9
  let v735 : Index := Scalar.indexCast v734
  let c1008 : Index := 1008#32
  ![v735.toNat, 1008]
def k0_off385 (k0_t2 : Fin k0_t2_loop.trips) : Fin 2 → Nat :=
  let c2_i32_477 : BitVec 32 := 2#32
  let c0_i32_156 : BitVec 32 := 0#32
  let c1_i32_158 : BitVec 32 := 1#32
  let arg9 : BitVec 32 := Scf.iv c0_i32_156 c1_i32_158 k0_t2
  let v737 : BitVec 32 := Scalar.muli c2_i32_477 arg9
  let c1_i32_478 : BitVec 32 := 1#32
  let v738 : BitVec 32 := Scalar.addi v737 c1_i32_478
  let v739 : Index := Scalar.indexCast v738
  let c1008_479 : Index := 1008#32
  ![v739.toNat, 1008]
def k0_off386 (k0_t2 : Fin k0_t2_loop.trips) : Fin 2 → Nat :=
  let c0_i32_156 : BitVec 32 := 0#32
  let c1_i32_158 : BitVec 32 := 1#32
  let arg9 : BitVec 32 := Scf.iv c0_i32_156 c1_i32_158 k0_t2
  let v742 : Index := Scalar.indexCast arg9
  let c1008_480 : Index := 1008#32
  ![v742.toNat, 1008]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x1024 : Shape := ⟨2, ![8192, 1024]⟩
abbrev S4096 : Shape := ⟨1, ![4096]⟩
abbrev S2048x2 : Shape := ⟨2, ![2048, 2]⟩
abbrev S_ : Shape := ⟨0, ![]⟩
abbrev S2048x2x1 : Shape := ⟨3, ![2048, 2, 1]⟩
abbrev S2048x2x1024 : Shape := ⟨3, ![2048, 2, 1024]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096, .i32⟩
  | .hbm, ⟨2, _⟩ => ⟨S2048x2, .i32⟩
  | .hbm, ⟨3, _⟩ => ⟨S_, .i32⟩
  | .hbm, ⟨4, _⟩ => ⟨S2048x2, .i32⟩
  | .hbm, ⟨5, _⟩ => ⟨S2048x2, .i1⟩
  | .hbm, ⟨6, _⟩ => ⟨S_, .i32⟩
  | .hbm, ⟨7, _⟩ => ⟨S2048x2, .i32⟩
  | .hbm, ⟨8, _⟩ => ⟨S2048x2, .i32⟩
  | .hbm, ⟨9, _⟩ => ⟨S2048x2, .i32⟩
  | .hbm, ⟨10, _⟩ => ⟨S2048x2x1, .i32⟩
  | .hbm, ⟨11, _⟩ => ⟨S2048x2x1024, .f32⟩
  | .hbm, ⟨12, _⟩ => ⟨S_, .f32⟩
  | .hbm, ⟨13, _⟩ => ⟨S2048x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Dispatch.lean ====
abbrev S4096 : Shape := ⟨1, ![4096]⟩
abbrev S8192 : Shape := ⟨1, ![8192]⟩
abbrev S96 : Shape := ⟨1, ![96]⟩
abbrev S8 : Shape := ⟨1, ![8]⟩
abbrev S_ : Shape := ⟨0, ![]⟩
abbrev S16 : Shape := ⟨1, ![16]⟩
abbrev S1 : Shape := ⟨1, ![1]⟩

abbrev nBuf : Table → Nat
  | .hbm => 6
  | .local .scVector .smem => 1
  | .local .scVector .vmem => 6
  | _ => 0

abbrev bufTy : (tb : Table) → Fin (nBuf tb) → BufTy
  | .hbm, ⟨0, _⟩ => ⟨S4096, .i32⟩
  | .hbm, ⟨1, _⟩ => ⟨S4096, .f32⟩
  | .hbm, ⟨2, _⟩ => ⟨S8192, .i32⟩
  | .hbm, ⟨3, _⟩ => ⟨S8192, .f32⟩
  | .hbm, ⟨4, _⟩ => ⟨S4096, .i32⟩
  | .hbm, ⟨5, _⟩ => ⟨S96, .i32⟩
  | .local .scVector .smem, ⟨0, _⟩ => ⟨S8, .i32⟩
  | .local .scVector .vmem, ⟨0, _⟩ => ⟨S4096, .i32⟩
  | .local .scVector .vmem, ⟨1, _⟩ => ⟨S4096, .f32⟩
  | .local .scVector .vmem, ⟨2, _⟩ => ⟨S8192, .i32⟩
  | .local .scVector .vmem, ⟨3, _⟩ => ⟨S8192, .f32⟩
  | .local .scVector .vmem, ⟨4, _⟩ => ⟨S4096, .i32⟩
  | .local .scVector .vmem, ⟨5, _⟩ => ⟨S96, .i32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev main_v0_2_scv : Ref sig .scVector := ⟨.hbm, 4, rfl⟩
abbrev main_v0_3_scv : Ref sig .scVector := ⟨.hbm, 5, rfl⟩
abbrev cc0_scratch6 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_2 : BitVec 32 := 0#32
  let c512_i32 : BitVec 32 := 512#32
  let v7 : BitVec 32 := Scalar.addi c0_i32_2 c512_i32
  let c1_i32 : BitVec 32 := 1#32
  ⟨c0_i32_2, v7, c1_i32⟩
def k0_off1 (k0_t1 : Fin k0_t1_loop.trips) : Fin 1 → Nat :=
  let c0_i32_2 : BitVec 32 := 0#32
  let c1_i32 : BitVec 32 := 1#32
  let arg15 : BitVec 32 := Scf.iv c0_i32_2 c1_i32 k0_t1
  let c16_i32_90 : BitVec 32 := 16#32
  let v256 : BitVec 32 := Scalar.muli arg15 c16_i32_90
  let v257 : Index := Scalar.indexCast v256
  ![v257.toNat]
@[reducible] def k0_t2_loop : Scf.Loop 32 :=
  let c0_i32_5 : BitVec 32 := 0#32
  let c256_i32 : BitVec 32 := 256#32
  let v9 : BitVec 32 := Scalar.addi c0_i32_5 c256_i32
  let c1_i32_6 : BitVec 32 := 1#32
  ⟨c0_i32_5, v9, c1_i32_6⟩
def k0_off2 (k0_t2 : Fin k0_t2_loop.trips) : Fin 1 → Nat :=
  let c0_i32_5 : BitVec 32 := 0#32
  let c1_i32_6 : BitVec 32 := 1#32
  let arg15 : BitVec 32 := Scf.iv c0_i32_5 c1_i32_6 k0_t2
  let c16_i32_90 : BitVec 32 := 16#32
  let v256 : BitVec 32 := Scalar.muli arg15 c16_i32_90
  let v257 : Index := Scalar.indexCast v256
  ![v257.toNat]
@[reducible] def k0_t3_loop : Scf.Loop 32 :=
  let c0_i32_86 : BitVec 32 := 0#32
  let c256_i32_87 : BitVec 32 := 256#32
  let v255 : BitVec 32 := Scalar.addi c0_i32_86 c256_i32_87
  let c1_i32_88 : BitVec 32 := 1#32
  ⟨c0_i32_86, v255, c1_i32_88⟩
def k0_off3 (k0_t3 : Fin k0_t3_loop.trips) : Fin 1 → Nat :=
  let c0_i32_86 : BitVec 32 := 0#32
  let c1_i32_88 : BitVec 32 := 1#32
  let arg15 : BitVec 32 := Scf.iv c0_i32_86 c1_i32_88 k0_t3
  let c16_i32_90 : BitVec 32 := 16#32
  let v256 : BitVec 32 := Scalar.muli arg15 c16_i32_90
  let v257 : Index := Scalar.indexCast v256
  ![v257.toNat]

def k0_chk1 (i : grid0.Coords) (v444 : IVec S16 32) : Prop :=
  (∀ (k0_h1 : k0_cond1 i = 1#1), ∀ a x, ((![v444] : Fin 1 → IVec S16 32) a x).toNat < S8192.size a) ∧
  (∀ (k0_h1 : k0_cond1 i = 1#1), ∀ a x, ((![v444] : Fin 1 → IVec S16 32) a x).toNat < S8192.size a)
theorem k0_idx1_inb : ∀ (i : grid0.Coords) (v444 : IVec S16 32) (k0_hw1 : k0_chk1 i v444), ∀ (k0_h1 : k0_cond1 i = 1#1), ∀ a x, ((![v444] : Fin 1 → IVec S16 32) a x).toNat < S8192.size a := fun i v444 k0_hw1 k0_h1 => k0_hw1.1 k0_h1
theorem k0_idx2_inb : ∀ (i : grid0.Coords) (v444 : IVec S16 32) (k0_hw1 : k0_chk1 i v444), ∀ (k0_h1 : k0_cond1 i = 1#1), ∀ a x, ((![v444] : Fin 1 → IVec S16 32) a x).toNat < S8192.size a := fun i v444 k0_hw1 k0_h1 => k0_hw1.2 k0_h1
def k0_off4 (k0_t3 : Fin k0_t3_loop.trips) : Fin 1 → Nat :=
  let c0_i32_86 : BitVec 32 := 0#32
  let c1_i32_88 : BitVec 32 := 1#32
  let arg15 : BitVec 32 := Scf.iv c0_i32_86 c1_i32_88 k0_t3
  let c16_i32_165 : BitVec 32 := 16#32
  let v451 : BitVec 32 := Scalar.muli arg15 c16_i32_165
  let v452 : Index := Scalar.indexCast v451
  ![v452.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== DispatchReferenceIdeal.lean ====
abbrev S4096 : Shape := ⟨1, ![4096]⟩
abbrev S8 : Shape := ⟨1, ![8]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x1 : Shape := ⟨2, ![8, 1]⟩
abbrev S8x4096 : Shape := ⟨2, ![8, 4096]⟩
abbrev S8192 : Shape := ⟨1, ![8192]⟩
abbrev S32 : Shape := ⟨1, ![32]⟩
abbrev S1x8 : Shape := ⟨2, ![1, 8]⟩
abbrev S32x1 : Shape := ⟨2, ![32, 1]⟩
abbrev S32x8 : Shape := ⟨2, ![32, 8]⟩
abbrev S96 : Shape := ⟨1, ![96]⟩

abbrev nBuf : Space → Nat
  | .hbm => 93
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .f32⟩
  | .hbm, ⟨2, _⟩ => ⟨S4096, .i32⟩
  | .hbm, ⟨3, _⟩ => ⟨S8, .i32⟩
  | .hbm, ⟨4, _⟩ => ⟨S1x4096, .i32⟩
  | .hbm, ⟨5, _⟩ => ⟨S4096x1, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S4096x4096, .i1⟩
  | .hbm, ⟨15, _⟩ => ⟨S4096x4096, .i32⟩
  | .hbm, ⟨16, _⟩ => ⟨S_, .i32⟩
  | .hbm, ⟨17, _⟩ => ⟨S4096, .i32⟩
  | .hbm, ⟨18, _⟩ => ⟨S1x4096, .i32⟩
  | .hbm, ⟨19, _⟩ => ⟨S8x1, .i32⟩
  | .hbm, ⟨20, _⟩ => ⟨S8x4096, .i32⟩
  | .hbm, ⟨21, _⟩ => ⟨S8x4096, .i32⟩
  | .hbm, ⟨22, _⟩ => ⟨S8x4096, .i1⟩
  | .hbm, ⟨23, _⟩ => ⟨S8x4096, .i32⟩
  | .hbm, ⟨24, _⟩ => ⟨S_, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S8192, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S8192, .i32⟩
  | .hbm, ⟨63, _⟩ => ⟨S_, .f32⟩
  | .hbm, ⟨64, _⟩ => ⟨S8192, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S8192, .f32⟩
  | .hbm, ⟨74, _⟩ => ⟨S32, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S32, .i32⟩
  | .hbm, ⟨80, _⟩ => ⟨S32, .i32⟩
  | .hbm, ⟨81, _⟩ => ⟨S1x8, .i32⟩
  | .hbm, ⟨82, _⟩ => ⟨S32x1, .i32⟩
  | .hbm, ⟨83, _⟩ => ⟨S32x8, .i32⟩
  | .hbm, ⟨84, _⟩ => ⟨S32x8, .i32⟩
  | .hbm, ⟨85, _⟩ => ⟨S32x8, .i1⟩
  | .hbm, ⟨86, _⟩ => ⟨S32x8, .i32⟩
  | .hbm, ⟨87, _⟩ => ⟨S_, .i32⟩
  | .hbm, ⟨88, _⟩ => ⟨S32, .i32⟩
  | .hbm, ⟨89, _⟩ => ⟨S32, .i32⟩
  | .hbm, ⟨90, _⟩ => ⟨S32, .i1⟩
  | .hbm, ⟨91, _⟩ => ⟨S32, .i32⟩
  | .hbm, ⟨92, _⟩ => ⟨S96, .i32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c_0 : Ref sig .tc := ⟨.hbm, 24, rfl⟩
abbrev main_v21 : Ref sig .tc := ⟨.hbm, 25, rfl⟩
abbrev main_c_1 : Ref sig .tc := ⟨.hbm, 26, rfl⟩
abbrev main_v22 : Ref sig .tc := ⟨.hbm, 27, rfl⟩
abbrev main_v23 : Ref sig .tc := ⟨.hbm, 28, rfl⟩
abbrev main_c_2 : Ref sig .tc := ⟨.hbm, 29, rfl⟩
abbrev main_v24 : Ref sig .tc := ⟨.hbm, 30, rfl⟩
abbrev main_v25 : Ref sig .tc := ⟨.hbm, 31, rfl⟩
abbrev main_call0_call0_c : Ref sig .tc := ⟨.hbm, 32, rfl⟩
abbrev main_call0_call0_v0 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_6 : Ref sig .tc := ⟨.hbm, 49, rfl⟩
abbrev main_v38 : Ref sig .tc := ⟨.hbm, 50, rfl⟩
abbrev main_c_7 : Ref sig .tc := ⟨.hbm, 51, rfl⟩
abbrev main_v39 : Ref sig .tc := ⟨.hbm, 52, rfl⟩
abbrev main_v40 : Ref sig .tc := ⟨.hbm, 53, rfl⟩
abbrev main_c_8 : Ref sig .tc := ⟨.hbm, 54, rfl⟩
abbrev main_v41 : Ref sig .tc := ⟨.hbm, 55, rfl⟩
abbrev main_v42 : Ref sig .tc := ⟨.hbm, 56, rfl⟩
abbrev main_c_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_c_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_12 : Ref sig .tc := ⟨.hbm, 75, rfl⟩
abbrev main_v57 : Ref sig .tc := ⟨.hbm, 76, rfl⟩
abbrev main_c_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Router.lean ====
abbrev S2048x1024 : Shape := ⟨2, ![2048, 1024]⟩
abbrev S8x1024 : Shape := ⟨2, ![8, 1024]⟩
abbrev S2048x2 : Shape := ⟨2, ![2048, 2]⟩
abbrev S1024x8 : Shape := ⟨2, ![1024, 8]⟩
abbrev S2048x8 : Shape := ⟨2, ![2048, 8]⟩
abbrev S2048 : Shape := ⟨1, ![2048]⟩
abbrev S2048x1 : Shape := ⟨2, ![2048, 1]⟩
abbrev S8 : Shape := ⟨1, ![8]⟩
abbrev S1x8 : Shape := ⟨2, ![1, 8]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S2048x2, .i32⟩
  | .hbm, ⟨3, _⟩ => ⟨S2048x2, .f32⟩
  | .hbm, ⟨4, _⟩ => ⟨S2048x1024, .bf16⟩
  | .local _ .vmem, ⟨0, _⟩ => ⟨S2048x1024, .f32⟩
  | .local _ .vmem, ⟨1, _⟩ => ⟨S8x1024, .f32⟩
  | .local _ .vmem, ⟨2, _⟩ => ⟨S2048x2, .i32⟩
  | .local _ .vmem, ⟨3, _⟩ => ⟨S2048x2, .f32⟩
  | .local _ .vmem, ⟨4, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== RouterReferenceIdeal.lean ====
abbrev S2048x1024 : Shape := ⟨2, ![2048, 1024]⟩
abbrev S8x1024 : Shape := ⟨2, ![8, 1024]⟩
abbrev S2048x1x1024 : Shape := ⟨3, ![2048, 1, 1024]⟩
abbrev S1x8x1024 : Shape := ⟨3, ![1, 8, 1024]⟩
abbrev S2048x8x1024 : Shape := ⟨3, ![2048, 8, 1024]⟩
abbrev S_ : Shape := ⟨0, ![]⟩
abbrev S2048x8 : Shape := ⟨2, ![2048, 8]⟩
abbrev S2048x2 : Shape := ⟨2, ![2048, 2]⟩
abbrev S2048 : Shape := ⟨1, ![2048]⟩
abbrev S2048x1 : Shape := ⟨2, ![2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S2048x1x1024, .f32⟩
  | .hbm, ⟨3, _⟩ => ⟨S1x8x1024, .f32⟩
  | .hbm, ⟨4, _⟩ => ⟨S2048x8x1024, .f32⟩
  | .hbm, ⟨5, _⟩ => ⟨S2048x8x1024, .f32⟩
  | .hbm, ⟨6, _⟩ => ⟨S2048x8x1024, .f32⟩
  | .hbm, ⟨7, _⟩ => ⟨S2048x8x1024, .f32⟩
  | .hbm, ⟨8, _⟩ => ⟨S_, .f32⟩
  | .hbm, ⟨9, _⟩ => ⟨S2048x8, .f32⟩
  | .hbm, ⟨10, _⟩ => ⟨S2048x8, .f32⟩
  | .hbm, ⟨11, _⟩ => ⟨S2048x2, .f32⟩
  | .hbm, ⟨12, _⟩ => ⟨S2048x2, .i32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048x1, .f32⟩
  | .hbm, ⟨19, _⟩ => ⟨S2048x2, .f32⟩
  | .hbm, ⟨20, _⟩ => ⟨S2048x2, .f32⟩
  | .hbm, ⟨21, _⟩ => ⟨S2048x2, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x2, .f32⟩
  | .hbm, ⟨26, _⟩ => ⟨S2048x2, .f32⟩
  | .hbm, ⟨27, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_values : Ref sig .tc := ⟨.hbm, 11, rfl⟩
abbrev main_indices : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Ffn.lean ====
abbrev S32 : Shape := ⟨1, ![32]⟩
abbrev S2048x1024 : Shape := ⟨2, ![2048, 1024]⟩
abbrev S8192x1 : Shape := ⟨2, ![8192, 1]⟩
abbrev S8x1024x2736 : Shape := ⟨3, ![8, 1024, 2736]⟩
abbrev S8x1x2736 : Shape := ⟨3, ![8, 1, 2736]⟩
abbrev S8x2736x1024 : Shape := ⟨3, ![8, 2736, 1024]⟩
abbrev S8x1x1024 : Shape := ⟨3, ![8, 1, 1024]⟩
abbrev S8192x1024 : Shape := ⟨2, ![8192, 1024]⟩
abbrev S512x1 : Shape := ⟨2, ![512, 1]⟩
abbrev S1 : Shape := ⟨1, ![1]⟩
abbrev S1x512x2736 : Shape := ⟨3, ![1, 512, 2736]⟩
abbrev S1x1x2736 : Shape := ⟨3, ![1, 1, 2736]⟩
abbrev S1x912x1024 : Shape := ⟨3, ![1, 912, 1024]⟩
abbrev S1x1x1024 : Shape := ⟨3, ![1, 1, 1024]⟩
abbrev S512x1024 : Shape := ⟨2, ![512, 1024]⟩
abbrev S3x512x912 : Shape := ⟨3, ![3, 512, 912]⟩
abbrev S512x2048 : Shape := ⟨2, ![512, 2048]⟩
abbrev S512x512 : Shape := ⟨2, ![512, 512]⟩
abbrev S512x2736 : Shape := ⟨2, ![512, 2736]⟩
abbrev S512x912 : Shape := ⟨2, ![512, 912]⟩
abbrev S2736 : Shape := ⟨1, ![2736]⟩
abbrev S912 : Shape := ⟨1, ![912]⟩
abbrev S1x912 : Shape := ⟨2, ![1, 912]⟩
abbrev S1x512x912 : Shape := ⟨3, ![1, 512, 912]⟩
abbrev S912x1024 : Shape := ⟨2, ![912, 1024]⟩
abbrev S1024 : Shape := ⟨1, ![1024]⟩
abbrev S1x1024 : Shape := ⟨2, ![1, 1024]⟩

abbrev nBuf : Space → Nat
  | .hbm => 10
  | .vmem => 22
  | .smem => 3
  | _ => 0

abbrev bufTy : (tb : Table) → Fin (tcTables nBuf tb) → BufTy
  | .hbm, ⟨0, _⟩ => ⟨S2048x1024, .bf16⟩
  | .hbm, ⟨1, _⟩ => ⟨S8192x1, .i32⟩
  | .hbm, ⟨2, _⟩ => ⟨S8x1024x2736, .f32⟩
  | .hbm, ⟨3, _⟩ => ⟨S8x1x2736, .f32⟩
  | .hbm, ⟨4, _⟩ => ⟨S8x1024x2736, .f32⟩
  | .hbm, ⟨5, _⟩ => ⟨S8x1x2736, .f32⟩
  | .hbm, ⟨6, _⟩ => ⟨S8x2736x1024, .f32⟩
  | .hbm, ⟨7, _⟩ => ⟨S8x1x1024, .f32⟩
  | .hbm, ⟨8, _⟩ => ⟨S8192x1, .f32⟩
  | .hbm, ⟨9, _⟩ => ⟨S8192x1024, .f32⟩
  | .local _ .vmem, ⟨0, _⟩ => ⟨S2048x1024, .bf16⟩
  | .local _ .vmem, ⟨1, _⟩ => ⟨S512x1, .i32⟩
  | .local _ .vmem, ⟨2, _⟩ => ⟨S512x1, .i32⟩
  | .local _ .vmem, ⟨3, _⟩ => ⟨S1x512x2736, .f32⟩
  | .local _ .vmem, ⟨4, _⟩ => ⟨S1x512x2736, .f32⟩
  | .local _ .vmem, ⟨5, _⟩ => ⟨S1x1x2736, .f32⟩
  | .local _ .vmem, ⟨6, _⟩ => ⟨S1x1x2736, .f32⟩
  | .local _ .vmem, ⟨7, _⟩ => ⟨S1x512x2736, .f32⟩
  | .local _ .vmem, ⟨8, _⟩ => ⟨S1x512x2736, .f32⟩
  | .local _ .vmem, ⟨9, _⟩ => ⟨S1x1x2736, .f32⟩
  | .local _ .vmem, ⟨10, _⟩ => ⟨S1x1x2736, .f32⟩
  | .local _ .vmem, ⟨11, _⟩ => ⟨S1x912x1024, .f32⟩
  | .local _ .vmem, ⟨12, _⟩ => ⟨S1x912x1024, .f32⟩
  | .local _ .vmem, ⟨13, _⟩ => ⟨S1x1x1024, .f32⟩
  | .local _ .vmem, ⟨14, _⟩ => ⟨S1x1x1024, .f32⟩
  | .local _ .vmem, ⟨15, _⟩ => ⟨S512x1, .f32⟩
  | .local _ .vmem, ⟨16, _⟩ => ⟨S512x1, .f32⟩
  | .local _ .vmem, ⟨17, _⟩ => ⟨S512x1024, .f32⟩
  | .local _ .vmem, ⟨18, _⟩ => ⟨S512x1024, .f32⟩
  | .local _ .vmem, ⟨19, _⟩ => ⟨S3x512x912, .f32⟩
  | .local _ .vmem, ⟨20, _⟩ => ⟨S3x512x912, .f32⟩
  | .local _ .vmem, ⟨21, _⟩ => ⟨S512x1024, .f32⟩
  | .local _ .smem, ⟨0, _⟩ => ⟨S32, .i32⟩
  | .local _ .smem, ⟨1, _⟩ => ⟨S32, .i32⟩
  | .local _ .smem, ⟨2, _⟩ => ⟨S32, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_arg11 : Ref sig .tc := ⟨.hbm, 8, rfl⟩
abbrev main_v0 : Ref sig .tc := ⟨.hbm, 9, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 5], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c2_i32 : BitVec 32 := 2#32
  let v8 : BitVec 1 := Scalar.cmpi .slt arg1 c2_i32
  let v9 : BitVec 32 := Scalar.extui v8
  let c0_i32_2 : BitVec 32 := 0#32
  let v10 : BitVec 1 := Scalar.cmpi .ne v9 c0_i32_2
  v10

def k0_off2 (i : grid0.Coords) : Fin 2 → Nat :=
  let c0 : Index := 0#32
  let arg1 : BitVec 32 := BitVec.ofNat 32 (i 1).val
  let c512_i32 : BitVec 32 := 512#32
  let v14 : BitVec 32 := Scalar.muli arg1 c512_i32
  let v15 : Index := Scalar.indexCast v14
  ![0, v15.toNat]
def k0_cond10 (i : grid0.Coords) : BitVec 1 :=
  let arg1 : BitVec 32 := BitVec.ofNat 32 (i 1).val
  let c2_i32_3 : BitVec 32 := 2#32
  let v11 : BitVec 1 := Scalar.cmpi .sge arg1 c2_i32_3
  let v12 : BitVec 32 := Scalar.extui v11
  let c0_i32_4 : BitVec 32 := 0#32
  let v13 : BitVec 1 := Scalar.cmpi .ne v12 c0_i32_4
  v13

def k0_off3 (i : grid0.Coords) : Fin 3 → Nat :=
  let arg1 : BitVec 32 := BitVec.ofNat 32 (i 1).val
  let c2_i32_5 : BitVec 32 := 2#32
  let v14 : BitVec 32 := Scalar.subi arg1 c2_i32_5
  let v16 : Index := Scalar.indexCast v14
  let c0_7 : Index := 0#32
  let c0_8 : Index := 0#32
  ![v16.toNat, 0, 0]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond11 (i : grid0.Coords) : BitVec 1 :=
  let arg1 : BitVec 32 := BitVec.ofNat 32 (i 1).val
  let c2_i32_5 : BitVec 32 := 2#32
  let v14 : BitVec 32 := Scalar.subi arg1 c2_i32_5
  let c0_i32_14 : BitVec 32 := 0#32
  let v30 : BitVec 1 := Scalar.cmpi .eq v14 c0_i32_14
  let v31 : BitVec 32 := Scalar.extui v30
  let c0_i32_15 : BitVec 32 := 0#32
  let v32 : BitVec 1 := Scalar.cmpi .ne v31 c0_i32_15
  v32

def k0_cond12 (i : grid0.Coords) : BitVec 1 :=
  let arg1 : BitVec 32 := BitVec.ofNat 32 (i 1).val
  let c2_i32_5 : BitVec 32 := 2#32
  let v14 : BitVec 32 := Scalar.subi arg1 c2_i32_5
  let c0_i32_16 : BitVec 32 := 0#32
  let v33 : BitVec 1 := Scalar.cmpi .sgt v14 c0_i32_16
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S32) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.minsi arg1 c1_i32_0
  let c1_i32_1 : BitVec 32 := 1#32
  let v6 : BitVec 32 := Scalar.select v4 v5 c1_i32_1
  let c0_i32 : BitVec 32 := 0#32
  let c0_i32_2 : BitVec 32 := 0#32
  ![v1.toNat, v6.toNat, c0_i32.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c1_i32 : BitVec 32 := 1#32
  let v4 : BitVec 1 := Scalar.cmpi .eq v3 c1_i32
  let c1_i32_0 : BitVec 32 := 1#32
  let v5 : BitVec 32 := Scalar.minsi arg1 c1_i32_0
  let c1_i32_1 : BitVec 32 := 1#32
  let v6 : BitVec 32 := Scalar.select v4 v5 c1_i32_1
  let c0_i32 : BitVec 32 := 0#32
  let c0_i32_2 : BitVec 32 := 0#32
  ![v1.toNat, v6.toNat, c0_i32.toNat]

def cc0_transform_5 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c1_i32 : BitVec 32 := 1#32
  let v4 : BitVec 1 := Scalar.cmpi .eq v3 c1_i32
  let c2_i32 : BitVec 32 := 2#32
  let v5 : BitVec 32 := Scalar.subi arg1 c2_i32
  let c0_i32 : BitVec 32 := 0#32
  let c2_i32_0 : BitVec 32 := 2#32
  let v6 : BitVec 32 := Scalar.maxsi c0_i32 v5
  let v7 : BitVec 32 := Scalar.minsi c2_i32_0 v6
  let c2_i32_1 : BitVec 32 := 2#32
  let v8 : BitVec 32 := Scalar.select v4 v7 c2_i32_1
  let c0_i32_2 : BitVec 32 := 0#32
  let c0_i32_3 : BitVec 32 := 0#32
  ![v1.toNat, v8.toNat, c0_i32_2.toNat]

def cc0_transform_7 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S32) ![v0.toNat] S1.size (k0_off1_inb i)) numel1_S1
  let c0_i32 : BitVec 32 := 0#32
  let c0_i32_0 : BitVec 32 := 0#32
  ![v1.toNat, c0_i32.toNat]

def cc0_transform_9 (k0_off1_inb : ∀ i : grid0.Coords, ∀ a, (k0_off1 i) a + S1.size a ≤ S32.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S32) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2736 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2736 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2736 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2736 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x912x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnReferenceIdeal.lean ====
abbrev S32 : Shape := ⟨1, ![32]⟩
abbrev S2048x1024 : Shape := ⟨2, ![2048, 1024]⟩
abbrev S8192x1 : Shape := ⟨2, ![8192, 1]⟩
abbrev S8x1024x2736 : Shape := ⟨3, ![8, 1024, 2736]⟩
abbrev S8x1x2736 : Shape := ⟨3, ![8, 1, 2736]⟩
abbrev S8x2736x1024 : Shape := ⟨3, ![8, 2736, 1024]⟩
abbrev S8x1x1024 : Shape := ⟨3, ![8, 1, 1024]⟩
abbrev S16 : Shape := ⟨1, ![16]⟩
abbrev S16x512 : Shape := ⟨2, ![16, 512]⟩
abbrev S16x512x1 : Shape := ⟨3, ![16, 512, 1]⟩
abbrev S16x512x1024 : Shape := ⟨3, ![16, 512, 1024]⟩
abbrev S16x1 : Shape := ⟨2, ![16, 1]⟩
abbrev S16x1024x2736 : Shape := ⟨3, ![16, 1024, 2736]⟩
abbrev S16x512x2736 : Shape := ⟨3, ![16, 512, 2736]⟩
abbrev S16x1x2736 : Shape := ⟨3, ![16, 1, 2736]⟩
abbrev S_ : Shape := ⟨0, ![]⟩
abbrev S16x2736x1024 : Shape := ⟨3, ![16, 2736, 1024]⟩
abbrev S16x1x1024 : Shape := ⟨3, ![16, 1, 1024]⟩
abbrev S8192x1024 : Shape := ⟨2, ![8192, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S32, .i32⟩
  | .hbm, ⟨3, _⟩ => ⟨S2048x1024, .bf16⟩
  | .hbm, ⟨4, _⟩ => ⟨S8192x1, .i32⟩
  | .hbm, ⟨5, _⟩ => ⟨S8x1024x2736, .f32⟩
  | .hbm, ⟨6, _⟩ => ⟨S8x1x2736, .f32⟩
  | .hbm, ⟨7, _⟩ => ⟨S8x1024x2736, .f32⟩
  | .hbm, ⟨8, _⟩ => ⟨S8x1x2736, .f32⟩
  | .hbm, ⟨9, _⟩ => ⟨S8x2736x1024, .f32⟩
  | .hbm, ⟨10, _⟩ => ⟨S8x1x1024, .f32⟩
  | .hbm, ⟨11, _⟩ => ⟨S8192x1, .f32⟩
  | .hbm, ⟨12, _⟩ => ⟨S16, .i32⟩
  | .hbm, ⟨13, _⟩ => ⟨S16x512, .i32⟩
  | .hbm, ⟨14, _⟩ => ⟨S16x512x1, .i32⟩
  | .hbm, ⟨15, _⟩ => ⟨S16x512x1024, .bf16⟩
  | .hbm, ⟨16, _⟩ => ⟨S16x512x1024, .f32⟩
  | .hbm, ⟨17, _⟩ => ⟨S16x1, .i32⟩
  | .hbm, ⟨18, _⟩ => ⟨S16x1024x2736, .f32⟩
  | .hbm, ⟨19, _⟩ => ⟨S16x512x2736, .f32⟩
  | .hbm, ⟨20, _⟩ => ⟨S16x1, .i32⟩
  | .hbm, ⟨21, _⟩ => ⟨S16x1x2736, .f32⟩
  | .hbm, ⟨22, _⟩ => ⟨S16x512x2736, .f32⟩
  | .hbm, ⟨23, _⟩ => ⟨S16x512x2736, .f32⟩
  | .hbm, ⟨24, _⟩ => ⟨S16x1, .i32⟩
  | .hbm, ⟨25, _⟩ => ⟨S16x1024x2736, .f32⟩
  | .hbm, ⟨26, _⟩ => ⟨S16x512x2736, .f32⟩
  | .hbm, ⟨27, _⟩ => ⟨S16x1, .i32⟩
  | .hbm, ⟨28, _⟩ => ⟨S16x1x2736, .f32⟩
  | .hbm, ⟨29, _⟩ => ⟨S16x512x2736, .f32⟩
  | .hbm, ⟨30, _⟩ => ⟨S16x512x2736, .f32⟩
  | .hbm, ⟨31, _⟩ => ⟨S16x512x2736, .f32⟩
  | .hbm, ⟨32, _⟩ => ⟨S16x512x2736, .f32⟩
  | .hbm, ⟨33, _⟩ => ⟨S_, .f32⟩
  | .hbm, ⟨34, _⟩ => ⟨S16x512x2736, .f32⟩
  | .hbm, ⟨35, _⟩ => ⟨S16x512x2736, .f32⟩
  | .hbm, ⟨36, _⟩ => ⟨S_, .f32⟩
  | .hbm, ⟨37, _⟩ => ⟨S16x512x2736, .f32⟩
  | .hbm, ⟨38, _⟩ => ⟨S16x512x2736, .f32⟩
  | .hbm, ⟨39, _⟩ => ⟨S16x512x2736, .f32⟩
  | .hbm, ⟨40, _⟩ => ⟨S16x512x2736, .f32⟩
  | .hbm, ⟨41, _⟩ => ⟨S16x1, .i32⟩
  | .hbm, ⟨42, _⟩ => ⟨S16x2736x1024, .f32⟩
  | .hbm, ⟨43, _⟩ => ⟨S16x512x1024, .f32⟩
  | .hbm, ⟨44, _⟩ => ⟨S16x1, .i32⟩
  | .hbm, ⟨45, _⟩ => ⟨S16x1x1024, .f32⟩
  | .hbm, ⟨46, _⟩ => ⟨S16x512x1024, .f32⟩
  | .hbm, ⟨47, _⟩ => ⟨S16x512x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.Combine.Setup.lean ====
/-
  The combine call as the launch theorem sees it: its arrays, its scratch buffers, the subcore that runs it, and
  the value it has to leave — row `t` of the result is the sum of the two rows of `y` that words `2t` and `2t + 1`
  of `pos` name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the rounds of the launch's handshakes and the counters of the local transfers. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev yLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0

/-- The arrays and the scratch buffers whole, as a vector subcore addresses them. -/
abbrev yV : Memref sig .scVector .hbm S8192x1024 .f32 := Memref.whole main_arg0_scv
abbrev pV : Memref sig .scVector .hbm S4096 .i32 := Memref.whole main_arg1_scv
abbrev oV : Memref sig .scVector .hbm S2048x1024 .f32 := Memref.whole main_v0_scv
abbrev iV : Memref sig .scVector .vmem S128 .i32 := Memref.whole cc0_scratch0
abbrev bV : Memref sig .scVector .vmem S64x1024 .f32 := Memref.whole cc0_scratch1
abbrev rV : Memref sig .scVector .vmem S32x1024 .f32 := Memref.whole cc0_scratch2

/-- The vector subcore at grid point `L` of device `d`. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

end Cert.Proof.Combine

end
-- ==== Proof.Combine.Trip.lean ====
/-
  One trip of the loop that adds: row `t` of the output stage becomes the sum of rows `2t` and `2t + 1` of the
  gathered rows, sixteen lanes at a time, everything else staying as it was.
-/
module

public import proofs.«01_k».proof.Proof.Combine.Setup
public import Idealize.ShloMosaic.Lib.ValueIdxCore
public import Idealize.ShloMosaic.Lib.Pipeline.Value

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix2)

variable {F : FTy → Type} [FloatOps F]
local notation "𝕄" => MT nD τ sig (HIx 1) (Elt F) ℕ UU ℕ

/-- The even and the odd rows of 64 gathered rows, and their sum: row `t` is rows `2t` and `2t + 1` added. -/
def evens (b : FVec F S64x1024 .f32) : FVec F S32x1024 .f32 := fun y =>
  b (ix2 ⟨2 * (y 0).val, by have : (y 0).val < 32 := (y 0).isLt; omega⟩ (y 1))
def odds (b : FVec F S64x1024 .f32) : FVec F S32x1024 .f32 := fun y =>
  b (ix2 ⟨2 * (y 0).val + 1, by have : (y 0).val < 32 := (y 0).isLt; omega⟩ (y 1))
def sums (b : FVec F S64x1024 .f32) : FVec F S32x1024 .f32 := addf (evens b) (odds b)

/-- A store that puts lanes `16n … 16n + 15` of row `t` of `sums b` where they belong. -/
def AddsAt (b : FVec F S64x1024 .f32) (t n : ℕ) (p : View.Piece (Elt F) S32x1024 .f32) : Prop :=
  (∀ y : S32x1024.Idx, y ∈ p.1.set ↔ (y 0).val = t ∧ 16 * n ≤ (y 1).val ∧ (y 1).val < 16 * n + 16)
    ∧ ∀ x : p.1.shape.Idx, p.2 x = sums b (p.1.emb x)

/-- Stores, latest first, that put the first `16n` lanes of row `t`. -/
def AddsRow (b : FVec F S64x1024 .f32) (t : ℕ) : ℕ → List (View.Piece (Elt F) S32x1024 .f32) → Prop
  | 0, [] => True
  | n + 1, p :: L => AddsAt b t n p ∧ AddsRow b t n L
  | _, _ => False

theorem read_addsRow (b : FVec F S64x1024 .f32) (t : ℕ) (r : FVec F S32x1024 .f32) :
    ∀ (n : ℕ) (L : List (View.Piece (Elt F) S32x1024 .f32)), AddsRow b t n L → ∀ y : S32x1024.Idx,
      rV.view.read (Elt F) (rV.view.writes (Elt F) r L) y = if (y 0).val = t ∧ (y 1).val < 16 * n then sums b y else r y
  | 0, [], _, y => by rw [if_neg (by omega)]; rfl
  | 0, _ :: _, h, _ => h.elim
  | _ + 1, [], h, _ => h.elim
  | n + 1, p :: L, h, y => by
    by_cases hy : y ∈ p.1.set
    · have hm := (h.1.1 y).mp hy
      rw [if_pos ⟨hm.1, by omega⟩]
      obtain ⟨x, rfl⟩ := p.1.exists_idx_of_mem hy
      exact (View.read_writes_cons_emb _ _ p.1 p.2 L x).trans (h.1.2 x)
    · rw [View.read_writes_cons_miss _ _ p L y hy, read_addsRow b t r n L h.2 y]
      have hm := mt (h.1.1 y).mpr hy
      congr 1
      exact propext ⟨fun h' => ⟨h'.1, by omega⟩, fun h' => ⟨h'.1, by by_contra hc; exact hm ⟨h'.1, by omega, by omega⟩⟩⟩

/-- The store of one unit — the two loads added, lanes `16n …` of rows `2t` and `2t + 1` — is such a store. -/
theorem addsAt_unit (b : FVec F S64x1024 .f32) (t n : ℕ) {o o₀ o₁ : Fin 2 → ℕ} (ho : o = ![t, 16 * n]) (h₀ : o₀ = ![2 * t, 16 * n])
    (h₁ : o₁ = ![2 * t + 1, 16 * n]) (hi : ∀ a, o a + S1x16.size a ≤ S32x1024.size a) (hi₀ : ∀ a, o₀ a + S1x16.size a ≤ S64x1024.size a)
    (hi₁ : ∀ a, o₁ a + S1x16.size a ≤ S64x1024.size a) :
    AddsAt b t n ⟨Rect.unit (s := S32x1024) o S1x16.size hi, shapeCast S1x16
      (addf (shapeCast S16 (View.readAt (Elt F) bV.view (Rect.unit (s := S64x1024) o₀ S1x16.size hi₀).toLoadRect b) shapeCasts_S1x16_S16)
        (shapeCast S16 (View.readAt (Elt F) bV.view (Rect.unit (s := S64x1024) o₁ S1x16.size hi₁).toLoadRect b) shapeCasts_S1x16_S16)) shapeCasts_S16_S1x16⟩ := by
  subst ho h₀ h₁
  constructor
  · intro y
    rw [Rect.mem_set_unit]
    constructor
    · intro h
      have h0 := h 0; have h1 := h 1
      change t ≤ (y 0).val ∧ (y 0).val < t + 1 at h0
      change 16 * n ≤ (y 1).val ∧ (y 1).val < 16 * n + 16 at h1
      omega
    · intro h a
      match a with
      | 0 => change t ≤ (y 0).val ∧ (y 0).val < t + 1; omega
      | 1 => change 16 * n ≤ (y 1).val ∧ (y 1).val < 16 * n + 16; omega
  · intro x
    have hx : (x 0).val = 0 := by have : (x 0).val < 1 := (x 0).isLt; omega
    have key : ∀ (o' : Fin 2 → ℕ) (hi' : ∀ a, o' a + S1x16.size a ≤ S64x1024.size a) (k : S64x1024.Idx),
        (k 0).val = o' 0 → (k 1).val = o' 1 + (x 1).val →
        View.readAt (Elt F) bV.view (Rect.unit (s := S64x1024) o' S1x16.size hi').toLoadRect b x = b k := by
      intro o' hi' k hk0 hk1
      change b _ = b k
      congr 1
      funext a; apply Fin.ext
      match a with
      | 0 => change o' 0 + 1 * (x 0).val = (k 0).val; omega
      | 1 => change o' 1 + 1 * (x 1).val = (k 1).val; omega
    change shapeCast S1x16 (addf (shapeCast S16 _ _) (shapeCast S16 _ _)) _ x = _
    have hcast : ∀ v : FVec F S1x16 .f32, shapeCast S16 v shapeCasts_S1x16_S16 (Shape.reshapeEquiv shapeCasts_S16_S1x16 x) = v x := fun v => by
      refine shapeCast_apply _ _ _ _ ?_
      rw [Shape.rowMajor_reshapeEquiv]
    unfold shapeCast at hcast ⊢
    unfold sums
    refine congrArg₂ FloatOps.addf ((hcast _).trans (key _ _ _ ?_ ?_)) ((hcast _).trans (key _ _ _ ?_ ?_))
    · change 2 * (t + 1 * (x 0).val) = 2 * t; omega
    · change 16 * n + 1 * (x 1).val = 16 * n + (x 1).val; omega
    · change 2 * (t + 1 * (x 0).val) + 1 = 2 * t + 1; omega
    · change 16 * n + 1 * (x 1).val = 16 * n + (x 1).val; omega

/-- The output stage with row `t` put. -/
def putRow (b : FVec F S64x1024 .f32) (t : ℕ) (r : FVec F S32x1024 .f32) : FVec F S32x1024 .f32 := fun y =>
  if (y 0).val = t then sums b y else r y

theorem writes_addsRow (b : FVec F S64x1024 .f32) (t : ℕ) (r : FVec F S32x1024 .f32) (P : List (View.Piece (Elt F) S32x1024 .f32))
    (h : AddsRow b t 64 P) : rV.view.writes (Elt F) r P = putRow b t r := by
  funext y
  refine (read_addsRow b t r 64 P h y).trans ?_
  have h1 : (y 1).val < 16 * 64 := (y 1).isLt
  unfold putRow
  exact if_congr (by simp only [h1, and_true]) rfl rfl

variable (d : Dev nD) (L : grid0.Coords)

/-- Trip `t` of the loop over the first 32 rows. -/
theorem trip1 (v2 : BitVec 32) (t : Fin k0_t1_loop.trips) (b : Buf (Elt F) (bV.view.loc (VT d L))) (r : Buf (Elt F) (rV.view.loc (VT d L))) :
    (iprop((bV.view.loc (VT d L) ↦{fullShare} b) ∗ (rV.view.loc (VT d L) ↦{fullShare} r)) : sProp 𝕄)
      ⊢ wp frame (wpE (defs₀ (F := F)) 𝒱₀ (VT d L) none) Set.univ
          (k0_t1_body L yV (Memref.isWhole_whole _) pV (Memref.isWhole_whole _) oV (Memref.isWhole_whole _) iV (Memref.isWhole_whole _)
            bV (Memref.isWhole_whole _) rV (Memref.isWhole_whole _) cc0_scratch3 cc0_scoped0 cc0_scoped1 cc0_scoped2 v2 t ⟨⟩)
          fun _ => iprop((bV.view.loc (VT d L) ↦{fullShare} b) ∗ (rV.view.loc (VT d L) ↦{fullShare} putRow (F := F) b t.val r)) := by
  iintro ⟨Hb, Hr⟩
  sl_unfold [k0_t1_body]
  sl_exec
  sl_step
  isplitl [Hb]; · iexact Hb
  rw [← writes_addsRow (F := F) b t.val r _ ?h]
  iexact Hr
  repeat (refine ⟨addsAt_unit (F := F) b t.val _ (ClosedOff.eq) (ClosedOff.eq) (ClosedOff.eq) _ _ _, ?_⟩)
  trivial

/-- Trip `t` of the loop over the second 32 rows. -/
theorem trip2 (t : Fin k0_t2_loop.trips) (b : Buf (Elt F) (bV.view.loc (VT d L))) (r : Buf (Elt F) (rV.view.loc (VT d L))) :
    (iprop((bV.view.loc (VT d L) ↦{fullShare} b) ∗ (rV.view.loc (VT d L) ↦{fullShare} r)) : sProp 𝕄)
      ⊢ wp frame (wpE (defs₀ (F := F)) 𝒱₀ (VT d L) none) Set.univ
          (k0_t2_body L yV (Memref.isWhole_whole _) pV (Memref.isWhole_whole _) oV (Memref.isWhole_whole _) iV (Memref.isWhole_whole _)
            bV (Memref.isWhole_whole _) rV (Memref.isWhole_whole _) cc0_scratch3 cc0_scoped0 cc0_scoped1 cc0_scoped2 t ⟨⟩)
          fun _ => iprop((bV.view.loc (VT d L) ↦{fullShare} b) ∗ (rV.view.loc (VT d L) ↦{fullShare} putRow (F := F) b t.val r)) := by
  iintro ⟨Hb, Hr⟩
  sl_unfold [k0_t2_body]
  sl_exec
  sl_step
  isplitl [Hb]; · iexact Hb
  rw [← writes_addsRow (F := F) b t.val r _ ?h]
  iexact Hr
  repeat (refine ⟨addsAt_unit (F := F) b t.val _ (ClosedOff.eq) (ClosedOff.eq) (ClosedOff.eq) _ _ _, ?_⟩)
  trivial

end Cert.Proof.Combine

end
-- ==== Proof.Combine.Body.lean ====
/-
  The body of one vector subcore: its 128 words of `pos` fetched, then for each of its two chunks of 32 rows the 64
  rows of `y` those words name gathered, 128 lanes at a time, added in pairs, and written out.
-/
module

public import proofs.«01_k».proof.Proof.Combine.Trip

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix2)

variable {F : FTy → Type} [FloatOps F]
local notation "𝕄" => MT nD τ sig (HIx 1) (Elt F) ℕ UU ℕ

variable (d : Dev nD) (L : grid0.Coords)

/-- The stage with its first `t` rows put. -/
def putRows (b : FVec F S64x1024 .f32) (t : ℕ) (r : FVec F S32x1024 .f32) : FVec F S32x1024 .f32 := fun y =>
  if (y 0).val < t then sums b y else r y

theorem putRows_zero (b : FVec F S64x1024 .f32) (r : FVec F S32x1024 .f32) : putRows b 0 r = r :=
  funext fun _ => if_neg (Nat.not_lt_zero _)
theorem putRows_all (b : FVec F S64x1024 .f32) (r : FVec F S32x1024 .f32) : putRows b 32 r = sums b :=
  funext fun y => if_pos (show (y 0).val < 32 from (y 0).isLt)
theorem putRow_putRows (b : FVec F S64x1024 .f32) (t : ℕ) (r : FVec F S32x1024 .f32) : putRow b t (putRows b t r) = putRows b (t + 1) r := by
  funext y
  unfold putRow putRows
  split_ifs <;> first | rfl | omega

/-- What holds before trip `t` of either loop. -/
def inv (b : FVec F S64x1024 .f32) (r : FVec F S32x1024 .f32) (t : ℕ) (_ : PUnit) : sProp 𝕄 :=
  iprop((bV.view.loc (VT d L) ↦{fullShare} (b : Buf (Elt F) (bV.view.loc (VT d L)))) ∗ (rV.view.loc (VT d L) ↦{fullShare} (putRows b t r : Buf (Elt F) (rV.view.loc (VT d L)))))

set_option maxRecDepth 16384 in
/-- The loop over the first 32 rows leaves the stage at the sums. -/
theorem loop1 (v2 : BitVec 32) (b : Buf (Elt F) (bV.view.loc (VT d L))) (r : Buf (Elt F) (rV.view.loc (VT d L))) :
    (iprop((bV.view.loc (VT d L) ↦{fullShare} b) ∗ (rV.view.loc (VT d L) ↦{fullShare} r)) : sProp 𝕄)
      ⊢ wp frame (wpE (defs₀ (F := F)) 𝒱₀ (VT d L) none) Set.univ
          (Scf.Loop.for k0_t1_loop k0_t1_ok ⟨⟩ (k0_t1_body L yV (Memref.isWhole_whole _) pV (Memref.isWhole_whole _) oV (Memref.isWhole_whole _) iV (Memref.isWhole_whole _)
            bV (Memref.isWhole_whole _) rV (Memref.isWhole_whole _) cc0_scratch3 cc0_scoped0 cc0_scoped1 cc0_scoped2 v2))
          fun _ => iprop((bV.view.loc (VT d L) ↦{fullShare} b) ∗ (rV.view.loc (VT d L) ↦{fullShare} sums (F := F) b)) := by
  iintro ⟨Hb, Hr⟩
  sl_for (inv (F := F) d L b r) $$ [Hb Hr]
  case region =>
    intro t _
    unfold inv
    have h := trip1 d L v2 t b (putRows (F := F) b t.val r)
    rw [putRow_putRows] at h
    exact h
  isplitl [Hb Hr]
  · unfold inv
    rw [putRows_zero]
    isplitl [Hb]; · iexact Hb
    iexact Hr
  iintro %_ H
  unfold inv
  rw [show Scf.trips k0_t1_loop.lb k0_t1_loop.ub k0_t1_loop.st = 32 from rfl, putRows_all]
  iexact H

set_option maxRecDepth 16384 in
/-- The loop over the second 32 rows leaves the stage at the sums. -/
theorem loop2 (b : Buf (Elt F) (bV.view.loc (VT d L))) (r : Buf (Elt F) (rV.view.loc (VT d L))) :
    (iprop((bV.view.loc (VT d L) ↦{fullShare} b) ∗ (rV.view.loc (VT d L) ↦{fullShare} r)) : sProp 𝕄)
      ⊢ wp frame (wpE (defs₀ (F := F)) 𝒱₀ (VT d L) none) Set.univ
          (Scf.Loop.for k0_t2_loop k0_t2_ok ⟨⟩ (k0_t2_body L yV (Memref.isWhole_whole _) pV (Memref.isWhole_whole _) oV (Memref.isWhole_whole _) iV (Memref.isWhole_whole _)
            bV (Memref.isWhole_whole _) rV (Memref.isWhole_whole _) cc0_scratch3 cc0_scoped0 cc0_scoped1 cc0_scoped2))
          fun _ => iprop((bV.view.loc (VT d L) ↦{fullShare} b) ∗ (rV.view.loc (VT d L) ↦{fullShare} sums (F := F) b)) := by
  iintro ⟨Hb, Hr⟩
  sl_for (inv (F := F) d L b r) $$ [Hb Hr]
  case region =>
    intro t _
    unfold inv
    have h := trip2 d L t b (putRows (F := F) b t.val r)
    rw [putRow_putRows] at h
    exact h
  isplitl [Hb Hr]
  · unfold inv
    rw [putRows_zero]
    isplitl [Hb]; · iexact Hb
    iexact Hr
  iintro %_ H
  unfold inv
  rw [show Scf.trips k0_t2_loop.lb k0_t2_loop.ub k0_t2_loop.st = 32 from rfl, putRows_all]
  iexact H

end Cert.Proof.Combine

end
-- ==== Proof.Combine.Rows.lean ====
/-
  What the eight gathers of a chunk leave: at place `(z₀, z₁)` of the stage the word of `y` in column `z₁` of the row
  that entry `o + z₀` of the list names; and the chunk's sums against the result's block.
-/
module

public import proofs.«01_k».proof.Proof.Combine.Body

@[expose] public section

noncomputable section

namespace Cert.Proof.Combine

open Cert.KernelIdeal Cert.KernelIdeal.Gen
open Idealize.ShloMosaic
open Idealize.ShloMosaic.SparseCore (S V T)
open Idealize.ShloMosaic.ValueIdx (ix1 ix2)

variable {F : FTy → Type} [FloatOps F]

/-- The row of `y` a word names. -/
def rowOf (w : BitVec 32) : Fin 8192 := ⟨w.toNat % 8192, Nat.mod_lt _ (by decide)⟩

/-- 64 rows of `y`, those that the entries of `l` from `o` on name. -/
def gathered (y : FVec F S8192x1024 .f32) (l : IVec S128 32) (o : ℕ) (ho : o + 64 ≤ 128) : FVec F S64x1024 .f32 := fun z =>
  y (ix2 (rowOf (l (ix1 ⟨o + (z 0).val, by have : (z 0).val < 64 := (z 0).isLt; omega⟩))) (z 1))

/-- Row `t` of the result: the rows of `y` that words `2t` and `2t + 1` of `p` name, added. -/
def result (y : FVec F S8192x1024 .f32) (p : IVec S4096 32) : FVec F S2048x1024 .f32 :=
  addf (fun z => y (ix2 (rowOf (p (ix1 ⟨2 * (z 0).val, by have : (z 0).val < 2048 := (z 0).isLt; omega⟩))) (z 1)))
    (fun z => y (ix2 (rowOf (p (ix1 ⟨2 * (z 0).val + 1, by have : (z 0).val < 2048 := (z 0).isLt; omega⟩))) (z 1)))

/-- A window of the fetched list. -/
theorem list_read (l : IVec S128 32) (g : IVec S128 32) (o : ℕ) (ho : o + 64 ≤ 128) (h : ∀ a, (![o] : Fin 1 → ℕ) a + S64.size a ≤ S128.size a)
    (hs : ∀ a, (Rect.unit (s := S128) ![o] S64.size h).stride a = 1) (x : S64.Idx) :
    View.read (Elt F) (iV.slice (Rect.unit (s := S128) ![o] S64.size h) hs).view
      (iV.view.writes (Elt F) g [⟨Rect.whole cc0_scratch0.ty.shape, l⟩]) x = l (ix1 ⟨o + (x 0).val, by have : (x 0).val < 64 := (x 0).isLt; omega⟩) := by
  have e : View.read (Elt F) (iV.slice (Rect.unit (s := S128) ![o] S64.size h) hs).view
        (iV.view.writes (Elt F) g [⟨Rect.whole cc0_scratch0.ty.shape, l⟩]) x
      = View.read (Elt F) iV.view (iV.view.writes (Elt F) g [⟨Rect.whole cc0_scratch0.ty.shape, l⟩])
          ((Rect.unit (s := S128) ![o] S64.size h).emb x) := by
    rw [View.read_apply, View.read_apply]; rfl
  rw [e]
  refine (congrFun (View.read_writes_whole (Val := Elt F) iV.view g l) _).trans ?_
  congr 1
  funext a; apply Fin.ext
  match a with
  | 0 => change o + 1 * (x 0).val = o + (x 0).val; omega

/-- What a window of 128 lanes receives. -/
def Lands (y : FVec F S8192x1024 .f32) (l : IVec S128 32) (o : ℕ) (ho : o + 64 ≤ 128) (q : ℕ) (p : View.Piece (Elt F) S64x1024 .f32) : Prop :=
  (∀ z : S64x1024.Idx, z ∈ p.1.set ↔ 128 * q ≤ (z 1).val ∧ (z 1).val < 128 * q + 128)
    ∧ ∀ x : p.1.shape.Idx, p.2 x = gathered y l o ho (p.1.emb x)

/-- The first `n` windows received, latest first. -/
def LandsAll (y : FVec F S8192x1024 .f32) (l : IVec S128 32) (o : ℕ) (ho : o + 64 ≤ 128) : ℕ → List (View.Piece (Elt F) S64x1024 .f32) → Prop
  | 0, [] => True
  | n + 1, p :: L => Lands y l o ho n p ∧ LandsAll y l o ho n L
  | _, _ => False

theorem read_landsAll (y : FVec F S8192x1024 .f32) (l : IVec S128 32) (o : ℕ) (ho : o + 64 ≤ 128) (b : FVec F S64x1024 .f32) :
    ∀ (n : ℕ) (L : List (View.Piece (Elt F) S64x1024 .f32)), LandsAll y l o ho n L → ∀ z : S64x1024.Idx, (z 1).val < 128 * n →
      bV.view.read (Elt F) (bV.view.writes (Elt F) b L) z = gathered y l o ho z
  | 0, [], _, _, h => absurd h (by omega)
  | 0, _ :: _, h, _, _ => h.elim
  | _ + 1, [], h, _, _ => h.elim
  | n + 1, p :: L, h, z, hz => by
    by_cases hm : z ∈ p.1.set
    · obtain ⟨x, rfl⟩ := p.1.exists_idx_of_mem hm
      exact (View.read_writes_cons_emb _ _ p.1 p.2 L x).trans (h.1.2 x)
    · rw [View.read_writes_cons_miss _ _ p L z hm]
      refine read_landsAll y l o ho b n L h.2 z ?_
      by_contra hc
      exact hm ((h.1.1 z).mpr ⟨by omega, by omega⟩)

theorem writes_landsAll (y : FVec F S8192x1024 .f32) (l : IVec S128 32) (o : ℕ) (ho : o + 64 ≤ 128) (b : FVec F S64x1024 .f32)
    (L : List (View.Piece (Elt F) S64x1024 .f32)) (h : LandsAll y l o ho 8 L) : bV.view.writes (Elt F) b L = gathered y l o ho :=
  funext fun z => read_landsAll y l o ho b 8 L h z (z 1).isLt

/-- One gather's window. -/
theorem lands_gather (y : FVec F S8192x1024 .f32) (l : IVec S128 32) (o : ℕ) (ho : o + 64 ≤ 128) (q : ℕ) (lv : S64.Idx → Elt F .i32)
    (hl : ∀ x, lv x = l (ix1 ⟨o + (x 0).val, by have : (x 0).val < 64 := (x 0).isLt; omega⟩))
    (hin : ∀ x, (lv x).toNat < 8192) (hn : S64.numel = 64) {oy ob : Fin 2 → ℕ} (hoy : oy = ![0, 128 * q]) (hob : ob = ![0, 128 * q])
    (hb : ∀ a, ob a + S64x128.size a ≤ S64x1024.size a) (hy : ∀ a, oy a + S8192x128.size a ≤ S8192x1024.size a)
    (hys : ∀ a, (Rect.unit (s := S8192x1024) oy S8192x128.size hy).stride a = 1) (hg : S8192x128.Gathers 0 S64x128) :
    Lands y l o ho q ⟨Rect.unit (s := S64x1024) ob S64x128.size hb, SparseCore.gatherPayload hg
      (View.read (Elt F) (yV.slice (Rect.unit (s := S8192x1024) oy S8192x128.size hy) hys).view y) (SparseCore.rows lv hn hin)⟩ := by
  subst hoy hob
  constructor
  · intro z
    have hz : (z 0).val < 64 := (z 0).isLt
    rw [Rect.mem_set_unit]
    constructor
    · intro h
      have h1 := h 1
      change 128 * q ≤ (z 1).val ∧ (z 1).val < 128 * q + 128 at h1
      exact h1
    · intro h a
      match a with
      | 0 => change 0 ≤ (z 0).val ∧ (z 0).val < 0 + 64; omega
      | 1 => exact h
  · intro x
    change y _ = y _
    congr 1
    funext a; apply Fin.ext
    match a with
    | 0 =>
      change 0 + 1 * (hg.idx (SparseCore.rows lv hn hin) x hg.axis).val = (rowOf _).val
      rw [Shape.Gathers.idx_axis]
      have hk : ∀ k : S64.Idx, (k 0).val = (x 0).val → (lv k).toNat = (rowOf (l (ix1 ⟨o + (0 + 1 * (x 0).val), by have : (x 0).val < 64 := (x 0).isLt; omega⟩))).val := by
        intro k hk
        have h1 := hl k
        have h2 := hin k
        rw [Nat.mod_eq_of_lt (a := (lv k).toNat) h2 |>.symm, h1]
        change (l _).toNat % 8192 = (l _).toNat % 8192
        congr 4
        exact Fin.ext (show o + (k 0).val = o + (0 + 1 * (x 0).val) by omega)
      rw [Nat.one_mul, Nat.zero_add]
      refine hk _ ?_
      rw [← Shape.rowMajor_val_one, Equiv.apply_symm_apply]
      rfl
    | 1 =>
      change 128 * q + 1 * (hg.idx (SparseCore.rows lv hn hin) x 1).val = 128 * q + 1 * (x 1).val
      rw [Shape.Gathers.idx_of_ne hg _ x 1 (by decide)]
      rfl

/-- The subcore's words of `pos`. -/
abbrev pRow (L : grid0.Coords) : Memref sig .scVector .hbm S128 .i32 := pV.slice (Rect.unit (s := S4096) (k0_off1 L) S128.size (k0_off1_inb L)) (fun _ => rfl)

/-- Chunk `r`'s sums are the result's block of 32 rows that the subcore writes them to. -/
theorem sums_gathered (L : grid0.Coords) (y : FVec F S8192x1024 .f32) (p : IVec S4096 32) (r : Fin 2) (n : ℕ) (hn : n + 64 ≤ 128) (hr : n = 64 * r.val)
    {o : Fin 2 → ℕ} (ho : o = ![128 * (L 1).val + 64 * (L 0).val + 32 * r.val, 0]) (h : ∀ a, o a + S32x1024.size a ≤ S2048x1024.size a) (x : S32x1024.Idx) :
    sums (gathered y ((pRow L).view.read (Elt F) p) n hn) x = result y p ((Rect.unit (s := S2048x1024) o S32x1024.size h).emb x) := by
  subst ho hr
  have hL1 : (L 1).val < 16 := (L 1).isLt
  have hL0 : (L 0).val < 2 := (L 0).isLt
  have hx : (x 0).val < 32 := (x 0).isLt
  have hw : ∀ (i : Fin 128) (k : Fin 4096), k.val = 256 * (L 1).val + 128 * (L 0).val + i.val →
      (pRow L).view.read (Elt F) p (ix1 i) = p (ix1 k) := by
    intro i k hk
    change p _ = p _
    congr 1
    funext a; apply Fin.ext
    match a with
    | 0 =>
      change k0_off1 L 0 + 1 * i.val = k.val
      rw [k0_off1_eq]
      change 256 * (L 1).val + 128 * (L 0).val + 1 * i.val = k.val
      omega
  have hc : ∀ (c c' : Fin 1024), c'.val = 0 + 1 * c.val → c = c' := fun c c' hcc => Fin.ext (by omega)
  refine congrArg₂ FloatOps.addf ?_ ?_
  · refine congrArg y (congrArg₂ ix2 (congrArg rowOf (hw _ _ ?_)) (hc _ _ rfl))
    change 2 * (128 * (L 1).val + 64 * (L 0).val + 32 * r.val + 1 * (x 0).val) = 256 * (L 1).val + 128 * (L 0).val + (64 * r.val + 2 * (x 0).val)
    omega
  · refine congrArg y (congrArg₂ ix2 (congrArg rowOf (hw _ _ ?_)) (hc _ _ rfl))
    change 2 * (128 * (L 1).val + 64 * (L 0).val + 32 * r.val + 1 * (x 0).val) + 1 = 256 * (L 1).val + 128 * (L 0).val + (64 * r.val + (2 * (x 0).val + 1))
    omega

end Cert.Proof.Combine

end
-- ==== Proof.Combine.Run.lean ====
/-
  The body of one vector subcore run, from its shares of `y` and `pos` and its blocks of the result to the blocks at
  the values they must hold.
-/
module

public import proofs.«01_k».proof.Proof.Combine.Rows

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix2)

variable {F : FTy → Type} [FloatOps F]
local notation "𝕄" => MT nD τ sig (HIx 1) (Elt F) ℕ UU ℕ

variable (d : Dev nD) (L : grid0.Coords)

/-- The subcore's two blocks of the result. -/
abbrev oBlk0 (L : grid0.Coords) : Memref sig .scVector .hbm S32x1024 .f32 := oV.slice (Rect.unit (s := S2048x1024) (k0_off194 L 0#32) S32x1024.size (k0_off194_inb L 0)) (fun _ => rfl)
abbrev oBlk1 (L : grid0.Coords) : Memref sig .scVector .hbm S32x1024 .f32 := oV.slice (Rect.unit (s := S2048x1024) (k0_off194 L 32#32) S32x1024.size (k0_off194_inb L 1)) (fun _ => rfl)

/-- A block of the result written whole holds what was written. -/
theorem pts_block (B : Memref sig .scVector .hbm S32x1024 .f32) (g f : Buf (Elt F) (B.view.loc (VT d L))) (w : S32x1024.Idx → Elt F .f32)
    (hw : ∀ x, w x = B.view.read (Elt F) f x) :
    (B.view.loc (VT d L) ↦[B.view.set]{fullShare} B.view.writes (Elt F) g [⟨Rect.whole S32x1024, w⟩] : sProp 𝕄)
      = (B.view.loc (VT d L) ↦[B.view.set]{fullShare} f) := by
  refine pointsTo_congr fun i hi => ?_
  obtain ⟨x, -, rfl⟩ := Finset.mem_map.mp hi
  have e := congrFun (View.read_writes_whole (Val := Elt F) B.view g w) x
  rw [hw x, View.read_apply, View.read_apply] at e
  exact (cast_inj _).mp e

/-- The subcore's four transfer counters at zero. -/
def cells0 : sProp 𝕄 :=
  iprop(semVal (VT d L, SemLoc.dma cc0_scratch3.sem) 0 ∗ semVal (VT d L, SemLoc.dma cc0_scoped0.sem) 0
    ∗ semVal (VT d L, SemLoc.dma cc0_scoped1.sem) 0 ∗ semVal (VT d L, SemLoc.dma cc0_scoped2.sem) 0)

set_option maxHeartbeats 4000000 in
/-- The body: the fetch of the slot numbers, then twice eight gathers, the row sums and their copy out. -/
theorem tile_run (y : Buf (Elt F) (yV.view.loc (VT d L))) (p : Buf (Elt F) (pV.view.loc (VT d L))) (o : Buf (Elt F) (oV.view.loc (VT d L)))
    (hp : ∀ i, (p i).toNat < 8192) (q : PosShare TreeShare)
    (O : CellTallies nD τ sig (HIx 1)) (W : Waits sig (HIx 1))
    (gi : Buf (Elt F) (iV.view.loc (VT d L))) (gb : Buf (Elt F) (bV.view.loc (VT d L))) (gr : Buf (Elt F) (rV.view.loc (VT d L))) :
    (iprop(Transfers.MayWaits (VT d L) (default : HIx 1) O
        ∗ (yV.view.loc (VT d L) ↦{q} y)
        ∗ ((pRow L).view.loc (VT d L) ↦[(pRow L).view.set]{fullShare} p)
        ∗ ((oBlk0 L).view.loc (VT d L) ↦[(oBlk0 L).view.set]{fullShare} o)
        ∗ ((oBlk1 L).view.loc (VT d L) ↦[(oBlk1 L).view.set]{fullShare} o)
        ∗ (iV.view.loc (VT d L) ↦[iV.view.set]{fullShare} gi)
        ∗ (bV.view.loc (VT d L) ↦[bV.view.set]{fullShare} gb)
        ∗ (rV.view.loc (VT d L) ↦[rV.view.set]{fullShare} gr)
        ∗ cells0 d L
        ∗ owes (VT d L) O W) : sProp 𝕄)
      ⊢ wp frame (wpE (defs₀ (F := F)) 𝒱₀ (VT d L) none) Set.univ
          (cc0__combine_body L yV (Memref.isWhole_whole _) pV (Memref.isWhole_whole _) oV (Memref.isWhole_whole _) iV (Memref.isWhole_whole _)
            bV (Memref.isWhole_whole _) rV (Memref.isWhole_whole _) cc0_scratch3 cc0_scoped0 cc0_scoped1 cc0_scoped2)
          fun _ => iprop((yV.view.loc (VT d L) ↦{q} y)
            ∗ ((pRow L).view.loc (VT d L) ↦[(pRow L).view.set]{fullShare} p)
            ∗ ((oBlk0 L).view.loc (VT d L) ↦[(oBlk0 L).view.set]{fullShare} result (F := F) y p)
            ∗ ((oBlk1 L).view.loc (VT d L) ↦[(oBlk1 L).view.set]{fullShare} result (F := F) y p)
            ∗ (∃ g, iV.view.loc (VT d L) ↦[iV.view.set]{fullShare} g)
            ∗ (∃ g, bV.view.loc (VT d L) ↦[bV.view.set]{fullShare} g)
            ∗ (∃ g, rV.view.loc (VT d L) ↦[rV.view.set]{fullShare} g)
            ∗ cells0 d L
            ∗ ∃ W', ⌜∀ p ∈ W', p ∈ W ∨ p.2 = none⌝ ∗ owes (VT d L) O W') := by
  unfold cells0
  iintro ⟨#Hmw, HY, HP, HO0, HO1, HI, HB, HR, ⟨Hc, Hc0, Hc1, Hc2⟩, HO⟩
  sl_unfold [cc0__combine_body]
  have hpay : ∀ i, ((pRow L).view.read (Elt F) p i).toNat < 8192 := fun i => hp _
  have hidx : ∀ (g : Buf (Elt F) (iV.view.loc (VT d L))) (o : ℕ) (h : ∀ a, (![o] : Fin 1 → ℕ) a + S64.size a ≤ S128.size a)
      (hs : ∀ a, (Rect.unit (s := S128) ![o] S64.size h).stride a = 1),
      ∀ x, (View.read (Elt F) (iV.slice (Rect.unit (s := S128) ![o] S64.size h) hs).view
        (iV.view.writes (Elt F) g [⟨Rect.whole cc0_scratch0.ty.shape, (pRow L).view.read (Elt F) p⟩]) x).toNat < 8192 := by
    intro g o h hs x
    rw [list_read (F := F) _ g o (h 0) h hs x]
    exact hpay _
  have hbs : bV.view.set = Finset.univ := View.set_whole _
  have hrs : rV.view.set = Finset.univ := View.set_whole _
  sl_exec
  have hb1 := writes_landsAll (F := F) y ((pRow L).view.read (Elt F) p) 0 (by decide) (View.junk (Val := Elt F) bV.view)
    [⟨Rect.unit (s := S64x1024) ![0, 896] S64x128.size inb_S64x1024_S64x128_0_896, tile_run.sl.gather8 d L y p hidx⟩,
      ⟨Rect.unit (s := S64x1024) ![0, 768] S64x128.size inb_S64x1024_S64x128_0_768, tile_run.sl.gather7 d L y p hidx⟩,
      ⟨Rect.unit (s := S64x1024) ![0, 640] S64x128.size inb_S64x1024_S64x128_0_640, tile_run.sl.gather6 d L y p hidx⟩,
      ⟨Rect.unit (s := S64x1024) ![0, 512] S64x128.size inb_S64x1024_S64x128_0_512, tile_run.sl.gather5 d L y p hidx⟩,
      ⟨Rect.unit (s := S64x1024) ![0, 384] S64x128.size inb_S64x1024_S64x128_0_384, tile_run.sl.gather4 d L y p hidx⟩,
      ⟨Rect.unit (s := S64x1024) ![0, 256] S64x128.size inb_S64x1024_S64x128_0_256, tile_run.sl.gather3 d L y p hidx⟩,
      ⟨Rect.unit (s := S64x1024) ![0, 128] S64x128.size inb_S64x1024_S64x128_0_128, tile_run.sl.gather2 d L y p hidx⟩,
      ⟨Rect.unit (s := S64x1024) ![0, 0] S64x128.size inb_S64x1024_S64x128_0_0, tile_run.sl.gather1 d L y p hidx⟩]
    (by
      refine ⟨?_, ?_, ?_, ?_, ?_, ?_, ?_, ?_, trivial⟩
      · unfold tile_run.sl.gather8; exact lands_gather (F := F) y _ 0 _ 7 _ (list_read _ _ 0 (by decide) _ _) _ rfl rfl rfl _ _ _ _
      · unfold tile_run.sl.gather7; exact lands_gather (F := F) y _ 0 _ 6 _ (list_read _ _ 0 (by decide) _ _) _ rfl rfl rfl _ _ _ _
      · unfold tile_run.sl.gather6; exact lands_gather (F := F) y _ 0 _ 5 _ (list_read _ _ 0 (by decide) _ _) _ rfl rfl rfl _ _ _ _
      · unfold tile_run.sl.gather5; exact lands_gather (F := F) y _ 0 _ 4 _ (list_read _ _ 0 (by decide) _ _) _ rfl rfl rfl _ _ _ _
      · unfold tile_run.sl.gather4; exact lands_gather (F := F) y _ 0 _ 3 _ (list_read _ _ 0 (by decide) _ _) _ rfl rfl rfl _ _ _ _
      · unfold tile_run.sl.gather3; exact lands_gather (F := F) y _ 0 _ 2 _ (list_read _ _ 0 (by decide) _ _) _ rfl rfl rfl _ _ _ _
      · unfold tile_run.sl.gather2; exact lands_gather (F := F) y _ 0 _ 1 _ (list_read _ _ 0 (by decide) _ _) _ rfl rfl rfl _ _ _ _
      · unfold tile_run.sl.gather1; exact lands_gather (F := F) y _ 0 _ 0 _ (list_read _ _ 0 (by decide) _ _) _ rfl rfl rfl _ _ _ _)
  rw [wp_bind, hb1, hbs, hrs]
  iapply (wp_wand_r Idealize.ShloMosaic.frame (wpE (defs₀ (F := F)) 𝒱₀ (VT d L) none) Set.univ)
  isplitl [HB HR]
  · iapply (loop1 d L _ _ _) $$ [HB HR]
    isplitl [HB]; · iexact HB
    iexact HR
  iintro %_ ⟨HB, HR⟩
  rw [← hbs, ← hrs]
  sl_exec
  have hb2 := writes_landsAll (F := F) y ((pRow L).view.read (Elt F) p) 64 (by decide) (View.junk (Val := Elt F) bV.view)
    [⟨Rect.unit (s := S64x1024) ![0, 896] S64x128.size inb_S64x1024_S64x128_0_896, tile_run.sl.gather8_1 d L y p hidx⟩,
      ⟨Rect.unit (s := S64x1024) ![0, 768] S64x128.size inb_S64x1024_S64x128_0_768, tile_run.sl.gather7_1 d L y p hidx⟩,
      ⟨Rect.unit (s := S64x1024) ![0, 640] S64x128.size inb_S64x1024_S64x128_0_640, tile_run.sl.gather6_1 d L y p hidx⟩,
      ⟨Rect.unit (s := S64x1024) ![0, 512] S64x128.size inb_S64x1024_S64x128_0_512, tile_run.sl.gather5_1 d L y p hidx⟩,
      ⟨Rect.unit (s := S64x1024) ![0, 384] S64x128.size inb_S64x1024_S64x128_0_384, tile_run.sl.gather4_1 d L y p hidx⟩,
      ⟨Rect.unit (s := S64x1024) ![0, 256] S64x128.size inb_S64x1024_S64x128_0_256, tile_run.sl.gather3_1 d L y p hidx⟩,
      ⟨Rect.unit (s := S64x1024) ![0, 128] S64x128.size inb_S64x1024_S64x128_0_128, tile_run.sl.gather2_1 d L y p hidx⟩,
      ⟨Rect.unit (s := S64x1024) ![0, 0] S64x128.size inb_S64x1024_S64x128_0_0, tile_run.sl.gather1_1 d L y p hidx⟩]
    (by
      refine ⟨?_, ?_, ?_, ?_, ?_, ?_, ?_, ?_, trivial⟩
      · unfold tile_run.sl.gather8_1; exact lands_gather (F := F) y _ 64 _ 7 _ (list_read _ _ 64 (by decide) _ _) _ rfl rfl rfl _ _ _ _
      · unfold tile_run.sl.gather7_1; exact lands_gather (F := F) y _ 64 _ 6 _ (list_read _ _ 64 (by decide) _ _) _ rfl rfl rfl _ _ _ _
      · unfold tile_run.sl.gather6_1; exact lands_gather (F := F) y _ 64 _ 5 _ (list_read _ _ 64 (by decide) _ _) _ rfl rfl rfl _ _ _ _
      · unfold tile_run.sl.gather5_1; exact lands_gather (F := F) y _ 64 _ 4 _ (list_read _ _ 64 (by decide) _ _) _ rfl rfl rfl _ _ _ _
      · unfold tile_run.sl.gather4_1; exact lands_gather (F := F) y _ 64 _ 3 _ (list_read _ _ 64 (by decide) _ _) _ rfl rfl rfl _ _ _ _
      · unfold tile_run.sl.gather3_1; exact lands_gather (F := F) y _ 64 _ 2 _ (list_read _ _ 64 (by decide) _ _) _ rfl rfl rfl _ _ _ _
      · unfold tile_run.sl.gather2_1; exact lands_gather (F := F) y _ 64 _ 1 _ (list_read _ _ 64 (by decide) _ _) _ rfl rfl rfl _ _ _ _
      · unfold tile_run.sl.gather1_1; exact lands_gather (F := F) y _ 64 _ 0 _ (list_read _ _ 64 (by decide) _ _) _ rfl rfl rfl _ _ _ _)
  rw [wp_bind, hb2, hbs, hrs]
  iapply (wp_wand_r Idealize.ShloMosaic.frame (wpE (defs₀ (F := F)) 𝒱₀ (VT d L) none) Set.univ)
  isplitl [HB HR]
  · iapply (loop2 d L _ _) $$ [HB HR]
    isplitl [HB]; · iexact HB
    iexact HR
  iintro %_ ⟨HB, HR⟩
  rw [← hbs, ← hrs]
  sl_exec
  sl_step
  isplitl [HY]; · iexact HY
  isplitl [HP]; · iexact HP
  isplitl [HO0]
  · iapply (Entails.of_eq (pts_block (F := F) d L (oBlk0 L) _ (result (F := F) y p) (tile_run.sl.dma0_1 d L y p) fun x =>
      sums_gathered L y p 0 0 (by decide) rfl (o := k0_off194 L 0#32) (k0_off194_eq L 0) _ x))
    iexact HO0
  isplitl [HO1]
  · iapply (Entails.of_eq (pts_block (F := F) d L (oBlk1 L) _ (result (F := F) y p) (tile_run.sl.dma0_2 d L y p) fun x =>
      sums_gathered L y p 1 64 (by decide) rfl (o := k0_off194 L 32#32) (k0_off194_eq L 1) _ x))
    iexact HO1
  isplitl [HI]; · iexists _; iexact HI
  isplitl [HB]; · iexists _; iexact HB
  isplitl [HR]; · iexists _; iexact HR
  isplitl [Hc Hc0 Hc1 Hc2]
  · isplitl [Hc]; · iexact Hc
    isplitl [Hc0]; · iexact Hc0
    isplitl [Hc1]; · iexact Hc1
    iexact Hc2
  iexists _; isplitr
  swap; · iexact HO
  ipureintro; intro w hw
  simp only [Finset.mem_insert] at hw
  repeat' rcases hw with rfl | hw
  all_goals first | exact .inr rfl | exact .inl hw

end Cert.Proof.Combine

end
-- ==== Proof.Combine.Launch.lean ====
/-
  The launch. Two SparseCores of sixteen subcores each: subcore `i` of core `c` takes its 128 words of `pos`, its 64
  rows of the result and a thirty-second of the share of `y`; it brings the rows back at their final values.
-/
module

public import proofs.«01_k».proof.Proof.Combine.Run
public import Idealize.ShloMosaic.Lib.ShareLeaves

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

variable (m : (ℓ : Loc nD τ sig) → Buf (Elt F) ℓ) (ρ : Dev nD → PrngReg)

/-- The grid point of subcore `i` of core `c`. -/
def pt (c : Fin 2) (i : Fin 16) : grid0.Coords :=
  fun | 0 => c | 1 => i | ⟨_ + 2, h⟩ => absurd h (Nat.not_lt.2 (Nat.le_add_left _ _))

/-- The words of `pos` and the rows of the result that the subcore takes. -/
abbrev pSet (L : grid0.Coords) : Finset S4096.Idx := (pRow L).view.set
abbrev oSet (L : grid0.Coords) : Finset S2048x1024.Idx := (oBlk0 L).view.set ∪ (oBlk1 L).view.set

omit [FloatOps F] in
theorem mem_pSet (L : grid0.Coords) (x : S4096.Idx) :
    x ∈ pSet L ↔ 256 * (L 1).val + 128 * (L 0).val ≤ (x 0).val ∧ (x 0).val < 256 * (L 1).val + 128 * (L 0).val + 128 := by
  have e : pSet L = (Rect.unit (s := S4096) (k0_off1 L) S128.size (k0_off1_inb L)).set := View.set_slice_whole _ _
  rw [e, Rect.mem_set_unit, k0_off1_eq]
  exact ⟨fun h => h 0, fun h a => match a with | 0 => h⟩

theorem mem_oBlk (L : grid0.Coords) (r : Fin 2) {o : Fin 2 → ℕ} (ho : o = ![128 * (L 1).val + 64 * (L 0).val + 32 * r.val, 0])
    (h : ∀ a, o a + S32x1024.size a ≤ S2048x1024.size a) (x : S2048x1024.Idx) :
    x ∈ (oV.slice (Rect.unit (s := S2048x1024) o S32x1024.size h) (fun _ => rfl)).view.set
      ↔ 128 * (L 1).val + 64 * (L 0).val + 32 * r.val ≤ (x 0).val ∧ (x 0).val < 128 * (L 1).val + 64 * (L 0).val + 32 * r.val + 32 := by
  subst ho
  have e : (oV.slice (Rect.unit (s := S2048x1024) _ S32x1024.size h) (fun _ => rfl)).view.set = (Rect.unit (s := S2048x1024) _ S32x1024.size h).set := View.set_slice_whole _ _
  rw [e, Rect.mem_set_unit]
  refine ⟨fun h => h 0, fun h a => ?_⟩
  match a with
  | 0 => exact h
  | 1 => exact ⟨Nat.zero_le _, by have := (x 1).isLt; exact this⟩

omit [FloatOps F] in
theorem blk_disjoint (L : grid0.Coords) : Disjoint (oBlk0 L).view.set (oBlk1 L).view.set := by
  rw [Finset.disjoint_left]
  intro x h0 h1
  have h0 := ((mem_oBlk L 0 (k0_off194_eq L 0) (k0_off194_inb L 0) x).mp h0).2
  have h1 := ((mem_oBlk L 1 (k0_off194_eq L 1) (k0_off194_inb L 1) x).mp h1).1
  change _ < _ + 32 * 0 + 32 at h0
  change _ + 32 * 1 ≤ _ at h1
  omega

omit [FloatOps F] in
theorem mem_oSet (L : grid0.Coords) (x : S2048x1024.Idx) :
    x ∈ oSet L ↔ 128 * (L 1).val + 64 * (L 0).val ≤ (x 0).val ∧ (x 0).val < 128 * (L 1).val + 64 * (L 0).val + 64 := by
  refine Finset.mem_union.trans ((or_congr (mem_oBlk L 0 (k0_off194_eq L 0) (k0_off194_inb L 0) x) (mem_oBlk L 1 (k0_off194_eq L 1) (k0_off194_inb L 1) x)).trans ?_)
  change (_ + 32 * 0 ≤ _ ∧ _ < _ + 32 * 0 + 32) ∨ (_ + 32 * 1 ≤ _ ∧ _ < _ + 32 * 1 + 32) ↔ _
  omega

/-- Rows dealt to the subcores in blocks of `n`, block `2i + c` to subcore `i` of core `c`: different subcores' rows are
    apart and together they are all `32 n`. -/
theorem deal {X : Type} [DecidableEq X] [Fintype X] (n : ℕ) (hn : 0 < n) (f : X → ℕ) (hf : ∀ x, f x < 32 * n) (A : grid0.Coords → Finset X)
    (hA : ∀ L x, x ∈ A L ↔ 2 * n * (L 1).val + n * (L 0).val ≤ f x ∧ f x < 2 * n * (L 1).val + n * (L 0).val + n) :
    (∀ c, ∀ i ∈ (Finset.univ : Finset (Fin 16)), ∀ j ∈ (Finset.univ : Finset (Fin 16)), i ≠ j → Disjoint (A (pt c i)) (A (pt c j)))
      ∧ (∀ c ∈ (Finset.univ : Finset (Fin 2)), ∀ c' ∈ (Finset.univ : Finset (Fin 2)), c ≠ c' →
          Disjoint ((Finset.univ : Finset (Fin 16)).biUnion fun i => A (pt c i)) ((Finset.univ : Finset (Fin 16)).biUnion fun i => A (pt c' i)))
      ∧ ((Finset.univ : Finset (Fin 2)).biUnion fun c => (Finset.univ : Finset (Fin 16)).biUnion fun i => A (pt c i)) = Finset.univ := by
  have hq : ∀ (c : Fin 2) (i : Fin 16) x, x ∈ A (pt c i) ↔ f x / n = 2 * i.val + c.val := by
    intro c i x
    rw [hA]
    change 2 * n * i.val + n * c.val ≤ f x ∧ f x < 2 * n * i.val + n * c.val + n ↔ _
    rw [Nat.div_eq_iff hn, show 2 * n * i.val + n * c.val = (2 * i.val + c.val) * n by ring]
    omega
  refine ⟨fun c i _ j _ hij => ?_, fun c _ c' _ hc => ?_, ?_⟩
  · rw [Finset.disjoint_left]
    intro x h1 h2
    rw [hq] at h1 h2
    exact hij (Fin.ext (by omega))
  · rw [Finset.disjoint_left]
    intro x h1 h2
    obtain ⟨i, -, h1⟩ := Finset.mem_biUnion.mp h1
    obtain ⟨j, -, h2⟩ := Finset.mem_biUnion.mp h2
    rw [hq] at h1 h2
    exact hc (Fin.ext (by omega))
  · refine Finset.eq_univ_iff_forall.mpr fun x => ?_
    have hlt : f x / n < 32 := (Nat.div_lt_iff_lt_mul hn).mpr (hf x)
    refine Finset.mem_biUnion.mpr ⟨⟨f x / n % 2, by omega⟩, Finset.mem_univ _, Finset.mem_biUnion.mpr ⟨⟨f x / n / 2, by omega⟩, Finset.mem_univ _, ?_⟩⟩
    rw [hq]
    change f x / n = 2 * (f x / n / 2) + f x / n % 2
    omega

/-! ## What the launch hands over and takes back -/

/-- A thirty-second of the full share. -/
abbrev yq (c : Fin 2) (i : Fin 16) : PosShare TreeShare := leaf 4 (leaf 1 fullShare c) i

abbrev res (d : Dev nD) : Buf (Elt F) (oLoc d) := result (F := F) (m (yLoc d)) (m (pLoc d))

/-- A subcore's part, the result's rows at `o`. -/
abbrev Part (d : Dev nD) (o : Buf (Elt F) (oLoc d)) (c : Fin 2) (i : Fin 16) : sProp 𝕄 :=
  iprop((yLoc d ↦{yq c i} m (yLoc d)) ∗ (pLoc d ↦[pSet (pt c i)]{fullShare} m (pLoc d)) ∗ (oLoc d ↦[oSet (pt c i)]{fullShare} o))

/-- A core's part is its subcores'. -/
abbrev CPart (d : Dev nD) (o : Buf (Elt F) (oLoc d)) (c : Fin 2) : sProp 𝕄 := bigSep Finset.univ fun i : Fin 16 => Part m d o c i

def P : (K (F := F)).Pay (nD := nD) (Val := Elt F) (Name := ℕ) (U := UU) where
  st := fun q d c => match q with | 0 => CPart m d (m (oLoc d)) (Fin.cast nCore_zero c)
  dn := fun q d c => match q with | 0 => CPart m d (res m d) (Fin.cast nCore_zero c)
  go := fun q d c i => match q with | 0 => Part m d (m (oLoc d)) (Fin.cast nCore_zero c) (Fin.cast nSub_zero i)
  td := fun q d c i => match q with | 0 => Part m d (res m d) (Fin.cast nCore_zero c) (Fin.cast nSub_zero i)
  x := fun _ _ => iprop(emp)

instance P_storable : (P (F := F) m).IsStorable where
  st q d c := match q with
    | 0 => (inferInstance : BI.Storable (upEmb : UEmb _ 𝕄) (CPart m d (m (oLoc d)) (Fin.cast nCore_zero c)))
  dn q d c := match q with
    | 0 => (inferInstance : BI.Storable (upEmb : UEmb _ 𝕄) (CPart m d (res m d) (Fin.cast nCore_zero c)))
  go q d c i := match q with
    | 0 => (inferInstance : BI.Storable (upEmb : UEmb _ 𝕄) (Part m d (m (oLoc d)) (Fin.cast nCore_zero c) (Fin.cast nSub_zero i)))
  td q d c i := match q with
    | 0 => (inferInstance : BI.Storable (upEmb : UEmb _ 𝕄) (Part m d (res m d) (Fin.cast nCore_zero c) (Fin.cast nSub_zero i)))

/-- Every slot number is a row of `y`. -/
def PreOK : Prop := ∀ (d : Dev nD) (j : S4096.Idx), (m (pLoc d) j).toNat < 8192

/-! ## One subcore -/

section Tile

variable (d : Dev nD) (L : grid0.Coords)

omit [FloatOps F] in
theorem ownSems0_V : ∃ R : sProp 𝕄, (ownSems0 (VT d L) : sProp 𝕄) = iprop(semVal (VT d L, SemLoc.dma cc0_scratch3.sem) 0 ∗ semVal (VT d L, SemLoc.dma cc0_scoped0.sem) 0
    ∗ semVal (VT d L, SemLoc.dma cc0_scoped1.sem) 0 ∗ semVal (VT d L, SemLoc.dma cc0_scoped2.sem) 0 ∗ R) := by
  refine ⟨bigSep (((((ownCells (VT d L)).erase (VT d L, .dma cc0_scratch3.sem)).erase (VT d L, .dma cc0_scoped0.sem)).erase (VT d L, .dma cc0_scoped1.sem)).erase
    (VT d L, .dma cc0_scoped2.sem)) fun g => semVal g 0, ?_⟩
  have hm : ∀ s : SemLoc sig, s.isScoped .scVector = true → ((VT d L, s) : GSem nD τ sig) ∈ ownCells (VT d L) := fun s hs => mem_ownCells.mpr ⟨rfl, hs⟩
  have hne : ∀ s s' : SemLoc sig, s ≠ s' → ((VT d L, s) : GSem nD τ sig) ≠ (VT d L, s') := fun s s' h e => h (congrArg Prod.snd e)
  unfold SparseCore.Cfg.ownSems0
  rw [SparseCore.bigSep_erase' (hm (.dma cc0_scratch3.sem) (by decide)),
    SparseCore.bigSep_erase' (Finset.mem_erase.mpr ⟨hne _ _ (by decide), hm (.dma cc0_scoped0.sem) (by decide)⟩),
    SparseCore.bigSep_erase' (Finset.mem_erase.mpr ⟨hne _ _ (by decide), Finset.mem_erase.mpr ⟨hne _ _ (by decide), hm (.dma cc0_scoped1.sem) (by decide)⟩⟩),
    SparseCore.bigSep_erase' (Finset.mem_erase.mpr ⟨hne _ _ (by decide), Finset.mem_erase.mpr ⟨hne _ _ (by decide), Finset.mem_erase.mpr ⟨hne _ _ (by decide),
      hm (.dma cc0_scoped2.sem) (by decide)⟩⟩⟩)]

omit [FloatOps F] in
theorem ownBufs_V : ∃ R : sProp 𝕄, (ownBufs (VT d L) : sProp 𝕄)
    = iprop((∃ f, iV.view.loc (VT d L) ↦{fullShare} f) ∗ (∃ f, bV.view.loc (VT d L) ↦{fullShare} f) ∗ (∃ f, rV.view.loc (VT d L) ↦{fullShare} f) ∗ R) := by
  have hm : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b hb => SparseCore.Cfg.mem_ownRefs_of_owner hb
  have hne : ∀ b b' : Ref sig .scVector, b ≠ b' → (Proc.scVector (cV L) (jV L)).devRef b ≠ (Proc.scVector (cV L) (jV L)).devRef b' :=
    fun b b' h e => h (Proc.devRef_injective _ e)
  refine ⟨bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
      fun b => iprop(∃ f, ((d, b) : Loc nD τ sig) ↦{fullShare} f), ?_⟩
  unfold SparseCore.Cfg.ownBufs
  refine (SparseCore.bigSep_erase' (hm cc0_scratch0 rfl)).trans ?_
  rw [SparseCore.bigSep_erase' (Finset.mem_erase.mpr ⟨hne _ _ (by decide), hm cc0_scratch1 rfl⟩),
    SparseCore.bigSep_erase' (Finset.mem_erase.mpr ⟨hne _ _ (by decide), Finset.mem_erase.mpr ⟨hne _ _ (by decide), hm cc0_scratch2 rfl⟩⟩)]

set_option maxHeartbeats 1000000 in
theorem tile_body (hF : (K (F := F)).Facts) (hpre : PreOK m) (q : PosShare TreeShare) (O : CellTallies nD τ sig (HIx 1)) (W : Waits sig (HIx 1)) (hO : ∀ g, O g none = 0) :
    (iprop(levAts (K (F := F)).L (K (F := F)).lev ∗ emp
        ∗ ((yLoc d ↦{q} m (yLoc d)) ∗ (pLoc d ↦[pSet L]{fullShare} m (pLoc d)) ∗ (oLoc d ↦[oSet L]{fullShare} m (oLoc d)))
        ∗ scopedBufs (VT d L) ∗ scopedSems0 (VT d L) ∗ owes (VT d L) O W) : sProp 𝕄)
      ⊢ wp frame (wpE (defs₀ (F := F)) 𝒱₀ (VT d L) none) Set.univ
          (cc0__combine_body L yV (Memref.isWhole_whole _) pV (Memref.isWhole_whole _) oV (Memref.isWhole_whole _) iV (Memref.isWhole_whole _)
            bV (Memref.isWhole_whole _) rV (Memref.isWhole_whole _) cc0_scratch3 cc0_scoped0 cc0_scoped1 cc0_scoped2)
          fun _ => iprop(((yLoc d ↦{q} m (yLoc d)) ∗ (pLoc d ↦[pSet L]{fullShare} m (pLoc d)) ∗ (oLoc d ↦[oSet L]{fullShare} res m d))
            ∗ scopedBufs (VT d L) ∗ scopedSems0 (VT d L)
            ∗ ∃ W', ⌜∀ p ∈ W', p ∈ W ∨ p.2 = none ∨ p.2 = some (0 : Fin 1)⌝ ∗ owes (VT d L) O W') := by
  obtain ⟨RS, hRS⟩ := ownSems0_V (F := F) d L
  obtain ⟨RB, hRB⟩ := ownBufs_V (F := F) d L
  have hi : iV.view.set = Finset.univ := View.set_whole _
  have hb : bV.view.set = Finset.univ := View.set_whole _
  have hr : rV.view.set = Finset.univ := View.set_whole _
  have hrun := fun gi gb gr => tile_run (F := F) d L (m (yLoc d)) (m (pLoc d)) (m (oLoc d)) (fun i => hpre d i) q O W gi gb gr
  rw [hi, hb, hr] at hrun
  have hO2 : ∀ f : Buf (Elt F) (oLoc d), (oLoc d ↦[oSet L]{fullShare} f : sProp 𝕄)
      ⊣⊢ iprop(((oBlk0 L).view.loc (VT d L) ↦[(oBlk0 L).view.set]{fullShare} f) ∗ ((oBlk1 L).view.loc (VT d L) ↦[(oBlk1 L).view.set]{fullShare} f)) :=
    fun f => pointsTo_union (blk_disjoint L)
  rw [(K (F := F)).scopedBufs_V hF d (cV L) (jV L), SparseCore.Cfg.scopedSems0_V (Val := Elt F) d (cV L) (jV L)]
  change iprop(_ ∗ _ ∗ _ ∗ ownBufs (VT d L) ∗ ownSems0 (VT d L) ∗ _) ⊢ wp _ _ _ _ fun _ => iprop(_ ∗ ownBufs (VT d L) ∗ ownSems0 (VT d L) ∗ _)
  rw [hRS, hRB]
  iintro ⟨#Hlv, -, ⟨Hy, Hp, Ho⟩, ⟨⟨%gi, Hi⟩, ⟨%gb, Hb⟩, ⟨%gr, Hr⟩, Hbufs⟩, ⟨Hc, Hc0, Hc1, Hc2, Hsems⟩, HO⟩
  ihave Hmw := (show levAts (K (F := F)).L (K (F := F)).lev ⊢ Transfers.MayWaits (VT d L) (default : HIx 1) O from
    (K (F := F)).mayWaits_none (thr := VT d L) hO) $$ Hlv
  ihave Ho' := (hO2 _).1 $$ Ho
  icases Ho' with ⟨Ho0, Ho1⟩
  iapply (wp_wand_r Idealize.ShloMosaic.frame (wpE (defs₀ (F := F)) 𝒱₀ (VT d L) none) Set.univ)
  isplitl [Hy Hp Ho0 Ho1 Hi Hb Hr Hc Hc0 Hc1 Hc2 HO]
  · iapply (hrun gi gb gr)
    isplitr; · iexact Hmw
    isplitl [Hy]; · iexact Hy
    isplitl [Hp]; · iexact Hp
    isplitl [Ho0]; · iexact Ho0
    isplitl [Ho1]; · iexact Ho1
    isplitl [Hi]; · iexact Hi
    isplitl [Hb]; · iexact Hb
    isplitl [Hr]; · iexact Hr
    isplitl [Hc Hc0 Hc1 Hc2]
    · unfold cells0
      isplitl [Hc]; · iexact Hc
      isplitl [Hc0]; · iexact Hc0
      isplitl [Hc1]; · iexact Hc1
      iexact Hc2
    iexact HO
  iintro %_ ⟨Hy, Hp, Ho0, Ho1, Hi, Hb, Hr, Hcells, %W', %hW', HO⟩
  isplitl [Hy Hp Ho0 Ho1]
  · isplitl [Hy]; · iexact Hy
    isplitl [Hp]; · iexact Hp
    iapply (hO2 _).2
    isplitl [Ho0]; · iexact Ho0
    iexact Ho1
  isplitl [Hi Hb Hr Hbufs]
  · isplitl [Hi]; · iexact Hi
    isplitl [Hb]; · iexact Hb
    isplitl [Hr]; · iexact Hr
    iexact Hbufs
  isplitl [Hcells Hsems]
  · unfold cells0
    icases Hcells with ⟨Hc, Hc0, Hc1, Hc2⟩
    isplitl [Hc]; · iexact Hc
    isplitl [Hc0]; · iexact Hc0
    isplitl [Hc1]; · iexact Hc1
    isplitl [Hc2]; · iexact Hc2
    iexact Hsems
  iexists W'; isplitr
  · ipureintro; exact fun p hp => (hW' p hp).imp_right Or.inl
  iexact HO

theorem defs₀_vector (c : Fin τ.nSC) (s : Fin τ.nSub) :
    defs₀ (F := F) (.scVector c s) 0 ()
      = SparseCore.onTile hcore0 hsub0 (fun c s => cc0__combine_body (pt c s)
          yV (Memref.isWhole_whole _) pV (Memref.isWhole_whole _) oV (Memref.isWhole_whole _) iV (Memref.isWhole_whole _)
          bV (Memref.isWhole_whole _) rV (Memref.isWhole_whole _) cc0_scratch3 cc0_scoped0 cc0_scoped1 cc0_scoped2) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (pt ⟨_, hci.1⟩ ⟨_, hci.2⟩) hF hpre _ O W hO

end Tile

/-- A core hands its subcores what it was given, and collects what they bring back. -/
theorem vecSplit : (K (F := F)).VecSplit' (P m) 0 := by
  intro d c
  change CPart m d (m (oLoc d)) (Fin.cast nCore_zero c) ⊢ |={Set.univ}=> iprop(
      (CPart m d (m (oLoc d)) (Fin.cast nCore_zero c)) ∗ (CPart m d (res m d) (Fin.cast nCore_zero c) -∗ CPart m d (res m d) (Fin.cast nCore_zero c)))
  iintro H; imodintro
  isplitl [H]; · iexact H
  iintro H; iexact H

/-! ## The whole arrays -/

theorem whole_eq (d : Dev nD) (o : Buf (Elt F) (oLoc d)) :
    (bigSep Finset.univ fun c : Fin ((K (F := F)).nCore 0) => CPart m d o (Fin.cast nCore_zero c))
      = (iprop((yLoc d ↦{fullShare} m (yLoc d)) ∗ (pLoc d ↦{fullShare} m (pLoc d)) ∗ (oLoc d ↦{fullShare} o)) : sProp 𝕄) := by
  have hy : (yLoc d ↦{fullShare} m (yLoc d) : sProp 𝕄) = bigSep Finset.univ fun c : Fin 2 => bigSep Finset.univ fun i : Fin 16 => yLoc d ↦{yq c i} m (yLoc d) :=
    (pointsTo_leaves Finset.univ (m (yLoc d)) 1 fullShare).trans (bigSep_congr fun c _ => pointsTo_leaves Finset.univ (m (yLoc d)) 4 _)
  have hdeal : ∀ {ℓ : Loc nD τ sig} (f : Buf (Elt F) ℓ) (A : grid0.Coords → Finset (Idx ℓ)),
      (∀ c, ∀ i ∈ (Finset.univ : Finset (Fin 16)), ∀ j ∈ (Finset.univ : Finset (Fin 16)), i ≠ j → Disjoint (A (pt c i)) (A (pt c j)))
      ∧ (∀ c ∈ (Finset.univ : Finset (Fin 2)), ∀ c' ∈ (Finset.univ : Finset (Fin 2)), c ≠ c' →
          Disjoint ((Finset.univ : Finset (Fin 16)).biUnion fun i => A (pt c i)) ((Finset.univ : Finset (Fin 16)).biUnion fun i => A (pt c' i)))
      ∧ ((Finset.univ : Finset (Fin 2)).biUnion fun c => (Finset.univ : Finset (Fin 16)).biUnion fun i => A (pt c i)) = Finset.univ →
      (ℓ ↦{fullShare} f : sProp 𝕄) = bigSep Finset.univ fun c : Fin 2 => bigSep Finset.univ fun i : Fin 16 => ℓ ↦[A (pt c i)]{fullShare} f := by
    intro ℓ f A h
    rw [← h.2.2, pointsTo_biUnion _ _ h.2.1]
    exact bigSep_congr fun c _ => pointsTo_biUnion _ _ (h.1 c)
  rw [hy, hdeal (m (pLoc d)) pSet (deal 128 (by decide) (fun x : S4096.Idx => (x 0).val) (fun x => (x 0).isLt) pSet mem_pSet),
    hdeal o oSet (deal 64 (by decide) (fun x : S2048x1024.Idx => (x 0).val) (fun x => (x 0).isLt) oSet mem_oSet),
    ← bigSep_sep', ← bigSep_sep']
  change (bigSep Finset.univ fun c : Fin 2 => CPart m d o c) = _
  refine bigSep_congr fun c _ => ?_
  rw [← bigSep_sep', ← bigSep_sep']

/-! ## The program's run -/

omit [FloatOps F] in
theorem bigSep_none {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

omit [FloatOps F] in
theorem unscopedBufs_eq (d : Dev nD) (W : (b : Ref sig .tc) → Buf (Elt F) ((d.tc : Thread nD τ).loc b)) :
    (unscopedBufs d W : sProp 𝕄) = iprop((yLoc d ↦{fullShare} W main_arg0) ∗ (pLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the program ends with. -/
abbrev FIN (d : Dev nD) : sProp 𝕄 := iprop((yLoc d ↦{fullShare} m (yLoc d)) ∗ (pLoc d ↦{fullShare} m (pLoc d)) ∗ (oLoc d ↦{fullShare} res m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, H, Hts, -⟩, -⟩
  iapply ((K (F := F)).wp_run (D (F := F)) 𝒱 (EH := EH) (P := P m) κ d 0) $$ [Hst H Hb Hts]
  isplitr; · iexact Hctx
  isplitl [Hst]; · iexact Hst
  isplitl [H]
  · iapply (Entails.of_eq (show (bigSep Finset.univ fun c : Fin ((K (F := F)).nCore 0) => (P m).st 0 d c) = _ from whole_eq m d (m (oLoc d))).symm)
    iexact H
  iintro ⟨Hst, Hdn⟩
  ihave Hdn' := (Entails.of_eq (show (bigSep Finset.univ fun c : Fin ((K (F := F)).nCore 0) => (P m).dn 0 d c) = _ from whole_eq m d (res m d))) $$ Hdn
  imodintro
  isplitl [Hst]; · iexact Hst
  isplitl [Hdn']; · iexact Hdn'
  isplitl [Hb] <;> iassumption

/-- The memory at the end: the arguments as they were, the result at its value. -/
def fq (d : Dev nD) (s' : Phys nD τ sig (Elt F)) : Prop :=
  s'.mem.mem (yLoc d) = m (yLoc d) ∧ s'.mem.mem (pLoc d) = m (pLoc d) ∧ s'.mem.mem (oLoc d) = res m d

set_option maxRecDepth 16384 in
theorem hfin (d : Dev nD) (s' : Phys nD τ sig (Elt F)) : iprop(FIN m d ∗ SI s') ⊢ (⌜fq m d s'⌝ : sProp 𝕄) := by
  iintro ⟨⟨Hy, Hp, Ho⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (yLoc c) = m (yLoc c) ∧ r.2.mem (pLoc c) = m (pLoc c) ∧ r.2.mem (oLoc c) = res m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Combine

end
-- ==== Proof.Combine.Ref.lean ====
/-
  The reference read at an entry of its result: with every word of `pos` a row of `y` it is `result`. And what the
  precondition says of the words.
-/
module

public import proofs.«01_k».proof.Proof.Combine.Rows
public import proofs.«01_k».proof.Pre_pos_in_rows
public import proofs.«01_k».proof.ReferenceIdeal
public import Idealize.ShloMosaic.PureOps.Ideal
public import Idealize.ShloMosaic.PureOps.Ideal.Laws
public import Idealize.ShloMosaic.Lib.Pointwise.Reduce
public import Idealize.ShloMosaic.Lib.WordCmp
public import Idealize.ShloMosaic.Lib.Pipeline.Value

@[expose] public section

noncomputable section

namespace Cert.Proof.Combine

open Idealize.ShloMosaic hiding ix1 ix2 ix3
open Idealize.ShloMosaic.ValueIdx (ix1 ix2 ix3)

/-! ## The words -/

/-- The two comparisons of the precondition, at one word. -/
theorem word_lt {w : BitVec 32} (h0 : IntOp.cmpi .sge w 0#32 = 1#1) (h1 : IntOp.cmpi .slt w 8192#32 = 1#1) : w.toNat < 8192 := by
  have one : ∀ b : Bool, BitVec.ofBool b = 1#1 → b = true := by decide
  have h0' : BitVec.sle 0#32 w = true := one _ h0
  have h1' : BitVec.slt w 8192#32 = true := one _ h1
  rw [BitVec.sle_eq_decide, decide_eq_true_eq, BitVec.toInt_eq_toNat_cond w] at h0'
  rw [BitVec.slt_eq_decide, decide_eq_true_eq, BitVec.toInt_eq_toNat_cond w] at h1'
  simp only [BitVec.reduceToInt] at h0' h1'
  have := w.isLt
  split at h0' <;> rename_i hc
  · rw [if_pos hc] at h1'; omega
  · omega

/-- The precondition, read at every entry of `pos`. -/
theorem words_lt {F : FTy → Type} [FloatOps F] [Cert.Pre_pos_in_rows.Facts] {y : FVec F Cert.Pre_pos_in_rows.S8192x1024 .f32}
    {p : IVec Cert.Pre_pos_in_rows.S4096 32} (h : Cert.Pre_pos_in_rows.fn y p = fun _ => 1#1) (j : Cert.Pre_pos_in_rows.S4096.Idx) :
    (p j).toNat < 8192 := by
  have e : IntOp.cmpi .sge (p j) 0#32 &&& IntOp.cmpi .slt (p j) 8192#32 = 1#1 := congrFun h j
  have both : ∀ a b : BitVec 1, a &&& b = 1#1 → a = 1#1 ∧ b = 1#1 := by decide
  exact word_lt (both _ _ e).1 (both _ _ e).2

/-- A word below 8192 is not negative. -/
theorem word_not_neg {w : BitVec 32} (h : w.toNat < 8192) : IntOp.cmpi .slt w 0#32 = 0#1 := by
  have hs : w.slt 0#32 = false := by
    rw [BitVec.slt_eq_decide, decide_eq_false_iff_not, BitVec.toInt_eq_toNat_cond, if_pos (by omega)]
    simp
  show BitVec.ofBool (w.slt 0#32) = 0#1
  rw [hs]; rfl

/-- The row a gather takes for a word below 8192: the word clamped to the table is the word. -/
theorem word_clamp {w : BitVec 32} (h : w.toNat < 8192) : min w.toInt.toNat (8192 - 1) = (rowOf w).val := by
  show _ = w.toNat % 8192
  rw [Nat.mod_eq_of_lt h, BitVec.toInt_eq_toNat_cond, if_pos (by omega), Int.toNat_natCast]
  omega

/-! ## The gather -/

open Cert.ReferenceIdeal Cert.ReferenceIdeal.Facts₀

variable [Cert.ReferenceIdeal.Facts₀]

/-- The gather's dimension numbers. -/
abbrev gd := gather_S8192x1024_S2048x2x1_S2048x2x1024_2_0_n_n_0_2_11024

/-- Entry `(t, k, c)` of the gather is column `c` of the row that entry `(t, k, 0)` of the indices names. -/
theorem gather_read {α : Type} (x : S8192x1024.Idx → α) (idx : IVec S2048x2x1 32) (t : Fin 2048) (k : Fin 2) (c : Fin 1024)
    (h : (idx (ix3 t k (0 : Fin 1))).toNat < 8192) :
    Host.gather gd x idx (ix3 t k c) = x (ix2 (rowOf (idx (ix3 t k (0 : Fin 1)))) c) := by
  refine congrArg x (funext fun a => Fin.ext ?_)
  match a with
  | 0 =>
    show gd.start (ix3 t k c) idx 0 + gd.batchCoord (ix3 t k c) 0 + gd.offCoord (ix3 t k c) 0 = _
    rw [gd.batchCoord_eq_zero _ _ List.not_mem_nil, gd.offCoord_eq_zero _ _ fun h => ((gd.mem_sKept 0).1 h).1 (List.mem_singleton.2 rfl)]
    refine Eq.trans ?_ (word_clamp h)
    have hs : gd.siIdx (ix3 t k c) ⟨0, Nat.zero_lt_one⟩ = ix3 t k (0 : Fin 1) := by
      funext b
      match b with
      | 0 => rfl
      | 1 => rfl
      | 2 => rfl
    rw [← hs]; rfl
  | 1 =>
    show gd.start (ix3 t k c) idx 1 + gd.batchCoord (ix3 t k c) 1 + gd.offCoord (ix3 t k c) 1 = c.val
    rw [gd.batchCoord_eq_zero _ _ List.not_mem_nil]
    have e0 : gd.start (ix3 t k c) idx 1 = 0 := dif_neg (by show (1 : Fin 2) ∉ [(0 : Fin 2)]; decide)
    have e1 : gd.offCoord (ix3 t k c) 1 = c.val := rfl
    rw [e0, e1]; omega

/-! ## The value -/

/-- The words the reference reads, two to a token: a negative one would count from the table's end. -/
def rowWord (p : IVec S4096 32) : IVec S2048x2 32 :=
  select (cmpi .slt (shapeCast S2048x2 p shapeCasts_S4096_S2048x2) (broadcastInDim S2048x2 ![] bcast_S_S2048x2 (constantI S_ 32 0#32)))
    (addi (shapeCast S2048x2 p shapeCasts_S4096_S2048x2) (broadcastInDim S2048x2 ![] bcast_S_S2048x2 (constantI S_ 32 8192#32)))
    (shapeCast S2048x2 p shapeCasts_S4096_S2048x2)

/-- The indices the reference gathers at. -/
def rowIdx (p : IVec S4096 32) : IVec S2048x2x1 32 :=
  broadcastInDim S2048x2x1 ![0, 1] bcast_S2048x2_S2048x2x1_0_1 (rowWord p)

theorem reshaped (p : IVec S4096 32) (t : Fin 2048) (k : Fin 2) :
    shapeCast S2048x2 p shapeCasts_S4096_S2048x2 (ix2 t k) = p (ix1 ⟨2 * t.val + k.val, by omega⟩) :=
  shapeCast_apply _ _ _ _ (by
    rw [Shape.rowMajor_val_one, Shape.rowMajor_val_two]
    show 2 * t.val + k.val = t.val * 2 + k.val
    omega)

theorem rowIdx_apply (p : IVec S4096 32) (hp : ∀ j, (p j).toNat < 8192) (t : Fin 2048) (k : Fin 2) :
    rowIdx p (ix3 t k (0 : Fin 1)) = p (ix1 ⟨2 * t.val + k.val, by omega⟩) := by
  have e0 : rowIdx p (ix3 t k (0 : Fin 1)) = rowWord p (ix2 t k) :=
    congrArg (rowWord p) (funext fun a => match a with | 0 => rfl | 1 => rfl)
  have e1 : rowWord p (ix2 t k)
      = if IntOp.cmpi .slt (shapeCast S2048x2 p shapeCasts_S4096_S2048x2 (ix2 t k)) 0#32 = 1#1
        then shapeCast S2048x2 p shapeCasts_S4096_S2048x2 (ix2 t k) + 8192#32
        else shapeCast S2048x2 p shapeCasts_S4096_S2048x2 (ix2 t k) := rfl
  rw [e0, e1, reshaped, word_not_neg (hp _), if_neg (by decide)]

/-- The reference's value: the result of the kernel. -/
theorem ref_value (y : FVec Ideal S8192x1024 .f32) (p : IVec S4096 32) (hp : ∀ j, (p j).toNat < 8192) :
    Host.reduceAdd (Host.gather gd y (rowIdx p)) (constant (F := Ideal) S_ .f32 0x00000000#32) reducesTo_S2048x2x1024_S2048x1024_d1 h_S_
      = result y p := by
  funext z
  show Ideal.hostReduceAdd reducesTo_S2048x2x1024_S2048x1024_d1 (Host.gather gd y (rowIdx p)) (Ideal.ofBits .f32 0x00000000#32) z = _
  rw [Ideal.hostReduceAdd_r3_a1, Ideal.ofBits_zero_f32, zero_add, Fin.sum_univ_two]
  have e : ∀ k : Fin 2, Host.gather gd y (rowIdx p) (ix3 (z 0) k (z 1))
      = y (ix2 (rowOf (p (ix1 ⟨2 * (z 0).val + k.val, by have : (z 0).val < 2048 := (z 0).isLt; omega⟩))) (z 1)) := by
    intro k
    have e := rowIdx_apply p hp (z 0) k
    exact (gather_read y (rowIdx p) (z 0) k (z 1) (by rw [e]; exact hp _)).trans (by rw [e])
  exact congrArg₂ (· + ·) (e 0) (e 1)

end Cert.Proof.Combine

end
-- ==== Proof.Dispatch.Plan.lean ====
/-
  The dispatch in numbers. Assignment `a` (there are 4096) has chosen an expert; an expert's assignments stand in
  order in whole blocks of 512 slots, the experts' blocks one after another. This file defines an assignment's slot
  and shows that slots are below 8192 and that no two assignments share one.
-/
module

public import proofs.«01_k».proof.Defs
public import Idealize.ShloMosaic.Lib.ValueIdxCore

@[expose] public section

namespace Cert.Proof.Dispatch

open Cert.DispatchIdeal
open Idealize.ShloMosaic
open Idealize.ShloMosaic.ValueIdx (ix1)

/-- The expert that assignment `a` has chosen. -/
@[irreducible] def ex (s : IVec S4096 32) (a : ℕ) : ℕ := (s (ix1 ⟨a % 4096, Nat.mod_lt _ (by decide)⟩)).toNat

/-- How many of the first `n` assignments have chosen expert `k`. -/
@[irreducible] def cnt (s : IVec S4096 32) (n k : ℕ) : ℕ := Nat.count (fun a => ex s a = k) n

/-- How many of the `n` assignments from `16 i` on have chosen expert `k`. -/
@[irreducible] def win (s : IVec S4096 32) (i k n : ℕ) : ℕ := Nat.count (fun j => ex s (16 * i + j) = k) n

/-- The number of blocks of expert `k`. -/
@[irreducible] def blk (s : IVec S4096 32) (k : ℕ) : ℕ := (cnt s 4096 k + 511) / 512

/-- The number of blocks of the experts before `k`. -/
def bef (s : IVec S4096 32) : ℕ → ℕ
  | 0 => 0
  | k + 1 => bef s k + blk s k

/-- The slot of assignment `a`. -/
@[irreducible] def slot (s : IVec S4096 32) (a : ℕ) : ℕ := 512 * bef s (ex s a) + cnt s a (ex s a)

theorem cnt_add (s : IVec S4096 32) (i k n : ℕ) : cnt s (16 * i + n) k = cnt s (16 * i) k + win s i k n := by
  unfold cnt win; exact Nat.count_add _ _ _

theorem cnt_le (s : IVec S4096 32) (n k : ℕ) : cnt s n k ≤ n := by unfold cnt; exact Nat.count_le _

theorem cnt_succ (s : IVec S4096 32) (n k : ℕ) : cnt s (n + 1) k = cnt s n k + if ex s n = k then 1 else 0 := by unfold cnt; exact Nat.count_succ _ _

theorem cnt_mono (s : IVec S4096 32) {m n : ℕ} (h : m ≤ n) (k : ℕ) : cnt s m k ≤ cnt s n k := by unfold cnt; exact Nat.count_monotone _ h

theorem cnt_lt (s : IVec S4096 32) {a n : ℕ} (h : a < n) : cnt s a (ex s a) < cnt s n (ex s a) := by
  have h1 := cnt_mono s (m := a + 1) (n := n) h (ex s a)
  rw [cnt_succ, if_pos rfl] at h1
  omega

/-- The eight counts make up the number of assignments. -/
theorem cnt_sum (s : IVec S4096 32) (hs : ∀ a, ex s a < 8) (n : ℕ) :
    cnt s n 0 + cnt s n 1 + cnt s n 2 + cnt s n 3 + cnt s n 4 + cnt s n 5 + cnt s n 6 + cnt s n 7 = n := by
  induction n with
  | zero => unfold cnt; rfl
  | succ n ih =>
    have h := hs n
    simp only [cnt_succ]
    generalize ex s n = e at h ⊢
    rcases (by omega : e = 0 ∨ e = 1 ∨ e = 2 ∨ e = 3 ∨ e = 4 ∨ e = 5 ∨ e = 6 ∨ e = 7) with rfl | rfl | rfl | rfl | rfl | rfl | rfl | rfl <;> simp <;> omega

theorem blk_bound (s : IVec S4096 32) (k : ℕ) : cnt s 4096 k ≤ 512 * blk s k ∧ 512 * blk s k ≤ cnt s 4096 k + 511 := by
  unfold blk; omega

theorem bef_mono (s : IVec S4096 32) {j k : ℕ} (h : j ≤ k) : bef s j ≤ bef s k := by
  induction h with
  | refl => exact le_rfl
  | step _ ih => exact ih.trans (Nat.le_add_right _ _)

theorem bef_eight (s : IVec S4096 32) : bef s 8 = blk s 0 + blk s 1 + blk s 2 + blk s 3 + blk s 4 + blk s 5 + blk s 6 + blk s 7 := by
  simp only [bef, Nat.zero_add]

/-- At least one block is in use, and no more than fifteen. -/
theorem bef_eight_bound (s : IVec S4096 32) (hs : ∀ a, ex s a < 8) : 1 ≤ bef s 8 ∧ bef s 8 ≤ 15 := by
  have h := cnt_sum s hs 4096
  have b := fun k => blk_bound s k
  have h1 : 4096 ≤ 512 * bef s 8 := by
    rw [bef_eight]
    linarith [(b 0).1, (b 1).1, (b 2).1, (b 3).1, (b 4).1, (b 5).1, (b 6).1, (b 7).1]
  have h2 : 512 * bef s 8 ≤ 4096 + 8 * 511 := by
    rw [bef_eight]
    linarith [(b 0).2, (b 1).2, (b 2).2, (b 3).2, (b 4).2, (b 5).2, (b 6).2, (b 7).2]
  generalize bef s 8 = t at h1 h2
  omega

theorem bef_le (s : IVec S4096 32) (hs : ∀ a, ex s a < 8) {k : ℕ} (hk : k ≤ 8) : bef s k ≤ 15 :=
  (bef_mono s hk).trans (bef_eight_bound s hs).2

/-- A slot lies in its expert's blocks. -/
theorem slot_mem (s : IVec S4096 32) {a : ℕ} (ha : a < 4096) :
    512 * bef s (ex s a) ≤ slot s a ∧ slot s a < 512 * bef s (ex s a + 1) := by
  have h1 := cnt_lt s ha
  have h2 := (blk_bound s (ex s a)).1
  have h3 : bef s (ex s a + 1) = bef s (ex s a) + blk s (ex s a) := rfl
  unfold slot
  omega

theorem slot_lt (s : IVec S4096 32) (hs : ∀ a, ex s a < 8) {a : ℕ} (ha : a < 4096) : slot s a < 7680 := by
  have h1 := (slot_mem s ha).2
  have h2 := bef_le s hs (k := ex s a + 1) (hs a)
  omega

/-- No two assignments share a slot. -/
theorem slot_inj (s : IVec S4096 32) {a b : ℕ} (ha : a < 4096) (hb : b < 4096) (h : slot s a = slot s b) : a = b := by
  have ma := slot_mem s ha
  have mb := slot_mem s hb
  rcases lt_trichotomy (ex s a) (ex s b) with he | he | he
  · have := bef_mono s (j := ex s a + 1) (k := ex s b) he
    omega
  · rcases lt_trichotomy a b with hab | hab | hab
    · have h1 := cnt_mono s (m := a + 1) (n := b) hab (ex s a)
      rw [cnt_succ, if_pos rfl] at h1
      unfold slot at h
      rw [← he] at h
      omega
    · exact hab
    · have h1 := cnt_mono s (m := b + 1) (n := a) hab (ex s b)
      rw [cnt_succ, if_pos rfl] at h1
      unfold slot at h
      rw [he] at h
      omega
  · have := bef_mono s (j := ex s b + 1) (k := ex s a) he
    omega

/-- An array of 8192 after the first `n` assignments have each put their value at their slot, from `z` everywhere. -/
def put {α : Type} (s : IVec S4096 32) (val : ℕ → α) (z : α) : ℕ → S8192.Idx → α
  | 0 => fun _ => z
  | n + 1 => fun x => if (x 0).val = slot s n then val n else put s val z n x

theorem put_miss {α : Type} (s : IVec S4096 32) (val : ℕ → α) (z : α) (x : S8192.Idx) :
    ∀ n, (∀ a, a < n → (x 0).val ≠ slot s a) → put s val z n x = z
  | 0, _ => rfl
  | n + 1, h => (if_neg (h n (Nat.lt_succ_self n))).trans (put_miss s val z x n fun a ha => h a (Nat.lt_succ_of_lt ha))

theorem put_hit {α : Type} (s : IVec S4096 32) (val : ℕ → α) (z : α) (x : S8192.Idx) {a : ℕ} (hx : (x 0).val = slot s a) :
    ∀ n, n ≤ 4096 → a < n → put s val z n x = val a
  | 0, _, h => absurd h (Nat.not_lt_zero _)
  | n + 1, hn, h => by
    show (if (x 0).val = slot s n then val n else put s val z n x) = val a
    by_cases e : (x 0).val = slot s n
    · rw [if_pos e, slot_inj s (a := a) (b := n) (by omega) (by omega) (hx.symm.trans e)]
    · rw [if_neg e]
      refine put_hit s val z x hx n (by omega) ?_
      have : a ≠ n := fun h' => e (h' ▸ hx)
      omega

/-- How many experts' blocks end at or before block `b`: the expert whose block `b` is, when it is in use. -/
def owner (s : IVec S4096 32) (b : ℕ) : ℕ := Nat.count (fun k => bef s (k + 1) ≤ b) 8

end Cert.Proof.Dispatch
-- ==== Proof.Dispatch.Lanes.lean ====
/-
  The dispatch's vector steps on sixteen lanes, read lane by lane as numbers.
-/
module

public import proofs.«01_k».proof.Proof.Dispatch.Plan
public import Idealize.ShloMosaic.Lib.Routing.Ops
public import Idealize.ShloMosaic.Lib.Routing.BitFacts
public import proofs.«01_k».proof.Proof.Gen.DispatchIdeal.Skeleton

@[expose] public section

namespace Cert.Proof.Dispatch

open Cert.DispatchIdeal Cert.DispatchIdeal.Gen
open Idealize.ShloMosaic
open Idealize.ShloMosaic.ValueIdx (ix1)

/-- A running sum of lanes that hold the numbers `f 0, f 1, …`. -/
theorem scan_ofNat (v : IVec S16 32) (f : ℕ → ℕ) (hv : ∀ l : Fin 16, v (ix1 l) = BitVec.ofNat 32 (f l.val)) (l : Fin 16) :
    scan .sum v (ix1 l) = BitVec.ofNat 32 ((List.range (l.val + 1)).map f).sum := by
  have h := Routing.foldl_addi_ofNat ((List.finRange 16).filter fun k : Fin 16 => decide (0 < k.val ∧ k.val ≤ l.val))
    (fun k => v (ix1 k)) (fun k => f k.val) (fun k _ => hv k) (v (ix1 0)) (f 0) (hv 0)
  have e : scan .sum v (ix1 l) = ((List.finRange 16).filter fun k : Fin 16 => decide (0 < k.val ∧ k.val ≤ l.val)).foldl
      (fun r k => IntOp.addi r (v (ix1 k))) (v (ix1 0)) := by
    have o : ∀ k : Fin 16, (Shape.ofLane (d := ![16]) k) = ix1 k := fun k => funext fun a => by obtain rfl : a = 0 := Subsingleton.elim _ _; rfl
    simp only [← o]; rfl
  rw [e, h]
  congr 1
  fin_cases l <;> simp [List.finRange, List.ofFn, Fin.foldr, Fin.foldr.loop, List.range_succ, List.filter] <;> omega

/-- One where the lane names expert `k`, zero elsewhere. -/
def ind (v : IVec S16 32) (k : BitVec 32) : IVec S16 32 := select (cmpi .eq v (broadcast S16 k)) (broadcast S16 1#32) (broadcast S16 0#32)

/-- Assignments `16 i … 16 i + 15`. -/
def lanes {α : Type} (s : S4096.Idx → α) (i : ℕ) : S16.Idx → α := fun x => s (ix1 ⟨(16 * i + (x 0).val) % 4096, Nat.mod_lt _ (by decide)⟩)

theorem lanes_toNat (s : IVec S4096 32) (i : ℕ) (l : Fin 16) : (lanes s i (ix1 l)).toNat = ex s (16 * i + l.val) := by
  unfold ex; rfl

theorem lanes_eq (s : IVec S4096 32) (i : ℕ) (l : Fin 16) {k : ℕ} (hk : k < 8) :
    lanes s i (ix1 l) = BitVec.ofNat 32 k ↔ ex s (16 * i + l.val) = k := by
  rw [← lanes_toNat s i l, ← BitVec.toNat_inj, BitVec.toNat_ofNat, Nat.mod_eq_of_lt (a := k) (by omega)]

theorem ind_lanes (s : IVec S4096 32) (i : ℕ) {k : ℕ} (hk : k < 8) (l : Fin 16) :
    ind (lanes s i) (BitVec.ofNat 32 k) (ix1 l) = BitVec.ofNat 32 (if ex s (16 * i + l.val) = k then 1 else 0) := by
  have h := lanes_eq s i l hk
  show (if BitVec.ofBool (lanes s i (ix1 l) == BitVec.ofNat 32 k) = 1#1 then 1#32 else 0#32) = _
  by_cases e : ex s (16 * i + l.val) = k
  · rw [if_pos e, h.2 e]; simp
  · rw [if_neg e, show (lanes s i (ix1 l) == BitVec.ofNat 32 k) = false from beq_eq_false_iff_ne.2 fun h' => e (h.1 h')]; rfl

theorem win_sum (s : IVec S4096 32) (i k : ℕ) : ∀ n, ((List.range n).map fun j => if ex s (16 * i + j) = k then 1 else 0).sum = win s i k n
  | 0 => by unfold win; rfl
  | n + 1 => by
    rw [List.range_succ, List.map_append, List.sum_append, win_sum s i k n]
    unfold win
    rw [Nat.count_succ]
    rfl

/-- The running sum of the indicator counts the lanes up to here that name expert `k`. -/
theorem rank_lanes (s : IVec S4096 32) (i : ℕ) {k : ℕ} (hk : k < 8) (l : Fin 16) :
    scan .sum (ind (lanes s i) (BitVec.ofNat 32 k)) (ix1 l) = BitVec.ofNat 32 (win s i k (l.val + 1)) := by
  rw [scan_ofNat _ (fun j => if ex s (16 * i + j) = k then 1 else 0) (ind_lanes s i hk), win_sum]

theorem extract_lanes (x : IVec S16 32) : extractAt ![15] x inpos_S16_p15 = x (ix1 15) :=
  congrArg x (funext fun a => Fin.ext (by obtain rfl : a = 0 := Subsingleton.elim _ _; rfl))

theorem total_lanes (s : IVec S4096 32) (i : ℕ) {k : ℕ} (hk : k < 8) :
    extractAt ![15] (scan .sum (ind (lanes s i) (BitVec.ofNat 32 k))) inpos_S16_p15 = BitVec.ofNat 32 (win s i k 16) := by
  rw [extract_lanes, rank_lanes s i hk 15]; rfl

end Cert.Proof.Dispatch
-- ==== Proof.Dispatch.Setup.lean ====
/-
  The dispatch call as the launch theorem sees it: its arrays, its scratch buffers and the subcores that run it.
-/
module

public import proofs.«01_k».proof.Proof.Dispatch.Lanes
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.DispatchIdeal
public import proofs.«01_k».proof.Proof.Gen.DispatchIdeal.Skeleton

@[expose] public section

noncomputable section

namespace Cert.Proof.Dispatch

open Cert.DispatchIdeal Cert.DispatchIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the rounds of the launch's handshakes and the counters of the local transfers. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev sLoc (d : Dev nD) : Loc nD τ sig := (SparseCore.T d).loc main_arg0
abbrev wLoc (d : Dev nD) : Loc nD τ sig := (SparseCore.T d).loc main_arg1
abbrev tokLoc (d : Dev nD) : Loc nD τ sig := (SparseCore.T d).loc main_v0_0
abbrev gateLoc (d : Dev nD) : Loc nD τ sig := (SparseCore.T d).loc main_v0_1
abbrev posLoc (d : Dev nD) : Loc nD τ sig := (SparseCore.T d).loc main_v0_2
abbrev tabLoc (d : Dev nD) : Loc nD τ sig := (SparseCore.T d).loc main_v0_3

/-- The arrays whole, as a vector subcore addresses them. -/
abbrev sA : Memref sig .scVector .hbm S4096 .i32 := Memref.whole main_arg0_scv
abbrev wA : Memref sig .scVector .hbm S4096 .f32 := Memref.whole main_arg1_scv
abbrev tokA : Memref sig .scVector .hbm S8192 .i32 := Memref.whole main_v0_0_scv
abbrev gateA : Memref sig .scVector .hbm S8192 .f32 := Memref.whole main_v0_1_scv
abbrev posA : Memref sig .scVector .hbm S4096 .i32 := Memref.whole main_v0_2_scv
abbrev tabA : Memref sig .scVector .hbm S96 .i32 := Memref.whole main_v0_3_scv

/-- A subcore's scratch buffers: the choices, the weights, the slots' tokens and gates, the assignments' slots, the
    block table, and the eight running slot numbers. -/
abbrev sV : Memref sig .scVector .vmem S4096 .i32 := Memref.whole cc0_scratch0
abbrev wV : Memref sig .scVector .vmem S4096 .f32 := Memref.whole cc0_scratch1
abbrev tokV : Memref sig .scVector .vmem S8192 .i32 := Memref.whole cc0_scratch2
abbrev gateV : Memref sig .scVector .vmem S8192 .f32 := Memref.whole cc0_scratch3
abbrev posV : Memref sig .scVector .vmem S4096 .i32 := Memref.whole cc0_scratch4
abbrev tabV : Memref sig .scVector .vmem S96 .i32 := Memref.whole cc0_scratch5
abbrev curV : Memref sig .scVector .smem S8 .i32 := Memref.whole cc0_scratch6

/-- The vector subcore at grid point `L` of device `d`. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

end Cert.Proof.Dispatch

end
-- ==== Proof.Dispatch.Zero.lean ====
/-
  The loop that clears: trip `t` sets slots `16 t … 16 t + 15` of the token and gate stages to zero.
-/
module

public import proofs.«01_k».proof.Proof.Dispatch.Setup
public import Idealize.ShloMosaic.Lib.Pipeline.Value

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1)

variable {F : FTy → Type} [FloatOps F]
local notation "𝕄" => MT nD τ sig (HIx 1) (Elt F) ℕ UU ℕ

variable (d : Dev nD) (L : grid0.Coords)

/-- The first `16 t` slots at `z`, the others as they were. -/
def wiped {α : Type} (z : α) (t : ℕ) (f : S8192.Idx → α) : S8192.Idx → α := fun y => if (y 0).val < 16 * t then z else f y

theorem wiped_zero {α : Type} (z : α) (f : S8192.Idx → α) : wiped z 0 f = f := funext fun _ => if_neg (Nat.not_lt_zero _)
theorem wiped_all {α : Type} (z : α) (f : S8192.Idx → α) : wiped z 512 f = fun _ => z := funext fun y => if_pos (show (y 0).val < 8192 from (y 0).isLt)

/-- What a view reads after a last store of sixteen lanes at `16 t`. -/
theorem read_last16 {sp : Space} {n : ℕ} {e : EltTy} (B : Memref sig .scVector sp ⟨1, ![n]⟩ e) (t : ℕ) {o : Fin 1 → ℕ} (ho : o = ![16 * t])
    (hi : ∀ a, o a + S16.size a ≤ (⟨1, ![n]⟩ : Shape).size a) (g) (w : S16.Idx → Elt F e) (P : List (View.Piece (Elt F) ⟨1, ![n]⟩ e)) (y : (⟨1, ![n]⟩ : Shape).Idx) :
    B.view.read (Elt F) (B.view.writes (Elt F) g (⟨Rect.unit (s := ⟨1, ![n]⟩) o S16.size hi, w⟩ :: P)) y
      = if h : 16 * t ≤ (y 0).val ∧ (y 0).val < 16 * t + 16 then w (ix1 ⟨(y 0).val - 16 * t, by omega⟩) else B.view.read (Elt F) (B.view.writes (Elt F) g P) y := by
  subst ho
  have hm : y ∈ (Rect.unit (s := ⟨1, ![n]⟩) ![16 * t] S16.size hi).set ↔ 16 * t ≤ (y 0).val ∧ (y 0).val < 16 * t + 16 := by
    rw [Rect.mem_set_unit]
    constructor
    · intro h; exact h 0
    · intro h a; obtain rfl : a = 0 := Subsingleton.elim _ _; exact h
  by_cases h : 16 * t ≤ (y 0).val ∧ (y 0).val < 16 * t + 16
  · rw [dif_pos h]
    obtain ⟨x, hx⟩ := (Rect.unit (s := ⟨1, ![n]⟩) ![16 * t] S16.size hi).exists_idx_of_mem (hm.2 h)
    have hx0 : (y 0).val = 16 * t + 1 * (x 0).val := by rw [← hx]; rfl
    have e : x = ix1 ⟨(y 0).val - 16 * t, by omega⟩ := funext fun a => Fin.ext (by
      obtain rfl : a = 0 := Subsingleton.elim _ _
      show (x 0).val = (y 0).val - 16 * t
      omega)
    rw [← e, ← hx]
    exact View.read_writes_cons_emb B.view g _ w P x
  · rw [dif_neg h]
    exact View.read_writes_cons_miss B.view g _ P y (fun h' => h (hm.1 h'))

/-- The same after that store alone. -/
theorem read_store16 {sp : Space} {n : ℕ} {e : EltTy} (B : Memref sig .scVector sp ⟨1, ![n]⟩ e) (t : ℕ) {o : Fin 1 → ℕ} (ho : o = ![16 * t])
    (hi : ∀ a, o a + S16.size a ≤ (⟨1, ![n]⟩ : Shape).size a) (g) (w : S16.Idx → Elt F e) (y : (⟨1, ![n]⟩ : Shape).Idx) :
    B.view.read (Elt F) (B.view.writes (Elt F) g [⟨Rect.unit (s := ⟨1, ![n]⟩) o S16.size hi, w⟩]) y
      = if h : 16 * t ≤ (y 0).val ∧ (y 0).val < 16 * t + 16 then w (ix1 ⟨(y 0).val - 16 * t, by omega⟩) else B.view.read (Elt F) g y :=
  read_last16 (F := F) B t ho hi g w [] y

theorem wiped_step {α : Type} (z : α) (t : ℕ) (f : S8192.Idx → α) (y : S8192.Idx) :
    (if _h : 16 * t ≤ (y 0).val ∧ (y 0).val < 16 * t + 16 then z else wiped z t f y) = wiped z (t + 1) f y := by
  unfold wiped
  split_ifs <;> first | rfl | omega

theorem writes_wiped_tok (t : ℕ) (f : Buf (Elt F) (tokV.view.loc (VT d L))) {o : Fin 1 → ℕ} (ho : o = ![16 * t]) (hi : ∀ a, o a + S16.size a ≤ S8192.size a) :
    tokV.view.writes (Elt F) (wiped (0#32) t f) [⟨Rect.unit (s := S8192) o S16.size hi, k0_pay43⟩] = wiped (0#32) (t + 1) f :=
  funext fun y => (read_store16 (F := F) tokV t ho hi _ _ y).trans (wiped_step (0#32) t f y)

theorem writes_wiped_gate (t : ℕ) (f : Buf (Elt F) (gateV.view.loc (VT d L))) {o : Fin 1 → ℕ} (ho : o = ![16 * t]) (hi : ∀ a, o a + S16.size a ≤ S8192.size a) :
    gateV.view.writes (Elt F) (wiped (Scalar.ofBits .f32 0x00000000#32 : F .f32) t f) [⟨Rect.unit (s := S8192) o S16.size hi, k0_pay44 (F := F)⟩]
      = wiped (Scalar.ofBits .f32 0x00000000#32 : F .f32) (t + 1) f :=
  funext fun y => (read_store16 (F := F) gateV t ho hi _ _ y).trans (wiped_step _ t f y)

/-- What holds before trip `t`. -/
def zinv (f : S8192.Idx → BitVec 32) (g : S8192.Idx → F .f32) (t : ℕ) (_ : PUnit) : sProp 𝕄 :=
  iprop((tokV.view.loc (VT d L) ↦{fullShare} (wiped (0#32) t f : Buf (Elt F) (tokV.view.loc (VT d L))))
    ∗ (gateV.view.loc (VT d L) ↦{fullShare} (wiped (Scalar.ofBits .f32 0x00000000#32 : F .f32) t g : Buf (Elt F) (gateV.view.loc (VT d L)))))

/-- Trip `t`. -/
theorem trip1 (h1 : k0_cond1 L = 1#1) (t : Fin k0_t1_loop.trips) (f : Buf (Elt F) (tokV.view.loc (VT d L))) (g : Buf (Elt F) (gateV.view.loc (VT d L))) :
    (iprop((tokV.view.loc (VT d L) ↦{fullShare} (wiped (0#32) t.val f : Buf (Elt F) (tokV.view.loc (VT d L))))
        ∗ (gateV.view.loc (VT d L) ↦{fullShare} (wiped (Scalar.ofBits .f32 0x00000000#32 : F .f32) t.val g : Buf (Elt F) (gateV.view.loc (VT d L))))) : sProp 𝕄)
      ⊢ wp frame (wpE (defs₀ (F := F)) 𝒱₀ (VT d L) none) Set.univ
          (k0_t1_body L sA (Memref.isWhole_whole _) wA (Memref.isWhole_whole _) tokA (Memref.isWhole_whole _) gateA (Memref.isWhole_whole _)
            posA (Memref.isWhole_whole _) tabA (Memref.isWhole_whole _) sV (Memref.isWhole_whole _) wV (Memref.isWhole_whole _) tokV (Memref.isWhole_whole _) gateV (Memref.isWhole_whole _)
            posV (Memref.isWhole_whole _) tabV (Memref.isWhole_whole _) curV (Memref.isWhole_whole _) cc0_scoped0 cc0_scoped1 cc0_scoped2 cc0_scoped3 cc0_scoped4 cc0_scoped5 h1 t ⟨⟩)
          fun _ => iprop((tokV.view.loc (VT d L) ↦{fullShare} (wiped (0#32) (t.val + 1) f : Buf (Elt F) (tokV.view.loc (VT d L))))
            ∗ (gateV.view.loc (VT d L) ↦{fullShare} (wiped (Scalar.ofBits .f32 0x00000000#32 : F .f32) (t.val + 1) g : Buf (Elt F) (gateV.view.loc (VT d L))))) := by
  iintro ⟨Hb, Hr⟩
  sl_unfold [k0_t1_body]
  sl_exec
  sl_step
  rw [writes_wiped_tok (F := F) d L t.val f (ClosedOff.eq) _, writes_wiped_gate (F := F) d L t.val g (ClosedOff.eq) _]
  isplitl [Hb]; · iexact Hb
  iexact Hr

set_option maxRecDepth 16384 in
/-- The loop clears both stages. -/
theorem loop1 (h1 : k0_cond1 L = 1#1) (f : Buf (Elt F) (tokV.view.loc (VT d L))) (g : Buf (Elt F) (gateV.view.loc (VT d L))) :
    (iprop((tokV.view.loc (VT d L) ↦{fullShare} f) ∗ (gateV.view.loc (VT d L) ↦{fullShare} g)) : sProp 𝕄)
      ⊢ wp frame (wpE (defs₀ (F := F)) 𝒱₀ (VT d L) none) Set.univ
          (Scf.Loop.for k0_t1_loop (k0_t1_ok L h1) ⟨⟩ (k0_t1_body L sA (Memref.isWhole_whole _) wA (Memref.isWhole_whole _) tokA (Memref.isWhole_whole _) gateA (Memref.isWhole_whole _)
            posA (Memref.isWhole_whole _) tabA (Memref.isWhole_whole _) sV (Memref.isWhole_whole _) wV (Memref.isWhole_whole _) tokV (Memref.isWhole_whole _) gateV (Memref.isWhole_whole _)
            posV (Memref.isWhole_whole _) tabV (Memref.isWhole_whole _) curV (Memref.isWhole_whole _) cc0_scoped0 cc0_scoped1 cc0_scoped2 cc0_scoped3 cc0_scoped4 cc0_scoped5 h1))
          fun _ => iprop((tokV.view.loc (VT d L) ↦{fullShare} ((fun _ => 0#32 : S8192.Idx → BitVec 32) : Buf (Elt F) (tokV.view.loc (VT d L))))
            ∗ (gateV.view.loc (VT d L) ↦{fullShare} ((fun _ => Scalar.ofBits .f32 0x00000000#32 : S8192.Idx → F .f32) : Buf (Elt F) (gateV.view.loc (VT d L))))) := by
  iintro ⟨Hb, Hr⟩
  sl_for (zinv (F := F) d L f g) $$ [Hb Hr]
  case region =>
    intro t _
    unfold zinv
    exact trip1 d L h1 t f g
  isplitl [Hb Hr]
  · unfold zinv
    rw [wiped_zero, wiped_zero]
    isplitl [Hb]; · iexact Hb
    iexact Hr
  iintro %_ H
  unfold zinv
  rw [show Scf.trips k0_t1_loop.lb k0_t1_loop.ub k0_t1_loop.st = 512 from rfl, wiped_all, wiped_all]
  iexact H

end Cert.Proof.Dispatch

end
-- ==== Proof.Dispatch.Words.lean ====
/-
  The dispatch's remaining vector steps as numbers: rounding up to whole blocks, the running count of each expert, the
  slots of sixteen assignments, and the table of blocks.
-/
module

public import proofs.«01_k».proof.Proof.Dispatch.Lanes

@[expose] public section

namespace Cert.Proof.Dispatch

open Cert.DispatchIdeal Cert.DispatchIdeal.Gen
open Idealize.ShloMosaic
open Idealize.ShloMosaic.ValueIdx (ix1)

/-- Division rounding down, as the kernel spells it. -/
def floorv (x : IVec S16 32) (c : BitVec 32) : IVec S16 32 :=
  select (andi (cmpi .ne (subi (extui 32 (cmpi .sgt x (broadcast S16 0#32)) natLt_1_32) (extui 32 (cmpi .slt x (broadcast S16 0#32)) natLt_1_32))
      (broadcast S16 (Scalar.subi (Scalar.extui (Scalar.cmpi .sgt c 0#32)) (Scalar.extui (Scalar.cmpi .slt c 0#32)))))
    (cmpi .ne (remsi x (broadcast S16 c)) (broadcast S16 0#32)))
    (subi (divsi x (broadcast S16 c)) (broadcast S16 1#32)) (divsi x (broadcast S16 c))

theorem no_corner {n m : ℕ} (hm : 0 < m) (hm' : m < 2 ^ 31) : ¬ IntOp.SDivCorner (BitVec.ofNat 32 n) (BitVec.ofNat 32 m) := by
  rintro (h | ⟨-, h⟩)
  · exact Routing.ofNat32_ne_zero hm (by omega) h
  · exact Routing.ofNat32_ne_neg_one hm' h

theorem div_word {n m : ℕ} (hn : n < 2 ^ 31) (hm : 0 < m) (hm' : m < 2 ^ 31) : IntOp.divsi .vector (BitVec.ofNat 32 n) (BitVec.ofNat 32 m) = BitVec.ofNat 32 (n / m) := by
  unfold IntOp.divsi; rw [if_neg (no_corner hm hm'), Routing.sdiv_ofNat32 hn hm']

theorem div_lane (x : IVec S16 32) (l : Fin 16) {n m : ℕ} (hx : x (ix1 l) = BitVec.ofNat 32 n) (hn : n < 2 ^ 31) (hm : 0 < m) (hm' : m < 2 ^ 31) :
    divsi x (broadcast S16 (BitVec.ofNat 32 m)) (ix1 l) = BitVec.ofNat 32 (n / m) := by
  rw [← div_word hn hm hm', ← hx]; rfl

theorem floorv_lane (x : IVec S16 32) (l : Fin 16) {n m : ℕ} (hx : x (ix1 l) = BitVec.ofNat 32 n) (hn : n < 2 ^ 31) (hm : 0 < m) (hm' : m < 2 ^ 31) :
    floorv x (BitVec.ofNat 32 m) (ix1 l) = BitVec.ofNat 32 (n / m) := by
  have hd := div_word hn hm hm'
  have hr : IntOp.remsi .vector (BitVec.ofNat 32 n) (BitVec.ofNat 32 m) = BitVec.ofNat 32 (n % m) := by
    unfold IntOp.remsi; rw [if_neg (no_corner hm hm'), Routing.srem_ofNat32 hn hm']
  have hgt : ∀ k, k < 2 ^ 31 → (0#32).slt (BitVec.ofNat 32 k) = decide (0 < k) := fun k hk => Routing.slt_ofNat32 (a := 0) (by omega) hk
  have hlt : ∀ k, k < 2 ^ 31 → (BitVec.ofNat 32 k).slt 0#32 = false := fun k hk => (Routing.slt_ofNat32 (b := 0) hk (by omega)).trans (by simp)
  show Scalar.select (IntOp.andi (BitVec.ofBool ((BitVec.ofBool ((0#32).slt (x (ix1 l)))).setWidth 32 - (BitVec.ofBool ((x (ix1 l)).slt 0#32)).setWidth 32
      != (BitVec.ofBool ((0#32).slt (BitVec.ofNat 32 m))).setWidth 32 - (BitVec.ofBool ((BitVec.ofNat 32 m).slt 0#32)).setWidth 32))
      (BitVec.ofBool (IntOp.remsi .vector (x (ix1 l)) (BitVec.ofNat 32 m) != 0#32)))
    (IntOp.divsi .vector (x (ix1 l)) (BitVec.ofNat 32 m) - 1#32) (IntOp.divsi .vector (x (ix1 l)) (BitVec.ofNat 32 m)) = _
  rw [hx, hd, hr, hgt n hn, hgt m hm', hlt n hn, hlt m hm']
  by_cases h0 : n = 0
  · subst h0; simp [Scalar.select, IntOp.andi]
  · rw [show decide (0 < n) = true by simp; omega, show decide (0 < m) = true by simpa using hm]
    simp [Scalar.select, IntOp.andi]

theorem lane_iota (l : Fin 16) : iota .scVector S16 32 [0] iota_S16_d0_w32_scVector (ix1 l) = BitVec.ofNat 32 l.val := by
  show BitVec.ofNat 32 (0 * 16 + l.val) = _
  rw [Nat.zero_mul, Nat.zero_add]

/-! ### Counting -/

/-- The experts' counts over the first `n` assignments, one lane each. -/
def counts (s : IVec S4096 32) (n : ℕ) : IVec S16 32 := fun x => BitVec.ofNat 32 (cnt s n (x 0).val)

/-- One expert's step: its lane gains the number of lanes of `v` that name it. -/
def tally (v : IVec S16 32) (k : BitVec 32) (c : IVec S16 32) : IVec S16 32 :=
  addi c (select (cmpi .eq (iota .scVector S16 32 [0] iota_S16_d0_w32_scVector) (broadcast S16 k))
    (broadcast S16 (extractAt ![15] (scan .sum (ind v k)) inpos_S16_p15)) (broadcast S16 0#32))

theorem tally_lane (s : IVec S4096 32) (i : ℕ) {k : ℕ} (hk : k < 8) (c : IVec S16 32)
    (hc : ∀ l : Fin 16, c (ix1 l) = BitVec.ofNat 32 (cnt s (16 * i) l.val + if l.val < k then win s i l.val 16 else 0)) (l : Fin 16) :
    tally (lanes s i) (BitVec.ofNat 32 k) c (ix1 l) = BitVec.ofNat 32 (cnt s (16 * i) l.val + if l.val < k + 1 then win s i l.val 16 else 0) := by
  unfold tally
  rw [total_lanes s i hk]
  show IntOp.addi (c (ix1 l)) (Scalar.select (IntOp.cmpi .eq (iota .scVector S16 32 [0] iota_S16_d0_w32_scVector (ix1 l)) (BitVec.ofNat 32 k)) (BitVec.ofNat 32 (win s i k 16)) 0#32) = _
  rw [hc, lane_iota]
  unfold IntOp.addi Scalar.select IntOp.cmpi
  dsimp only
  by_cases h : l.val = k
  · rw [h]; simp [BitVec.ofNat_add]
  · have hl := l.isLt
    have hne : (BitVec.ofNat 32 l.val == BitVec.ofNat 32 k) = false := beq_eq_false_iff_ne.2 fun h' => h (by
      have h2 := congrArg BitVec.toNat h'
      rw [BitVec.toNat_ofNat, BitVec.toNat_ofNat, Nat.mod_eq_of_lt (by omega), Nat.mod_eq_of_lt (by omega)] at h2
      exact h2)
    rw [hne]
    have e : (l.val < k + 1) = (l.val < k) := propext (by omega)
    simp [e]

theorem win_ge (s : IVec S4096 32) (hs : ∀ a, ex s a < 8) (i n : ℕ) {k : ℕ} (hk : 8 ≤ k) : win s i k n = 0 := by
  unfold win
  rw [Nat.count_eq_card_filter_range, Finset.card_eq_zero, Finset.filter_eq_empty_iff]
  intro a _ h
  have := hs (16 * i + a)
  omega

theorem cnt_ge (s : IVec S4096 32) (hs : ∀ a, ex s a < 8) (n : ℕ) {k : ℕ} (hk : 8 ≤ k) : cnt s n k = 0 := by
  unfold cnt
  rw [Nat.count_eq_card_filter_range, Finset.card_eq_zero, Finset.filter_eq_empty_iff]
  intro a _ h
  have := hs a
  omega

/-- Eight steps take the counts over the first `16 i` assignments to those over the first `16 i + 16`. -/
theorem tally_all (s : IVec S4096 32) (hs : ∀ a, ex s a < 8) (i : ℕ) :
    tally (lanes s i) 7#32 (tally (lanes s i) 6#32 (tally (lanes s i) 5#32 (tally (lanes s i) 4#32 (tally (lanes s i) 3#32
      (tally (lanes s i) 2#32 (tally (lanes s i) 1#32 (tally (lanes s i) 0#32 (counts s (16 * i)))))))))
      = counts s (16 * (i + 1)) := by
  funext x
  obtain ⟨l, rfl⟩ : ∃ l : Fin 16, x = ix1 l := ⟨x 0, funext fun a => by obtain rfl : a = 0 := Subsingleton.elim _ _; rfl⟩
  have h0 : ∀ l : Fin 16, counts s (16 * i) (ix1 l) = BitVec.ofNat 32 (cnt s (16 * i) l.val + if l.val < 0 then win s i l.val 16 else 0) := fun l => by
    rw [if_neg (Nat.not_lt_zero _)]; rfl
  have h := tally_lane s i (k := 7) (by decide) _ (tally_lane s i (k := 6) (by decide) _ (tally_lane s i (k := 5) (by decide) _ (tally_lane s i (k := 4) (by decide) _
    (tally_lane s i (k := 3) (by decide) _ (tally_lane s i (k := 2) (by decide) _ (tally_lane s i (k := 1) (by decide) _ (tally_lane s i (k := 0) (by decide) _ h0))))))) l
  refine h.trans ?_
  show _ = BitVec.ofNat 32 (cnt s (16 * (i + 1)) l.val)
  rw [show 16 * (i + 1) = 16 * i + 16 by omega, cnt_add]
  by_cases hl : l.val < 8
  · rw [if_pos hl]
  · rw [if_neg (by omega), win_ge s hs i 16 (by omega)]

/-! ### Blocks -/

theorem blocks_lane (s : IVec S4096 32) (l : Fin 16) : k0_pay47 (counts s 4096) (ix1 l) = BitVec.ofNat 32 (blk s l.val) := by
  have hle := cnt_le s 4096 l.val
  have hx : addi (counts s 4096) (broadcast S16 511#32) (ix1 l) = BitVec.ofNat 32 (cnt s 4096 l.val + 511) := by
    rw [BitVec.ofNat_add]; rfl
  have h := floorv_lane _ l hx (m := 512) (by omega) (by decide) (by decide)
  unfold blk
  exact h

theorem bef_sum (s : IVec S4096 32) : ∀ n, ((List.range n).map (blk s)).sum = bef s n
  | 0 => rfl
  | n + 1 => by rw [List.range_succ, List.map_append, List.sum_append, bef_sum s n]; simp [bef]

theorem ends_lane (s : IVec S4096 32) (l : Fin 16) : k0_pay48 (counts s 4096) (ix1 l) = BitVec.ofNat 32 (bef s (l.val + 1)) := by
  rw [← bef_sum]; exact scan_ofNat _ _ (blocks_lane s) l

theorem starts_lane (s : IVec S4096 32) (l : Fin 16) : k0_pay49 (counts s 4096) (ix1 l) = BitVec.ofNat 32 (bef s l.val) := by
  show k0_pay48 (counts s 4096) (ix1 l) - k0_pay47 (counts s 4096) (ix1 l) = _
  rw [ends_lane, blocks_lane, Routing.ofNat32_sub (by simp [bef])]
  simp [bef]

theorem bef_sixteen (s : IVec S4096 32) (hs : ∀ a, ex s a < 8) : bef s 16 = bef s 8 := by
  have h : ∀ k, 8 ≤ k → blk s k = 0 := fun k hk => by unfold blk; rw [cnt_ge s hs 4096 hk]
  simp only [bef, h 8 (by decide), h 9 (by decide), h 10 (by decide), h 11 (by decide), h 12 (by decide), h 13 (by decide), h 14 (by decide), h 15 (by decide), Nat.add_zero]

theorem total_word (s : IVec S4096 32) (hs : ∀ a, ex s a < 8) :
    extractAt ![15] (k0_pay51 (k0_pay47 (counts s 4096))) inpos_S16_p15 = BitVec.ofNat 32 (bef s 8) := by
  rw [extract_lanes, ← bef_sixteen s hs]
  exact ends_lane s 15

/-! ### Slots -/

/-- One expert's step: the lanes that name `k` take `c` plus their place among the lanes that name it. -/
def place (v : IVec S16 32) (k c : BitVec 32) (r : IVec S16 32) : IVec S16 32 :=
  select (cmpi .eq v (broadcast S16 k)) (addi (broadcast S16 c) (subi (scan .sum (ind v k)) (broadcast S16 1#32))) r

/-- The next free slot of expert `k` after the first `n` assignments. -/
def nextw (s : IVec S4096 32) (n k : ℕ) : BitVec 32 := BitVec.ofNat 32 (512 * bef s k + cnt s n k)

theorem place_lane (s : IVec S4096 32) (i : ℕ) {k : ℕ} (hk : k < 8) (r : IVec S16 32)
    (hr : ∀ l : Fin 16, ex s (16 * i + l.val) < k → r (ix1 l) = BitVec.ofNat 32 (slot s (16 * i + l.val))) (l : Fin 16)
    (hl : ex s (16 * i + l.val) < k + 1) :
    place (lanes s i) (BitVec.ofNat 32 k) (nextw s (16 * i) k) r (ix1 l) = BitVec.ofNat 32 (slot s (16 * i + l.val)) := by
  show (if BitVec.ofBool (lanes s i (ix1 l) == BitVec.ofNat 32 k) = 1#1 then nextw s (16 * i) k + (scan .sum (ind (lanes s i) (BitVec.ofNat 32 k)) (ix1 l) - 1#32) else r (ix1 l)) = _
  by_cases h : ex s (16 * i + l.val) = k
  · rw [(lanes_eq s i l hk).2 h, rank_lanes s i hk]
    have hw : win s i k (l.val + 1) = win s i k l.val + 1 := by unfold win; rw [Nat.count_succ, if_pos h]
    have hc := cnt_add s i k l.val
    rw [hw, show (1#32 : BitVec 32) = BitVec.ofNat 32 1 from rfl, Routing.ofNat32_sub (by omega), Nat.add_sub_cancel]
    unfold nextw slot
    rw [h, hc, ← BitVec.ofNat_add, Nat.add_assoc]
    simp
  · rw [show (lanes s i (ix1 l) == BitVec.ofNat 32 k) = false from beq_eq_false_iff_ne.2 fun h' => h ((lanes_eq s i l hk).1 h')]
    exact hr l (by omega)

/-- Eight steps give every lane its slot. -/
theorem place_all (s : IVec S4096 32) (hs : ∀ a, ex s a < 8) (i : ℕ) (r : IVec S16 32) (l : Fin 16) :
    place (lanes s i) 7#32 (nextw s (16 * i) 7) (place (lanes s i) 6#32 (nextw s (16 * i) 6) (place (lanes s i) 5#32 (nextw s (16 * i) 5)
      (place (lanes s i) 4#32 (nextw s (16 * i) 4) (place (lanes s i) 3#32 (nextw s (16 * i) 3) (place (lanes s i) 2#32 (nextw s (16 * i) 2)
      (place (lanes s i) 1#32 (nextw s (16 * i) 1) (place (lanes s i) 0#32 (nextw s (16 * i) 0) r))))))) (ix1 l)
      = BitVec.ofNat 32 (slot s (16 * i + l.val)) :=
  place_lane s i (k := 7) (by decide) _ (place_lane s i (k := 6) (by decide) _ (place_lane s i (k := 5) (by decide) _ (place_lane s i (k := 4) (by decide) _
    (place_lane s i (k := 3) (by decide) _ (place_lane s i (k := 2) (by decide) _ (place_lane s i (k := 1) (by decide) _
      (place_lane s i (k := 0) (by decide) r fun _ h => absurd h (Nat.not_lt_zero _)))))))) l (hs _)

/-- An expert's next free slot moves on by the number of lanes that name it. -/
theorem nextw_step (s : IVec S4096 32) (i : ℕ) {k : ℕ} (hk : k < 8) :
    Scalar.addi (nextw s (16 * i) k) (extractAt ![15] (scan .sum (ind (lanes s i) (BitVec.ofNat 32 k))) inpos_S16_p15) = nextw s (16 * (i + 1)) k := by
  rw [total_lanes s i hk]
  unfold nextw
  rw [show 16 * (i + 1) = 16 * i + 16 by omega, cnt_add, ← Nat.add_assoc, BitVec.ofNat_add (512 * bef s k + cnt s (16 * i) k)]
  rfl

/-! ### The scatter -/

theorem put_step {α : Type} (s : IVec S4096 32) (val : ℕ → α) (z : α) (m : ℕ) (g : S8192.Idx → α) (hg : g = put s val z m) (n : ℕ) (hn : n = slot s m) (y : α) (hy : y = val m) :
    (fun j : S8192.Idx => if (∀ a, (j a).val = n) then y else g j) = put s val z (m + 1) := by
  subst hg hn hy
  funext j
  show _ = if (j 0).val = slot s m then val m else put s val z m j
  exact if_congr ⟨fun h => h 0, fun h a => by obtain rfl : a = 0 := Subsingleton.elim _ _; exact h⟩ rfl rfl

/-- A scatter of sixteen lanes puts the values of sixteen assignments. -/
theorem storeIdx_put {F : FTy → Type} [FloatOps F] {e : EltTy} (s : IVec S4096 32) (hs : ∀ a, ex s a < 8) (val : ℕ → Elt F e) (z : Elt F e) (i : ℕ) (hi : i < 256) (p : IVec S16 32) (v : S16.Idx → Elt F e)
    (hp : ∀ l : Fin 16, p (ix1 l) = BitVec.ofNat 32 (slot s (16 * i + l.val))) (hv : ∀ l : Fin 16, v (ix1 l) = val (16 * i + l.val)) (h) :
    storeIdx (F := F) (s := S8192) (e := e) (d := ![16]) (put s val z (16 * i)) ![p] v (fun _ => 1#1) false h = put s val z (16 * (i + 1)) := by
  have key : ∀ (n : ℕ) (hn : n ≤ 16), ((List.finRange n).map (Fin.castLE hn)).foldl (fun g k =>
      fun j : S8192.Idx => if (∀ a, (j a).val = (p (ix1 k)).toNat) then v (ix1 k) else g j) (put s val z (16 * i)) = put s val z (16 * i + n) := by
    intro n
    induction n with
    | zero => intro _; rfl
    | succ n ih =>
      intro hn
      rw [List.finRange_succ_last, List.map_append, List.foldl_append, List.map_map]
      have e : ((List.finRange n).map ((Fin.castLE hn) ∘ Fin.castSucc)) = (List.finRange n).map (Fin.castLE (Nat.le_of_succ_le hn)) := rfl
      rw [e, ih (Nat.le_of_succ_le hn)]
      have hsl := slot_lt s hs (a := 16 * i + n) (by omega)
      refine put_step s val z (16 * i + n) _ rfl _ ?_ _ (hv ⟨n, hn⟩)
      show (p (ix1 ⟨n, hn⟩)).toNat = _
      rw [hp ⟨n, hn⟩, BitVec.toNat_ofNat, Nat.mod_eq_of_lt (by show slot s (16 * i + n) < _; omega)]
  have e0 : (List.finRange 16).map (Fin.castLE (le_refl 16)) = List.finRange 16 := List.map_id _
  have h16 := key 16 le_rfl
  rw [e0] at h16
  refine Eq.trans ?_ (h16.trans (congrArg _ (by omega)))
  have o : ∀ k : Fin 16, (Shape.ofLane (d := ![16]) k) = ix1 k := fun k => funext fun a => by obtain rfl : a = 0 := Subsingleton.elim _ _; rfl
  unfold storeIdx
  show List.foldl _ _ (List.finRange 16) = _
  congr 1
  funext g k
  refine Eq.trans (if_pos (rfl : (1#1 : BitVec 1) = 1)) ?_
  funext j
  by_cases hj : ∀ a, (j a).val = (p (ix1 k)).toNat
  · refine Eq.trans (if_pos fun a => ?_) ((congrArg v (o k)).trans (if_pos hj).symm)
    obtain rfl : a = 0 := Subsingleton.elim _ _
    exact (hj 0).trans (congrArg (fun x => (p x).toNat) (o k)).symm
  · refine Eq.trans (if_neg fun h' => hj fun a => ?_) (if_neg hj).symm
    obtain rfl : a = 0 := Subsingleton.elim _ _
    exact (h' 0).trans (congrArg (fun x => (p x).toNat) (o k))

/-! ### The table of blocks -/

/-- The number of experts whose blocks end at or before `b`, among the first `n`. -/
def passed (s : IVec S4096 32) (b n : ℕ) : ℕ := Nat.count (fun k => bef s (k + 1) ≤ b) n

theorem passed_step (s : IVec S4096 32) (hs : ∀ a, ex s a < 8) (b n : ℕ) (hb : b < 64) (hn : n < 8) {a c : BitVec 32} (ha : a = BitVec.ofNat 32 (passed s b n))
    (hc : c = BitVec.ofNat 32 (bef s (n + 1))) :
    a + Scalar.select (BitVec.ofBool (c.sle (BitVec.ofNat 32 b))) 1#32 0#32 = BitVec.ofNat 32 (passed s b (n + 1)) := by
  have := bef_le s hs (k := n + 1) (by omega)
  rw [ha, hc, Routing.sle_ofNat32 (by omega) (by omega)]
  unfold passed
  rw [Nat.count_succ]
  by_cases h : bef s (n + 1) ≤ b
  · rw [if_pos h, decide_eq_true h, BitVec.ofNat_add]; rfl
  · rw [if_neg h, decide_eq_false h]; simp [Scalar.select]

theorem passed_owner (s : IVec S4096 32) (b : ℕ) : passed s b 8 = owner s b := rfl

end Cert.Proof.Dispatch
-- ==== Proof.Dispatch.Count.lean ====
/-
  The loop that counts: trip `t` adds to each expert's lane the number of assignments `16 t … 16 t + 15` that chose it.
-/
module

public import proofs.«01_k».proof.Proof.Dispatch.Setup
public import proofs.«01_k».proof.Proof.Dispatch.Zero
public import proofs.«01_k».proof.Proof.Dispatch.Words
public import Idealize.ShloMosaic.Lib.Pipeline.Value

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1)

variable {F : FTy → Type} [FloatOps F]
local notation "𝕄" => MT nD τ sig (HIx 1) (Elt F) ℕ UU ℕ

variable (d : Dev nD) (L : grid0.Coords)

/-- What sixteen lanes loaded at `16 t` hold. -/
theorem load_lanes {sp : Space} {e : EltTy} (B : Memref sig .scVector sp S4096 e) (g) (t : ℕ) (ht : t < 256) {o : Fin 1 → ℕ} (ho : o = ![16 * t])
    (hi : ∀ a, o a + S16.size a ≤ S4096.size a) :
    View.readAt (Elt F) B.view (Rect.unit (s := S4096) o S16.size hi).toLoadRect g = lanes (B.view.read (Elt F) g) t := by
  subst ho
  funext x
  show B.view.read (Elt F) g _ = B.view.read (Elt F) g _
  congr 1
  funext a; apply Fin.ext
  obtain rfl : a = 0 := Subsingleton.elim _ _
  have hx : (x 0).val < 16 := (x 0).isLt
  show 16 * t + 1 * (x 0).val = (16 * t + (x 0).val) % 4096
  rw [Nat.mod_eq_of_lt (by omega)]; omega

/-- Trip `t`. -/
theorem trip2 (h1 : k0_cond1 L = 1#1) (t : Fin k0_t2_loop.trips) (s : Buf (Elt F) (sV.view.loc (VT d L))) (hs : ∀ a, ex s a < 8) :
    (iprop(sV.view.loc (VT d L) ↦{fullShare} s) : sProp 𝕄)
      ⊢ wp frame (wpE (defs₀ (F := F)) 𝒱₀ (VT d L) none) Set.univ
          (k0_t2_body L sA (Memref.isWhole_whole _) wA (Memref.isWhole_whole _) tokA (Memref.isWhole_whole _) gateA (Memref.isWhole_whole _)
            posA (Memref.isWhole_whole _) tabA (Memref.isWhole_whole _) sV (Memref.isWhole_whole _) wV (Memref.isWhole_whole _) tokV (Memref.isWhole_whole _) gateV (Memref.isWhole_whole _)
            posV (Memref.isWhole_whole _) tabV (Memref.isWhole_whole _) curV (Memref.isWhole_whole _) cc0_scoped0 cc0_scoped1 cc0_scoped2 cc0_scoped3 cc0_scoped4 cc0_scoped5 h1 t (counts s (16 * t.val)))
          fun c => iprop(⌜c = counts s (16 * (t.val + 1))⌝ ∗ (sV.view.loc (VT d L) ↦{fullShare} s)) := by
  iintro Hs
  sl_unfold [k0_t2_body]
  sl_exec
  sl_step
  isplitr
  swap; · iexact Hs
  ipureintro
  have ht : t.val < 256 := t.isLt
  rw [← tally_all s hs t.val, ← show lanes (sV.view.read (Elt F) s) t.val = lanes s t.val from rfl,
    ← load_lanes (F := F) sV s t.val ht (ClosedOff.eq (off := k0_off2 t)) (k0_off2_inb L t h1)]
  rfl

/-- What holds before trip `t`. -/
def cinv (s : Buf (Elt F) (sV.view.loc (VT d L))) (t : ℕ) (c : IVec S16 32) : sProp 𝕄 :=
  iprop(⌜c = counts s (16 * t)⌝ ∗ (sV.view.loc (VT d L) ↦{fullShare} s))

set_option maxRecDepth 16384 in
/-- The loop counts every expert's assignments. -/
theorem loop2 (h1 : k0_cond1 L = 1#1) (s : Buf (Elt F) (sV.view.loc (VT d L))) (hs : ∀ a, ex s a < 8) :
    (iprop(sV.view.loc (VT d L) ↦{fullShare} s) : sProp 𝕄)
      ⊢ wp frame (wpE (defs₀ (F := F)) 𝒱₀ (VT d L) none) Set.univ
          (Scf.Loop.for k0_t2_loop (k0_t2_ok L h1) k0_pay45 (k0_t2_body L sA (Memref.isWhole_whole _) wA (Memref.isWhole_whole _) tokA (Memref.isWhole_whole _) gateA (Memref.isWhole_whole _)
            posA (Memref.isWhole_whole _) tabA (Memref.isWhole_whole _) sV (Memref.isWhole_whole _) wV (Memref.isWhole_whole _) tokV (Memref.isWhole_whole _) gateV (Memref.isWhole_whole _)
            posV (Memref.isWhole_whole _) tabV (Memref.isWhole_whole _) curV (Memref.isWhole_whole _) cc0_scoped0 cc0_scoped1 cc0_scoped2 cc0_scoped3 cc0_scoped4 cc0_scoped5 h1))
          fun c => iprop(⌜c = counts s 4096⌝ ∗ (sV.view.loc (VT d L) ↦{fullShare} s)) := by
  iintro Hs
  sl_for (cinv (F := F) d L s) $$ [Hs]
  case region =>
    intro t c
    unfold cinv
    iintro ⟨%hc, Hs⟩
    rw [hc]
    iapply (trip2 d L h1 t s hs) $$ [Hs]
    iexact Hs
  isplitl [Hs]
  · unfold cinv
    isplitr
    swap; · iexact Hs
    ipureintro
    funext x
    show 0#32 = BitVec.ofNat 32 (cnt s 0 (x 0).val)
    unfold cnt; rfl
  iintro %c H
  unfold cinv
  rw [show Scf.trips k0_t2_loop.lb k0_t2_loop.ub k0_t2_loop.st = 256 from rfl]
  iexact H

end Cert.Proof.Dispatch

end
-- ==== Proof.Dispatch.Scatter.lean ====
/-
  The loop that scatters: trip `t` gives assignments `16 t … 16 t + 15` their slots, puts their tokens and weights
  there, and moves the experts' next free slots on.
-/
module

public import proofs.«01_k».proof.Proof.Dispatch.Setup
public import proofs.«01_k».proof.Proof.Dispatch.Count
public import proofs.«01_k».proof.Proof.Dispatch.Words
public import Idealize.ShloMosaic.Lib.Pipeline.Value

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1)

variable {F : FTy → Type} [FloatOps F]
local notation "𝕄" => MT nD τ sig (HIx 1) (Elt F) ℕ UU ℕ

variable (d : Dev nD) (L : grid0.Coords)

/-- The experts' next free slots after the first `n` assignments. -/
def nexts (s : IVec S4096 32) (n : ℕ) : S8.Idx → BitVec 32 := fun x => nextw s n (x 0).val

/-- The slots of the first `16 t` assignments, the rest as it was. -/
def placed (s : IVec S4096 32) (t : ℕ) (p : S4096.Idx → BitVec 32) : S4096.Idx → BitVec 32 := fun y =>
  if (y 0).val < 16 * t then BitVec.ofNat 32 (slot s (y 0).val) else p y

/-- Stores of single words, latest first, that put the first `n` words of `f`. -/
def Puts (f : S8.Idx → BitVec 32) : ℕ → List (View.Piece (Elt F) S8 .i32) → Prop
  | 0, [] => True
  | n + 1, p :: P => ((∀ y : S8.Idx, y ∈ p.1.set ↔ (y 0).val = n) ∧ ∀ x : p.1.shape.Idx, p.2 x = f (p.1.emb x)) ∧ Puts f n P
  | _, _ => False

theorem read_puts (f c : S8.Idx → BitVec 32) : ∀ (n : ℕ) (P : List (View.Piece (Elt F) S8 .i32)), Puts (F := F) f n P → ∀ y : S8.Idx,
    curV.view.read (Elt F) (curV.view.writes (Elt F) c P) y = if (y 0).val < n then f y else c y
  | 0, [], _, y => by rw [if_neg (Nat.not_lt_zero _)]; rfl
  | 0, _ :: _, h, _ => h.elim
  | _ + 1, [], h, _ => h.elim
  | n + 1, p :: P, h, y => by
    by_cases hy : y ∈ p.1.set
    · have hm := (h.1.1 y).mp hy
      rw [if_pos (by omega)]
      obtain ⟨x, rfl⟩ := p.1.exists_idx_of_mem hy
      exact (View.read_writes_cons_emb _ _ p.1 p.2 P x).trans (h.1.2 x)
    · rw [View.read_writes_cons_miss _ _ p P y hy, read_puts f c n P h.2 y]
      have hm := mt (h.1.1 y).mpr hy
      exact if_congr (by omega) rfl rfl

theorem writes_puts (f c : S8.Idx → BitVec 32) (P : List (View.Piece (Elt F) S8 .i32)) (h : Puts (F := F) f 8 P) :
    curV.view.writes (Elt F) c P = f := by
  funext y
  refine (read_puts (F := F) f c 8 P h y).trans (if_pos ?_)
  exact (y 0).isLt

/-- One such store. -/
theorem puts_one (f : S8.Idx → BitVec 32) (n : ℕ) (hn : n < 8) {o : Fin 1 → ℕ} (ho : o = ![n]) (hi : ∀ a, o a + S1.size a ≤ S8.size a) (w : BitVec 32) (hw : w = f (ix1 ⟨n, hn⟩)) :
    (∀ y : S8.Idx, y ∈ (Rect.unit (s := S8) o S1.size hi).set ↔ (y 0).val = n)
      ∧ ∀ x : (Rect.unit (s := S8) o S1.size hi).shape.Idx, w = f ((Rect.unit (s := S8) o S1.size hi).emb x) := by
  subst ho
  constructor
  · intro y
    rw [Rect.mem_set_unit]
    constructor
    · intro h
      have h0 := h 0
      change n ≤ (y 0).val ∧ (y 0).val < n + 1 at h0
      omega
    · intro h a
      obtain rfl : a = 0 := Subsingleton.elim _ _
      change n ≤ (y 0).val ∧ (y 0).val < n + 1
      omega
  · intro x
    rw [hw]
    congr 1
    funext a; apply Fin.ext
    obtain rfl : a = 0 := Subsingleton.elim _ _
    have : (x 0).val < 1 := (x 0).isLt
    change n = n + 1 * (x 0).val
    omega

/-- A word loaded. -/
theorem load_word (c : S8.Idx → BitVec 32) (n : ℕ) (hn : n < 8) (hi : ∀ a, (![n] : Fin 1 → ℕ) a + S1.size a ≤ S8.size a) (x) :
    View.readAt (Elt F) curV.view (Rect.unit (s := S8) ![n] S1.size hi).toLoadRect c x = c (ix1 ⟨n, hn⟩) := by
  change c _ = c _
  congr 1
  funext a; apply Fin.ext
  match a with
  | 0 =>
    have : (x 0).val < 1 := (x 0).isLt
    change n + 1 * (x 0).val = n
    omega

/-- The tokens of sixteen assignments. -/
theorem toks_lane (t : Fin k0_t3_loop.trips) (l : Fin 16) :
    divsi (addi (iota .scVector S16 32 [0] iota_S16_d0_w32_scVector) (broadcast S16 (Scalar.muli (Scf.iv 0#32 1#32 t.val) 16#32))) (broadcast S16 2#32) (ix1 l) = BitVec.ofNat 32 ((16 * t.val + l.val) / 2) := by
  have ht : t.val < 256 := t.isLt
  have hx : addi (iota .scVector S16 32 [0] iota_S16_d0_w32_scVector) (broadcast S16 (Scalar.muli (Scf.iv 0#32 1#32 t.val) 16#32)) (ix1 l)
      = BitVec.ofNat 32 (16 * t.val + l.val) := by
    show iota .scVector S16 32 [0] iota_S16_d0_w32_scVector (ix1 l) + (0#32 + BitVec.ofNat 32 t.val * 1#32) * 16#32 = _
    rw [lane_iota, BitVec.zero_add, BitVec.mul_one, show (16#32 : BitVec 32) = BitVec.ofNat 32 16 from rfl, ← BitVec.ofNat_mul, ← BitVec.ofNat_add]
    congr 1; omega
  exact div_lane _ l hx (m := 2) (by omega) (by decide) (by decide)

theorem writes_placed (s : IVec S4096 32) (t : ℕ) (p : S4096.Idx → BitVec 32) {o : Fin 1 → ℕ} (ho : o = ![16 * t]) (hi : ∀ a, o a + S16.size a ≤ S4096.size a)
    (w : IVec S16 32) (hw : ∀ l : Fin 16, w (ix1 l) = BitVec.ofNat 32 (slot s (16 * t + l.val))) :
    posV.view.writes (Elt F) (placed s t p) [⟨Rect.unit (s := S4096) o S16.size hi, w⟩] = placed s (t + 1) p := by
  funext y
  refine (read_store16 (F := F) posV t ho hi _ w y).trans ?_
  show (if h : 16 * t ≤ (y 0).val ∧ (y 0).val < 16 * t + 16 then w (ix1 ⟨(y 0).val - 16 * t, _⟩) else placed s t p y) = _
  by_cases h : 16 * t ≤ (y 0).val ∧ (y 0).val < 16 * t + 16
  · rw [dif_pos h, hw]
    unfold placed
    rw [if_pos (by omega)]
    congr 2
    show 16 * t + ((y 0).val - 16 * t) = (y 0).val
    omega
  · rw [dif_neg h]
    unfold placed
    exact if_congr (by omega) rfl rfl

/-- The weight of assignment `a`. -/
def wt (w : S4096.Idx → F .f32) (a : ℕ) : F .f32 := w (ix1 ⟨a % 4096, Nat.mod_lt _ (by decide)⟩)

/-- A scatter into the tok stage. -/
theorem scatter_tok {α : Type} (f : Buf (Elt F) (tokV.view.loc (VT d L))) (idxs : Fin S8192.rank → IVec S16 32) (v : Vec F S16 .i32) (h : ∀ a x, (idxs a x).toNat < S8192.size a)
    (hx) (k : PUnit → Prog (TpuEff nD τ sig (Elt F) Λ₀ (VT d L).2) α) (Q : α → sProp 𝕄) :
    (tokV.view.loc (VT d L) ↦{fullShare} f : sProp 𝕄)
      ⊢ iprop(((tokV.view.loc (VT d L) ↦{fullShare} (storeIdx (F := F) (s := S8192) (e := .i32) (d := ![16]) f idxs v (fun _ => 1#1) false h : Buf (Elt F) (tokV.view.loc (VT d L))))
          -∗ wp frame (wpE (defs₀ (F := F)) 𝒱₀ (VT d L) none) Set.univ (k ⟨⟩) Q)
        -∗ wp frame (wpE (defs₀ (F := F)) 𝒱₀ (VT d L) none) Set.univ (SparseCore.vectorStoreIdx tokV idxs v (fun _ => 1#1) false h hx >>= k) Q) := by
  have H := SparseCore.wp_vectorStoreIdx (defs := defs₀ (F := F)) (𝒱 := 𝒱₀) (c := VT d L) (bd := none) (E := Set.univ) (Q := Q) (base := tokV) (idxs := idxs) (v := v)
    (mask := fun _ => 1#1) (add := false) (h := h) (hs := hx) (k := k) (f := f)
  rw [show (tokV.access (Rect.whole S8192)).set = Finset.univ from Memref.set_access_whole cc0_scratch2,
    show ∀ g, View.write (Elt F) (tokV.access (Rect.whole S8192)) f g Finset.univ = g from fun g => Memref.write_access_whole_univ _ cc0_scratch2 f g,
    show View.read (Elt F) (tokV.access (Rect.whole S8192)) f = f from Memref.read_access_whole _ cc0_scratch2 f] at H
  exact H

/-- A scatter into the gate stage. -/
theorem scatter_gate {α : Type} (f : Buf (Elt F) (gateV.view.loc (VT d L))) (idxs : Fin S8192.rank → IVec S16 32) (v : Vec F S16 .f32) (h : ∀ a x, (idxs a x).toNat < S8192.size a)
    (hx) (k : PUnit → Prog (TpuEff nD τ sig (Elt F) Λ₀ (VT d L).2) α) (Q : α → sProp 𝕄) :
    (gateV.view.loc (VT d L) ↦{fullShare} f : sProp 𝕄)
      ⊢ iprop(((gateV.view.loc (VT d L) ↦{fullShare} (storeIdx (F := F) (s := S8192) (e := .f32) (d := ![16]) f idxs v (fun _ => 1#1) false h : Buf (Elt F) (gateV.view.loc (VT d L))))
          -∗ wp frame (wpE (defs₀ (F := F)) 𝒱₀ (VT d L) none) Set.univ (k ⟨⟩) Q)
        -∗ wp frame (wpE (defs₀ (F := F)) 𝒱₀ (VT d L) none) Set.univ (SparseCore.vectorStoreIdx gateV idxs v (fun _ => 1#1) false h hx >>= k) Q) := by
  have H := SparseCore.wp_vectorStoreIdx (defs := defs₀ (F := F)) (𝒱 := 𝒱₀) (c := VT d L) (bd := none) (E := Set.univ) (Q := Q) (base := gateV) (idxs := idxs) (v := v)
    (mask := fun _ => 1#1) (add := false) (h := h) (hs := hx) (k := k) (f := f)
  rw [show (gateV.access (Rect.whole S8192)).set = Finset.univ from Memref.set_access_whole cc0_scratch3,
    show ∀ g, View.write (Elt F) (gateV.access (Rect.whole S8192)) f g Finset.univ = g from fun g => Memref.write_access_whole_univ _ cc0_scratch3 f g,
    show View.read (Elt F) (gateV.access (Rect.whole S8192)) f = f from Memref.read_access_whole _ cc0_scratch3 f] at H
  exact H

set_option maxHeartbeats 4000000 in
/-- Trip `t`. -/
theorem trip3 (h1 : k0_cond1 L = 1#1) (t : Fin k0_t3_loop.trips) (s : Buf (Elt F) (sV.view.loc (VT d L))) (hs : ∀ a, ex s a < 8) (w : Buf (Elt F) (wV.view.loc (VT d L)))
    (z : F .f32) (p : Buf (Elt F) (posV.view.loc (VT d L))) :
    (iprop((sV.view.loc (VT d L) ↦{fullShare} s) ∗ (wV.view.loc (VT d L) ↦{fullShare} w)
        ∗ (tokV.view.loc (VT d L) ↦{fullShare} (put s (fun a => BitVec.ofNat 32 (a / 2)) 0#32 (16 * t.val) : Buf (Elt F) (tokV.view.loc (VT d L))))
        ∗ (gateV.view.loc (VT d L) ↦{fullShare} (put s (wt (F := F) w) z (16 * t.val) : Buf (Elt F) (gateV.view.loc (VT d L))))
        ∗ (posV.view.loc (VT d L) ↦{fullShare} (placed s t.val p : Buf (Elt F) (posV.view.loc (VT d L))))
        ∗ (curV.view.loc (VT d L) ↦{fullShare} (nexts s (16 * t.val) : Buf (Elt F) (curV.view.loc (VT d L))))) : sProp 𝕄)
      ⊢ wp frame (wpE (defs₀ (F := F)) 𝒱₀ (VT d L) none) Set.univ
          (k0_t3_body L sA (Memref.isWhole_whole _) wA (Memref.isWhole_whole _) tokA (Memref.isWhole_whole _) gateA (Memref.isWhole_whole _)
            posA (Memref.isWhole_whole _) tabA (Memref.isWhole_whole _) sV (Memref.isWhole_whole _) wV (Memref.isWhole_whole _) tokV (Memref.isWhole_whole _) gateV (Memref.isWhole_whole _)
            posV (Memref.isWhole_whole _) tabV (Memref.isWhole_whole _) curV (Memref.isWhole_whole _) cc0_scoped0 cc0_scoped1 cc0_scoped2 cc0_scoped3 cc0_scoped4 cc0_scoped5 h1 t ⟨⟩)
          fun _ => iprop((sV.view.loc (VT d L) ↦{fullShare} s) ∗ (wV.view.loc (VT d L) ↦{fullShare} w)
            ∗ (tokV.view.loc (VT d L) ↦{fullShare} (put s (fun a => BitVec.ofNat 32 (a / 2)) 0#32 (16 * (t.val + 1)) : Buf (Elt F) (tokV.view.loc (VT d L))))
            ∗ (gateV.view.loc (VT d L) ↦{fullShare} (put s (wt (F := F) w) z (16 * (t.val + 1)) : Buf (Elt F) (gateV.view.loc (VT d L))))
            ∗ (posV.view.loc (VT d L) ↦{fullShare} (placed s (t.val + 1) p : Buf (Elt F) (posV.view.loc (VT d L))))
            ∗ (curV.view.loc (VT d L) ↦{fullShare} (nexts s (16 * (t.val + 1)) : Buf (Elt F) (curV.view.loc (VT d L))))) := by
  iintro ⟨Hs, Hw, Hf, Hg, Hp, Hc⟩
  have ht : t.val < 256 := t.isLt
  sl_unfold [k0_t3_body]
  sl_exec
  have hv : lanes (sV.view.read (Elt F) s) t.val = lanes s t.val := rfl
  have hld := load_lanes (F := F) sV s t.val ht (ClosedOff.eq (off := k0_off3 t)) (k0_off3_inb L t h1)
  have hslot : ∀ l : Fin 16, trip3.sl.v444 d L h1 t s (ix1 l) = BitVec.ofNat 32 (slot s (16 * t.val + l.val)) := by
    intro l
    refine Eq.trans ?_ (place_all s hs t.val (broadcast S16 0#32) l)
    rw [← hv, ← hld]
    unfold trip3.sl.v444
    rfl
  have hchk : k0_chk1 L (trip3.sl.v444 d L h1 t s) := by
    have hall : ∀ a x, ((![trip3.sl.v444 d L h1 t s] : Fin 1 → IVec S16 32) a x).toNat < S8192.size a := by
      intro a x
      obtain rfl : a = 0 := Subsingleton.elim _ _
      obtain ⟨l, rfl⟩ : ∃ l : Fin 16, x = ix1 l := ⟨x 0, funext fun a => by obtain rfl : a = 0 := Subsingleton.elim _ _; rfl⟩
      have hl := slot_lt s hs (a := 16 * t.val + l.val) (by omega)
      show (trip3.sl.v444 d L h1 t s (ix1 l)).toNat < 8192
      rw [hslot, BitVec.toNat_ofNat]
      omega
    exact ⟨fun _ => hall, fun _ => hall⟩
  sl_exec
  iapply (scatter_tok (F := F) d L _ _ _ _ _ _ _) $$ [Hf]
  · iexact Hf
  iintro Hf
  iapply (scatter_gate (F := F) d L _ _ _ _ _ _ _) $$ [Hg]
  · iexact Hg
  iintro Hg
  sl_exec
  sl_step
  have htok : ∀ l : Fin 16, trip3.sl.v289 t (ix1 l) = BitVec.ofNat 32 ((16 * t.val + l.val) / 2) := fun l => by
    unfold trip3.sl.v289
    exact (show _ = trip3.sl.v267 t (ix1 l) from rfl).trans (toks_lane t l)
  have hwt : ∀ l : Fin 16, trip3.sl.r_1 d L h1 t w (ix1 l) = wt (F := F) w (16 * t.val + l.val) := fun l =>
    congrFun (load_lanes (F := F) wV w t.val ht (ClosedOff.eq (off := k0_off3 t)) (k0_off3_inb L t h1)) (ix1 l)
  have e1 := storeIdx_put (F := F) (e := .i32) s hs (fun a => BitVec.ofNat 32 (a / 2)) (0#32) t.val ht _ _ hslot htok (hchk.1 h1)
  have e2 := storeIdx_put (F := F) (e := .f32) s hs (wt (F := F) w) z t.val ht _ _ hslot hwt (hchk.1 h1)
  rw [e1, e2]
  rw [writes_placed (F := F) s t.val p (ClosedOff.eq) _ _ hslot]
  rw [writes_puts (F := F) (nexts s (16 * (t.val + 1))) _ _ ?h]
  isplitl [Hs]; · iexact Hs
  isplitl [Hw]; · iexact Hw
  isplitl [Hf]; · iexact Hf
  isplitl [Hg]; · iexact Hg
  isplitl [Hp]; · iexact Hp
  iexact Hc
  refine ⟨puts_one _ 7 (by decide) rfl inb_S8_S1_7 _ ?_, puts_one _ 6 (by decide) rfl inb_S8_S1_6 _ ?_, puts_one _ 5 (by decide) rfl inb_S8_S1_5 _ ?_, puts_one _ 4 (by decide) rfl inb_S8_S1_4 _ ?_,
    puts_one _ 3 (by decide) rfl inb_S8_S1_3 _ ?_, puts_one _ 2 (by decide) rfl inb_S8_S1_2 _ ?_, puts_one _ 1 (by decide) rfl inb_S8_S1_1 _ ?_, puts_one _ 0 (by decide) rfl inb_S8_S1_0 _ ?_, trivial⟩
  · refine Eq.trans ?_ (nextw_step s t.val (k := 7) (by decide)); rw [← hv, ← hld]; rfl
  · refine Eq.trans ?_ (nextw_step s t.val (k := 6) (by decide)); rw [← hv, ← hld]; rfl
  · refine Eq.trans ?_ (nextw_step s t.val (k := 5) (by decide)); rw [← hv, ← hld]; rfl
  · refine Eq.trans ?_ (nextw_step s t.val (k := 4) (by decide)); rw [← hv, ← hld]; rfl
  · refine Eq.trans ?_ (nextw_step s t.val (k := 3) (by decide)); rw [← hv, ← hld]; rfl
  · refine Eq.trans ?_ (nextw_step s t.val (k := 2) (by decide)); rw [← hv, ← hld]; rfl
  · refine Eq.trans ?_ (nextw_step s t.val (k := 1) (by decide)); rw [← hv, ← hld]; rfl
  · refine Eq.trans ?_ (nextw_step s t.val (k := 0) (by decide)); rw [← hv, ← hld]; rfl

/-- What holds before trip `t`. -/
def sinv (s : Buf (Elt F) (sV.view.loc (VT d L))) (w : Buf (Elt F) (wV.view.loc (VT d L))) (z : F .f32) (p : Buf (Elt F) (posV.view.loc (VT d L))) (t : ℕ) (_ : PUnit.{1}) : sProp 𝕄 :=
  iprop((sV.view.loc (VT d L) ↦{fullShare} s) ∗ (wV.view.loc (VT d L) ↦{fullShare} w)
        ∗ (tokV.view.loc (VT d L) ↦{fullShare} (put s (fun a => BitVec.ofNat 32 (a / 2)) 0#32 (16 * t) : Buf (Elt F) (tokV.view.loc (VT d L))))
        ∗ (gateV.view.loc (VT d L) ↦{fullShare} (put s (wt (F := F) w) z (16 * t) : Buf (Elt F) (gateV.view.loc (VT d L))))
        ∗ (posV.view.loc (VT d L) ↦{fullShare} (placed s t p : Buf (Elt F) (posV.view.loc (VT d L))))
        ∗ (curV.view.loc (VT d L) ↦{fullShare} (nexts s (16 * t) : Buf (Elt F) (curV.view.loc (VT d L)))))

set_option maxRecDepth 16384 in
/-- The loop puts every assignment at its slot. -/
theorem loop3 (h1 : k0_cond1 L = 1#1) (s : Buf (Elt F) (sV.view.loc (VT d L))) (hs : ∀ a, ex s a < 8) (w : Buf (Elt F) (wV.view.loc (VT d L)))
    (z : F .f32) (p : Buf (Elt F) (posV.view.loc (VT d L))) :
    sinv (F := F) d L s w z p 0 ⟨⟩
      ⊢ wp frame (wpE (defs₀ (F := F)) 𝒱₀ (VT d L) none) Set.univ
          (Scf.Loop.for k0_t3_loop (k0_t3_ok L h1) ⟨⟩ (k0_t3_body L sA (Memref.isWhole_whole _) wA (Memref.isWhole_whole _) tokA (Memref.isWhole_whole _) gateA (Memref.isWhole_whole _)
            posA (Memref.isWhole_whole _) tabA (Memref.isWhole_whole _) sV (Memref.isWhole_whole _) wV (Memref.isWhole_whole _) tokV (Memref.isWhole_whole _) gateV (Memref.isWhole_whole _)
            posV (Memref.isWhole_whole _) tabV (Memref.isWhole_whole _) curV (Memref.isWhole_whole _) cc0_scoped0 cc0_scoped1 cc0_scoped2 cc0_scoped3 cc0_scoped4 cc0_scoped5 h1))
          fun _ => sinv (F := F) d L s w z p 256 ⟨⟩ := by
  iintro H
  sl_for (sinv (F := F) d L s w z p) $$ [H]
  case region =>
    intro t _
    unfold sinv
    exact trip3 d L h1 t s hs w z p
  isplitl [H]
  · iexact H
  iintro %_ H
  rw [show Scf.trips k0_t3_loop.lb k0_t3_loop.ub k0_t3_loop.st = 256 from rfl]
  iexact H

end Cert.Proof.Dispatch

end
-- ==== Proof.Dispatch.Table.lean ====
/-
  The words computed between the loops: where each expert starts, the last block's expert and the block table.
-/
module

public import proofs.«01_k».proof.Proof.Dispatch.Scatter
public import Idealize.ShloMosaic.Lib.Pipeline.Value

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1)

variable {F : FTy → Type} [FloatOps F]
local notation "𝕄" => MT nD τ sig (HIx 1) (Elt F) ℕ UU ℕ

variable (d : Dev nD) (L : grid0.Coords)

/-- One lane of a vector of words. -/
theorem pick {k : ℕ} (hk : k < 16) (x : IVec S16 32) (h) (h') : extractAt ![0] (extractStridedSlice S1 ![k] x h) h' = x (ix1 ⟨k, hk⟩) := by
  refine congrArg x (funext fun a => Fin.ext ?_)
  match a with
  | 0 => rfl

theorem placed_zero (s : IVec S4096 32) (p : S4096.Idx → BitVec 32) : placed s 0 p = p := funext fun _ => if_neg (Nat.not_lt_zero _)

theorem placed_all (s : IVec S4096 32) (p : S4096.Idx → BitVec 32) : placed s 256 p = fun y => BitVec.ofNat 32 (slot s (y 0).val) :=
  funext fun y => if_pos (show (y 0).val < 16 * 256 from (y 0).isLt)

/-- The first slot of expert `k`. -/
theorem start_word (s : IVec S4096 32) (k : Fin 16) : muli (k0_pay49 (counts s 4096)) (broadcast S16 512#32) (ix1 k) = nextw s 0 k.val := by
  show k0_pay49 (counts s 4096) (ix1 k) * 512#32 = _
  have h0 : cnt s 0 k.val = 0 := by unfold cnt; rfl
  rw [starts_lane]
  unfold nextw
  rw [h0, Nat.add_zero, Nat.mul_comm, BitVec.ofNat_mul]

/-- One of the eight comparisons that find the expert of block `b`. -/
theorem passed_word (s : IVec S4096 32) (hs : ∀ a, ex s a < 8) (b n : ℕ) (hb : b < 64) (hn : n < 8) {a c x : BitVec 32} (hx : x = BitVec.ofNat 32 b)
    (hc : c = BitVec.ofNat 32 (bef s (n + 1))) (ha : a = BitVec.ofNat 32 (passed s b n)) :
    Scalar.addi a (Scalar.select (Scalar.cmpi .sle c x) 1#32 0#32) = BitVec.ofNat 32 (passed s b (n + 1)) := by
  subst hx
  exact passed_step s hs b n hb hn ha hc

/-- The same in one lane of a vector. -/
theorem passed_lane (s : IVec S4096 32) (hs : ∀ a, ex s a < 8) (b n : ℕ) (hb : b < 64) (hn : n < 8) {A X : IVec S16 32} {c : BitVec 32} {l : Fin 16} (hx : X (ix1 l) = BitVec.ofNat 32 b)
    (hc : c = BitVec.ofNat 32 (bef s (n + 1))) (ha : A (ix1 l) = BitVec.ofNat 32 (passed s b n)) :
    addi A (select (cmpi .sge X (broadcast S16 c)) (broadcast S16 1#32) (broadcast S16 0#32)) (ix1 l) = BitVec.ofNat 32 (passed s b (n + 1)) := by
  have h := passed_step s hs b n hb hn ha hc
  rw [← hx] at h
  exact h

/-- The block table: each block's expert, the block to fetch and whether the block is in use. -/
def table (s : IVec S4096 32) : S96.Idx → BitVec 32 := fun y =>
  if (y 0).val < 32 then BitVec.ofNat 32 (owner s (min (y 0).val (bef s 8 - 1)))
  else if (y 0).val < 64 then BitVec.ofNat 32 (min ((y 0).val - 32) (bef s 8 - 1))
  else if (y 0).val - 64 < bef s 8 then 1#32 else 0#32

theorem used_word (s : IVec S4096 32) (hs : ∀ a, ex s a < 8) (b : ℕ) (hb : b < 64) {α : Type} (A Z : α) {x T : BitVec 32} (hx : x = BitVec.ofNat 32 b) (hT : T = BitVec.ofNat 32 (bef s 8)) :
    Scalar.select (BitVec.ofBool (x.slt T)) A Z = if b < bef s 8 then A else Z := by
  have := bef_le s hs (k := 8) le_rfl
  rw [hx, hT, Routing.slt_ofNat32 (by omega) (by omega)]
  by_cases h : b < bef s 8
  · rw [if_pos h, decide_eq_true h]; rfl
  · rw [if_neg h, decide_eq_false h]; rfl

theorem table_owner (s : IVec S4096 32) (hs : ∀ a, ex s a < 8) (b : ℕ) (hb : b < 32) {A X : IVec S16 32} {Z T : BitVec 32} {l : Fin 16} (hx : X (ix1 l) = BitVec.ofNat 32 b) (hT : T = BitVec.ofNat 32 (bef s 8))
    (hA : A (ix1 l) = BitVec.ofNat 32 (owner s b)) (hZ : Z = BitVec.ofNat 32 (owner s (bef s 8 - 1))) :
    select (cmpi .slt X (broadcast S16 T)) A (broadcast S16 Z) (ix1 l) = table s (ix1 ⟨b, by omega⟩) := by
  refine (used_word s hs b (by omega) (A (ix1 l)) Z hx hT).trans ?_
  unfold table
  show _ = if b < 32 then BitVec.ofNat 32 (owner s (min b (bef s 8 - 1))) else _
  rw [if_pos hb]
  have := bef_eight_bound s hs
  by_cases h : b < bef s 8
  · rw [if_pos h, hA, show min b (bef s 8 - 1) = b by omega]
  · rw [if_neg h, hZ, show min b (bef s 8 - 1) = bef s 8 - 1 by omega]

theorem table_block (s : IVec S4096 32) (hs : ∀ a, ex s a < 8) (b : ℕ) (hb : b < 32) {X : IVec S16 32} {Z T : BitVec 32} {l : Fin 16} (hx : X (ix1 l) = BitVec.ofNat 32 b) (hT : T = BitVec.ofNat 32 (bef s 8))
    (hZ : Z = BitVec.ofNat 32 (bef s 8 - 1)) :
    select (cmpi .slt X (broadcast S16 T)) X (broadcast S16 Z) (ix1 l) = table s (ix1 ⟨32 + b, by omega⟩) := by
  refine (used_word s hs b (by omega) (X (ix1 l)) Z hx hT).trans ?_
  unfold table
  refine Eq.trans ?_ ((if_neg (show ¬ 32 + b < 32 by omega)).trans (if_pos (show 32 + b < 64 by omega))).symm
  show _ = BitVec.ofNat 32 (min (32 + b - 32) (bef s 8 - 1))
  have := bef_eight_bound s hs
  by_cases h : b < bef s 8
  · rw [if_pos h, hx, show min (32 + b - 32) (bef s 8 - 1) = b by omega]
  · rw [if_neg h, hZ, show min (32 + b - 32) (bef s 8 - 1) = bef s 8 - 1 by omega]

theorem table_used (s : IVec S4096 32) (hs : ∀ a, ex s a < 8) (b : ℕ) (hb : b < 32) {X : IVec S16 32} {T : BitVec 32} {l : Fin 16} (hx : X (ix1 l) = BitVec.ofNat 32 b) (hT : T = BitVec.ofNat 32 (bef s 8)) :
    select (cmpi .slt X (broadcast S16 T)) (broadcast S16 1#32) (broadcast S16 0#32) (ix1 l) = table s (ix1 ⟨64 + b, by omega⟩) := by
  refine (used_word s hs b (by omega) 1#32 0#32 hx hT).trans ?_
  unfold table
  refine Eq.trans ?_ ((if_neg (show ¬ 64 + b < 32 by omega)).trans (if_neg (show ¬ 64 + b < 64 by omega))).symm
  show _ = if 64 + b - 64 < bef s 8 then 1#32 else 0#32
  rw [show 64 + b - 64 = b by omega]

/-- The last of several stores agrees with `f`, and so do the others where it doesn't reach. -/
theorem read_peel (f : S96.Idx → BitVec 32) (t : ℕ) (ht : t < 6) {o : Fin 1 → ℕ} (ho : o = ![16 * t]) (hi : ∀ a, o a + S16.size a ≤ S96.size a) (g)
    (w : IVec S16 32) (hw : ∀ l : Fin 16, w (ix1 l) = f (ix1 ⟨16 * t + l.val, by omega⟩)) (P : List (View.Piece (Elt F) S96 .i32)) (y : S96.Idx)
    (hP : ¬ (16 * t ≤ (y 0).val ∧ (y 0).val < 16 * t + 16) → tabV.view.read (Elt F) (tabV.view.writes (Elt F) g P) y = f y) :
    tabV.view.read (Elt F) (tabV.view.writes (Elt F) g (⟨Rect.unit (s := S96) o S16.size hi, w⟩ :: P)) y = f y := by
  refine (read_last16 (F := F) tabV t ho hi g w P y).trans ?_
  by_cases h : 16 * t ≤ (y 0).val ∧ (y 0).val < 16 * t + 16
  · rw [dif_pos h, hw]
    congr 1
    funext a; apply Fin.ext
    match a with
    | 0 =>
      show 16 * t + ((y 0).val - 16 * t) = (y 0).val
      omega
  · rw [dif_neg h]; exact hP h

theorem writes_table (f : S96.Idx → BitVec 32) (g : Buf (Elt F) (tabV.view.loc (VT d L))) (w0 w1 w2 w3 w4 w5 : IVec S16 32) (hw0 : ∀ l : Fin 16, w0 (ix1 l) = f (ix1 ⟨0 + l.val, by omega⟩))
    (hw1 : ∀ l : Fin 16, w1 (ix1 l) = f (ix1 ⟨16 + l.val, by omega⟩)) (hw2 : ∀ l : Fin 16, w2 (ix1 l) = f (ix1 ⟨32 + l.val, by omega⟩))
    (hw3 : ∀ l : Fin 16, w3 (ix1 l) = f (ix1 ⟨48 + l.val, by omega⟩)) (hw4 : ∀ l : Fin 16, w4 (ix1 l) = f (ix1 ⟨64 + l.val, by omega⟩))
    (hw5 : ∀ l : Fin 16, w5 (ix1 l) = f (ix1 ⟨80 + l.val, by omega⟩)) :
    tabV.view.writes (Elt F) g [⟨Rect.unit (s := S96) ![80] S16.size inb_S96_S16_80, w5⟩, ⟨Rect.unit (s := S96) ![48] S16.size inb_S96_S16_48, w3⟩,
      ⟨Rect.unit (s := S96) ![16] S16.size inb_S96_S16_16, w1⟩, ⟨Rect.unit (s := S96) ![64] S16.size inb_S96_S16_64, w4⟩,
      ⟨Rect.unit (s := S96) ![32] S16.size inb_S96_S16_32, w2⟩, ⟨Rect.unit (s := S96) ![0] S16.size inb_S96_S16_0, w0⟩] = f := by
  funext y
  have hy : (y 0).val < 96 := (y 0).isLt
  exact read_peel (F := F) f 5 (by decide) rfl inb_S96_S16_80 g w5 hw5 _ y fun h5 =>
    read_peel (F := F) f 3 (by decide) rfl inb_S96_S16_48 g w3 hw3 _ y fun h3 =>
    read_peel (F := F) f 1 (by decide) rfl inb_S96_S16_16 g w1 hw1 _ y fun h1 =>
    read_peel (F := F) f 4 (by decide) rfl inb_S96_S16_64 g w4 hw4 _ y fun h4 =>
    read_peel (F := F) f 2 (by decide) rfl inb_S96_S16_32 g w2 hw2 _ y fun h2 =>
    read_peel (F := F) f 0 (by decide) rfl inb_S96_S16_0 g w0 hw0 _ y fun h0 => by omega

end Cert.Proof.Dispatch

end
-- ==== Proof.Dispatch.Run.lean ====
/-
  The body of one vector subcore. Only the first one works: it fetches the choices and the weights, runs the three
  loops, and copies the tokens, the gates, the slots and the block table out.
-/
module

public import proofs.«01_k».proof.Proof.Dispatch.Table
public import Idealize.ShloMosaic.Lib.Pipeline.Value

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1)

variable {F : FTy → Type} [FloatOps F]
local notation "𝕄" => MT nD τ sig (HIx 1) (Elt F) ℕ UU ℕ

variable (d : Dev nD) (L : grid0.Coords)

def tokens (s : IVec S4096 32) : S8192.Idx → BitVec 32 := put s (fun a => BitVec.ofNat 32 (a / 2)) 0#32 4096
def gates (s : IVec S4096 32) (w : S4096.Idx → F .f32) : S8192.Idx → F .f32 := put s (wt w) (Scalar.ofBits .f32 0x00000000#32) 4096
def slots (s : IVec S4096 32) : S4096.Idx → BitVec 32 := fun y => BitVec.ofNat 32 (slot s (y 0).val)

/-- The subcore's six transfer counters at zero. -/
def cells0 : sProp 𝕄 :=
  iprop(semVal (VT d L, SemLoc.dma cc0_scoped0.sem) 0 ∗ semVal (VT d L, SemLoc.dma cc0_scoped1.sem) 0 ∗ semVal (VT d L, SemLoc.dma cc0_scoped2.sem) 0
    ∗ semVal (VT d L, SemLoc.dma cc0_scoped3.sem) 0 ∗ semVal (VT d L, SemLoc.dma cc0_scoped4.sem) 0 ∗ semVal (VT d L, SemLoc.dma cc0_scoped5.sem) 0)

/-- The subcore's scratch buffers at some contents. -/
def scratch : sProp 𝕄 :=
  iprop((∃ g, sV.view.loc (VT d L) ↦{fullShare} g) ∗ (∃ g, wV.view.loc (VT d L) ↦{fullShare} g) ∗ (∃ g, tokV.view.loc (VT d L) ↦{fullShare} g)
    ∗ (∃ g, gateV.view.loc (VT d L) ↦{fullShare} g) ∗ (∃ g, posV.view.loc (VT d L) ↦{fullShare} g) ∗ (∃ g, tabV.view.loc (VT d L) ↦{fullShare} g)
    ∗ (∃ g, curV.view.loc (VT d L) ↦{fullShare} g))

set_option maxHeartbeats 4000000 in
/-- The first subcore's body. -/
theorem tile_run (h1 : k0_cond1 L = 1#1) (s : Buf (Elt F) (sA.view.loc (VT d L))) (hs : ∀ a, ex s a < 8) (w : Buf (Elt F) (wA.view.loc (VT d L)))
    (f : Buf (Elt F) (tokA.view.loc (VT d L))) (g : Buf (Elt F) (gateA.view.loc (VT d L))) (p : Buf (Elt F) (posA.view.loc (VT d L))) (b : Buf (Elt F) (tabA.view.loc (VT d L)))
    (O : CellTallies nD τ sig (HIx 1)) (W : Waits sig (HIx 1)) :
    (iprop(Transfers.MayWaits (VT d L) (default : HIx 1) O
        ∗ (sA.view.loc (VT d L) ↦{fullShare} s) ∗ (wA.view.loc (VT d L) ↦{fullShare} w) ∗ (tokA.view.loc (VT d L) ↦{fullShare} f)
        ∗ (gateA.view.loc (VT d L) ↦{fullShare} g) ∗ (posA.view.loc (VT d L) ↦{fullShare} p) ∗ (tabA.view.loc (VT d L) ↦{fullShare} b)
        ∗ scratch (F := F) d L ∗ cells0 d L ∗ owes (VT d L) O W) : sProp 𝕄)
      ⊢ wp frame (wpE (defs₀ (F := F)) 𝒱₀ (VT d L) none) Set.univ
          (cc0__dispatch_body L sA (Memref.isWhole_whole _) wA (Memref.isWhole_whole _) tokA (Memref.isWhole_whole _) gateA (Memref.isWhole_whole _)
            posA (Memref.isWhole_whole _) tabA (Memref.isWhole_whole _) sV (Memref.isWhole_whole _) wV (Memref.isWhole_whole _) tokV (Memref.isWhole_whole _) gateV (Memref.isWhole_whole _)
            posV (Memref.isWhole_whole _) tabV (Memref.isWhole_whole _) curV (Memref.isWhole_whole _) cc0_scoped0 cc0_scoped1 cc0_scoped2 cc0_scoped3 cc0_scoped4 cc0_scoped5)
          fun _ => iprop((sA.view.loc (VT d L) ↦{fullShare} s) ∗ (wA.view.loc (VT d L) ↦{fullShare} w)
            ∗ (tokA.view.loc (VT d L) ↦{fullShare} (tokens s : Buf (Elt F) (tokA.view.loc (VT d L))))
            ∗ (gateA.view.loc (VT d L) ↦{fullShare} (gates (F := F) s w : Buf (Elt F) (gateA.view.loc (VT d L))))
            ∗ (posA.view.loc (VT d L) ↦{fullShare} (slots s : Buf (Elt F) (posA.view.loc (VT d L))))
            ∗ (tabA.view.loc (VT d L) ↦{fullShare} (table s : Buf (Elt F) (tabA.view.loc (VT d L))))
            ∗ scratch (F := F) d L ∗ cells0 d L
            ∗ ∃ W', ⌜∀ p ∈ W', p ∈ W ∨ p.2 = none⌝ ∗ owes (VT d L) O W') := by
  unfold cells0 scratch
  iintro ⟨#Hmw, HS, HW, HT, HG, HP, HB, ⟨⟨%gs, Hs⟩, ⟨%gw, Hw⟩, ⟨%gt, Ht⟩, ⟨%gg, Hg⟩, ⟨%gp, Hp⟩, ⟨%gb, Hb⟩, ⟨%gc, Hc⟩⟩, ⟨Hc0, Hc1, Hc2, Hc3, Hc4, Hc5⟩, HO⟩
  sl_unfold [cc0__dispatch_body]
  unfold cc0__dispatch_body_skel
  rw [dif_pos h1]
  sl_exec
  have hs1 : sV.view.write (Elt F) gs (tile_run.sl.dma0 d L s) Finset.univ = s := View.write_whole_univ cc0_scratch0 gs _
  have hw1 : wV.view.write (Elt F) gw (tile_run.sl.dma0_1 d L w) Finset.univ = w := View.write_whole_univ cc0_scratch1 gw _
  rw [hs1, hw1]
  rw [wp_bind]
  iapply (wp_wand_r Idealize.ShloMosaic.frame (wpE (defs₀ (F := F)) 𝒱₀ (VT d L) none) Set.univ)
  isplitl [Ht Hg]
  · iapply (loop1 d L h1 _ _) $$ [Ht Hg]
    isplitl [Ht]; · iexact Ht
    iexact Hg
  iintro %_ ⟨Ht, Hg⟩
  sl_exec
  rw [wp_bind]
  iapply (wp_wand_r Idealize.ShloMosaic.frame (wpE (defs₀ (F := F)) 𝒱₀ (VT d L) none) Set.univ)
  isplitl [Hs]
  · iapply (loop2 d L h1 s hs) $$ [Hs]
    iexact Hs
  iintro %c0 ⟨%hc0, Hs⟩
  subst hc0
  sl_exec
  have hc : curV.view.writes (Elt F) curV.view.junk (tile_run.sl.Hc_8 d L s) = nexts s 0 := writes_puts (F := F) (nexts s 0) _ _
    ⟨puts_one _ 7 (by decide) rfl inb_S8_S1_7 _ ((pick (k := 7) (by decide) _ slices_S16_o7_S1 _).trans (start_word s 7)),
      puts_one _ 6 (by decide) rfl inb_S8_S1_6 _ ((pick (k := 6) (by decide) _ slices_S16_o6_S1 _).trans (start_word s 6)),
      puts_one _ 5 (by decide) rfl inb_S8_S1_5 _ ((pick (k := 5) (by decide) _ slices_S16_o5_S1 _).trans (start_word s 5)),
      puts_one _ 4 (by decide) rfl inb_S8_S1_4 _ ((pick (k := 4) (by decide) _ slices_S16_o4_S1 _).trans (start_word s 4)),
      puts_one _ 3 (by decide) rfl inb_S8_S1_3 _ ((pick (k := 3) (by decide) _ slices_S16_o3_S1 _).trans (start_word s 3)),
      puts_one _ 2 (by decide) rfl inb_S8_S1_2 _ ((pick (k := 2) (by decide) _ slices_S16_o2_S1 _).trans (start_word s 2)),
      puts_one _ 1 (by decide) rfl inb_S8_S1_1 _ ((pick (k := 1) (by decide) _ slices_S16_o1_S1 _).trans (start_word s 1)),
      puts_one _ 0 (by decide) rfl inb_S8_S1_0 _ ((pick (k := 0) (by decide) _ slices_S16_o0_S1 _).trans (start_word s 0)), trivial⟩
  have g1 : tile_run.sl.v78 (F := F) d L s = BitVec.ofNat 32 (bef s 1) := (pick (k := 0) (by decide) _ slices_S16_o0_S1 _).trans (ends_lane s 0)
  have g2 : tile_run.sl.v80 (F := F) d L s = BitVec.ofNat 32 (bef s 2) := (pick (k := 1) (by decide) _ slices_S16_o1_S1 _).trans (ends_lane s 1)
  have g3 : tile_run.sl.v82 (F := F) d L s = BitVec.ofNat 32 (bef s 3) := (pick (k := 2) (by decide) _ slices_S16_o2_S1 _).trans (ends_lane s 2)
  have g4 : tile_run.sl.v84 (F := F) d L s = BitVec.ofNat 32 (bef s 4) := (pick (k := 3) (by decide) _ slices_S16_o3_S1 _).trans (ends_lane s 3)
  have g5 : tile_run.sl.v86 (F := F) d L s = BitVec.ofNat 32 (bef s 5) := (pick (k := 4) (by decide) _ slices_S16_o4_S1 _).trans (ends_lane s 4)
  have g6 : tile_run.sl.v88 (F := F) d L s = BitVec.ofNat 32 (bef s 6) := (pick (k := 5) (by decide) _ slices_S16_o5_S1 _).trans (ends_lane s 5)
  have g7 : tile_run.sl.v90 (F := F) d L s = BitVec.ofNat 32 (bef s 7) := (pick (k := 6) (by decide) _ slices_S16_o6_S1 _).trans (ends_lane s 6)
  have g8 : tile_run.sl.v92 (F := F) d L s = BitVec.ofNat 32 (bef s 8) := (pick (k := 7) (by decide) _ slices_S16_o7_S1 _).trans (ends_lane s 7)
  have gt' : tile_run.sl.v44 (F := F) d L s = BitVec.ofNat 32 (bef s 8) := total_word s hs
  have hb8 := bef_eight_bound s hs
  have gz : tile_run.sl.v93 (F := F) d L s = BitVec.ofNat 32 (bef s 8 - 1) := by
    show tile_run.sl.v44 (F := F) d L s - BitVec.ofNat 32 1 = _
    rw [gt', Routing.ofNat32_sub hb8.1]
  have z0 : ∀ b, (0#32 : BitVec 32) = BitVec.ofNat 32 (passed s b 0) := fun _ => rfl
  have hz : bef s 8 - 1 < 64 := by omega
  have e1 : tile_run.sl.v96 (F := F) d L s = BitVec.ofNat 32 (passed s (bef s 8 - 1) 1) := passed_word s hs _ 0 hz (by decide) gz g1 (z0 _)
  have e2 : tile_run.sl.v100 (F := F) d L s = BitVec.ofNat 32 (passed s (bef s 8 - 1) 2) := passed_word s hs _ 1 hz (by decide) gz g2 e1
  have e3 : tile_run.sl.v104 (F := F) d L s = BitVec.ofNat 32 (passed s (bef s 8 - 1) 3) := passed_word s hs _ 2 hz (by decide) gz g3 e2
  have e4 : tile_run.sl.v108 (F := F) d L s = BitVec.ofNat 32 (passed s (bef s 8 - 1) 4) := passed_word s hs _ 3 hz (by decide) gz g4 e3
  have e5 : tile_run.sl.v112 (F := F) d L s = BitVec.ofNat 32 (passed s (bef s 8 - 1) 5) := passed_word s hs _ 4 hz (by decide) gz g5 e4
  have e6 : tile_run.sl.v116 (F := F) d L s = BitVec.ofNat 32 (passed s (bef s 8 - 1) 6) := passed_word s hs _ 5 hz (by decide) gz g6 e5
  have e7 : tile_run.sl.v120 (F := F) d L s = BitVec.ofNat 32 (passed s (bef s 8 - 1) 7) := passed_word s hs _ 6 hz (by decide) gz g7 e6
  have e8 : tile_run.sl.v124 (F := F) d L s = BitVec.ofNat 32 (passed s (bef s 8 - 1) 8) := passed_word s hs _ 7 hz (by decide) gz g8 e7
  have gl : tile_run.sl.v124 (F := F) d L s = BitVec.ofNat 32 (owner s (bef s 8 - 1)) := e8
  have i0 : ∀ l : Fin 16, addi tile_run.sl.v125 tile_run.sl.v126 (ix1 l) = BitVec.ofNat 32 (0 + l.val) := fun l => by
    show iota .scVector S16 32 [0] iota_S16_d0_w32_scVector (ix1 l) + 0#32 = _
    rw [lane_iota, BitVec.add_zero, Nat.zero_add]
  have i1 : ∀ l : Fin 16, addi tile_run.sl.v125 tile_run.sl.v191 (ix1 l) = BitVec.ofNat 32 (16 + l.val) := fun l => by
    show iota .scVector S16 32 [0] iota_S16_d0_w32_scVector (ix1 l) + BitVec.ofNat 32 16 = _
    rw [lane_iota, ← BitVec.ofNat_add, Nat.add_comm]
  have o0 : ∀ l : Fin 16, tile_run.sl.v176 (F := F) d L s (ix1 l) = BitVec.ofNat 32 (owner s (0 + l.val)) := fun l => by
    have hl : 0 + l.val < 64 := by omega
    have e1 : tile_run.sl.v134 (F := F) d L s (ix1 l) = BitVec.ofNat 32 (passed s (0 + l.val) 1) := passed_lane s hs _ 0 hl (by decide) (i0 l) g1 (show tile_run.sl.v126 (ix1 l) = _ from z0 _)
    have e2 : tile_run.sl.v140 (F := F) d L s (ix1 l) = BitVec.ofNat 32 (passed s (0 + l.val) 2) := passed_lane s hs _ 1 hl (by decide) (i0 l) g2 e1
    have e3 : tile_run.sl.v146 (F := F) d L s (ix1 l) = BitVec.ofNat 32 (passed s (0 + l.val) 3) := passed_lane s hs _ 2 hl (by decide) (i0 l) g3 e2
    have e4 : tile_run.sl.v152 (F := F) d L s (ix1 l) = BitVec.ofNat 32 (passed s (0 + l.val) 4) := passed_lane s hs _ 3 hl (by decide) (i0 l) g4 e3
    have e5 : tile_run.sl.v158 (F := F) d L s (ix1 l) = BitVec.ofNat 32 (passed s (0 + l.val) 5) := passed_lane s hs _ 4 hl (by decide) (i0 l) g5 e4
    have e6 : tile_run.sl.v164 (F := F) d L s (ix1 l) = BitVec.ofNat 32 (passed s (0 + l.val) 6) := passed_lane s hs _ 5 hl (by decide) (i0 l) g6 e5
    have e7 : tile_run.sl.v170 (F := F) d L s (ix1 l) = BitVec.ofNat 32 (passed s (0 + l.val) 7) := passed_lane s hs _ 6 hl (by decide) (i0 l) g7 e6
    have e8 : tile_run.sl.v176 (F := F) d L s (ix1 l) = BitVec.ofNat 32 (passed s (0 + l.val) 8) := passed_lane s hs _ 7 hl (by decide) (i0 l) g8 e7
    exact e8
  have o1 : ∀ l : Fin 16, tile_run.sl.v241 (F := F) d L s (ix1 l) = BitVec.ofNat 32 (owner s (16 + l.val)) := fun l => by
    have hl : 16 + l.val < 64 := by omega
    have e1 : tile_run.sl.v199 (F := F) d L s (ix1 l) = BitVec.ofNat 32 (passed s (16 + l.val) 1) := passed_lane s hs _ 0 hl (by decide) (i1 l) g1 (show tile_run.sl.v126 (ix1 l) = _ from z0 _)
    have e2 : tile_run.sl.v205 (F := F) d L s (ix1 l) = BitVec.ofNat 32 (passed s (16 + l.val) 2) := passed_lane s hs _ 1 hl (by decide) (i1 l) g2 e1
    have e3 : tile_run.sl.v211 (F := F) d L s (ix1 l) = BitVec.ofNat 32 (passed s (16 + l.val) 3) := passed_lane s hs _ 2 hl (by decide) (i1 l) g3 e2
    have e4 : tile_run.sl.v217 (F := F) d L s (ix1 l) = BitVec.ofNat 32 (passed s (16 + l.val) 4) := passed_lane s hs _ 3 hl (by decide) (i1 l) g4 e3
    have e5 : tile_run.sl.v223 (F := F) d L s (ix1 l) = BitVec.ofNat 32 (passed s (16 + l.val) 5) := passed_lane s hs _ 4 hl (by decide) (i1 l) g5 e4
    have e6 : tile_run.sl.v229 (F := F) d L s (ix1 l) = BitVec.ofNat 32 (passed s (16 + l.val) 6) := passed_lane s hs _ 5 hl (by decide) (i1 l) g6 e5
    have e7 : tile_run.sl.v235 (F := F) d L s (ix1 l) = BitVec.ofNat 32 (passed s (16 + l.val) 7) := passed_lane s hs _ 6 hl (by decide) (i1 l) g7 e6
    have e8 : tile_run.sl.v241 (F := F) d L s (ix1 l) = BitVec.ofNat 32 (passed s (16 + l.val) 8) := passed_lane s hs _ 7 hl (by decide) (i1 l) g8 e7
    exact e8
  have hb : tabV.view.writes (Elt F) tabV.view.junk (tile_run.sl.Hb_6 d L s) = (table s : Buf (Elt F) (tabV.view.loc (VT d L))) :=
    writes_table (F := F) d L (table s) _ _ _ _ _ _ _ (fun l => table_owner s hs (0 + l.val) (by omega) (i0 l) gt' (o0 l) gl)
      (fun l => table_owner s hs (16 + l.val) (by omega) (i1 l) gt' (o1 l) gl) (fun l => (table_block s hs (0 + l.val) (by omega) (i0 l) gt' gz).trans (by congr 2; simp))
      (fun l => (table_block s hs (16 + l.val) (by omega) (i1 l) gt' gz).trans (by congr 2; simp [← Nat.add_assoc]))
      (fun l => (table_used s hs (0 + l.val) (by omega) (i0 l) gt').trans (by congr 2; simp))
      (fun l => (table_used s hs (16 + l.val) (by omega) (i1 l) gt').trans (by congr 2; simp [← Nat.add_assoc]))
  rw [hc, hb, wp_bind]
  iapply (wp_wand_r Idealize.ShloMosaic.frame (wpE (defs₀ (F := F)) 𝒱₀ (VT d L) none) Set.univ)
  isplitl [Hs Hw Ht Hg Hp Hc]
  · iapply (loop3 (F := F) d L h1 s hs w (Scalar.ofBits .f32 0x00000000#32) gp) $$ [Hs Hw Ht Hg Hp Hc]
    unfold sinv
    isplitl [Hs]; · iexact Hs
    isplitl [Hw]; · iexact Hw
    isplitl [Ht]; · iexact Ht
    isplitl [Hg]; · iexact Hg
    isplitl [Hp]; · iapply (Entails.of_eq (congrArg (fun z => (posV.view.loc (VT d L) ↦{fullShare} (z : Buf (Elt F) (posV.view.loc (VT d L))) : sProp 𝕄)) (placed_zero s gp).symm)); iexact Hp
    iexact Hc
  unfold sinv
  iintro %_ ⟨Hs, Hw, Ht, Hg, Hp, Hc⟩
  sl_exec
  sl_step
  have ht1 : tokA.view.write (Elt F) f (tile_run.sl.dma0_2 d L s) Finset.univ = (tokens s : Buf (Elt F) (tokA.view.loc (VT d L))) := View.write_whole_univ main_v0_0_scv f _
  have hg1 : gateA.view.write (Elt F) g (tile_run.sl.dma0_3 d L s w) Finset.univ = (gates (F := F) s w : Buf (Elt F) (gateA.view.loc (VT d L))) := View.write_whole_univ main_v0_1_scv g _
  have hp1 : posA.view.write (Elt F) p (tile_run.sl.dma0_4 d L s gp) Finset.univ = (slots s : Buf (Elt F) (posA.view.loc (VT d L))) :=
    (View.write_whole_univ main_v0_2_scv p _).trans (placed_all s gp)
  have hb1 : tabA.view.write (Elt F) b (tile_run.sl.dma0_5 d L s) Finset.univ = (table s : Buf (Elt F) (tabA.view.loc (VT d L))) := View.write_whole_univ main_v0_3_scv b _
  rw [ht1, hg1, hp1, hb1]
  isplitl [HS]; · iexact HS
  isplitl [HW]; · iexact HW
  isplitl [HT]; · iexact HT
  isplitl [HG]; · iexact HG
  isplitl [HP]; · iexact HP
  isplitl [HB]; · iexact HB
  isplitl [Hs Hw Ht Hg Hp Hb Hc]
  · isplitl [Hs]; · iexists _; iexact Hs
    isplitl [Hw]; · iexists _; iexact Hw
    isplitl [Ht]; · iexists _; iexact Ht
    isplitl [Hg]; · iexists _; iexact Hg
    isplitl [Hp]; · iexists _; iexact Hp
    isplitl [Hb]; · iexists _; iexact Hb
    iexists _; iexact Hc
  isplitl [Hc0 Hc1 Hc2 Hc3 Hc4 Hc5]
  · isplitl [Hc0]; · iexact Hc0
    isplitl [Hc1]; · iexact Hc1
    isplitl [Hc2]; · iexact Hc2
    isplitl [Hc3]; · iexact Hc3
    isplitl [Hc4]; · iexact Hc4
    iexact Hc5
  iexists _; isplitr
  swap; · iexact HO
  ipureintro; intro w hw
  simp only [Finset.mem_insert] at hw
  repeat' rcases hw with rfl | hw
  all_goals first | exact .inr rfl | exact .inl hw

/-- The other subcores' bodies do nothing. -/
theorem tile_idle (h1 : ¬ k0_cond1 L = 1#1) (Q : PUnit → sProp 𝕄) :
    Q ⟨⟩ ⊢ wp frame (wpE (defs₀ (F := F)) 𝒱₀ (VT d L) none) Set.univ
          (cc0__dispatch_body L sA (Memref.isWhole_whole _) wA (Memref.isWhole_whole _) tokA (Memref.isWhole_whole _) gateA (Memref.isWhole_whole _)
            posA (Memref.isWhole_whole _) tabA (Memref.isWhole_whole _) sV (Memref.isWhole_whole _) wV (Memref.isWhole_whole _) tokV (Memref.isWhole_whole _) gateV (Memref.isWhole_whole _)
            posV (Memref.isWhole_whole _) tabV (Memref.isWhole_whole _) curV (Memref.isWhole_whole _) cc0_scoped0 cc0_scoped1 cc0_scoped2 cc0_scoped3 cc0_scoped4 cc0_scoped5) Q := by
  iintro H
  sl_unfold [cc0__dispatch_body]
  unfold cc0__dispatch_body_skel
  rw [dif_neg h1]
  sl_step
  iexact H

end Cert.Proof.Dispatch

end
-- ==== Proof.Dispatch.Launch.lean ====
/-
  The launch. The first subcore of the first SparseCore takes all six arrays and brings them back, the results at their
  final values; the other thirty-one take nothing.
-/
module

public import proofs.«01_k».proof.Proof.Dispatch.Run

@[expose] public section

noncomputable section

namespace Cert.Proof.Dispatch

open Cert.DispatchIdeal Cert.DispatchIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

variable (m : (ℓ : Loc nD τ sig) → Buf (Elt F) ℓ) (ρ : Dev nD → PrngReg)

/-- The grid point of subcore `i` of core `c`. -/
def pt (c : Fin 2) (i : Fin 16) : grid0.Coords :=
  fun | 0 => c | 1 => i | ⟨_ + 2, h⟩ => absurd h (Nat.not_lt.2 (Nat.le_add_left _ _))

/-- The first subcore takes everything, the others nothing. -/
abbrev all (L : grid0.Coords) {X : Type} [Fintype X] : Finset X := if k0_cond1 L = 1#1 then Finset.univ else ∅

omit [FloatOps F] in
theorem first_iff : ∀ (c : Fin 2) (i : Fin 16), k0_cond1 (pt c i) = 1#1 ↔ c = 0 ∧ i = 0 := by decide

omit [FloatOps F] in
/-- Different subcores' parts of an array are apart, and together they are the array. -/
theorem deal {X : Type} [DecidableEq X] [Fintype X] :
    (∀ c, ∀ i ∈ (Finset.univ : Finset (Fin 16)), ∀ j ∈ (Finset.univ : Finset (Fin 16)), i ≠ j → Disjoint (all (pt c i) : Finset X) (all (pt c j)))
      ∧ (∀ c ∈ (Finset.univ : Finset (Fin 2)), ∀ c' ∈ (Finset.univ : Finset (Fin 2)), c ≠ c' →
          Disjoint ((Finset.univ : Finset (Fin 16)).biUnion fun i => (all (pt c i) : Finset X)) ((Finset.univ : Finset (Fin 16)).biUnion fun i => all (pt c' i)))
      ∧ ((Finset.univ : Finset (Fin 2)).biUnion fun c => (Finset.univ : Finset (Fin 16)).biUnion fun i => (all (pt c i) : Finset X)) = Finset.univ := by
  have hq : ∀ (c : Fin 2) (i : Fin 16) (x : X), x ∈ (all (pt c i) : Finset X) ↔ c = 0 ∧ i = 0 := by
    intro c i x
    rw [← first_iff c i]
    unfold all
    by_cases h : k0_cond1 (pt c i) = 1#1
    · rw [if_pos h]; exact iff_of_true (Finset.mem_univ x) h
    · rw [if_neg h]; exact iff_of_false (Finset.notMem_empty x) h
  refine ⟨fun c i _ j _ hij => ?_, fun c _ c' _ hc => ?_, ?_⟩
  · rw [Finset.disjoint_left]
    intro x h1 h2
    rw [hq] at h1 h2
    exact hij (h1.2.trans h2.2.symm)
  · rw [Finset.disjoint_left]
    intro x h1 h2
    obtain ⟨i, -, h1⟩ := Finset.mem_biUnion.mp h1
    obtain ⟨j, -, h2⟩ := Finset.mem_biUnion.mp h2
    rw [hq] at h1 h2
    exact hc (h1.1.trans h2.1.symm)
  · exact Finset.eq_univ_iff_forall.mpr fun x =>
      Finset.mem_biUnion.mpr ⟨0, Finset.mem_univ _, Finset.mem_biUnion.mpr ⟨0, Finset.mem_univ _, (hq 0 0 x).mpr ⟨rfl, rfl⟩⟩⟩

/-! ## What the launch hands over and takes back -/

abbrev rTok (d : Dev nD) : Buf (Elt F) (tokLoc d) := tokens (m (sLoc d))
abbrev rGate (d : Dev nD) : Buf (Elt F) (gateLoc d) := gates (F := F) (m (sLoc d)) (m (wLoc d))
abbrev rPos (d : Dev nD) : Buf (Elt F) (posLoc d) := slots (m (sLoc d))
abbrev rTab (d : Dev nD) : Buf (Elt F) (tabLoc d) := table (m (sLoc d))

/-- A subcore's part, the results at `t`, `g`, `p` and `b`. -/
abbrev Part (d : Dev nD) (t : Buf (Elt F) (tokLoc d)) (g : Buf (Elt F) (gateLoc d)) (p : Buf (Elt F) (posLoc d)) (b : Buf (Elt F) (tabLoc d)) (L : grid0.Coords) : sProp 𝕄 :=
  iprop((sLoc d ↦[all L]{fullShare} m (sLoc d)) ∗ (wLoc d ↦[all L]{fullShare} m (wLoc d)) ∗ (tokLoc d ↦[all L]{fullShare} t)
    ∗ (gateLoc d ↦[all L]{fullShare} g) ∗ (posLoc d ↦[all L]{fullShare} p) ∗ (tabLoc d ↦[all L]{fullShare} b))

/-- A subcore's part before and after. -/
abbrev Part0 (d : Dev nD) (c : Fin 2) (i : Fin 16) : sProp 𝕄 := Part m d (m (tokLoc d)) (m (gateLoc d)) (m (posLoc d)) (m (tabLoc d)) (pt c i)
abbrev Part1 (d : Dev nD) (c : Fin 2) (i : Fin 16) : sProp 𝕄 := Part m d (rTok m d) (rGate m d) (rPos m d) (rTab m d) (pt c i)

/-- A core's part is its subcores'. -/
abbrev CPart0 (d : Dev nD) (c : Fin 2) : sProp 𝕄 := bigSep Finset.univ fun i : Fin 16 => Part0 m d c i
abbrev CPart1 (d : Dev nD) (c : Fin 2) : sProp 𝕄 := bigSep Finset.univ fun i : Fin 16 => Part1 m d c i

def P : (K (F := F)).Pay (nD := nD) (Val := Elt F) (Name := ℕ) (U := UU) where
  st := fun q d c => match q with | 0 => CPart0 m d (Fin.cast nCore_zero c)
  dn := fun q d c => match q with | 0 => CPart1 m d (Fin.cast nCore_zero c)
  go := fun q d c i => match q with | 0 => Part0 m d (Fin.cast nCore_zero c) (Fin.cast nSub_zero i)
  td := fun q d c i => match q with | 0 => Part1 m d (Fin.cast nCore_zero c) (Fin.cast nSub_zero i)
  x := fun _ _ => iprop(emp)

instance P_storable : (P (F := F) m).IsStorable where
  st q d c := match q with
    | 0 => (inferInstance : BI.Storable (upEmb : UEmb _ 𝕄) (CPart0 m d (Fin.cast nCore_zero c)))
  dn q d c := match q with
    | 0 => (inferInstance : BI.Storable (upEmb : UEmb _ 𝕄) (CPart1 m d (Fin.cast nCore_zero c)))
  go q d c i := match q with
    | 0 => (inferInstance : BI.Storable (upEmb : UEmb _ 𝕄) (Part0 m d (Fin.cast nCore_zero c) (Fin.cast nSub_zero i)))
  td q d c i := match q with
    | 0 => (inferInstance : BI.Storable (upEmb : UEmb _ 𝕄) (Part1 m d (Fin.cast nCore_zero c) (Fin.cast nSub_zero i)))

/-- Every choice is one of the eight experts. -/
def PreOK : Prop := ∀ (d : Dev nD) (j : S4096.Idx), (m (sLoc d) j).toNat < 8

/-! ## One subcore -/

section Tile

variable (d : Dev nD) (L : grid0.Coords)

omit [FloatOps F] in
theorem ownSems0_V : ∃ R : sProp 𝕄, (ownSems0 (VT d L) : sProp 𝕄) = iprop(semVal (VT d L, SemLoc.dma cc0_scoped0.sem) 0 ∗ semVal (VT d L, SemLoc.dma cc0_scoped1.sem) 0 ∗ semVal (VT d L, SemLoc.dma cc0_scoped2.sem) 0 ∗ semVal (VT d L, SemLoc.dma cc0_scoped3.sem) 0 ∗ semVal (VT d L, SemLoc.dma cc0_scoped4.sem) 0 ∗ semVal (VT d L, SemLoc.dma cc0_scoped5.sem) 0 ∗ R) := by
  refine ⟨bigSep (((((((ownCells (VT d L)).erase (VT d L, .dma cc0_scoped0.sem)).erase (VT d L, .dma cc0_scoped1.sem)).erase (VT d L, .dma cc0_scoped2.sem)).erase (VT d L, .dma cc0_scoped3.sem)).erase (VT d L, .dma cc0_scoped4.sem)).erase (VT d L, .dma cc0_scoped5.sem)) fun g => semVal g 0, ?_⟩
  have hm : ∀ s : SemLoc sig, s.isScoped .scVector = true → ((VT d L, s) : GSem nD τ sig) ∈ ownCells (VT d L) := fun s hs => mem_ownCells.mpr ⟨rfl, hs⟩
  have hne : ∀ s s' : SemLoc sig, s ≠ s' → ((VT d L, s) : GSem nD τ sig) ≠ (VT d L, s') := fun s s' h e => h (congrArg Prod.snd e)
  unfold SparseCore.Cfg.ownSems0
  rw [SparseCore.bigSep_erase' (hm (.dma cc0_scoped0.sem) (by decide)),
    SparseCore.bigSep_erase' (Finset.mem_erase.mpr ⟨hne _ _ (by decide), hm (.dma cc0_scoped1.sem) (by decide)⟩),
    SparseCore.bigSep_erase' (Finset.mem_erase.mpr ⟨hne _ _ (by decide), Finset.mem_erase.mpr ⟨hne _ _ (by decide), hm (.dma cc0_scoped2.sem) (by decide)⟩⟩),
    SparseCore.bigSep_erase' (Finset.mem_erase.mpr ⟨hne _ _ (by decide), Finset.mem_erase.mpr ⟨hne _ _ (by decide), Finset.mem_erase.mpr ⟨hne _ _ (by decide), hm (.dma cc0_scoped3.sem) (by decide)⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), hm (.dma cc0_scoped4.sem) (by decide)⟩⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), Finset.mem_erase.mpr ⟨hne _ _ (by decide), hm (.dma cc0_scoped5.sem) (by decide)⟩⟩⟩⟩⟩)]

omit [FloatOps F] in
theorem ownBufs_V : ∃ R : sProp 𝕄, (ownBufs (VT d L) : sProp 𝕄)
    = iprop((∃ f, sV.view.loc (VT d L) ↦{fullShare} f) ∗ (∃ f, wV.view.loc (VT d L) ↦{fullShare} f) ∗ (∃ f, tokV.view.loc (VT d L) ↦{fullShare} f) ∗ (∃ f, gateV.view.loc (VT d L) ↦{fullShare} f) ∗ (∃ f, posV.view.loc (VT d L) ↦{fullShare} f) ∗ (∃ f, tabV.view.loc (VT d L) ↦{fullShare} f) ∗ (∃ f, curV.view.loc (VT d L) ↦{fullShare} f) ∗ R) := by
  have hm : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b hb => SparseCore.Cfg.mem_ownRefs_of_owner hb
  have hne : ∀ b b' : Ref sig .scVector, b ≠ b' → (Proc.scVector (cV L) (jV L)).devRef b ≠ (Proc.scVector (cV L) (jV L)).devRef b' :=
    fun b b' h e => h (Proc.devRef_injective _ e)
  refine ⟨bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
      fun b => iprop(∃ f, ((d, b) : Loc nD τ sig) ↦{fullShare} f), ?_⟩
  unfold SparseCore.Cfg.ownBufs
  refine (SparseCore.bigSep_erase' (hm cc0_scratch0 rfl)).trans ?_
  rw [SparseCore.bigSep_erase' (Finset.mem_erase.mpr ⟨hne _ _ (by decide), hm cc0_scratch1 rfl⟩),
    SparseCore.bigSep_erase' (Finset.mem_erase.mpr ⟨hne _ _ (by decide), Finset.mem_erase.mpr ⟨hne _ _ (by decide), hm cc0_scratch2 rfl⟩⟩),
    SparseCore.bigSep_erase' (Finset.mem_erase.mpr ⟨hne _ _ (by decide), Finset.mem_erase.mpr ⟨hne _ _ (by decide), Finset.mem_erase.mpr ⟨hne _ _ (by decide), hm cc0_scratch3 rfl⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), hm cc0_scratch4 rfl⟩⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), Finset.mem_erase.mpr ⟨hne _ _ (by decide), hm cc0_scratch5 rfl⟩⟩⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), Finset.mem_erase.mpr ⟨hne _ _ (by decide), Finset.mem_erase.mpr ⟨hne _ _ (by decide), hm cc0_scratch6 rfl⟩⟩⟩⟩⟩⟩)]

set_option maxHeartbeats 1000000 in
theorem tile_body (hF : (K (F := F)).Facts) (hpre : PreOK m) (O : CellTallies nD τ sig (HIx 1)) (W : Waits sig (HIx 1)) (hO : ∀ g, O g none = 0) :
    (iprop(levAts (K (F := F)).L (K (F := F)).lev ∗ emp
        ∗ Part m d (m (tokLoc d)) (m (gateLoc d)) (m (posLoc d)) (m (tabLoc d)) L
        ∗ scopedBufs (VT d L) ∗ scopedSems0 (VT d L) ∗ owes (VT d L) O W) : sProp 𝕄)
      ⊢ wp frame (wpE (defs₀ (F := F)) 𝒱₀ (VT d L) none) Set.univ
          (cc0__dispatch_body L sA (Memref.isWhole_whole _) wA (Memref.isWhole_whole _) tokA (Memref.isWhole_whole _) gateA (Memref.isWhole_whole _)
            posA (Memref.isWhole_whole _) tabA (Memref.isWhole_whole _) sV (Memref.isWhole_whole _) wV (Memref.isWhole_whole _) tokV (Memref.isWhole_whole _) gateV (Memref.isWhole_whole _)
            posV (Memref.isWhole_whole _) tabV (Memref.isWhole_whole _) curV (Memref.isWhole_whole _) cc0_scoped0 cc0_scoped1 cc0_scoped2 cc0_scoped3 cc0_scoped4 cc0_scoped5)
          fun _ => iprop(Part m d (rTok m d) (rGate m d) (rPos m d) (rTab m d) L
            ∗ scopedBufs (VT d L) ∗ scopedSems0 (VT d L)
            ∗ ∃ W', ⌜∀ p ∈ W', p ∈ W ∨ p.2 = none ∨ p.2 = some (0 : Fin 1)⌝ ∗ owes (VT d L) O W') := by
  by_cases h1 : k0_cond1 L = 1#1
  swap
  · have hE : ∀ {X : Type} [Fintype X], (all L : Finset X) = ∅ := if_neg h1
    have hx : ∀ {ℓ : Loc nD τ sig} (f f' : Buf (Elt F) ℓ), (ℓ ↦[∅]{fullShare} f : sProp 𝕄) = (ℓ ↦[∅]{fullShare} f') :=
      fun f f' => pointsTo_congr fun i hi => absurd hi (Finset.notMem_empty i)
    unfold Part
    simp only [hE]
    rw [hx (m (tokLoc d)) (rTok m d), hx (m (gateLoc d)) (rGate m d), hx (m (posLoc d)) (rPos m d), hx (m (tabLoc d)) (rTab m d)]
    iintro ⟨-, -, Hp, Hb, Hs, HO⟩
    iapply (tile_idle (F := F) d L h1 _)
    isplitl [Hp]; · iexact Hp
    isplitl [Hb]; · iexact Hb
    isplitl [Hs]; · iexact Hs
    iexists W; isplitr
    · ipureintro; exact fun p hp => Or.inl hp
    iexact HO
  have hE : ∀ {X : Type} [Fintype X], (all L : Finset X) = Finset.univ := if_pos h1
  unfold Part
  simp only [hE]
  obtain ⟨RS, hRS⟩ := ownSems0_V (F := F) d L
  obtain ⟨RB, hRB⟩ := ownBufs_V (F := F) d L
  have hs : ∀ a, ex (m (sLoc d)) a < 8 := fun a => by unfold ex; exact hpre d _
  have hrun := tile_run (F := F) d L h1 (m (sLoc d)) hs (m (wLoc d)) (m (tokLoc d)) (m (gateLoc d)) (m (posLoc d)) (m (tabLoc d)) O W
  rw [(K (F := F)).scopedBufs_V hF d (cV L) (jV L), SparseCore.Cfg.scopedSems0_V (Val := Elt F) d (cV L) (jV L)]
  change iprop(_ ∗ _ ∗ _ ∗ ownBufs (VT d L) ∗ ownSems0 (VT d L) ∗ _) ⊢ wp _ _ _ _ fun _ => iprop(_ ∗ ownBufs (VT d L) ∗ ownSems0 (VT d L) ∗ _)
  rw [hRS, hRB]
  iintro ⟨#Hlv, -, ⟨HS, HW, HT, HG, HP, HB⟩, ⟨Hs, Hw, Ht, Hg, Hp, Hb, Hc, Hbufs⟩, ⟨Hc0, Hc1, Hc2, Hc3, Hc4, Hc5, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [HS HW HT HG HP HB Hs Hw Ht Hg Hp Hb Hc Hc0 Hc1 Hc2 Hc3 Hc4 Hc5 HO]
  · iapply hrun
    isplitr; · iexact Hmw
    isplitl [HS]; · iexact HS
    isplitl [HW]; · iexact HW
    isplitl [HT]; · iexact HT
    isplitl [HG]; · iexact HG
    isplitl [HP]; · iexact HP
    isplitl [HB]; · iexact HB
    isplitl [Hs Hw Ht Hg Hp Hb Hc]
    · unfold scratch
      isplitl [Hs]; · iexact Hs
      isplitl [Hw]; · iexact Hw
      isplitl [Ht]; · iexact Ht
      isplitl [Hg]; · iexact Hg
      isplitl [Hp]; · iexact Hp
      isplitl [Hb]; · iexact Hb
      iexact Hc
    isplitl [Hc0 Hc1 Hc2 Hc3 Hc4 Hc5]
    · unfold cells0
      isplitl [Hc0]; · iexact Hc0
      isplitl [Hc1]; · iexact Hc1
      isplitl [Hc2]; · iexact Hc2
      isplitl [Hc3]; · iexact Hc3
      isplitl [Hc4]; · iexact Hc4
      iexact Hc5
    iexact HO
  unfold scratch cells0
  iintro %_ ⟨HS, HW, HT, HG, HP, HB, ⟨Hs, Hw, Ht, Hg, Hp, Hb, Hc⟩, ⟨Hc0, Hc1, Hc2, Hc3, Hc4, Hc5⟩, %W', %hW', HO⟩
  isplitl [HS HW HT HG HP HB]
  · isplitl [HS]; · iexact HS
    isplitl [HW]; · iexact HW
    isplitl [HT]; · iexact HT
    isplitl [HG]; · iexact HG
    isplitl [HP]; · iexact HP
    iexact HB
  isplitl [Hs Hw Ht Hg Hp Hb Hc Hbufs]
  · isplitl [Hs]; · iexact Hs
    isplitl [Hw]; · iexact Hw
    isplitl [Ht]; · iexact Ht
    isplitl [Hg]; · iexact Hg
    isplitl [Hp]; · iexact Hp
    isplitl [Hb]; · iexact Hb
    isplitl [Hc]; · iexact Hc
    iexact Hbufs
  isplitl [Hc0 Hc1 Hc2 Hc3 Hc4 Hc5 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists W'; isplitr
  · ipureintro; exact fun p hp => (hW' p hp).imp_right Or.inl
  iexact HO

theorem defs₀_vector (c : Fin τ.nSC) (s : Fin τ.nSub) :
    defs₀ (F := F) (.scVector c s) 0 ()
      = SparseCore.onTile hcore0 hsub0 (fun c s => cc0__dispatch_body (pt c s) sA (Memref.isWhole_whole _) wA (Memref.isWhole_whole _) tokA (Memref.isWhole_whole _) gateA (Memref.isWhole_whole _)
            posA (Memref.isWhole_whole _) tabA (Memref.isWhole_whole _) sV (Memref.isWhole_whole _) wV (Memref.isWhole_whole _) tokV (Memref.isWhole_whole _) gateV (Memref.isWhole_whole _)
            posV (Memref.isWhole_whole _) tabV (Memref.isWhole_whole _) curV (Memref.isWhole_whole _) cc0_scoped0 cc0_scoped1 cc0_scoped2 cc0_scoped3 cc0_scoped4 cc0_scoped5) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (pt ⟨_, hci.1⟩ ⟨_, hci.2⟩) hF hpre O W hO

end Tile

/-- A core hands its subcores what it was given, and collects what they bring back. -/
theorem vecSplit : (K (F := F)).VecSplit' (P m) 0 := by
  intro d c
  change CPart0 m d (Fin.cast nCore_zero c) ⊢ |={Set.univ}=> iprop(
      (CPart0 m d (Fin.cast nCore_zero c)) ∗ (CPart1 m d (Fin.cast nCore_zero c) -∗ CPart1 m d (Fin.cast nCore_zero c)))
  iintro H; imodintro
  isplitl [H]; · iexact H
  iintro H; iexact H

/-! ## The whole arrays -/

theorem whole_eq (d : Dev nD) (t : Buf (Elt F) (tokLoc d)) (g : Buf (Elt F) (gateLoc d)) (p : Buf (Elt F) (posLoc d)) (b : Buf (Elt F) (tabLoc d)) :
    (bigSep Finset.univ fun c : Fin ((K (F := F)).nCore 0) => bigSep Finset.univ fun i : Fin 16 => Part m d t g p b (pt (Fin.cast nCore_zero c) i))
      = (iprop((sLoc d ↦{fullShare} m (sLoc d)) ∗ (wLoc d ↦{fullShare} m (wLoc d)) ∗ (tokLoc d ↦{fullShare} t) ∗ (gateLoc d ↦{fullShare} g)
          ∗ (posLoc d ↦{fullShare} p) ∗ (tabLoc d ↦{fullShare} b)) : sProp 𝕄) := by
  have hdeal : ∀ {ℓ : Loc nD τ sig} (f : Buf (Elt F) ℓ),
      (ℓ ↦{fullShare} f : sProp 𝕄) = bigSep Finset.univ fun c : Fin 2 => bigSep Finset.univ fun i : Fin 16 => ℓ ↦[all (pt c i)]{fullShare} f := by
    intro ℓ f
    have h := deal (X := Idx ℓ)
    rw [← h.2.2, pointsTo_biUnion _ _ h.2.1]
    exact bigSep_congr fun c _ => pointsTo_biUnion _ _ (h.1 c)
  rw [hdeal (m (sLoc d)), hdeal (m (wLoc d)), hdeal t, hdeal g, hdeal p, hdeal b, ← bigSep_sep', ← bigSep_sep', ← bigSep_sep', ← bigSep_sep', ← bigSep_sep']
  change (bigSep Finset.univ fun c : Fin 2 => bigSep Finset.univ fun i : Fin 16 => Part m d t g p b (pt c i)) = _
  refine bigSep_congr fun c _ => ?_
  rw [← bigSep_sep', ← bigSep_sep', ← bigSep_sep', ← bigSep_sep', ← bigSep_sep']

/-! ## The program's run -/

omit [FloatOps F] in
theorem bigSep_none {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

omit [FloatOps F] in
theorem unscopedBufs_eq (d : Dev nD) (W : (b : Ref sig .tc) → Buf (Elt F) ((d.tc : Thread nD τ).loc b)) :
    (unscopedBufs d W : sProp 𝕄) = iprop((sLoc d ↦{fullShare} W main_arg0) ∗ (wLoc d ↦{fullShare} W main_arg1) ∗ (tokLoc d ↦{fullShare} W main_v0_0) ∗ (gateLoc d ↦{fullShare} W main_v0_1) ∗ (posLoc d ↦{fullShare} W main_v0_2) ∗ (tabLoc d ↦{fullShare} W main_v0_3)) := by
  unfold unscopedBufs
  rw [show (Finset.univ.filter fun b : Ref sig .tc => ¬ b.isScoped) = {main_arg0, main_arg1, main_v0_0, main_v0_1, main_v0_2, main_v0_3} by decide,
    SparseCore.bigSep_insert' (by decide), SparseCore.bigSep_insert' (by decide), SparseCore.bigSep_insert' (by decide), SparseCore.bigSep_insert' (by decide), SparseCore.bigSep_insert' (by decide), bigSep_singleton]

/-- What the program ends with. -/
abbrev FIN (d : Dev nD) : sProp 𝕄 := iprop((sLoc d ↦{fullShare} m (sLoc d)) ∗ (wLoc d ↦{fullShare} m (wLoc d)) ∗ (tokLoc d ↦{fullShare} rTok m d) ∗ (gateLoc d ↦{fullShare} rGate m d) ∗ (posLoc d ↦{fullShare} rPos m d) ∗ (tabLoc d ↦{fullShare} rTab m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, H, Hts, -⟩, -⟩
  iapply ((K (F := F)).wp_run (D (F := F)) 𝒱 (EH := EH) (P := P m) κ d 0) $$ [Hst H Hb Hts]
  isplitr; · iexact Hctx
  isplitl [Hst]; · iexact Hst
  isplitl [H]
  · iapply (Entails.of_eq (show (bigSep Finset.univ fun c : Fin ((K (F := F)).nCore 0) => (P m).st 0 d c) = _ from whole_eq m d (m (tokLoc d)) (m (gateLoc d)) (m (posLoc d)) (m (tabLoc d))).symm)
    iexact H
  iintro ⟨Hst, Hdn⟩
  ihave Hdn' := (Entails.of_eq (show (bigSep Finset.univ fun c : Fin ((K (F := F)).nCore 0) => (P m).dn 0 d c) = _ from whole_eq m d (rTok m d) (rGate m d) (rPos m d) (rTab m d))) $$ Hdn
  imodintro
  isplitl [Hst]; · iexact Hst
  isplitl [Hdn']; · iexact Hdn'
  isplitl [Hb] <;> iassumption

/-- The memory at the end: the arguments as they were, the results at their values. -/
def fq (d : Dev nD) (s' : Phys nD τ sig (Elt F)) : Prop :=
  s'.mem.mem (sLoc d) = m (sLoc d) ∧ s'.mem.mem (wLoc d) = m (wLoc d) ∧ s'.mem.mem (tokLoc d) = rTok m d ∧ s'.mem.mem (gateLoc d) = rGate m d ∧ s'.mem.mem (posLoc d) = rPos m d ∧ s'.mem.mem (tabLoc d) = rTab m d

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave H := (persistent_entails_right (SI_pointsTo_agree (st := s') (ℓ := sLoc d) (I := Finset.univ) (q := fullShare) (f := m (sLoc d)))) $$ [HSI H0]
  · isplitl [HSI] <;> iassumption
  icases H with ⟨%h0, HSI, -⟩
  ihave H := (persistent_entails_right (SI_pointsTo_agree (st := s') (ℓ := wLoc d) (I := Finset.univ) (q := fullShare) (f := m (wLoc d)))) $$ [HSI H1]
  · isplitl [HSI] <;> iassumption
  icases H with ⟨%h1, HSI, -⟩
  ihave H := (persistent_entails_right (SI_pointsTo_agree (st := s') (ℓ := tokLoc d) (I := Finset.univ) (q := fullShare) (f := rTok m d))) $$ [HSI H2]
  · isplitl [HSI] <;> iassumption
  icases H with ⟨%h2, HSI, -⟩
  ihave H := (persistent_entails_right (SI_pointsTo_agree (st := s') (ℓ := gateLoc d) (I := Finset.univ) (q := fullShare) (f := rGate m d))) $$ [HSI H3]
  · isplitl [HSI] <;> iassumption
  icases H with ⟨%h3, HSI, -⟩
  ihave H := (persistent_entails_right (SI_pointsTo_agree (st := s') (ℓ := posLoc d) (I := Finset.univ) (q := fullShare) (f := rPos m d))) $$ [HSI H4]
  · isplitl [HSI] <;> iassumption
  icases H with ⟨%h4, HSI, -⟩
  ihave H := (SI_pointsTo_agree (st := s') (ℓ := tabLoc d) (I := Finset.univ) (q := fullShare) (f := rTab m d)) $$ [HSI H5]
  · isplitl [HSI] <;> iassumption
  icases H with %h5
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i)⟩

def QC : PUnit × MemSt nD τ sig (Elt F) → Prop := fun r =>
  (∀ c : Dev nD, r.2.mem (sLoc c) = m (sLoc c) ∧ r.2.mem (wLoc c) = m (wLoc c) ∧ r.2.mem (tokLoc c) = rTok m c ∧ r.2.mem (gateLoc c) = rGate m c ∧ r.2.mem (posLoc c) = rPos m c ∧ r.2.mem (tabLoc c) = rTab m c) ∧ r.2.sem = fun _ => 0

theorem run_main [∀ e, Nonempty (Elt F e)] (hpre : PreOK m) :
    θ_run (Cert.DispatchIdeal.defs (F := F)) (Cert.DispatchIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Dispatch

end
-- ==== Proof.Dispatch.Ref.lean ====
/-
  The dispatch's reference read at an entry of each result: with every chosen expert one of the eight, its slots, token and
  weight arrays and block table are the plan's. And what the precondition says of the choices.
-/
module

public import proofs.«01_k».proof.Proof.Dispatch.Run
public import proofs.«01_k».proof.Pre_sel_is_expert
public import proofs.«01_k».proof.DispatchReferenceIdeal
public import Idealize.ShloMosaic.PureOps.Ideal
public import Idealize.ShloMosaic.Lib.Pointwise.SelectCore
public import Idealize.ShloMosaic.Lib.Routing.OpsSet
public import Idealize.ShloMosaic.Lib.Routing.OpsPair

@[expose] public section

noncomputable section

namespace Cert.Proof.Dispatch

open Idealize.ShloMosaic hiding ix0 ix1 ix2 ix3
open Idealize.ShloMosaic.ValueIdx (ix0 ix1 ix2 ix3)

/-! ## The choices -/

/-- The two comparisons of the precondition, at one word. -/
theorem choice_lt {w : BitVec 32} (h0 : IntOp.cmpi .sge w 0#32 = 1#1) (h1 : IntOp.cmpi .slt w 8#32 = 1#1) : w.toNat < 8 := by
  have one : ∀ b : Bool, BitVec.ofBool b = 1#1 → b = true := by decide
  have h0' : BitVec.sle 0#32 w = true := one _ h0
  have h1' : BitVec.slt w 8#32 = true := one _ h1
  rw [BitVec.sle_eq_decide, decide_eq_true_eq, BitVec.toInt_eq_toNat_cond w] at h0'
  rw [BitVec.slt_eq_decide, decide_eq_true_eq, BitVec.toInt_eq_toNat_cond w] at h1'
  simp only [BitVec.reduceToInt] at h0' h1'
  have := w.isLt
  split at h0' <;> rename_i hc
  · rw [if_pos hc] at h1'; omega
  · omega

/-- The precondition, read at every assignment. -/
theorem choices_lt {F : FTy → Type} [FloatOps F] [Cert.Pre_sel_is_expert.Facts] {s : IVec Cert.Pre_sel_is_expert.S4096 32}
    {w : FVec F Cert.Pre_sel_is_expert.S4096 .f32} (h : Cert.Pre_sel_is_expert.fn s w = fun _ => 1#1) (j : Cert.Pre_sel_is_expert.S4096.Idx) :
    (s j).toNat < 8 := by
  have e : IntOp.cmpi .sge (s j) 0#32 &&& IntOp.cmpi .slt (s j) 8#32 = 1#1 := congrFun h j
  have both : ∀ a b : BitVec 1, a &&& b = 1#1 → a = 1#1 ∧ b = 1#1 := by decide
  exact choice_lt (both _ _ e).1 (both _ _ e).2

/-! ## Words and counts -/

theorem bit_iff (p : Prop) [Decidable p] : BitVec.ofBool (decide p) = 1#1 ↔ p := by
  by_cases h : p <;> simp [h]

theorem choice_word (s : IVec Cert.DispatchReferenceIdeal.S4096 32) (a : Fin 4096) : s (ix1 a) = BitVec.ofNat 32 (ex s a.val) := by
  unfold ex
  rw [BitVec.ofNat_toNat, BitVec.setWidth_eq]
  exact congrArg (fun i => s (ix1 i)) (Fin.ext (Nat.mod_eq_of_lt a.isLt).symm)

/-- Counting, among the first `n`, those before `a`. -/
theorem count_before (p : ℕ → Prop) [DecidablePred p] (a : ℕ) : ∀ n, a ≤ n → Nat.count (fun q => q < a ∧ p q) n = Nat.count p a := by
  have h1 : ∀ n, n ≤ a → Nat.count (fun q => q < a ∧ p q) n = Nat.count p n := by
    intro n
    induction n with
    | zero => intro _; rfl
    | succ n ih =>
      intro hn
      rw [Nat.count_succ, Nat.count_succ, ih (by omega)]
      have : (n < a ∧ p n) ↔ p n := ⟨fun h => h.2, fun h => ⟨by omega, h⟩⟩
      simp only [this]
  intro n hn
  induction hn with
  | refl => exact h1 a le_rfl
  | step hm ih =>
    rename_i m
    have hm' : a ≤ m := hm
    rw [Nat.count_succ, ih, if_neg (fun h => by have := h.1; omega), Nat.add_zero]

theorem sum_blk (s : IVec Cert.DispatchReferenceIdeal.S4096 32) : ∀ n, ((List.range n).map (blk s)).sum = bef s n
  | 0 => rfl
  | n + 1 => by
    rw [List.range_succ, List.map_append, List.sum_append, sum_blk s n]
    simp [bef]

theorem lt_word {a b : ℕ} (ha : a < 2 ^ 31) (hb : b < 2 ^ 31) : IntOp.cmpi .slt (BitVec.ofNat 32 a) (BitVec.ofNat 32 b) = 1#1 ↔ a < b := by
  show BitVec.ofBool ((BitVec.ofNat 32 a).slt (BitVec.ofNat 32 b)) = 1#1 ↔ _
  rw [Routing.slt_ofNat32 ha hb]; exact bit_iff _

theorem le_word {a b : ℕ} (ha : a < 2 ^ 31) (hb : b < 2 ^ 31) : IntOp.cmpi .sle (BitVec.ofNat 32 a) (BitVec.ofNat 32 b) = 1#1 ↔ a ≤ b := by
  show BitVec.ofBool ((BitVec.ofNat 32 a).sle (BitVec.ofNat 32 b)) = 1#1 ↔ _
  rw [Routing.sle_ofNat32 ha hb]; exact bit_iff _

theorem eq_word {a b : ℕ} (ha : a < 2 ^ 31) (hb : b < 2 ^ 31) : IntOp.cmpi .eq (BitVec.ofNat 32 a) (BitVec.ofNat 32 b) = 1#1 ↔ a = b := by
  have e : (BitVec.ofNat 32 a == BitVec.ofNat 32 b) = decide (a = b) := by
    rw [Bool.eq_iff_iff, beq_iff_eq, decide_eq_true_iff]
    refine ⟨fun h => ?_, fun h => h ▸ rfl⟩
    have := congrArg BitVec.toNat h
    rw [BitVec.toNat_ofNat, BitVec.toNat_ofNat] at this
    omega
  show BitVec.ofBool (BitVec.ofNat 32 a == BitVec.ofNat 32 b) = 1#1 ↔ _
  rw [e]; exact bit_iff _

theorem and_bit (a b : BitVec 1) : IntOp.andi a b = 1#1 ↔ a = 1#1 ∧ b = 1#1 := by
  revert a b; decide

theorem div_word' {n m : ℕ} (hn : n < 2 ^ 31) (hm : 0 < m) (hm' : m < 2 ^ 31) : IntOp.divsi .host (BitVec.ofNat 32 n) (BitVec.ofNat 32 m) = BitVec.ofNat 32 (n / m) := by
  unfold IntOp.divsi; rw [if_neg (no_corner hm hm'), Routing.sdiv_ofNat32 hn hm']

theorem min_word {a b : ℕ} (ha : a < 2 ^ 31) (hb : b < 2 ^ 31) : IntOp.minsi (BitVec.ofNat 32 a) (BitVec.ofNat 32 b) = BitVec.ofNat 32 (min a b) := by
  unfold IntOp.minsi
  rw [Routing.slt_ofNat32 ha hb]
  by_cases h : a < b
  · rw [if_pos (decide_eq_true h), min_eq_left h.le]
  · rw [if_neg (by simpa using h), min_eq_right (not_lt.1 h)]

/-! ## Slots -/

open Cert.DispatchReferenceIdeal Cert.DispatchReferenceIdeal.Facts₀

variable [Cert.DispatchReferenceIdeal.Facts₀]

/-- Of each assignment, how many before it have chosen its expert, as the reference computes it. -/
abbrev rankR (s : IVec S4096 32) : IVec S4096 32 :=
  Host.reduce IntOp.addi (extui 32 (andi
      (cmpi .slt (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0))))
      (cmpi .eq (broadcastInDim S4096x4096 ![0, 1] bcast_S1x4096_S4096x4096_0_1 (broadcastInDim S1x4096 ![1] bcast_S4096_S1x4096_1 s))
        (broadcastInDim S4096x4096 ![0, 1] bcast_S4096x1_S4096x4096_0_1 (broadcastInDim S4096x1 ![0] bcast_S4096_S4096x1_0 s)))) natLt_1_32)
    (constantI S_ 32 0#32) reducesTo_S4096x4096_S4096_d1 h_S_

theorem rankR_apply (s : IVec S4096 32) (hs : ∀ a, ex s a < 8) (a : Fin 4096) : rankR s (ix1 a) = BitVec.ofNat 32 (cnt s a.val (ex s a.val)) := by
  refine (Routing.reduce_count (n := 4096) (m := 4096) (by norm_num) _ natLt_1_32 _ h_S_ a (fun q => q < a.val ∧ ex s q = ex s a.val) fun q => ?_).trans ?_
  · refine (and_bit _ _).trans (and_congr ?_ ?_)
    · refine Iff.trans (iff_of_eq (congrArg (· = 1#1) (congrArg₂ (IntOp.cmpi .slt) (Routing.bcCols (n := 4096) (m := 4096) _ _ _ a q) (Routing.bcRows (n := 4096) (m := 4096) _ _ _ a q)))) ?_
      exact lt_word (a := q.val) (b := a.val) (by omega) (by omega)
    · refine Iff.trans (iff_of_eq (congrArg (· = 1#1) (congrArg₂ (IntOp.cmpi .eq) (Routing.bcCols (n := 4096) (m := 4096) _ _ _ a q) (Routing.bcRows (n := 4096) (m := 4096) _ _ _ a q)))) ?_
      rw [choice_word s q, choice_word s a]
      exact eq_word ((hs _).trans (by norm_num)) ((hs _).trans (by norm_num))
  · rw [count_before _ _ _ a.isLt.le]; unfold cnt; rfl

/-- Each expert's number of blocks, as the reference computes it. -/
abbrev blocksR (s : IVec S4096 32) : IVec S8 32 :=
  Host.divsi (addi (Host.reduce IntOp.addi (extui 32 (cmpi .eq (broadcastInDim S8x4096 ![0, 1] bcast_S1x4096_S8x4096_0_1 (broadcastInDim S1x4096 ![1] bcast_S4096_S1x4096_1 s))
      (broadcastInDim S8x4096 ![0, 1] bcast_S8x1_S8x4096_0_1 (broadcastInDim S8x1 ![0] bcast_S8_S8x1_0 (iotaInDim S8 32 0)))) natLt_1_32)
    (constantI S_ 32 0#32) reducesTo_S8x4096_S8_d1 h_S_) (broadcastInDim S8 ![] bcast_S_S8 (constantI S_ 32 511#32))) (broadcastInDim S8 ![] bcast_S_S8 (constantI S_ 32 512#32))

theorem blocksR_apply (s : IVec S4096 32) (hs : ∀ a, ex s a < 8) (k : Fin 8) : blocksR s (ix1 k) = BitVec.ofNat 32 (blk s k.val) := by
  have hc : Host.reduce IntOp.addi (extui 32 (cmpi .eq (broadcastInDim S8x4096 ![0, 1] bcast_S1x4096_S8x4096_0_1 (broadcastInDim S1x4096 ![1] bcast_S4096_S1x4096_1 s))
      (broadcastInDim S8x4096 ![0, 1] bcast_S8x1_S8x4096_0_1 (broadcastInDim S8x1 ![0] bcast_S8_S8x1_0 (iotaInDim S8 32 0)))) natLt_1_32)
      (constantI S_ 32 0#32) reducesTo_S8x4096_S8_d1 h_S_ (ix1 k) = BitVec.ofNat 32 (cnt s 4096 k.val) := by
    refine (Routing.reduce_count (n := 8) (m := 4096) (by norm_num) _ natLt_1_32 _ h_S_ k (fun q => ex s q = k.val) fun q => ?_).trans ?_
    · refine Iff.trans (iff_of_eq (congrArg (· = 1#1) (congrArg₂ (IntOp.cmpi .eq) (Routing.bcCols (n := 8) (m := 4096) _ _ _ k q) (Routing.bcRows (n := 8) (m := 4096) _ _ _ k q)))) ?_
      rw [choice_word s q]
      exact eq_word (b := k.val) ((hs _).trans (by norm_num)) (by omega)
    · unfold cnt; rfl
  refine Eq.trans (congrArg (fun x => IntOp.divsi .host (x + 511#32) 512#32) hc) ?_
  have hn := cnt_le s 4096 k.val
  rw [BitVec.ofNat_add_ofNat]
  refine (div_word' (n := cnt s 4096 k.val + 511) (m := 512) (by omega) (by norm_num) (by norm_num)).trans ?_
  unfold blk; rfl

/-- The number of blocks up to and with each expert, as the reference computes it. -/
abbrev endsR (s : IVec S4096 32) : IVec S8 32 :=
  Host.reduceWindow IntOp.addi ![8] ![1] ![7] ![0] (blocksR s) (broadcastInDim S_ ![] bcast_S_S_ (constantI S_ 32 0#32)) reduceWindows_S8_S8_w8s1p7_0 h_S_

theorem endsR_apply (s : IVec S4096 32) (hs : ∀ a, ex s a < 8) (k : Fin 8) : endsR s (ix1 k) = BitVec.ofNat 32 (bef s (k.val + 1)) := by
  refine (Routing.cumsum1 (N := 8) (Nm1 := 7) rfl (blocksR s) (blk s) (blocksR_apply s hs) _ rfl _ h_S_ k).trans ?_
  rw [sum_blk]

/-- Each assignment's slot, as the reference computes it. -/
abbrev slotsR (s : IVec S4096 32) : IVec S4096 32 :=
  addi (muli (broadcastInDim S4096 ![] bcast_S_S4096 (constantI S_ 32 512#32)) (Host.gather gather_S8_S4096x1_S4096_n_0_n_n_0_1_1 (subi (endsR s) (blocksR s))
    (broadcastInDim S4096x1 ![0] bcast_S4096_S4096x1_0 (select (cmpi .slt s (broadcastInDim S4096 ![] bcast_S_S4096 (constantI S_ 32 0#32)))
      (addi s (broadcastInDim S4096 ![] bcast_S_S4096 (constantI S_ 32 8#32))) s)))) (rankR s)

/-- A word that is a small number is not moved by the step that lets a negative one count from the end. -/
theorem wrap_word {n : ℕ} (hn : n < 2 ^ 31) (A x : BitVec 32) (hx : x = BitVec.ofNat 32 n) : Scalar.select (IntOp.cmpi .slt x 0#32) A x = x := by
  have h : ¬ IntOp.cmpi .slt x 0#32 = 1#1 := by
    rw [hx]; exact fun h => Nat.not_lt_zero _ ((lt_word (b := 0) hn (by norm_num)).1 h)
  exact if_neg h

theorem slotsR_apply (s : IVec S4096 32) (hs : ∀ a, ex s a < 8) (a : Fin 4096) : slotsR s (ix1 a) = BitVec.ofNat 32 (slot s a.val) := by
  have hg : Host.gather gather_S8_S4096x1_S4096_n_0_n_n_0_1_1 (subi (endsR s) (blocksR s))
      (broadcastInDim S4096x1 ![0] bcast_S4096_S4096x1_0 (select (cmpi .slt s (broadcastInDim S4096 ![] bcast_S_S4096 (constantI S_ 32 0#32)))
        (addi s (broadcastInDim S4096 ![] bcast_S_S4096 (constantI S_ 32 8#32))) s)) (ix1 a) = BitVec.ofNat 32 (bef s (ex s a.val)) := by
    refine (Routing.gather_take1 (N := 8) (n := 4096) _ rfl rfl rfl rfl _ _ a ⟨ex s a.val, hs _⟩ ?_ (by norm_num)).trans ?_
    · refine (Routing.bcCol (n := 4096) _ _ a).trans ?_
      exact (wrap_word ((hs a.val).trans (by norm_num)) _ _ (choice_word s a)).trans (choice_word s a)
    · show endsR s (ix1 ⟨ex s a.val, hs _⟩) - blocksR s (ix1 ⟨ex s a.val, hs _⟩) = _
      rw [endsR_apply s hs, blocksR_apply s hs, Routing.ofNat32_sub (by show _ ≤ bef s _ + blk s _; omega)]
      show BitVec.ofNat 32 (bef s _ + blk s _ - blk s _) = _
      rw [Nat.add_sub_cancel]
  refine Eq.trans (congrArg₂ (fun x y => 512#32 * x + y) hg (rankR_apply s hs a)) ?_
  have e : slot s a.val = 512 * bef s (ex s a.val) + cnt s a.val (ex s a.val) := by unfold slot; rfl
  rw [e, BitVec.ofNat_add, BitVec.ofNat_mul]

theorem slotsR_eq (s : IVec S4096 32) (hs : ∀ a, ex s a < 8) : slotsR s = slots s := by
  funext y
  have hy : y = ix1 (y 0) := funext fun a => match a with | 0 => rfl
  rw [hy]; exact slotsR_apply s hs (y 0)

/-! ## The two scattered arrays -/

/-- The scatter's dimension numbers. -/
abbrev sd := scatter_S8192_S4096x1_S4096_n_0_0_1

/-- Update `a` lands at entry `x` exactly when its index word, read signed, is `x`. -/
theorem lands (idx : IVec S4096x1 32) (a : Fin 4096) (x : Fin 8192) :
    sd.resultIdx? (ix1 a) idx = some (ix1 x) ↔ (idx (ix2 a (0 : Fin 1))).toInt = (x.val : Int) := by
  have hst : sd.start (ix1 a) idx 0 = (idx (ix2 a (0 : Fin 1))).toInt := by
    have hi : sd.siIdx (ix1 a) ⟨0, Nat.zero_lt_one⟩ = ix2 a (0 : Fin 1) := by
      funext b
      match b with
      | 0 => rfl
      | 1 => rfl
    rw [← hi]; rfl
  have hwin : sd.window (ix1 a) 0 = 0 := rfl
  rw [Routing.resultIdx?_eq_some]
  constructor
  · intro h
    have := h 0
    rw [hst, hwin] at this
    simpa using this
  · intro h b
    match b with
    | 0 => rw [hst, hwin]; simpa using h

/-- Values put at the assignments' slots one after another, as the reference's scatter does it. -/
theorem scattered {α : Type} (s : IVec S4096 32) (hs : ∀ a, ex s a < 8) (x0 : S8192.Idx → α) (z : α) (hz : ∀ x, x0 x = z) (idx : IVec S4096x1 32)
    (hidx : ∀ a : Fin 4096, idx (ix2 a (0 : Fin 1)) = BitVec.ofNat 32 (slot s a.val)) (upd : S4096.Idx → α) (val : ℕ → α) (hv : ∀ a : Fin 4096, upd (ix1 a) = val a.val) :
    Host.scatter sd (fun _ b => b) x0 idx upd = put s val z 4096 := by
  funext y
  obtain ⟨x, rfl⟩ : ∃ x : Fin 8192, y = ix1 x := ⟨y 0, funext fun a => match a with | 0 => rfl⟩
  have hl : ∀ k : S4096.Idx, sd.resultIdx? k idx = some (ix1 x) ↔ slot s (k 0).val = x.val := by
    intro k
    obtain ⟨q, rfl⟩ : ∃ q : Fin 4096, k = ix1 q := ⟨k 0, funext fun a => match a with | 0 => rfl⟩
    refine (lands idx q x).trans ?_
    have := slot_lt s hs q.isLt
    show _ ↔ slot s q.val = x.val
    rw [hidx, StableHlo.Predicate.toInt_ofNat_small _ (by omega)]
    exact Nat.cast_inj
  have hu : ∀ k : S4096.Idx, upd k = val (k 0).val := fun k =>
    (congrArg upd (funext fun a => match a with | 0 => rfl : k = ix1 (k 0))).trans (hv (k 0))
  by_cases h : ∃ k : S4096.Idx, slot s (k 0).val = x.val
  · obtain ⟨k, hk⟩ := h
    rw [put_hit s val z (ix1 x) hk.symm 4096 le_rfl (k 0).isLt]
    refine Routing.scatter_set_hit sd x0 idx upd (ix1 x) _ (fun k' hk' => ?_) k ((hl k).2 hk)
    rw [hu, slot_inj s (k' 0).isLt (k 0).isLt (((hl k').1 hk').trans hk.symm)]
  · rw [put_miss s val z (ix1 x) 4096 fun a ha e => h ⟨ix1 ⟨a, ha⟩, e.symm⟩]
    exact (Routing.scatter_set_miss sd x0 idx upd (ix1 x) fun k hk => h ⟨k, (hl k).1 hk⟩).trans (hz _)

/-- The index words of the reference's scatters. -/
abbrev slotIdx (s : IVec S4096 32) : IVec S4096x1 32 :=
  broadcastInDim S4096x1 ![0] bcast_S4096_S4096x1_0 (select (cmpi .slt (slotsR s) (broadcastInDim S4096 ![] bcast_S_S4096 (constantI S_ 32 0#32)))
    (addi (slotsR s) (broadcastInDim S4096 ![] bcast_S_S4096 (constantI S_ 32 8192#32))) (slotsR s))

theorem slotIdx_apply (s : IVec S4096 32) (hs : ∀ a, ex s a < 8) (a : Fin 4096) : slotIdx s (ix2 a (0 : Fin 1)) = BitVec.ofNat 32 (slot s a.val) := by
  refine (Routing.bcCol (n := 4096) _ _ a).trans ?_
  have := slot_lt s hs a.isLt
  exact (wrap_word (by omega) _ _ (slotsR_apply s hs a)).trans (slotsR_apply s hs a)

theorem tokensR (s : IVec S4096 32) (hs : ∀ a, ex s a < 8) :
    Host.scatter sd (fun _ b => b) (broadcastInDim S8192 ![] bcast_S_S8192 (constantI S_ 32 0#32)) (slotIdx s)
      (Host.divsi (iotaInDim S4096 32 0) (broadcastInDim S4096 ![] bcast_S_S4096 (constantI S_ 32 2#32))) = tokens s :=
  scattered s hs _ _ (fun _ => rfl) _ (slotIdx_apply s hs) _ _ fun a => div_word' (n := a.val) (m := 2) (by omega) (by norm_num) (by norm_num)

theorem gatesR (s : IVec S4096 32) (hs : ∀ a, ex s a < 8) (w : FVec Ideal S4096 .f32) :
    Host.scatter sd (fun _ b => b) (broadcastInDim S8192 ![] bcast_S_S8192 (constant (F := Ideal) S_ .f32 0x00000000#32)) (slotIdx s) w = gates (F := Ideal) s w :=
  scattered s hs _ _ (fun _ => rfl) _ (slotIdx_apply s hs) _ _ fun a =>
    congrArg (fun i => w (ix1 i)) (Fin.ext (Nat.mod_eq_of_lt a.isLt).symm)

/-! ## The block table -/

/-- The number of blocks in use, as the reference computes it. -/
abbrev totalR (s : IVec S4096 32) : IVec S_ 32 := Host.reduce IntOp.addi (blocksR s) (constantI S_ 32 0#32) reducesTo_S8_S_d0 h_S_

theorem totalR_apply (s : IVec S4096 32) (hs : ∀ a, ex s a < 8) : totalR s ix0 = BitVec.ofNat 32 (bef s 8) :=
  (Routing.reduce_sum (N := 8) (blocksR s) (blk s) (blocksR_apply s hs) _ h_S_).trans (by rw [sum_blk])

/-- The block each entry fetches, as the reference computes it. -/
abbrev fetchR (s : IVec S4096 32) : IVec S32 32 := minsi (iotaInDim S32 32 0) (broadcastInDim S32 ![] bcast_S_S32 (subi (totalR s) (constantI S_ 32 1#32)))

theorem fetchR_apply (s : IVec S4096 32) (hs : ∀ a, ex s a < 8) (b : Fin 32) : fetchR s (ix1 b) = BitVec.ofNat 32 (min b.val (bef s 8 - 1)) := by
  have h8 := bef_eight_bound s hs
  have e : broadcastInDim S32 ![] bcast_S_S32 (subi (totalR s) (constantI S_ 32 1#32)) (ix1 b) = BitVec.ofNat 32 (bef s 8 - 1) := by
    refine (Routing.bc0 _ _ _).trans ?_
    show totalR s ix0 - 1#32 = _
    rw [totalR_apply s hs]; exact Routing.ofNat32_sub h8.1
  exact (congrArg (IntOp.minsi (BitVec.ofNat 32 b.val)) e).trans (min_word (by omega) (by omega))

/-- Each block's expert, as the reference computes it. -/
abbrev ownerR (s : IVec S4096 32) : IVec S32 32 :=
  Host.reduce IntOp.addi (extui 32 (cmpi .sle (broadcastInDim S32x8 ![0, 1] bcast_S1x8_S32x8_0_1 (broadcastInDim S1x8 ![1] bcast_S8_S1x8_1 (endsR s)))
    (broadcastInDim S32x8 ![0, 1] bcast_S32x1_S32x8_0_1 (broadcastInDim S32x1 ![0] bcast_S32_S32x1_0 (fetchR s)))) natLt_1_32) (constantI S_ 32 0#32) reducesTo_S32x8_S32_d1 h_S_

theorem ownerR_apply (s : IVec S4096 32) (hs : ∀ a, ex s a < 8) (b : Fin 32) : ownerR s (ix1 b) = BitVec.ofNat 32 (owner s (min b.val (bef s 8 - 1))) := by
  refine (Routing.reduce_count (n := 32) (m := 8) (by norm_num) _ natLt_1_32 _ h_S_ b (fun k => bef s (k + 1) ≤ min b.val (bef s 8 - 1)) fun k => ?_)
  refine Iff.trans (iff_of_eq (congrArg (· = 1#1) (congrArg₂ (IntOp.cmpi .sle) (Routing.bcCols (n := 32) (m := 8) _ _ _ b k) (Routing.bcRows (n := 32) (m := 8) _ _ _ b k)))) ?_
  rw [endsR_apply s hs, fetchR_apply s hs]
  have := bef_le s hs (k := k.val + 1) k.isLt
  exact le_word (by omega) (by omega)

/-- Whether each block is in use, as the reference computes it. -/
abbrev usedR (s : IVec S4096 32) : IVec S32 32 := extui 32 (cmpi .slt (iotaInDim S32 32 0) (broadcastInDim S32 ![] bcast_S_S32 (totalR s))) natLt_1_32

theorem usedR_apply (s : IVec S4096 32) (hs : ∀ a, ex s a < 8) (b : Fin 32) : usedR s (ix1 b) = if b.val < bef s 8 then 1#32 else 0#32 := by
  have h8 := bef_eight_bound s hs
  have e : broadcastInDim S32 ![] bcast_S_S32 (totalR s) (ix1 b) = BitVec.ofNat 32 (bef s 8) := (Routing.bc0 _ _ _).trans (totalR_apply s hs)
  refine Eq.trans (congrArg (fun x => (IntOp.cmpi .slt (BitVec.ofNat 32 b.val) x).setWidth 32) e) ?_
  show (BitVec.ofBool ((BitVec.ofNat 32 b.val).slt (BitVec.ofNat 32 (bef s 8)))).setWidth 32 = _
  rw [Routing.slt_ofNat32 (by omega) (by omega)]
  by_cases h : b.val < bef s 8
  · rw [if_pos h, decide_eq_true h]; rfl
  · rw [if_neg h, decide_eq_false h]; rfl

theorem tableR (s : IVec S4096 32) (hs : ∀ a, ex s a < 8) :
    (concatenate S96 0 [⟨S32, ownerR s⟩, ⟨S32, fetchR s⟩, ⟨S32, usedR s⟩] concatenates_S32_S32_S32_S96_d0 : S96.Idx → BitVec 32) = table s := by
  funext y
  have hy : (y 0).val < 96 := (y 0).isLt
  rw [concatenate_cons_apply, concatenateAt_cons]
  unfold table
  by_cases h1 : (y 0).val < 32
  · refine (dif_pos h1).trans (Eq.trans ?_ (if_pos h1).symm)
    refine Eq.trans (congrArg (ownerR s) ?_) (ownerR_apply s hs ⟨(y 0).val, h1⟩)
    exact funext fun a => match a with | 0 => rfl
  · refine (dif_neg h1).trans (Eq.trans ?_ (if_neg h1).symm)
    rw [concatenateAt_cons]
    by_cases h2 : (y 0).val < 64
    · have h2' : (y 0).val - 32 < 32 := by omega
      refine (dif_pos h2').trans (Eq.trans ?_ (if_pos h2).symm)
      refine Eq.trans (congrArg (fetchR s) ?_) (fetchR_apply s hs ⟨(y 0).val - 32, h2'⟩)
      exact funext fun a => match a with | 0 => rfl
    · have h2' : ¬ (y 0).val - 32 < 32 := by omega
      have h3 : (y 0).val - 64 < 32 := by omega
      refine (dif_neg h2').trans (Eq.trans ?_ (if_neg h2).symm)
      rw [concatenateAt_singleton]
      refine Eq.trans (congrArg (usedR s) ?_) (usedR_apply s hs ⟨(y 0).val - 64, h3⟩)
      exact funext fun a => match a with | 0 => Fin.ext (Nat.sub_sub _ 32 32)

end Cert.Proof.Dispatch

end
-- ==== Proof.Router.Dist.lean ====
/-
  The distance of two finite rows, two ways: the root of the sum of the squared differences, and the root of the squared
  lengths less twice the product, cut off at zero.
-/
module

public import Idealize.ShloMosaic.PureOps.Ideal
public import Idealize.ShloMosaic.PureOps.Ideal.Laws

@[expose] public section

noncomputable section

namespace Cert.Proof.Router

open Idealize.ShloMosaic

/-- A finite sum of real numbers, among the extended reals. -/
theorem sum_real {n : Nat} (f : Fin n → ℝ) : (∑ k, (f k : EReal)) = ((∑ k, f k : ℝ) : EReal) := by
  classical
  have : ∀ s : Finset (Fin n), (∑ k ∈ s, (f k : EReal)) = ((∑ k ∈ s, f k : ℝ) : EReal) := by
    intro s
    induction s using Finset.induction_on with
    | empty => simp
    | insert a s ha ih => rw [Finset.sum_insert ha, Finset.sum_insert ha, ih, EReal.coe_add]
  exact this _

/-- The word of two. -/
theorem two_word : Ideal.ofBits .f32 1073741824#32 = ((2 : ℝ) : EReal) := by
  simp [Ideal.ofBits, Ideal.ieee]
  rw [← EReal.coe_mul]
  norm_num

/-- The two readings of a distance agree on finite rows, and the distance is finite. -/
theorem dist_eq {n : Nat} {x c : Fin n → EReal} (hx : ∀ k, ∃ a : ℝ, x k = a) (hc : ∀ k, ∃ a : ℝ, c k = a) :
    Ideal.sqrt (max (∑ k, x k * x k - Ideal.ofBits .f32 1073741824#32 * ∑ k, x k * c k + ∑ k, c k * c k) 0)
        = Ideal.sqrt (∑ k, (x k - c k) * (x k - c k))
    ∧ ∃ a : ℝ, Ideal.sqrt (∑ k, (x k - c k) * (x k - c k)) = a := by
  choose a ha using hx
  choose b hb using hc
  obtain rfl : x = fun k => (a k : EReal) := funext ha
  obtain rfl : c = fun k => (b k : EReal) := funext hb
  have hs : 0 ≤ ∑ k, (a k - b k) * (a k - b k) := Finset.sum_nonneg fun k _ => mul_self_nonneg _
  have e : (∑ k, a k * a k) - 2 * (∑ k, a k * b k) + ∑ k, b k * b k = ∑ k, (a k - b k) * (a k - b k) := by
    rw [Finset.mul_sum, ← Finset.sum_sub_distrib, ← Finset.sum_add_distrib]
    exact Finset.sum_congr rfl fun k _ => by ring
  simp only [two_word, ← EReal.coe_mul, ← EReal.coe_sub, sum_real, ← EReal.coe_add]
  rw [e, max_eq_left (by exact_mod_cast hs)]
  refine ⟨rfl, Real.sqrt (∑ k, (a k - b k) * (a k - b k)), ?_⟩
  show (if _ then _ else _) = _
  rw [if_neg (not_lt.mpr hs)]

end Cert.Proof.Router

end
-- ==== Proof.Router.Pick.lean ====
/-
  The two greatest of eight: the first greatest entry of a row, and the first greatest of the others. A stable sort by
  decreasing value starts with these two; the fold of the maximum reads their values and the fold of the least index over
  the places that hold the maximum reads their places.
-/
module

public import Idealize.ShloMosaic.PureOps.Ideal
public import Idealize.ShloMosaic.PureOps.Ideal.Laws
public import Idealize.ShloMosaic.Lib.SortPrefix

@[expose] public section

noncomputable section

namespace Cert.Proof.Router

open Idealize.ShloMosaic

/-- `p` is the first place of a row of eight where the greatest value stands. -/
structure First (d : Fin 8 → EReal) (p : Fin 8) : Prop where
  top : ∀ k, d k ≤ d p
  least : ∀ k, d k = d p → p ≤ k

/-- Every row has such a place. -/
theorem First.exist (d : Fin 8 → EReal) : ∃ p, First d p := by
  obtain ⟨a, -, ha⟩ := Finset.exists_max_image Finset.univ d ⟨0, Finset.mem_univ _⟩
  have hne : (Finset.univ.filter fun k => d k = d a).Nonempty := ⟨a, by simp⟩
  refine ⟨(Finset.univ.filter fun k => d k = d a).min' hne, ?_⟩
  have hm := Finset.min'_mem _ hne
  rw [Finset.mem_filter] at hm
  refine ⟨fun k => (ha k (Finset.mem_univ _)).trans hm.2.ge, fun k hk => Finset.min'_le _ _ ?_⟩
  rw [Finset.mem_filter]
  exact ⟨Finset.mem_univ _, hk.trans hm.2⟩

/-- The row with one place struck out. -/
def strike (d : Fin 8 → EReal) (p k : Fin 8) : EReal := if k = p then ⊥ else d k

theorem strike_of_ne {d : Fin 8 → EReal} {p k : Fin 8} (h : k ≠ p) : strike d p k = d k := if_neg h

/-- In a row without −∞ the first greatest place of the struck row is another place. -/
theorem First.ne {d : Fin 8 → EReal} (hd : ∀ k, d k ≠ ⊥) {p q : Fin 8} (hq : First (strike d p) q) : q ≠ p := by
  intro e
  obtain ⟨k, hk⟩ : ∃ k : Fin 8, k ≠ p := ⟨p + 1, (by decide : ∀ x : Fin 8, x + 1 ≠ x) p⟩
  have := hq.top k
  rw [strike_of_ne hk, strike, if_pos e] at this
  exact hd k (le_bot_iff.mp this)

/-! ## The folds -/

/-- The fold of the maximum from −∞ is the value at the first greatest place. -/
theorem First.fold_max {d : Fin 8 → EReal} {p : Fin 8} (h : First d p) : Finset.univ.fold max ⊥ d = d p := by
  apply le_antisymm
  · rw [Finset.fold_max_le]
    exact ⟨bot_le, fun k _ => h.top k⟩
  · rw [Finset.le_fold_max]
    exact Or.inr ⟨p, Finset.mem_univ _, le_rfl⟩

/-- Over eight marks, the fold of the least place among the marked ones is the first marked place. -/
theorem least_mark : ∀ (b : Fin 8 → Bool) (p : Fin 8), b p = true → (∀ k, b k = true → p ≤ k) →
    Finset.univ.fold IntOp.minsi 2147483647#32 (fun k => if b k = true then BitVec.ofNat 32 k.val else 8#32)
      = BitVec.ofNat 32 p.val := by
  decide +kernel

/-- The fold of the least place among those that hold the maximum is the first greatest place. -/
theorem First.fold_min {d : Fin 8 → EReal} {p : Fin 8} (h : First d p) :
    Finset.univ.fold IntOp.minsi 2147483647#32 (fun k => if d k = d p then BitVec.ofNat 32 k.val else 8#32)
      = BitVec.ofNat 32 p.val := by
  classical
  have e := least_mark (fun k => decide (d k = d p)) p (by simp) fun k hk => h.least k (by simpa using hk)
  simpa using e

/-! ## The sort -/

/-- Two comparators that say the same whenever a later element of a list is compared with an earlier one sort the list
    alike. -/
theorem stableSort_eq_of {ι : Type} (B C : ι → ι → Bool) (R : ι → ι → Prop) (h : ∀ a b, R a b → B b a = C b a) :
    ∀ l : List ι, l.Pairwise R → stableSort B l = stableSort C l
  | [], _ => rfl
  | a :: l, hl => by
    rw [List.pairwise_cons] at hl
    show insertBefore B a (stableSort B l) = insertBefore C a (stableSort C l)
    rw [stableSort_eq_of B C R h l hl.2]
    exact insertBefore_congr B C a _ fun b hb => h a b (hl.1 b ((perm_stableSort C l).mem_iff.mp hb))

/-- A greater value first, and of equal values the earlier place. -/
def before (d : Fin 8 → EReal) (k k' : Fin 8) : Bool := decide (d k' < d k) || (decide (d k = d k') && decide (k < k'))

theorem before_iff {d : Fin 8 → EReal} {k k' : Fin 8} : before d k k' = true ↔ d k' < d k ∨ (d k = d k' ∧ k < k') := by
  simp [before]

theorem before_total (d : Fin 8 → EReal) : StrictTotalBefore (before d) := by
  classical
  exact StrictTotalBefore.of_key_then_position (fun a b : EReal => decide (b < a)) d (by simp)
    (fun a b c hab hbc => by simp only [decide_eq_true_eq] at *; exact hbc.trans hab)
    (fun a b => by simp only [decide_eq_true_eq]; rcases lt_trichotomy a b with h | h | h <;> simp [h])

/-- The comparison of values alone, used by a stable sort on places in order, is `before`. -/
theorem sortedFrom_value (d : Fin 8 → EReal) :
    sortedFrom (fun k k' : Fin 8 => Ideal.cmp .ogt (d k) (d k') == 1#1) = sortedFrom (before d) := by
  have e : sortPositions 8 (fun k k' : Fin 8 => Ideal.cmp .ogt (d k) (d k') == 1#1) = sortPositions 8 (before d) := by
    refine stableSort_eq_of _ _ (· < ·) (fun a b hab => ?_) _ (List.pairwise_lt_finRange 8)
    rw [Bool.eq_iff_iff, before_iff]
    have : ¬ b < a := not_lt.mpr hab.le
    by_cases h : d a < d b <;> simp [Ideal.cmp, this, h]
  funext k
  unfold sortedFrom
  rw [List.get_of_eq e]
  rfl

/-- The first two places of the sort. -/
theorem sorted_two {d : Fin 8 → EReal} (hd : ∀ k, d k ≠ ⊥) {p q : Fin 8} (hp : First d p) (hq : First (strike d p) q) (i : Fin 2) :
    sortedFrom (fun k k' : Fin 8 => Ideal.cmp .ogt (d k) (d k') == 1#1) (i.castLE (by decide)) = (![p, q] : Fin 2 → Fin 8) i := by
  have hne : q ≠ p := hq.ne hd
  have top : ∀ k, k ≠ p → d k ≤ d q := fun k hk => by
    have := hq.top k
    rwa [strike_of_ne hk, strike_of_ne hne] at this
  have least : ∀ k, k ≠ p → d k = d q → q ≤ k := fun k hk e => hq.least k (by rw [strike_of_ne hk, strike_of_ne hne, e])
  have first : ∀ k, before d k p = false := fun k => by
    rw [Bool.eq_false_iff, ne_eq, before_iff]
    rintro (h | ⟨e, h⟩)
    · exact absurd (hp.top k) (not_le.mpr h)
    · exact absurd (hp.least k e) (not_le.mpr h)
  have second : ∀ k, k ≠ p → before d k q = false := fun k hk => by
    rw [Bool.eq_false_iff, ne_eq, before_iff]
    rintro (h | ⟨e, h⟩)
    · exact absurd (top k hk) (not_le.mpr h)
    · exact absurd (least k hk e) (not_le.mpr h)
  rw [sortedFrom_value]
  refine (before_total d).sortedFrom_eq_of_prefix (by decide) ![p, q] ?_ ?_ ?_ i
  · intro a b hab
    match a, b, hab with
    | 0, 0, _ => rfl
    | 0, 1, e => exact absurd (show p = q from e).symm hne
    | 1, 0, e => exact absurd (show q = p from e) hne
    | 1, 1, _ => rfl
  · intro a b hab
    match a, b, hab with
    | 0, 1, _ => exact first q
    | 0, 0, h => exact absurd h (lt_irrefl _)
    | 1, 0, h => exact absurd h (by decide)
    | 1, 1, h => exact absurd h (lt_irrefl _)
  · intro a k hk
    match a with
    | 0 => exact first k
    | 1 => exact second k fun e => hk 0 e.symm

end Cert.Proof.Router

end
-- ==== Proof.Router.Ref.lean ====
/-
  The router's reference read at an entry of its results: the distance of a token to a centroid, the two farthest
  centroids of the token, and the two weights.
-/
module

public import proofs.«01_k».proof.Proof.Gen.RouterReferenceIdeal
public import proofs.«01_k».proof.Proof.Router.Pick
public import Idealize.ShloMosaic.Lib.Pointwise

@[expose] public section

noncomputable section

namespace Cert.Proof.Router

open Idealize.ShloMosaic
open Cert.RouterReferenceIdeal Cert.RouterReferenceIdeal.Gen

/-- The reference's distances, as it computes them. -/
def distR (x : FVec Ideal S2048x1024 .f32) (c : FVec Ideal S8x1024 .f32) : FVec Ideal S2048x8 .f32 :=
  have diff : FVec Ideal S2048x8x1024 .f32 :=
    subf (broadcastInDim S2048x8x1024 ![0, 1, 2] bcast_S2048x1x1024_S2048x8x1024_0_1_2 (broadcastInDim S2048x1x1024 ![0, 2] bcast_S2048x1024_S2048x1x1024_0_2 x))
      (broadcastInDim S2048x8x1024 ![0, 1, 2] bcast_S1x8x1024_S2048x8x1024_0_1_2 (broadcastInDim S1x8x1024 ![1, 2] bcast_S8x1024_S1x8x1024_1_2 c))
  Host.sqrt (Host.reduceAdd (mulf diff diff) (constant S_ .f32 0x00000000#32) reducesTo_S2048x8x1024_S2048x8_d2 h_S_)

/-- A distance is the root of the sum of the squared differences. -/
theorem distR_apply (x : FVec Ideal S2048x1024 .f32) (c : FVec Ideal S8x1024 .f32) (r : Fin 2048) (e : Fin 8) :
    distR x c (ix2 r e) = Ideal.sqrt (∑ k : Fin 1024, (x (ix2 r k) - c (ix2 e k)) * (x (ix2 r k) - c (ix2 e k))) := by
  pointwise [distR]

/-- The reference's normalised exponentials of the two greatest distances of each token. -/
def softR (v : FVec Ideal S2048x2 .f32) : FVec Ideal S2048x2 .f32 :=
  have e : FVec Ideal S2048x2 .f32 :=
    Host.exp (subf v (broadcastInDim S2048x2 ![0, 1] bcast_S2048x1_S2048x2_0_1 (broadcastInDim S2048x1 ![0] bcast_S2048_S2048x1_0
      (maximumf (broadcastInDim S2048 ![] bcast_S_S2048 (constant S_ .f32 0xFF800000#32))
        (Host.reduce FloatOps.maximumf v (constant S_ .f32 0xFF800000#32) reducesTo_S2048x2_S2048_d1 h_S_)))))
  Host.divf e (broadcastInDim S2048x2 ![0, 1] bcast_S2048x1_S2048x2_0_1 (broadcastInDim S2048x1 ![0] bcast_S2048_S2048x1_0
    (Host.reduceAdd e (constant S_ .f32 0x00000000#32) reducesTo_S2048x2_S2048_d1 h_S_)))

/-- The word of −∞. -/
theorem neg_inf : Ideal.ofBits .f32 4286578688#32 = ⊥ := by simp [Ideal.ofBits, Ideal.ieee]

/-- The two weights of a token, of its greatest and its second distance. -/
def weight (a b : EReal) (i : Fin 2) : EReal :=
  (![Ideal.div 1 (1 + Ideal.exp (b - a)), Ideal.div (Ideal.exp (b - a)) (1 + Ideal.exp (b - a))] : Fin 2 → EReal) i

/-- The normalised exponentials of two finite values, the greater first. -/
theorem softR_apply (v : FVec Ideal S2048x2 .f32) (r : Fin 2048) (i : Fin 2) (a b : ℝ) (ha : v (ix2 r 0) = a) (hb : v (ix2 r 1) = b)
    (hab : b ≤ a) : softR v (ix2 r i) = weight a b i := by
  have hm : (Finset.univ : Finset (Fin 2)).fold max (⊥ : EReal) (fun k => v (ix2 r k)) = (a : EReal) := by
    apply le_antisymm
    · rw [Finset.fold_max_le]
      refine ⟨bot_le, fun k _ => ?_⟩
      match k with
      | 0 => exact ha.le
      | 1 => rw [hb]; exact EReal.coe_le_coe_iff.mpr hab
    · rw [Finset.le_fold_max]
      exact Or.inr ⟨0, Finset.mem_univ _, ha.ge⟩
  have h0 : Ideal.exp ((a : EReal) - a) = 1 := by
    rw [← EReal.coe_sub, sub_self]
    show ((Real.exp 0 : ℝ) : EReal) = 1
    rw [Real.exp_zero]; rfl
  pointwise [softR]
  simp only [neg_inf, hm, bot_le, max_eq_right, Fin.sum_univ_two, ha, hb, h0]
  match i with
  | 0 => rw [ha, h0]; rfl
  | 1 => rw [hb]; rfl

/-! ## The two farthest -/

/-- An index with its second coordinate replaced. -/
theorem along_row (r : Fin 2048) (y k : Fin 8) :
    Shape.Idx.along (s := S2048x8) (ix2 r y) (1 : Fin 2) (show Fin (S2048x8.size 1) from k) = ix2 r k :=
  funext fun a => match a with
    | 0 => rfl
    | 1 => rfl

/-- The first two columns of an array of eight. -/
theorem start_row (r : Fin 2048) (i : Fin 2) {h : S2048x8.Slices (fun _ => 0) S2048x2} {α : Type} (x : S2048x8.Idx → α) :
    extractStridedSlice S2048x2 (fun _ => 0) x h (ix2 r i) = x (ix2 r (i.castLE (by decide))) := by
  pointwise []
  rfl

/-- The sort of a row, with what it carries. -/
theorem sort_row {β : Type} (d : FVec Ideal S2048x8 .f32) (y : S2048x8.Idx → β) (r : Fin 2048) (e : Fin 8) :
    (Host.sort2 S2048x8 1 (fun l r : Ideal .f32 × β => FloatOps.cmpfTotal .gt l.1 r.1) d y).1 (ix2 r e)
        = d (ix2 r (sortedFrom (fun k k' => Ideal.cmp .ogt (d (ix2 r k)) (d (ix2 r k')) == 1#1) e))
    ∧ (Host.sort2 S2048x8 1 (fun l r : Ideal .f32 × β => FloatOps.cmpfTotal .gt l.1 r.1) d y).2 (ix2 r e)
        = y (ix2 r (sortedFrom (fun k k' => Ideal.cmp .ogt (d (ix2 r k)) (d (ix2 r k')) == 1#1) e)) := by
  have h : sortedFrom (fun k k' : Fin 8 =>
        Ideal.cmp .ogt (d (Shape.Idx.along (s := S2048x8) (ix2 r e) (1 : Fin 2) (show Fin (S2048x8.size 1) from k)))
          (d (Shape.Idx.along (s := S2048x8) (ix2 r e) (1 : Fin 2) (show Fin (S2048x8.size 1) from k'))) == 1#1) e
      = sortedFrom (fun k k' => Ideal.cmp .ogt (d (ix2 r k)) (d (ix2 r k')) == 1#1) e := by
    simp only [along_row]
  rw [← h]
  exact ⟨congrArg d (along_row r e _), congrArg y (along_row r e _)⟩

/-- The columns' numbers. -/
abbrev columns : IVec S2048x8 32 := fun i => if hd : 1 < S2048x8.rank then iotaInDim S2048x8 32 ⟨1, hd⟩ i else 0#32

/-- What the reference takes of the distances. -/
abbrev topR (d : FVec Ideal S2048x8 .f32) : FVec Ideal S2048x2 .f32 × IVec S2048x2 32 :=
  Host.topK S2048x2 1 (FloatOps.cmpfTotal .gt) d sliceFits_S2048x8_S2048x2

/-- It takes the two greatest, of equal ones the earlier first. -/
theorem topR_apply (d : FVec Ideal S2048x8 .f32) (r : Fin 2048) (hd : ∀ k, d (ix2 r k) ≠ ⊥) {p q : Fin 8}
    (hp : First (fun k => d (ix2 r k)) p) (hq : First (strike (fun k => d (ix2 r k)) p) q) (i : Fin 2) :
    (topR d).1 (ix2 r i) = d (ix2 r ((![p, q] : Fin 2 → Fin 8) i))
    ∧ (topR d).2 (ix2 r i) = BitVec.ofNat 32 ((![p, q] : Fin 2 → Fin 8) i).val := by
  have e := sorted_two hd hp hq i
  constructor
  · refine ((start_row r i (h := sliceFits_S2048x8_S2048x2) _).trans (sort_row d columns r (i.castLE (by decide))).1).trans ?_
    exact congrArg (fun k => d (ix2 r k)) e
  · refine ((start_row r i (h := sliceFits_S2048x8_S2048x2) _).trans (sort_row d columns r (i.castLE (by decide))).2).trans ?_
    exact congrArg (fun k : Fin 8 => BitVec.ofNat 32 k.val) e

end Cert.Proof.Router

end
-- ==== Proof.Router.Body.lean ====
/-
  The router's kernel read at an entry of its results: the distance of a token to a centroid, the places of the two
  farthest centroids, and the two weights.
-/
module

public import proofs.«01_k».proof.Proof.Gen.RouterIdeal.Skeleton
public import proofs.«01_k».proof.Proof.Gen.RouterIdeal
public import proofs.«01_k».proof.Proof.Router.Ref

@[expose] public section

noncomputable section

namespace Cert.Proof.Router

open Idealize.ShloMosaic
open Cert.RouterIdeal Cert.RouterIdeal.Gen

variable (x : Vec Ideal S2048x1024 .f32) (c : Vec Ideal S8x1024 .f32) (r : Fin 2048)

/-- A distance is the root of the squared lengths less twice the product, cut off at zero. -/
theorem distK_apply (e : Fin 8) :
    k0_pay4 x c (ix2 r e) = Ideal.sqrt (max (∑ k : Fin 1024, x (ix2 r k) * x (ix2 r k)
      - Ideal.ofBits .f32 1073741824#32 * ∑ k : Fin 1024, x (ix2 r k) * c (ix2 e k) + ∑ k : Fin 1024, c (ix2 e k) * c (ix2 e k)) 0) := by
  pointwise [k0_pay4]

/-- A token's distances. -/
def row (e : Fin 8) : EReal := k0_pay4 x c (ix2 r e)

variable {p q : Fin 8}

theorem first_value (hp : First (row x c r) p) : k0_pay5 x c (ix2 r 0) = row x c r p := by
  rw [← hp.fold_max]
  unfold k0_pay5 row
  generalize k0_pay4 x c = d
  pointwise []
  rw [neg_inf]

theorem first_place (hp : First (row x c r) p) : k0_pay6 x c (ix2 r 0) = BitVec.ofNat 32 p.val := by
  have h5 := first_value x c r hp
  rw [← hp.fold_min, ← h5]
  unfold k0_pay6 row
  generalize k0_pay4 x c = d
  generalize k0_pay5 x c = m
  pointwise []

/-- The distances with the farthest struck out. -/
theorem struck (hp : First (row x c r) p) (e : Fin 8) : k0_pay7 x c (ix2 r e) = strike (row x c r) p e := by
  have h6 := first_place x c r hp
  unfold k0_pay7
  have key : ∀ e p : Fin 8, IntOp.cmpi .eq (BitVec.ofNat 32 e.val) (BitVec.ofNat 32 p.val) = if e = p then 1#1 else 0#1 := by decide
  have hrow : k0_pay4 x c (ix2 r e) = row x c r e := rfl
  revert h6 hrow
  generalize k0_pay4 x c = d
  generalize k0_pay6 x c = w
  intro h6 hrow
  pointwise []
  rw [h6, key, neg_inf, hrow]
  unfold strike
  by_cases h : e = p
  · rw [if_pos h, if_pos h]; rfl
  · rw [if_neg h, if_neg h]; rfl

theorem struck_row (hp : First (row x c r) p) : (fun e : Fin 8 => k0_pay7 x c (ix2 r e)) = strike (row x c r) p :=
  funext fun e => struck x c r hp e

theorem second_value (hp : First (row x c r) p) (hq : First (strike (row x c r) p) q) :
    k0_pay8 x c (ix2 r 0) = strike (row x c r) p q := by
  rw [← hq.fold_max, ← struck_row x c r hp]
  unfold k0_pay8
  generalize k0_pay7 x c = d
  pointwise []
  rw [neg_inf]

theorem second_place (hp : First (row x c r) p) (hq : First (strike (row x c r) p) q) :
    k0_pay9 x c (ix2 r 0) = BitVec.ofNat 32 q.val := by
  have h8 := second_value x c r hp hq
  rw [← hq.fold_min, ← h8]
  simp only [← struck x c r hp]
  unfold k0_pay9
  generalize k0_pay7 x c = d
  generalize k0_pay8 x c = m
  pointwise []

/-- The places the kernel stores. -/
theorem placesK (hp : First (row x c r) p) (hq : First (strike (row x c r) p) q) (i : Fin 2) :
    k0_pay1 (k0_pay6 x c) (k0_pay9 x c) (ix2 r i) = BitVec.ofNat 32 ((![p, q] : Fin 2 → Fin 8) i).val := by
  have h6 := first_place x c r hp
  have h9 := second_place x c r hp hq
  revert h6 h9
  generalize k0_pay6 x c = a
  generalize k0_pay9 x c = b
  intro h6 h9
  pointwise [k0_pay1]
  match i with
  | 0 => exact h6
  | 1 => exact h9

/-- The weights the kernel stores. -/
theorem weightsK (hd : ∀ e, row x c r e ≠ ⊥) (hp : First (row x c r) p) (hq : First (strike (row x c r) p) q) (i : Fin 2) :
    k0_pay2 (k0_pay10 x c) (k0_pay11 (F := Ideal)) (ix2 r i) = weight (row x c r p) (row x c r q) i := by
  have h5 := first_value x c r hp
  have h8 := second_value x c r hp hq
  rw [strike_of_ne (hq.ne hd)] at h8
  unfold k0_pay10 k0_pay11
  revert h5 h8
  generalize k0_pay5 x c = a
  generalize k0_pay8 x c = b
  intro h5 h8
  pointwise [k0_pay2]
  match i with
  | 0 => exact congrArg₂ (fun u v => Ideal.div 1 (1 + Ideal.exp (u - v))) h8 h5
  | 1 => exact congrArg₂ (fun u v => Ideal.div (Ideal.exp (u - v)) (1 + Ideal.exp (u - v))) h8 h5

end Cert.Proof.Router

end
-- ==== Proof.Router.Value.lean ====
/-
  The router's kernel and its reference give the same three arrays, on finite tokens and centroids.
-/
module

public import proofs.«01_k».proof.Proof.Gen.RouterIdeal.Value
public import proofs.«01_k».proof.Proof.Gen.RouterReferenceIdeal.Run
public import proofs.«01_k».proof.Pre_tokens_finite
public import proofs.«01_k».proof.Proof.Router.Dist
public import proofs.«01_k».proof.Proof.Router.Body
public import Idealize.ShloMosaic.Lib.ReduceAll

@[expose] public section

noncomputable section

namespace Cert.Proof.Router

open Idealize.ShloMosaic

/-! ## The precondition -/

/-- An extended real whose magnitude is below ∞ is a real number. -/
theorem real_of_abs_lt {x : EReal} (h : Ideal.cmp .olt (max x (-x)) (Ideal.ofBits .f32 2139095040#32) = 1#1) : ∃ a : ℝ, x = a := by
  have ht : Ideal.ofBits .f32 2139095040#32 = ⊤ := by simp [Ideal.ofBits, Ideal.ieee]
  rw [ht] at h
  have hlt : max x (-x) < ⊤ := by
    by_contra hn
    simp [Ideal.cmp, hn] at h
  induction x with
  | bot => simp at hlt
  | top => simp at hlt
  | coe a => exact ⟨a, rfl⟩

/-- The precondition, read at every entry of the two arrays. -/
theorem finite_of_pre [Cert.Pre_tokens_finite.Facts] {x : FVec Ideal Cert.Pre_tokens_finite.S2048x1024 .f32}
    {c : FVec Ideal Cert.Pre_tokens_finite.S8x1024 .f32} (h : Cert.Pre_tokens_finite.fn x c = fun _ => 1#1) :
    (∀ j, ∃ a : ℝ, x j = a) ∧ (∀ j, ∃ a : ℝ, c j = a) := by
  have both : ∀ a b : BitVec 1, a &&& b = 1#1 → a = 1#1 ∧ b = 1#1 := by decide
  have e := congrFun h fun a => a.elim0
  dsimp only [Cert.Pre_tokens_finite.fn] at e
  have e' := both _ _ e
  exact ⟨fun j => real_of_abs_lt (Host.reduce_andi_all _ _ _ _ _ e'.1 j), fun j => real_of_abs_lt (Host.reduce_andi_all _ _ _ _ _ e'.2 j)⟩

/-! ## The values -/

open Cert.RouterIdeal Cert.RouterIdeal.Gen

variable {x : Vec Ideal S2048x1024 .f32} {c : Vec Ideal S8x1024 .f32}

/-- A token's distances are the reference's, and finite. -/
theorem row_eq (hx : ∀ j, ∃ a : ℝ, x j = a) (hc : ∀ j, ∃ a : ℝ, c j = a) (r : Fin 2048) (e : Fin 8) :
    distR x c (ix2 r e) = row x c r e ∧ ∃ a : ℝ, row x c r e = a := by
  have h := dist_eq (n := 1024) (x := fun k => x (ix2 r k)) (c := fun k => c (ix2 e k)) (fun k => hx _) (fun k => hc _)
  have hk : row x c r e = distR x c (ix2 r e) := by
    rw [distR_apply]
    exact (distK_apply x c r e).trans h.1
  exact ⟨hk.symm, by rw [hk, distR_apply]; exact h.2⟩

/-- The two places and the two weights of a token, both programs'. -/
theorem token_eq (hx : ∀ j, ∃ a : ℝ, x j = a) (hc : ∀ j, ∃ a : ℝ, c j = a) (r : Fin 2048) (i : Fin 2) :
    (topR (distR x c)).2 (ix2 r i) = k0_pay1 (k0_pay6 x c) (k0_pay9 x c) (ix2 r i)
    ∧ softR (topR (distR x c)).1 (ix2 r i) = k0_pay2 (k0_pay10 x c) (k0_pay11 (F := Ideal)) (ix2 r i) := by
  have hr : (fun e : Fin 8 => distR x c (ix2 r e)) = row x c r := funext fun e => (row_eq hx hc r e).1
  have hd : ∀ e, row x c r e ≠ ⊥ := fun e h => by
    obtain ⟨a, ha⟩ := (row_eq hx hc r e).2
    exact EReal.coe_ne_bot a (ha.symm.trans h)
  have hd' : ∀ e, distR x c (ix2 r e) ≠ ⊥ := fun e => by rw [(row_eq hx hc r e).1]; exact hd e
  obtain ⟨p, hp⟩ := First.exist (row x c r)
  obtain ⟨q, hq⟩ := First.exist (strike (row x c r) p)
  have top := fun i => topR_apply (distR x c) r hd' (p := p) (q := q) (by rw [hr]; exact hp) (by rw [hr]; exact hq) i
  obtain ⟨a, ha⟩ := (row_eq hx hc r p).2
  obtain ⟨b, hb⟩ := (row_eq hx hc r q).2
  refine ⟨(top i).2.trans (placesK x c r hp hq i).symm, ?_⟩
  rw [weightsK x c r hd hp hq i, ha, hb]
  refine softR_apply _ r i a b ?_ ?_ (EReal.coe_le_coe_iff.mp (by rw [← ha, ← hb]; exact hp.top q))
  · exact (top 0).1.trans ((row_eq hx hc r p).1.trans ha)
  · exact (top 1).1.trans ((row_eq hx hc r q).1.trans hb)

/-- Every index of a token's two entries is a token and a place. -/
theorem pair_index (j : S2048x2.Idx) : ∃ (r : Fin 2048) (i : Fin 2), j = ix2 r i :=
  ⟨j 0, j 1, funext fun a => match a with
    | 0 => rfl
    | 1 => rfl⟩

/-- The reference's places are the kernel's. -/
theorem places_eq (hx : ∀ j, ∃ a : ℝ, x j = a) (hc : ∀ j, ∃ a : ℝ, c j = a) :
    (topR (distR x c)).2 = k0_pay1 (k0_pay6 x c) (k0_pay9 x c) := funext fun j => by
  obtain ⟨r, i, rfl⟩ := pair_index j
  exact (token_eq hx hc r i).1

/-- The reference's weights are the kernel's. -/
theorem weights_eq (hx : ∀ j, ∃ a : ℝ, x j = a) (hc : ∀ j, ∃ a : ℝ, c j = a) :
    softR (topR (distR x c)).1 = k0_pay2 (k0_pay10 x c) (k0_pay11 (F := Ideal)) := funext fun j => by
  obtain ⟨r, i, rfl⟩ := pair_index j
  exact (token_eq hx hc r i).2

end Cert.Proof.Router

end
-- ==== Proof.Ffn.Run.lean ====
/-
  The feed-forward kernel's body at a point of its grid, case by case: what each of the buffers it was handed holds after it.
  A point of a block in use is in phase 0 or 1 (the hidden units of one half of the inputs), in phase 2 (the first third of the hidden units
  carried to the result) or in phase 3 or 4 (another third added); at a point of a block not in use nothing is stored.
-/
module

public import proofs.«01_k».proof.Proof.Gen.FfnIdeal.Launch
public import proofs.«01_k».proof.Proof.Gen.FfnIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word of the table `t` that belongs to the block of the point `i`. -/
def word (t : Vec F S32 .i32) (i : grid0.Coords) : BitVec 32 := t fun
  | ⟨0, _⟩ => ⟨(i 0).val, lt_of_lt_of_le (i 0).isLt (show 16 ≤ 32 by decide)⟩

/-- The columns of `xs` that the point's phase reads. -/
def half (xs : Vec F S512x1024 .f32) (i : grid0.Coords) (h : k0_cond3 i = 1#1) : Vec F S512x512 .f32 :=
  VecWindow.window xs (k0_off2 i) S512x512.size (k0_off2_inb i h)

/-- The third of the hidden units that the point's phase reads. -/
def third (g : Vec F S3x512x912 .f32) (i : grid0.Coords) (h : k0_cond10 i = 1#1) : Vec F S1x512x912 .f32 :=
  VecWindow.window g (k0_off3 i) S1x512x912.size (k0_off3_inb i h)

/-- `g` with its three thirds replaced. -/
def slabs (g : Vec F S3x512x912 .f32) (a b d : Vec F S1x512x912 .f32) : Vec F S3x512x912 .f32 :=
  VecWindow.put (VecWindow.put (VecWindow.put g ![0, 0, 0] S1x512x912.size a) ![1, 0, 0] S1x512x912.size b) ![2, 0, 0] S1x512x912.size d

/-- A third of `g`. -/
def slab0 (g : Vec F S3x512x912 .f32) : Vec F S1x512x912 .f32 := VecWindow.window g ![0, 0, 0] S1x512x912.size inb_S3x512x912_S1x512x912_0_0_0
/-- Another third of `g`. -/
def slab1 (g : Vec F S3x512x912 .f32) : Vec F S1x512x912 .f32 := VecWindow.window g ![1, 0, 0] S1x512x912.size inb_S3x512x912_S1x512x912_1_0_0
/-- The last third of `g`. -/
def slab2 (g : Vec F S3x512x912 .f32) : Vec F S1x512x912 .f32 := VecWindow.window g ![2, 0, 0] S1x512x912.size inb_S3x512x912_S1x512x912_2_0_0

/-- The word's place in the table is the block's number. -/
theorem k0_off1_val (i : grid0.Coords) (a : Fin 1) : k0_off1 i a = (i 0).val := by
  match a with
  | ⟨0, _⟩ =>
    have h : (i 0).val < 16 := (i 0).isLt
    show (BitVec.ofNat 32 (i 0).val).toNat = _
    rw [BitVec.toNat_ofNat]
    exact Nat.mod_eq_of_lt (by omega)

/-- The load of the table's word reads `word`. -/
theorem load_word {arg3 : Memref sig .tc .smem S32 .i32} (h3 : arg3.IsWhole) (t : Vec F S32 .i32) (i : grid0.Coords) (j) :
    View.readAt (Elt F) arg3.view (Rect.unit (s := S32) (k0_off1 i) S1.size (k0_off1_inb i)).toLoadRect (h3.unread t) j = word t i := by
  rw [h3.readAt_unread]
  unfold word
  congr 1
  funext a
  apply Fin.ext
  have e : (((Rect.unit (s := S32) (k0_off1 i) S1.size (k0_off1_inb i)).toLoadRect.idx j) a).val = k0_off1 i a + 1 * (j a).val := rfl
  have hj : (j a).val < 1 := by
    have := (j a).isLt
    match a with
    | ⟨0, _⟩ => exact this
  rw [e, k0_off1_val i a]
  match a with
  | ⟨0, _⟩ => show (i 0).val + 1 * _ = (i 0).val; omega

set_option maxHeartbeats 1000000 in
/-- Phase 0: the rows are gathered, and the first half of the inputs gives the thirds their first values. -/
theorem run_first (c : Dev nD) (i : grid0.Coords) (arg2 : Memref sig .tc .smem S32 .i32) (harg2 : arg2.IsWhole) (arg3 : Memref sig .tc .smem S32 .i32) (harg3 : arg3.IsWhole) (arg4 : Memref sig .tc .smem S32 .i32) (harg4 : arg4.IsWhole) (arg5 : Memref sig .tc .vmem S2048x1024 .bf16) (harg5 : arg5.IsWhole) (arg6 : Memref sig .tc .vmem S512x1 .i32) (harg6 : arg6.IsWhole) (arg7 : Memref sig .tc .vmem S1x512x2736 .f32) (harg7 : arg7.IsWhole) (arg8 : Memref sig .tc .vmem S1x1x2736 .f32) (harg8 : arg8.IsWhole) (arg9 : Memref sig .tc .vmem S1x512x2736 .f32) (harg9 : arg9.IsWhole) (arg10 : Memref sig .tc .vmem S1x1x2736 .f32) (harg10 : arg10.IsWhole) (arg11 : Memref sig .tc .vmem S1x912x1024 .f32) (harg11 : arg11.IsWhole) (arg12 : Memref sig .tc .vmem S1x1x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S3x512x912 .f32) (harg15 : arg15.IsWhole) (arg16 : Memref sig .tc .vmem S3x512x912 .f32) (harg16 : arg16.IsWhole) (arg17 : Memref sig .tc .vmem S512x1024 .f32) (harg17 : arg17.IsWhole)
    (t : Vec F S32 .i32) (q : PosShare TreeShare)
    (x : Vec F S2048x1024 .bf16) (tok : Vec F S512x1 .i32) (wg : Vec F S1x512x2736 .f32) (bg : Vec F S1x1x2736 .f32) (w1 : Vec F S1x512x2736 .f32) (b1 : Vec F S1x1x2736 .f32) (w2 : Vec F S1x912x1024 .f32) (b2 : Vec F S1x1x1024 .f32) (gate : Vec F S512x1 .f32) (o : Vec F S512x1024 .f32) (g : Vec F S3x512x912 .f32) (u : Vec F S3x512x912 .f32) (xs : Vec F S512x1024 .f32)
    (hu : k0_cond1 (word t i) = 1#1) (hp : (i 1).val = 0) (h3 : k0_cond3 i = 1#1)
    (E : Set ℕ) (K : PUnit → sProp 𝕄) :
    iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare o ∗ owns (c : Thread nD τ) arg15 fullShare g ∗ owns (c : Thread nD τ) arg16 fullShare u ∗ owns (c : Thread nD τ) arg17 fullShare xs ∗ (iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare o ∗ owns (c : Thread nD τ) arg15 fullShare (slabs g (k0_pay11 (half (k0_pay1 tok x) i h3) wg bg) (k0_pay17 (half (k0_pay1 tok x) i h3) wg bg) (k0_pay23 (half (k0_pay1 tok x) i h3) wg bg)) ∗ owns (c : Thread nD τ) arg16 fullShare (slabs u (k0_pay12 (half (k0_pay1 tok x) i h3) w1 b1) (k0_pay18 (half (k0_pay1 tok x) i h3) w1 b1) (k0_pay24 (half (k0_pay1 tok x) i h3) w1 b1)) ∗ owns (c : Thread nD τ) arg17 fullShare (k0_pay1 tok x)) -∗ K ⟨⟩))
      ⊢ wp frame (wpE (defs₀ (F := F)) Variants.none c none) E (cc0__ffn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [← load_word harg3 t i (Shape.Idx.first (numel1_S1.symm ▸ Nat.one_pos))] at hu
  have h_eq : (Scalar.cmpi .ne ((Scalar.extui (Scalar.cmpi .eq (BitVec.ofNat 32 (i 1).val) 0#32) : BitVec 32)) 0#32 = 1#1) := (by rw [hp]; decide)
  have h_sgt : ¬ (Scalar.cmpi .ne ((Scalar.extui (Scalar.cmpi .sgt (BitVec.ofNat 32 (i 1).val) 0#32) : BitVec 32)) 0#32 = 1#1) := (by rw [hp]; decide)
  have h_c10 : ¬ k0_cond10 i = 1#1 := (by unfold k0_cond10; rw [hp]; decide)
  simp only [cc0__ffn_kernel_eq_skeleton]; unfold cc0__ffn_kernel_skel
  simp only [k0_part1_eq_skeleton]
  unfold owns
  iintro ⟨⟨%ft, %hft, HT⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg3.eq_unread hft; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hu | sl_exact h_eq | sl_exact h_sgt | sl_exact h_c10 | sl_exact h3)
  sl_step
  iapply Hk
  isplitl [HT]
  · iexists _; isplitr; · ipureintro; exact harg3.read_unread _
    iexact HT
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; rotate_left
    · iexact H15
    ipureintro; have hv : run_first.sl.v16 c i arg5 harg5 arg6 harg6 arg17 x tok h3 = half (k0_pay1 tok x) i h3 := by
      unfold run_first.sl.v16 run_first.sl.H17_1 half
      rw [View.readAt_unit _ _ _ rfl (k0_off2_inb i h3), View.read_writes_full (s := S512x1024), View.readAt_full (s := S512x1), View.readAt_full (s := S2048x1024), hf5, hf6]
    rw [hv, View.readAt_full (s := S1x512x2736), View.readAt_full (s := S1x1x2736), hf7, hf8]
    rw [View.read_writes_cons_put _ _ _ _ _ rfl, View.read_writes_cons_put _ _ _ _ _ rfl, View.read_writes_cons_put _ _ _ _ _ rfl, View.writes_nil, hf15]
    rfl
  isplitl [H16]
  · iexists _; isplitr; rotate_left
    · iexact H16
    ipureintro; have hv : run_first.sl.v16 c i arg5 harg5 arg6 harg6 arg17 x tok h3 = half (k0_pay1 tok x) i h3 := by
      unfold run_first.sl.v16 run_first.sl.H17_1 half
      rw [View.readAt_unit _ _ _ rfl (k0_off2_inb i h3), View.read_writes_full (s := S512x1024), View.readAt_full (s := S512x1), View.readAt_full (s := S2048x1024), hf5, hf6]
    rw [hv, View.readAt_full (s := S1x512x2736), View.readAt_full (s := S1x1x2736), hf9, hf10]
    rw [View.read_writes_cons_put _ _ _ _ _ rfl, View.read_writes_cons_put _ _ _ _ _ rfl, View.read_writes_cons_put _ _ _ _ _ rfl, View.writes_nil, hf16]
    rfl
  iexists _; isplitr; rotate_left
  · iexact H17
  ipureintro; unfold run_first.sl.H17_1; rw [View.read_writes_full (s := S512x1024), View.readAt_full (s := S512x1), View.readAt_full (s := S2048x1024), hf5, hf6]

set_option maxHeartbeats 1000000 in
/-- Phase 1: the other half of the inputs is added to the thirds. -/
theorem run_second (c : Dev nD) (i : grid0.Coords) (arg2 : Memref sig .tc .smem S32 .i32) (harg2 : arg2.IsWhole) (arg3 : Memref sig .tc .smem S32 .i32) (harg3 : arg3.IsWhole) (arg4 : Memref sig .tc .smem S32 .i32) (harg4 : arg4.IsWhole) (arg5 : Memref sig .tc .vmem S2048x1024 .bf16) (harg5 : arg5.IsWhole) (arg6 : Memref sig .tc .vmem S512x1 .i32) (harg6 : arg6.IsWhole) (arg7 : Memref sig .tc .vmem S1x512x2736 .f32) (harg7 : arg7.IsWhole) (arg8 : Memref sig .tc .vmem S1x1x2736 .f32) (harg8 : arg8.IsWhole) (arg9 : Memref sig .tc .vmem S1x512x2736 .f32) (harg9 : arg9.IsWhole) (arg10 : Memref sig .tc .vmem S1x1x2736 .f32) (harg10 : arg10.IsWhole) (arg11 : Memref sig .tc .vmem S1x912x1024 .f32) (harg11 : arg11.IsWhole) (arg12 : Memref sig .tc .vmem S1x1x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S3x512x912 .f32) (harg15 : arg15.IsWhole) (arg16 : Memref sig .tc .vmem S3x512x912 .f32) (harg16 : arg16.IsWhole) (arg17 : Memref sig .tc .vmem S512x1024 .f32) (harg17 : arg17.IsWhole)
    (t : Vec F S32 .i32) (q : PosShare TreeShare)
    (x : Vec F S2048x1024 .bf16) (tok : Vec F S512x1 .i32) (wg : Vec F S1x512x2736 .f32) (bg : Vec F S1x1x2736 .f32) (w1 : Vec F S1x512x2736 .f32) (b1 : Vec F S1x1x2736 .f32) (w2 : Vec F S1x912x1024 .f32) (b2 : Vec F S1x1x1024 .f32) (gate : Vec F S512x1 .f32) (o : Vec F S512x1024 .f32) (g : Vec F S3x512x912 .f32) (u : Vec F S3x512x912 .f32) (xs : Vec F S512x1024 .f32)
    (hu : k0_cond1 (word t i) = 1#1) (hp : (i 1).val = 1) (h3 : k0_cond3 i = 1#1)
    (E : Set ℕ) (K : PUnit → sProp 𝕄) :
    iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare o ∗ owns (c : Thread nD τ) arg15 fullShare g ∗ owns (c : Thread nD τ) arg16 fullShare u ∗ owns (c : Thread nD τ) arg17 fullShare xs ∗ (iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare o ∗ owns (c : Thread nD τ) arg15 fullShare (slabs g (k0_pay13 (half xs i h3) wg (slab0 g)) (k0_pay19 (half xs i h3) wg (slab1 g)) (k0_pay2 (k0_pay21 (half xs i h3) wg) (slab2 g))) ∗ owns (c : Thread nD τ) arg16 fullShare (slabs u (k0_pay14 (half xs i h3) w1 (slab0 u)) (k0_pay20 (half xs i h3) w1 (slab1 u)) (k0_pay3 (k0_pay22 (half xs i h3) w1) (slab2 u))) ∗ owns (c : Thread nD τ) arg17 fullShare xs) -∗ K ⟨⟩))
      ⊢ wp frame (wpE (defs₀ (F := F)) Variants.none c none) E (cc0__ffn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [← load_word harg3 t i (Shape.Idx.first (numel1_S1.symm ▸ Nat.one_pos))] at hu
  have h_eq : ¬ (Scalar.cmpi .ne ((Scalar.extui (Scalar.cmpi .eq (BitVec.ofNat 32 (i 1).val) 0#32) : BitVec 32)) 0#32 = 1#1) := (by rw [hp]; decide)
  have h_sgt : (Scalar.cmpi .ne ((Scalar.extui (Scalar.cmpi .sgt (BitVec.ofNat 32 (i 1).val) 0#32) : BitVec 32)) 0#32 = 1#1) := (by rw [hp]; decide)
  have h_c10 : ¬ k0_cond10 i = 1#1 := (by unfold k0_cond10; rw [hp]; decide)
  simp only [cc0__ffn_kernel_eq_skeleton]; unfold cc0__ffn_kernel_skel
  simp only [k0_part1_eq_skeleton]
  unfold owns
  iintro ⟨⟨%ft, %hft, HT⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg3.eq_unread hft; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hu | sl_exact h_eq | sl_exact h_sgt | sl_exact h_c10 | sl_exact h3)
  sl_step
  iapply Hk
  isplitl [HT]
  · iexists _; isplitr; · ipureintro; exact harg3.read_unread _
    iexact HT
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; rotate_left
    · iexact H15
    ipureintro; have hv : View.readAt (Elt F) arg17.view (Rect.unit (s := S512x1024) (k0_off2 i) S512x512.size (k0_off2_inb i h3)).toLoadRect (harg17.unread xs) = half xs i h3 := by
      unfold half; rw [View.readAt_unit _ _ _ rfl (k0_off2_inb i h3), hf17]
    have e0 : View.readAt (Elt F) arg15.view (Rect.unit (s := S3x512x912) ![0, 0, 0] S1x512x912.size inb_S3x512x912_S1x512x912_0_0_0).toLoadRect (harg15.unread g) = slab0 g := by
      unfold slab0; rw [View.readAt_unit _ _ _ rfl inb_S3x512x912_S1x512x912_0_0_0, hf15]
    have e1 : run_second.sl.v47 c arg15 harg15 g = slab1 g := by
      unfold run_second.sl.v47 slab1; exact (View.readAt_unit _ _ _ rfl inb_S3x512x912_S1x512x912_1_0_0).trans (by rw [hf15])
    have e2 : run_second.sl.v47_1 c arg15 harg15 g = slab2 g := by
      unfold run_second.sl.v47_1 slab2; exact (View.readAt_unit _ _ _ rfl inb_S3x512x912_S1x512x912_2_0_0).trans (by rw [hf15])
    have er : run_second.sl.r_1 c i arg7 harg7 arg17 harg17 wg xs h3 = k0_pay21 (half xs i h3) wg := by
      unfold run_second.sl.r_1; rw [hv, View.readAt_full (s := S1x512x2736), hf7]
    rw [hv, e0, e1, e2, er, View.readAt_full (s := S1x512x2736), hf7]
    rw [View.read_writes_cons_put _ _ _ _ _ rfl, View.read_writes_cons_put _ _ _ _ _ rfl, View.read_writes_cons_put _ _ _ _ _ rfl, View.writes_nil, hf15]
    rfl
  isplitl [H16]
  · iexists _; isplitr; rotate_left
    · iexact H16
    ipureintro; have hv : View.readAt (Elt F) arg17.view (Rect.unit (s := S512x1024) (k0_off2 i) S512x512.size (k0_off2_inb i h3)).toLoadRect (harg17.unread xs) = half xs i h3 := by
      unfold half; rw [View.readAt_unit _ _ _ rfl (k0_off2_inb i h3), hf17]
    have e0 : View.readAt (Elt F) arg16.view (Rect.unit (s := S3x512x912) ![0, 0, 0] S1x512x912.size inb_S3x512x912_S1x512x912_0_0_0).toLoadRect (harg16.unread u) = slab0 u := by
      unfold slab0; rw [View.readAt_unit _ _ _ rfl inb_S3x512x912_S1x512x912_0_0_0, hf16]
    have e1 : run_second.sl.v53 c arg16 harg16 u = slab1 u := by
      unfold run_second.sl.v53 slab1; exact (View.readAt_unit _ _ _ rfl inb_S3x512x912_S1x512x912_1_0_0).trans (by rw [hf16])
    have e2 : run_second.sl.v53_1 c arg16 harg16 u = slab2 u := by
      unfold run_second.sl.v53_1 slab2; exact (View.readAt_unit _ _ _ rfl inb_S3x512x912_S1x512x912_2_0_0).trans (by rw [hf16])
    have er : run_second.sl.r_2 c i arg9 harg9 arg17 harg17 w1 xs h3 = k0_pay22 (half xs i h3) w1 := by
      unfold run_second.sl.r_2; rw [hv, View.readAt_full (s := S1x512x2736), hf9]
    rw [hv, e0, e1, e2, er, View.readAt_full (s := S1x512x2736), hf9]
    rw [View.read_writes_cons_put _ _ _ _ _ rfl, View.read_writes_cons_put _ _ _ _ _ rfl, View.read_writes_cons_put _ _ _ _ _ rfl, View.writes_nil, hf16]
    rfl
  iexists _; isplitr; · ipureintro; exact harg17.read_unread _
  iexact H17

set_option maxHeartbeats 1000000 in
/-- Phase 2: the first third of the hidden units, and the bias, make the result. -/
theorem run_third (c : Dev nD) (i : grid0.Coords) (arg2 : Memref sig .tc .smem S32 .i32) (harg2 : arg2.IsWhole) (arg3 : Memref sig .tc .smem S32 .i32) (harg3 : arg3.IsWhole) (arg4 : Memref sig .tc .smem S32 .i32) (harg4 : arg4.IsWhole) (arg5 : Memref sig .tc .vmem S2048x1024 .bf16) (harg5 : arg5.IsWhole) (arg6 : Memref sig .tc .vmem S512x1 .i32) (harg6 : arg6.IsWhole) (arg7 : Memref sig .tc .vmem S1x512x2736 .f32) (harg7 : arg7.IsWhole) (arg8 : Memref sig .tc .vmem S1x1x2736 .f32) (harg8 : arg8.IsWhole) (arg9 : Memref sig .tc .vmem S1x512x2736 .f32) (harg9 : arg9.IsWhole) (arg10 : Memref sig .tc .vmem S1x1x2736 .f32) (harg10 : arg10.IsWhole) (arg11 : Memref sig .tc .vmem S1x912x1024 .f32) (harg11 : arg11.IsWhole) (arg12 : Memref sig .tc .vmem S1x1x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S3x512x912 .f32) (harg15 : arg15.IsWhole) (arg16 : Memref sig .tc .vmem S3x512x912 .f32) (harg16 : arg16.IsWhole) (arg17 : Memref sig .tc .vmem S512x1024 .f32) (harg17 : arg17.IsWhole)
    (t : Vec F S32 .i32) (q : PosShare TreeShare)
    (x : Vec F S2048x1024 .bf16) (tok : Vec F S512x1 .i32) (wg : Vec F S1x512x2736 .f32) (bg : Vec F S1x1x2736 .f32) (w1 : Vec F S1x512x2736 .f32) (b1 : Vec F S1x1x2736 .f32) (w2 : Vec F S1x912x1024 .f32) (b2 : Vec F S1x1x1024 .f32) (gate : Vec F S512x1 .f32) (o : Vec F S512x1024 .f32) (g : Vec F S3x512x912 .f32) (u : Vec F S3x512x912 .f32) (xs : Vec F S512x1024 .f32)
    (hu : k0_cond1 (word t i) = 1#1) (hp : (i 1).val = 2) (h10 : k0_cond10 i = 1#1)
    (E : Set ℕ) (K : PUnit → sProp 𝕄) :
    iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare o ∗ owns (c : Thread nD τ) arg15 fullShare g ∗ owns (c : Thread nD τ) arg16 fullShare u ∗ owns (c : Thread nD τ) arg17 fullShare xs ∗ (iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare (k0_pay5 gate (third g i h10) (third u i h10) w2 b2) ∗ owns (c : Thread nD τ) arg15 fullShare g ∗ owns (c : Thread nD τ) arg16 fullShare u ∗ owns (c : Thread nD τ) arg17 fullShare xs) -∗ K ⟨⟩))
      ⊢ wp frame (wpE (defs₀ (F := F)) Variants.none c none) E (cc0__ffn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [← load_word harg3 t i (Shape.Idx.first (numel1_S1.symm ▸ Nat.one_pos))] at hu
  have h_eq : ¬ (Scalar.cmpi .ne ((Scalar.extui (Scalar.cmpi .eq (BitVec.ofNat 32 (i 1).val) 0#32) : BitVec 32)) 0#32 = 1#1) := (by rw [hp]; decide)
  have h_c3 : ¬ k0_cond3 i = 1#1 := (by unfold k0_cond3; rw [hp]; decide)
  have h_c11 : k0_cond11 i = 1#1 := (by unfold k0_cond11; rw [hp]; decide)
  have h_c12 : ¬ k0_cond12 i = 1#1 := (by unfold k0_cond12; rw [hp]; decide)
  simp only [cc0__ffn_kernel_eq_skeleton]; unfold cc0__ffn_kernel_skel
  simp only [k0_part1_eq_skeleton]
  unfold owns
  iintro ⟨⟨%ft, %hft, HT⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg3.eq_unread hft; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hu | sl_exact h_eq | sl_exact h_c3 | sl_exact h_c11 | sl_exact h_c12 | sl_exact h10)
  sl_step
  iapply Hk
  isplitl [HT]
  · iexists _; isplitr; · ipureintro; exact harg3.read_unread _
    iexact HT
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; rotate_left
    · iexact H14
    ipureintro; have hg : run_third.sl.v17 c i arg15 harg15 g h10 = third g i h10 := by
      unfold run_third.sl.v17 third; exact (View.readAt_unit _ _ _ rfl (k0_off3_inb i h10)).trans (by rw [hf15])
    have hu' : run_third.sl.v20 c i arg16 harg16 u h10 = third u i h10 := by
      unfold run_third.sl.v20 third; exact (View.readAt_unit _ _ _ rfl (k0_off3_inb i h10)).trans (by rw [hf16])
    rw [hg, hu', View.read_writes_full (s := S512x1024), View.readAt_full (s := S512x1), View.readAt_full (s := S1x912x1024), View.readAt_full (s := S1x1x1024), hf12, hf13, hf11]
  isplitl [H15]
  · iexists _; isplitr; · ipureintro; exact harg15.read_unread _
    iexact H15
  isplitl [H16]
  · iexists _; isplitr; · ipureintro; exact harg16.read_unread _
    iexact H16
  iexists _; isplitr; · ipureintro; exact harg17.read_unread _
  iexact H17

set_option maxHeartbeats 1000000 in
/-- Phases 3 and 4: another third of the hidden units is added to the result. -/
theorem run_rest (c : Dev nD) (i : grid0.Coords) (arg2 : Memref sig .tc .smem S32 .i32) (harg2 : arg2.IsWhole) (arg3 : Memref sig .tc .smem S32 .i32) (harg3 : arg3.IsWhole) (arg4 : Memref sig .tc .smem S32 .i32) (harg4 : arg4.IsWhole) (arg5 : Memref sig .tc .vmem S2048x1024 .bf16) (harg5 : arg5.IsWhole) (arg6 : Memref sig .tc .vmem S512x1 .i32) (harg6 : arg6.IsWhole) (arg7 : Memref sig .tc .vmem S1x512x2736 .f32) (harg7 : arg7.IsWhole) (arg8 : Memref sig .tc .vmem S1x1x2736 .f32) (harg8 : arg8.IsWhole) (arg9 : Memref sig .tc .vmem S1x512x2736 .f32) (harg9 : arg9.IsWhole) (arg10 : Memref sig .tc .vmem S1x1x2736 .f32) (harg10 : arg10.IsWhole) (arg11 : Memref sig .tc .vmem S1x912x1024 .f32) (harg11 : arg11.IsWhole) (arg12 : Memref sig .tc .vmem S1x1x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S3x512x912 .f32) (harg15 : arg15.IsWhole) (arg16 : Memref sig .tc .vmem S3x512x912 .f32) (harg16 : arg16.IsWhole) (arg17 : Memref sig .tc .vmem S512x1024 .f32) (harg17 : arg17.IsWhole)
    (t : Vec F S32 .i32) (q : PosShare TreeShare)
    (x : Vec F S2048x1024 .bf16) (tok : Vec F S512x1 .i32) (wg : Vec F S1x512x2736 .f32) (bg : Vec F S1x1x2736 .f32) (w1 : Vec F S1x512x2736 .f32) (b1 : Vec F S1x1x2736 .f32) (w2 : Vec F S1x912x1024 .f32) (b2 : Vec F S1x1x1024 .f32) (gate : Vec F S512x1 .f32) (o : Vec F S512x1024 .f32) (g : Vec F S3x512x912 .f32) (u : Vec F S3x512x912 .f32) (xs : Vec F S512x1024 .f32)
    (hu : k0_cond1 (word t i) = 1#1) (hp : 2 < (i 1).val) (h10 : k0_cond10 i = 1#1)
    (E : Set ℕ) (K : PUnit → sProp 𝕄) :
    iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare o ∗ owns (c : Thread nD τ) arg15 fullShare g ∗ owns (c : Thread nD τ) arg16 fullShare u ∗ owns (c : Thread nD τ) arg17 fullShare xs ∗ (iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare (k0_pay6 gate (third g i h10) (third u i h10) w2 o) ∗ owns (c : Thread nD τ) arg15 fullShare g ∗ owns (c : Thread nD τ) arg16 fullShare u ∗ owns (c : Thread nD τ) arg17 fullShare xs) -∗ K ⟨⟩))
      ⊢ wp frame (wpE (defs₀ (F := F)) Variants.none c none) E (cc0__ffn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [← load_word harg3 t i (Shape.Idx.first (numel1_S1.symm ▸ Nat.one_pos))] at hu
  have h34 : (i 1).val = 3 ∨ (i 1).val = 4 := by
    have h5 : (i 1).val < 5 := (i 1).isLt
    omega
  have h_eq : ¬ (Scalar.cmpi .ne ((Scalar.extui (Scalar.cmpi .eq (BitVec.ofNat 32 (i 1).val) 0#32) : BitVec 32)) 0#32 = 1#1) := (by rcases h34 with e | e <;> (rw [e]; decide))
  have h_c3 : ¬ k0_cond3 i = 1#1 := (by rcases h34 with e | e <;> (unfold k0_cond3; rw [e]; decide))
  have h_c11 : ¬ k0_cond11 i = 1#1 := (by rcases h34 with e | e <;> (unfold k0_cond11; rw [e]; decide))
  have h_c12 : k0_cond12 i = 1#1 := (by rcases h34 with e | e <;> (unfold k0_cond12; rw [e]; decide))
  simp only [cc0__ffn_kernel_eq_skeleton]; unfold cc0__ffn_kernel_skel
  simp only [k0_part1_eq_skeleton]
  unfold owns
  iintro ⟨⟨%ft, %hft, HT⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg3.eq_unread hft; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hu | sl_exact h_eq | sl_exact h_c3 | sl_exact h_c11 | sl_exact h_c12 | sl_exact h10)
  sl_step
  iapply Hk
  isplitl [HT]
  · iexists _; isplitr; · ipureintro; exact harg3.read_unread _
    iexact HT
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; rotate_left
    · iexact H14
    ipureintro; have hg : run_rest.sl.v17 c i arg15 harg15 g h10 = third g i h10 := by
      unfold run_rest.sl.v17 third; exact (View.readAt_unit _ _ _ rfl (k0_off3_inb i h10)).trans (by rw [hf15])
    have hu' : run_rest.sl.v20 c i arg16 harg16 u h10 = third u i h10 := by
      unfold run_rest.sl.v20 third; exact (View.readAt_unit _ _ _ rfl (k0_off3_inb i h10)).trans (by rw [hf16])
    rw [hg, hu', View.read_writes_full (s := S512x1024), View.readAt_full (s := S512x1), View.readAt_full (s := S1x912x1024), View.readAt_full (s := S512x1024), hf14, hf13, hf11]
  isplitl [H15]
  · iexists _; isplitr; · ipureintro; exact harg15.read_unread _
    iexact H15
  isplitl [H16]
  · iexists _; isplitr; · ipureintro; exact harg16.read_unread _
    iexact H16
  iexists _; isplitr; · ipureintro; exact harg17.read_unread _
  iexact H17

set_option maxHeartbeats 1000000 in
/-- A block not in use: nothing is stored. -/
theorem run_idle (c : Dev nD) (i : grid0.Coords) (arg2 : Memref sig .tc .smem S32 .i32) (harg2 : arg2.IsWhole) (arg3 : Memref sig .tc .smem S32 .i32) (harg3 : arg3.IsWhole) (arg4 : Memref sig .tc .smem S32 .i32) (harg4 : arg4.IsWhole) (arg5 : Memref sig .tc .vmem S2048x1024 .bf16) (harg5 : arg5.IsWhole) (arg6 : Memref sig .tc .vmem S512x1 .i32) (harg6 : arg6.IsWhole) (arg7 : Memref sig .tc .vmem S1x512x2736 .f32) (harg7 : arg7.IsWhole) (arg8 : Memref sig .tc .vmem S1x1x2736 .f32) (harg8 : arg8.IsWhole) (arg9 : Memref sig .tc .vmem S1x512x2736 .f32) (harg9 : arg9.IsWhole) (arg10 : Memref sig .tc .vmem S1x1x2736 .f32) (harg10 : arg10.IsWhole) (arg11 : Memref sig .tc .vmem S1x912x1024 .f32) (harg11 : arg11.IsWhole) (arg12 : Memref sig .tc .vmem S1x1x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S3x512x912 .f32) (harg15 : arg15.IsWhole) (arg16 : Memref sig .tc .vmem S3x512x912 .f32) (harg16 : arg16.IsWhole) (arg17 : Memref sig .tc .vmem S512x1024 .f32) (harg17 : arg17.IsWhole)
    (t : Vec F S32 .i32) (q : PosShare TreeShare)
    (x : Vec F S2048x1024 .bf16) (tok : Vec F S512x1 .i32) (wg : Vec F S1x512x2736 .f32) (bg : Vec F S1x1x2736 .f32) (w1 : Vec F S1x512x2736 .f32) (b1 : Vec F S1x1x2736 .f32) (w2 : Vec F S1x912x1024 .f32) (b2 : Vec F S1x1x1024 .f32) (gate : Vec F S512x1 .f32) (o : Vec F S512x1024 .f32) (g : Vec F S3x512x912 .f32) (u : Vec F S3x512x912 .f32) (xs : Vec F S512x1024 .f32)
    (hu : ¬ k0_cond1 (word t i) = 1#1)
    (E : Set ℕ) (K : PUnit → sProp 𝕄) :
    iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare o ∗ owns (c : Thread nD τ) arg15 fullShare g ∗ owns (c : Thread nD τ) arg16 fullShare u ∗ owns (c : Thread nD τ) arg17 fullShare xs ∗ (iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare o ∗ owns (c : Thread nD τ) arg15 fullShare g ∗ owns (c : Thread nD τ) arg16 fullShare u ∗ owns (c : Thread nD τ) arg17 fullShare xs) -∗ K ⟨⟩))
      ⊢ wp frame (wpE (defs₀ (F := F)) Variants.none c none) E (cc0__ffn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [← load_word harg3 t i (Shape.Idx.first (numel1_S1.symm ▸ Nat.one_pos))] at hu
  simp only [cc0__ffn_kernel_eq_skeleton]; unfold cc0__ffn_kernel_skel
  simp only [k0_part1_eq_skeleton]
  unfold owns
  iintro ⟨⟨%ft, %hft, HT⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg3.eq_unread hft; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
  sl_exec (disch := first | sl_exact hu)
  sl_step
  iapply Hk
  isplitl [HT]
  · iexists _; isplitr; · ipureintro; exact harg3.read_unread _
    iexact HT
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  iexists _; isplitr; · ipureintro; exact harg17.read_unread _
  iexact H17

end Cert.Proof.Ffn

end
-- ==== Proof.Ffn.Tables.lean ====
/-
  What the feed-forward kernel's three tables say when every block up to block `L` is in use and none after it:
  which block of each array every point of the grid works on, and that all of those blocks lie inside their arrays.
-/
module

public import proofs.«01_k».proof.Proof.Ffn.Run

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers when the grid is entered. -/
abbrev V (c : Dev nD) (b : Ref sig .tc) : Buf (Elt F) ((c : Thread nD τ).loc b) := m ((c : Thread nD τ).loc b)

/-- The three tables as they lie in memory. -/
abbrev pf : pre0.Contents (Elt F) := fun k => V m 0 (pre0.ref k)
/-- The table of the blocks' experts. -/
abbrev tE : Vec F S32 .i32 := pf m 0
/-- The table that says which blocks are in use. -/
abbrev tV : Vec F S32 .i32 := pf m 1
/-- The table of the blocks' places. -/
abbrev tF : Vec F S32 .i32 := pf m 2

/-- The blocks up to block `L` are in use and none after it. -/
structure Tab (L : ℕ) : Prop where
  lt : L < 16
  exp : ∀ i : grid0.Coords, (word (tE m) i).toNat < 8
  val : ∀ i : grid0.Coords, word (tV m) i = if (i 0).val ≤ L then 1#32 else 0#32
  fetch : ∀ i : grid0.Coords, word (tF m) i = BitVec.ofNat 32 (min (i 0).val L)

/-- The place where the index maps read a table is the block's. -/
theorem at_emb (i : grid0.Coords) (j) : (Rect.unit (s := S32) (k0_off1 i) S1.size (k0_off1_inb i)).emb j
    = fun | ⟨0, _⟩ => ⟨(i 0).val, lt_of_lt_of_le (i 0).isLt (show 16 ≤ 32 by decide)⟩ := by
  funext a
  apply Fin.ext
  have e : (((Rect.unit (s := S32) (k0_off1 i) S1.size (k0_off1_inb i)).emb j) a).val = k0_off1 i a + 1 * (j a).val := rfl
  have hj : (j a).val < 1 := by
    have := (j a).isLt
    match a with
    | ⟨0, _⟩ => exact this
  rw [e, k0_off1_val i a]
  match a with
  | ⟨0, _⟩ => show (i 0).val + 1 * _ = (i 0).val; omega

theorem at0 (i : grid0.Coords) (h1 : S1.numel = 1) :
    (pf m).at 0 (Rect.unit (s := S32) (k0_off1 i) S1.size (k0_off1_inb i)) h1 = word (tE m) i :=
  congrArg (tE m) (at_emb i _)
theorem at1 (i : grid0.Coords) (h1 : S1.numel = 1) :
    (pf m).at 1 (Rect.unit (s := S32) (k0_off1 i) S1.size (k0_off1_inb i)) h1 = word (tV m) i :=
  congrArg (tV m) (at_emb i _)
theorem at2 (i : grid0.Coords) (h1 : S1.numel = 1) :
    (pf m).at 2 (Rect.unit (s := S32) (k0_off1 i) S1.size (k0_off1_inb i)) h1 = word (tF m) i :=
  congrArg (tF m) (at_emb i _)

theorem atD1 (i : grid0.Coords) : (pf m).atD 1 (k0_off1 i) = word (tV m) i := by
  have h : ∀ a : Fin 1, k0_off1 i a + 1 ≤ S32.size a := fun a => by
    rw [k0_off1_val]
    have h : (i 0).val < 16 := (i 0).isLt
    match a with
    | ⟨0, _⟩ => show (i 0).val + 1 ≤ 32; omega
  refine (dif_pos h).trans ?_
  refine congrArg (tV m) ?_
  funext a
  match a with
  | ⟨0, _⟩ => exact Fin.ext (k0_off1_val i 0)

variable {L : ℕ} (T : Tab m L)

include T in
theorem used_iff (i : grid0.Coords) : k0_cond1 (word (tV m) i) = 1#1 ↔ (i 0).val ≤ L := by
  rw [T.val]
  split
  · rename_i h; exact iff_of_true (by decide) h
  · rename_i h; exact iff_of_false (by decide) h

include T in
theorem fetch_toNat (i : grid0.Coords) : (word (tF m) i).toNat = min (i 0).val L := by
  rw [T.fetch, BitVec.toNat_ofNat]
  have := T.lt
  exact Nat.mod_eq_of_lt (by omega)

/-- The half of the inputs a point reads weights of. -/
def halfNo (L : ℕ) (i : grid0.Coords) : ℕ := if (i 0).val ≤ L then min (i 1).val 1 else 1
/-- The third of the hidden units a point reads weights of. -/
def thirdNo (L : ℕ) (i : grid0.Coords) : ℕ := if (i 0).val ≤ L then min ((i 1).val - 2) 2 else 2

theorem min_word (p : Fin 5) : (Scalar.minsi (BitVec.ofNat 32 p.val) 1#32).toNat = min p.val 1 := by
  revert p; decide
theorem clamp_word (p : Fin 5) : (Scalar.minsi 2#32 (Scalar.maxsi 0#32 (Scalar.subi (BitVec.ofNat 32 p.val) 2#32))).toNat = min (p.val - 2) 2 := by
  revert p; decide

include T in
theorem half_word (i : grid0.Coords) :
    (Scalar.select (Scalar.cmpi .eq (word (tV m) i) 1#32) (Scalar.minsi (BitVec.ofNat 32 (i 1).val) 1#32) 1#32).toNat = halfNo L i := by
  rw [T.val]
  unfold halfNo
  split
  · exact min_word (i 1)
  · rfl
include T in
theorem third_word (i : grid0.Coords) :
    (Scalar.select (Scalar.cmpi .eq (word (tV m) i) 1#32) (Scalar.minsi 2#32 (Scalar.maxsi 0#32 (Scalar.subi (BitVec.ofNat 32 (i 1).val) 2#32))) 2#32).toNat = thirdNo L i := by
  rw [T.val]
  unfold thirdNo
  split
  · exact clamp_word (i 1)
  · rfl

include T in
theorem ix1 (i : grid0.Coords) : cc0_transform_1 k0_off1_inb numel1_S1 (pf m) i = ![min (i 0).val L, 0] := by
  have e : cc0_transform_1 k0_off1_inb numel1_S1 (pf m) i
      = ![((pf m).at 2 (Rect.unit (s := S32) (k0_off1 i) S1.size (k0_off1_inb i)) numel1_S1).toNat, 0] := rfl
  rw [e, at2, fetch_toNat m T]
include T in
theorem ix8 (i : grid0.Coords) : cc0_transform_8 k0_off1_inb numel1_S1 (pf m) i = ![min (i 0).val L, 0] := by
  have e : cc0_transform_8 k0_off1_inb numel1_S1 (pf m) i
      = ![((pf m).at 2 (Rect.unit (s := S32) (k0_off1 i) S1.size (k0_off1_inb i)) numel1_S1).toNat, 0] := rfl
  rw [e, at2, fetch_toNat m T]
include T in
theorem ix9 (i : grid0.Coords) : cc0_transform_9 k0_off1_inb numel1_S1 (pf m) i = ![min (i 0).val L, 0] := by
  have e : cc0_transform_9 k0_off1_inb numel1_S1 (pf m) i
      = ![((pf m).at 2 (Rect.unit (s := S32) (k0_off1 i) S1.size (k0_off1_inb i)) numel1_S1).toNat, 0] := rfl
  rw [e, at2, fetch_toNat m T]
theorem ix3 (i : grid0.Coords) : cc0_transform_3 k0_off1_inb numel1_S1 (pf m) i = ![(word (tE m) i).toNat, 0, 0] := by
  have e : cc0_transform_3 k0_off1_inb numel1_S1 (pf m) i
      = ![((pf m).at 0 (Rect.unit (s := S32) (k0_off1 i) S1.size (k0_off1_inb i)) numel1_S1).toNat, 0, 0] := rfl
  rw [e, at0]
theorem ix5 (i : grid0.Coords) : cc0_transform_5 k0_off1_inb numel1_S1 (pf m) i = ![(word (tE m) i).toNat, 0, 0] := by
  have e : cc0_transform_5 k0_off1_inb numel1_S1 (pf m) i
      = ![((pf m).at 0 (Rect.unit (s := S32) (k0_off1 i) S1.size (k0_off1_inb i)) numel1_S1).toNat, 0, 0] := rfl
  rw [e, at0]
theorem ix7 (i : grid0.Coords) : cc0_transform_7 k0_off1_inb numel1_S1 (pf m) i = ![(word (tE m) i).toNat, 0, 0] := by
  have e : cc0_transform_7 k0_off1_inb numel1_S1 (pf m) i
      = ![((pf m).at 0 (Rect.unit (s := S32) (k0_off1 i) S1.size (k0_off1_inb i)) numel1_S1).toNat, 0, 0] := rfl
  rw [e, at0]
include T in
theorem ix2 (i : grid0.Coords) : cc0_transform_2 k0_off1_inb numel1_S1 (pf m) i = ![(word (tE m) i).toNat, halfNo L i, 0] := by
  have e : cc0_transform_2 k0_off1_inb numel1_S1 (pf m) i
      = ![((pf m).at 0 (Rect.unit (s := S32) (k0_off1 i) S1.size (k0_off1_inb i)) numel1_S1).toNat,
          (Scalar.select (Scalar.cmpi .eq ((pf m).at 1 (Rect.unit (s := S32) (k0_off1 i) S1.size (k0_off1_inb i)) numel1_S1) 1#32) (Scalar.minsi (BitVec.ofNat 32 (i 1).val) 1#32) 1#32).toNat, 0] := rfl
  rw [e, at0, at1, half_word m T]
include T in
theorem ix4 (i : grid0.Coords) : cc0_transform_4 k0_off1_inb numel1_S1 (pf m) i = ![(word (tE m) i).toNat, halfNo L i, 0] := by
  have e : cc0_transform_4 k0_off1_inb numel1_S1 (pf m) i
      = ![((pf m).at 0 (Rect.unit (s := S32) (k0_off1 i) S1.size (k0_off1_inb i)) numel1_S1).toNat,
          (Scalar.select (Scalar.cmpi .eq ((pf m).at 1 (Rect.unit (s := S32) (k0_off1 i) S1.size (k0_off1_inb i)) numel1_S1) 1#32) (Scalar.minsi (BitVec.ofNat 32 (i 1).val) 1#32) 1#32).toNat, 0] := rfl
  rw [e, at0, at1, half_word m T]
include T in
theorem ix6 (i : grid0.Coords) : cc0_transform_6 k0_off1_inb numel1_S1 (pf m) i = ![(word (tE m) i).toNat, thirdNo L i, 0] := by
  have e : cc0_transform_6 k0_off1_inb numel1_S1 (pf m) i
      = ![((pf m).at 0 (Rect.unit (s := S32) (k0_off1 i) S1.size (k0_off1_inb i)) numel1_S1).toNat,
          (Scalar.select (Scalar.cmpi .eq ((pf m).at 1 (Rect.unit (s := S32) (k0_off1 i) S1.size (k0_off1_inb i)) numel1_S1) 1#32) (Scalar.minsi 2#32 (Scalar.maxsi 0#32 (Scalar.subi (BitVec.ofNat 32 (i 1).val) 2#32))) 2#32).toNat, 0] := rfl
  rw [e, at0, at1, third_word m T]

theorem fin2 {P : Fin 2 → Prop} (h0 : P 0) (h1 : P 1) : ∀ a, P a := fun | ⟨0, _⟩ => h0 | ⟨1, _⟩ => h1
theorem fin3 {P : Fin 3 → Prop} (h0 : P 0) (h1 : P 1) (h2 : P 2) : ∀ a, P a := fun | ⟨0, _⟩ => h0 | ⟨1, _⟩ => h1 | ⟨2, _⟩ => h2

theorem halfNo_le (L : ℕ) (i : grid0.Coords) : halfNo L i ≤ 1 := by unfold halfNo; split <;> omega
theorem thirdNo_le (L : ℕ) (i : grid0.Coords) : thirdNo L i ≤ 2 := by unfold thirdNo; split <;> omega

include T in
/-- Every point's blocks lie inside their arrays. -/
theorem ok_tables : ok0 (pf m) := by
  refine ⟨fun i => ⟨?_, .inl rfl⟩, fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩, fun i => ⟨?_, .inl rfl⟩, fun i => ⟨?_, .inl rfl⟩⟩
  all_goals
    have h0 : (i 0).val < 16 := (i 0).isLt
    have he := T.exp i
    have hh := halfNo_le L i
    have ht := thirdNo_le L i
  · rw [ix1 m T]; exact fin2 (show (min (i 0).val L + 1) * 512 ≤ 8192 by omega) (show (0 + 1) * 1 ≤ 1 by omega)
  · rw [ix2 m T]; exact fin3 (show ((word (tE m) i).toNat + 1) * 1 ≤ 8 by omega) (show (halfNo L i + 1) * 512 ≤ 1024 by omega) (show (0 + 1) * 2736 ≤ 2736 by omega)
  · rw [ix3 m]; exact fin3 (show ((word (tE m) i).toNat + 1) * 1 ≤ 8 by omega) (show (0 + 1) * 1 ≤ 1 by omega) (show (0 + 1) * 2736 ≤ 2736 by omega)
  · rw [ix4 m T]; exact fin3 (show ((word (tE m) i).toNat + 1) * 1 ≤ 8 by omega) (show (halfNo L i + 1) * 512 ≤ 1024 by omega) (show (0 + 1) * 2736 ≤ 2736 by omega)
  · rw [ix5 m]; exact fin3 (show ((word (tE m) i).toNat + 1) * 1 ≤ 8 by omega) (show (0 + 1) * 1 ≤ 1 by omega) (show (0 + 1) * 2736 ≤ 2736 by omega)
  · rw [ix6 m T]; exact fin3 (show ((word (tE m) i).toNat + 1) * 1 ≤ 8 by omega) (show (thirdNo L i + 1) * 912 ≤ 2736 by omega) (show (0 + 1) * 1024 ≤ 1024 by omega)
  · rw [ix7 m]; exact fin3 (show ((word (tE m) i).toNat + 1) * 1 ≤ 8 by omega) (show (0 + 1) * 1 ≤ 1 by omega) (show (0 + 1) * 1024 ≤ 1024 by omega)
  · rw [ix8 m T]; exact fin2 (show (min (i 0).val L + 1) * 512 ≤ 8192 by omega) (show (0 + 1) * 1 ≤ 1 by omega)
  · rw [ix9 m T]; exact fin2 (show (min (i 0).val L + 1) * 512 ≤ 8192 by omega) (show (0 + 1) * 1024 ≤ 1024 by omega)

/-- The tables, admissible. -/
def adm : (pcfg0 (F := F)).Adm := ⟨pf m, ok_tables m T⟩

/-! ## The points' coordinates -/

theorem coord0 : ∀ t : Fin grid0.N, (grid0.coords t 0).val = t.val / 5 := by decide +kernel
theorem coord1 : ∀ t : Fin grid0.N, (grid0.coords t 1).val = t.val % 5 := by decide +kernel

theorem cond3_iff (i : grid0.Coords) : k0_cond3 i = 1#1 ↔ (i 1).val ≤ 1 := by
  have : ∀ p : Fin 5, (Scalar.cmpi .ne (Scalar.extui (Scalar.cmpi .slt (BitVec.ofNat 32 p.val) 2#32) : BitVec 32) 0#32 = 1#1) ↔ p.val ≤ 1 := by decide
  exact this (i 1)
theorem cond10_iff (i : grid0.Coords) : k0_cond10 i = 1#1 ↔ 2 ≤ (i 1).val := by
  have : ∀ p : Fin 5, (Scalar.cmpi .ne (Scalar.extui (Scalar.cmpi .sge (BitVec.ofNat 32 p.val) 2#32) : BitVec 32) 0#32 = 1#1) ↔ 2 ≤ p.val := by decide
  exact this (i 1)
theorem cond11_iff (i : grid0.Coords) : k0_cond11 i = 1#1 ↔ (i 1).val = 2 := by
  have : ∀ p : Fin 5, (Scalar.cmpi .ne (Scalar.extui (Scalar.cmpi .eq (Scalar.subi (BitVec.ofNat 32 p.val) 2#32) 0#32) : BitVec 32) 0#32 = 1#1) ↔ p.val = 2 := by decide
  exact this (i 1)
theorem cond12_iff (i : grid0.Coords) : k0_cond12 i = 1#1 ↔ 2 < (i 1).val := by
  have : ∀ p : Fin 5, (Scalar.cmpi .ne (Scalar.extui (Scalar.cmpi .sgt (Scalar.subi (BitVec.ofNat 32 p.val) 2#32) 0#32) : BitVec 32) 0#32 = 1#1) ↔ 2 < p.val := by decide
  exact this (i 1)

include T in
/-- A point that stores nothing into the result's block: its block is not in use, or its phase is 0 or 1. -/
theorem idle_eq (t : Fin grid0.N) : idle0 (pf m) 9 (grid0.coords t) = !(decide (t.val / 5 ≤ L) && decide (2 ≤ t.val % 5)) := by
  have hu := used_iff m T (grid0.coords t)
  have h10 := cond10_iff (grid0.coords t)
  have h11 := cond11_iff (grid0.coords t)
  have h12 := cond12_iff (grid0.coords t)
  rw [coord0] at hu
  rw [coord1] at h10 h11 h12
  show (!(k0_cond1 ((pf m).atD 1 (k0_off1 (grid0.coords t))) == 1#1 && _ && _) && !(k0_cond1 ((pf m).atD 1 (k0_off1 (grid0.coords t))) == 1#1 && _ && _)) = _
  rw [atD1]
  rw [Bool.eq_iff_iff]
  simp only [Bool.and_eq_true, Bool.not_eq_true', Bool.and_eq_false_iff, beq_eq_false_iff_ne, ne_eq, hu, h10, h11, h12, decide_eq_false_iff_not, beq_iff_eq]
  omega

end Cert.Proof.Ffn

end
-- ==== Proof.Ffn.Next.lean ====
/-
  The feed-forward kernel's body at any point of its grid: one function `next` says what the result's block and the three carried buffers hold
  after the point, given what they held before.
-/
module

public import proofs.«01_k».proof.Proof.Ffn.Tables

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the kernel keeps between points: the result's block, the two products of the block's rows with the weights, and the rows. -/
structure St (F : FTy → Type) [FloatOps F] where
  o : Vec F S512x1024 .f32
  g : Vec F S3x512x912 .f32
  u : Vec F S3x512x912 .f32
  x : Vec F S512x1024 .f32

/-- What it keeps after the point `i`. -/
def next (i : grid0.Coords) (t : Vec F S32 .i32) (x : Vec F S2048x1024 .bf16) (tok : Vec F S512x1 .i32) (wg : Vec F S1x512x2736 .f32) (bg : Vec F S1x1x2736 .f32) (w1 : Vec F S1x512x2736 .f32) (b1 : Vec F S1x1x2736 .f32) (w2 : Vec F S1x912x1024 .f32) (b2 : Vec F S1x1x1024 .f32) (gate : Vec F S512x1 .f32) (s : St F) : St F :=
  if k0_cond1 (word t i) = 1#1 then
    if h3 : k0_cond3 i = 1#1 then
      if (i 1).val = 0 then
        ⟨s.o, slabs s.g (k0_pay11 (half (k0_pay1 tok x) i h3) wg bg) (k0_pay17 (half (k0_pay1 tok x) i h3) wg bg) (k0_pay23 (half (k0_pay1 tok x) i h3) wg bg),
          slabs s.u (k0_pay12 (half (k0_pay1 tok x) i h3) w1 b1) (k0_pay18 (half (k0_pay1 tok x) i h3) w1 b1) (k0_pay24 (half (k0_pay1 tok x) i h3) w1 b1), k0_pay1 tok x⟩
      else
        ⟨s.o, slabs s.g (k0_pay13 (half s.x i h3) wg (slab0 s.g)) (k0_pay19 (half s.x i h3) wg (slab1 s.g)) (k0_pay2 (k0_pay21 (half s.x i h3) wg) (slab2 s.g)), slabs s.u (k0_pay14 (half s.x i h3) w1 (slab0 s.u)) (k0_pay20 (half s.x i h3) w1 (slab1 s.u)) (k0_pay3 (k0_pay22 (half s.x i h3) w1) (slab2 s.u)), s.x⟩
    else if h10 : k0_cond10 i = 1#1 then
      if (i 1).val = 2 then ⟨k0_pay5 gate (third s.g i h10) (third s.u i h10) w2 b2, s.g, s.u, s.x⟩
      else ⟨k0_pay6 gate (third s.g i h10) (third s.u i h10) w2 s.o, s.g, s.u, s.x⟩
    else s
  else s

set_option maxHeartbeats 1000000 in
/-- The body at any point. -/
theorem run_all (c : Dev nD) (i : grid0.Coords) (arg2 : Memref sig .tc .smem S32 .i32) (harg2 : arg2.IsWhole) (arg3 : Memref sig .tc .smem S32 .i32) (harg3 : arg3.IsWhole) (arg4 : Memref sig .tc .smem S32 .i32) (harg4 : arg4.IsWhole) (arg5 : Memref sig .tc .vmem S2048x1024 .bf16) (harg5 : arg5.IsWhole) (arg6 : Memref sig .tc .vmem S512x1 .i32) (harg6 : arg6.IsWhole) (arg7 : Memref sig .tc .vmem S1x512x2736 .f32) (harg7 : arg7.IsWhole) (arg8 : Memref sig .tc .vmem S1x1x2736 .f32) (harg8 : arg8.IsWhole) (arg9 : Memref sig .tc .vmem S1x512x2736 .f32) (harg9 : arg9.IsWhole) (arg10 : Memref sig .tc .vmem S1x1x2736 .f32) (harg10 : arg10.IsWhole) (arg11 : Memref sig .tc .vmem S1x912x1024 .f32) (harg11 : arg11.IsWhole) (arg12 : Memref sig .tc .vmem S1x1x1024 .f32) (harg12 : arg12.IsWhole) (arg13 : Memref sig .tc .vmem S512x1 .f32) (harg13 : arg13.IsWhole) (arg14 : Memref sig .tc .vmem S512x1024 .f32) (harg14 : arg14.IsWhole) (arg15 : Memref sig .tc .vmem S3x512x912 .f32) (harg15 : arg15.IsWhole) (arg16 : Memref sig .tc .vmem S3x512x912 .f32) (harg16 : arg16.IsWhole) (arg17 : Memref sig .tc .vmem S512x1024 .f32) (harg17 : arg17.IsWhole)
    (t : Vec F S32 .i32) (q : PosShare TreeShare)
    (x : Vec F S2048x1024 .bf16) (tok : Vec F S512x1 .i32) (wg : Vec F S1x512x2736 .f32) (bg : Vec F S1x1x2736 .f32) (w1 : Vec F S1x512x2736 .f32) (b1 : Vec F S1x1x2736 .f32) (w2 : Vec F S1x912x1024 .f32) (b2 : Vec F S1x1x1024 .f32) (gate : Vec F S512x1 .f32) (s : St F)

    (E : Set ℕ) (K : PUnit → sProp 𝕄) :
    iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare s.o ∗ owns (c : Thread nD τ) arg15 fullShare s.g ∗ owns (c : Thread nD τ) arg16 fullShare s.u ∗ owns (c : Thread nD τ) arg17 fullShare s.x ∗ (iprop(owns (c : Thread nD τ) arg3 q t ∗ owns (c : Thread nD τ) arg5 fullShare x ∗ owns (c : Thread nD τ) arg6 fullShare tok ∗ owns (c : Thread nD τ) arg7 fullShare wg ∗ owns (c : Thread nD τ) arg8 fullShare bg ∗ owns (c : Thread nD τ) arg9 fullShare w1 ∗ owns (c : Thread nD τ) arg10 fullShare b1 ∗ owns (c : Thread nD τ) arg11 fullShare w2 ∗ owns (c : Thread nD τ) arg12 fullShare b2 ∗ owns (c : Thread nD τ) arg13 fullShare gate ∗ owns (c : Thread nD τ) arg14 fullShare (next i t x tok wg bg w1 b1 w2 b2 gate s).o ∗ owns (c : Thread nD τ) arg15 fullShare (next i t x tok wg bg w1 b1 w2 b2 gate s).g ∗ owns (c : Thread nD τ) arg16 fullShare (next i t x tok wg bg w1 b1 w2 b2 gate s).u ∗ owns (c : Thread nD τ) arg17 fullShare (next i t x tok wg bg w1 b1 w2 b2 gate s).x) -∗ K ⟨⟩))
      ⊢ wp frame (wpE (defs₀ (F := F)) Variants.none c none) E (cc0__ffn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold next
  by_cases hu : k0_cond1 (word t i) = 1#1
  · by_cases h3 : k0_cond3 i = 1#1
    · have h1 := (cond3_iff i).mp h3
      by_cases hp : (i 1).val = 0
      · simp only [if_pos hu, dif_pos h3, if_pos hp]
        exact (run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t q x tok wg bg w1 b1 w2 b2 gate s.o s.g s.u s.x hu hp h3 E K)
      · simp only [if_pos hu, dif_pos h3, if_neg hp]
        exact (run_second c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t q x tok wg bg w1 b1 w2 b2 gate s.o s.g s.u s.x hu (by omega) h3 E K)
    · have h10 : k0_cond10 i = 1#1 := (cond10_iff i).mpr (by have := mt (cond3_iff i).mpr h3; omega)
      have h2 := (cond10_iff i).mp h10
      by_cases hp : (i 1).val = 2
      · simp only [if_pos hu, dif_neg h3, dif_pos h10, if_pos hp]
        exact (run_third c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t q x tok wg bg w1 b1 w2 b2 gate s.o s.g s.u s.x hu hp h10 E K)
      · simp only [if_pos hu, dif_neg h3, dif_pos h10, if_neg hp]
        exact (run_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t q x tok wg bg w1 b1 w2 b2 gate s.o s.g s.u s.x hu (by omega) h10 E K)
  · simp only [if_neg hu]
    exact (run_idle c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t q x tok wg bg w1 b1 w2 b2 gate s.o s.g s.u s.x hu E K)

end Cert.Proof.Ffn

end
-- ==== Proof.Ffn.Data.lean ====
/-
  The feed-forward kernel's whole run, when the blocks in use come first: it ends with no one waiting, every argument unchanged, and
  the result's array holding what the kernel kept of each block in use.
-/
module

public import proofs.«01_k».proof.Proof.Ffn.Next

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable {L : ℕ} (T : Tab m L)

/-- The grid's pipeline at the memory's tables. -/
abbrev pcfg : Cfg sig Λ₀ := cfg0 (adm m T)

/-- The tables for each of the program's grids (there is one). -/
abbrev adms : (p : Fin 1) → (pcfgs (F := F) p).Adm := fun _ => adm m T

/-- Each window's block at a point, as the grid finds its array. -/
def iblk (c : Dev nD) (w : Fin 10) (t : Fin grid0.N) : (((pcfg m T).win w).xblock (grid0.coords t)).Idx → Elt F ((pcfg m T).win w).elt :=
  (((pcfg m T).win w).blk t).view.read (Elt F) (V m c (Pipeline.arrRef spec0 w))

/-- Input 0's block at a point. -/
def blk0 (c : Dev nD) (t : Fin grid0.N) : Vec F S2048x1024 .bf16 := iblk m T c 0 t
/-- Input 1's block at a point. -/
def blk1 (c : Dev nD) (t : Fin grid0.N) : Vec F S512x1 .i32 := iblk m T c 1 t
/-- Input 2's block at a point. -/
def blk2 (c : Dev nD) (t : Fin grid0.N) : Vec F S1x512x2736 .f32 := iblk m T c 2 t
/-- Input 3's block at a point. -/
def blk3 (c : Dev nD) (t : Fin grid0.N) : Vec F S1x1x2736 .f32 := iblk m T c 3 t
/-- Input 4's block at a point. -/
def blk4 (c : Dev nD) (t : Fin grid0.N) : Vec F S1x512x2736 .f32 := iblk m T c 4 t
/-- Input 5's block at a point. -/
def blk5 (c : Dev nD) (t : Fin grid0.N) : Vec F S1x1x2736 .f32 := iblk m T c 5 t
/-- Input 6's block at a point. -/
def blk6 (c : Dev nD) (t : Fin grid0.N) : Vec F S1x912x1024 .f32 := iblk m T c 6 t
/-- Input 7's block at a point. -/
def blk7 (c : Dev nD) (t : Fin grid0.N) : Vec F S1x1x1024 .f32 := iblk m T c 7 t
/-- Input 8's block at a point. -/
def blk8 (c : Dev nD) (t : Fin grid0.N) : Vec F S512x1 .f32 := iblk m T c 8 t

/-- What the kernel keeps after point `n`, of what it kept before. -/
def nx (c : Dev nD) (n : ℕ) (s : St F) : St F :=
  if h : n < grid0.N then
    let t : Fin grid0.N := ⟨n, h⟩
    next (grid0.coords t) (tV m) (blk0 m T c t) (blk1 m T c t) (blk2 m T c t) (blk3 m T c t) (blk4 m T c t) (blk5 m T c t) (blk6 m T c t) (blk7 m T c t) (blk8 m T c t) s
  else s

/-- What the kernel keeps before point `n`; before the first point it does not matter. -/
def kept (c : Dev nD) : ℕ → St F
  | 0 => ⟨constant S512x1024 .f32 0x00000000#32, constant S3x512x912 .f32 0x00000000#32, constant S3x512x912 .f32 0x00000000#32, constant S512x1024 .f32 0x00000000#32⟩
  | n + 1 => nx m T c n (kept c n)

theorem kept_succ (c : Dev nD) (t : Fin grid0.N) :
    kept m T c (t.val + 1) = next (grid0.coords t) (tV m) (blk0 m T c t) (blk1 m T c t) (blk2 m T c t) (blk3 m T c t) (blk4 m T c t) (blk5 m T c t) (blk6 m T c t) (blk7 m T c t) (blk8 m T c t) (kept m T c t.val) := by
  show nx m T c t.val (kept m T c t.val) = _
  unfold nx
  rw [dif_pos t.isLt]

/-! ## What `next` depends on -/

theorem slabs_any (g g' : Vec F S3x512x912 .f32) (a b d : Vec F S1x512x912 .f32) : slabs g a b d = slabs g' a b d := by
  unfold slabs VecWindow.put
  funext y
  have h1 : (y 1).val < 512 := (y 1).isLt
  have h2 : (y 2).val < 912 := (y 2).isLt
  have h0 : (y 0).val < 3 := (y 0).isLt
  have key : ∀ k : ℕ, (y 0).val = k → ∀ a : Fin 3, (![k, 0, 0] : Fin 3 → ℕ) a ≤ (y a).val ∧ (y a).val < (![k, 0, 0] : Fin 3 → ℕ) a + S1x512x912.size a := fun k hk =>
    fin3 (show k ≤ (y 0).val ∧ (y 0).val < k + 1 by omega) (show 0 ≤ (y 1).val ∧ (y 1).val < 0 + 512 by omega) (show 0 ≤ (y 2).val ∧ (y 2).val < 0 + 912 by omega)
  by_cases e2 : (y 0).val = 2
  · rw [dif_pos (key 2 e2), dif_pos (key 2 e2)]
  · by_cases c2 : ∀ a : Fin 3, (![2, 0, 0] : Fin 3 → ℕ) a ≤ (y a).val ∧ (y a).val < (![2, 0, 0] : Fin 3 → ℕ) a + S1x512x912.size a
    · rw [dif_pos c2, dif_pos c2]
    · rw [dif_neg c2, dif_neg c2]
      by_cases e1 : (y 0).val = 1
      · rw [dif_pos (key 1 e1), dif_pos (key 1 e1)]
      · by_cases c1 : ∀ a : Fin 3, (![1, 0, 0] : Fin 3 → ℕ) a ≤ (y a).val ∧ (y a).val < (![1, 0, 0] : Fin 3 → ℕ) a + S1x512x912.size a
        · rw [dif_pos c1, dif_pos c1]
        · rw [dif_neg c1, dif_neg c1, dif_pos (key 0 (by omega)), dif_pos (key 0 (by omega))]

variable (i : grid0.Coords) (tb : Vec F S32 .i32) (x : Vec F S2048x1024 .bf16) (tok : Vec F S512x1 .i32) (wg : Vec F S1x512x2736 .f32) (bg : Vec F S1x1x2736 .f32) (w1 : Vec F S1x512x2736 .f32) (b1 : Vec F S1x1x2736 .f32) (w2 : Vec F S1x912x1024 .f32) (b2 : Vec F S1x1x1024 .f32) (gate : Vec F S512x1 .f32)

/-- The carried buffers after a point do not depend on the result's block before it. -/
theorem next_carried (s : St F) (d : Vec F S512x1024 .f32) :
    (next i tb x tok wg bg w1 b1 w2 b2 gate ⟨d, s.g, s.u, s.x⟩).g = (next i tb x tok wg bg w1 b1 w2 b2 gate s).g
    ∧ (next i tb x tok wg bg w1 b1 w2 b2 gate ⟨d, s.g, s.u, s.x⟩).u = (next i tb x tok wg bg w1 b1 w2 b2 gate s).u
    ∧ (next i tb x tok wg bg w1 b1 w2 b2 gate ⟨d, s.g, s.u, s.x⟩).x = (next i tb x tok wg bg w1 b1 w2 b2 gate s).x := by
  unfold next
  split_ifs <;> exact ⟨rfl, rfl, rfl⟩

/-- After phase 0 they depend on nothing before it. -/
theorem next_first (hu : k0_cond1 (word tb i) = 1#1) (hp : (i 1).val = 0) (s s' : St F) :
    (next i tb x tok wg bg w1 b1 w2 b2 gate s).g = (next i tb x tok wg bg w1 b1 w2 b2 gate s').g
    ∧ (next i tb x tok wg bg w1 b1 w2 b2 gate s).u = (next i tb x tok wg bg w1 b1 w2 b2 gate s').u
    ∧ (next i tb x tok wg bg w1 b1 w2 b2 gate s).x = (next i tb x tok wg bg w1 b1 w2 b2 gate s').x := by
  have h3 : k0_cond3 i = 1#1 := (cond3_iff i).mpr (by omega)
  unfold next
  simp only [if_pos hu, dif_pos h3, if_pos hp]
  exact ⟨slabs_any _ _ _ _ _, slabs_any _ _ _ _ _, trivial⟩

/-- The result's block is kept where nothing is stored into it. -/
theorem next_o_idle (h : ¬ (k0_cond1 (word tb i) = 1#1 ∧ 2 ≤ (i 1).val)) (s : St F) :
    (next i tb x tok wg bg w1 b1 w2 b2 gate s).o = s.o := by
  unfold next
  split_ifs with hu h3 hp h10 hp
  · rfl
  · rfl
  · exact absurd ⟨hu, (cond10_iff i).mp h10⟩ h
  · exact absurd ⟨hu, (cond10_iff i).mp h10⟩ h
  · rfl
  · rfl

/-- Phase 2 leaves there what does not depend on what was there. -/
theorem next_o_third (hu : k0_cond1 (word tb i) = 1#1) (hp : (i 1).val = 2) (s : St F) (d : Vec F S512x1024 .f32) :
    (next i tb x tok wg bg w1 b1 w2 b2 gate ⟨d, s.g, s.u, s.x⟩).o = (next i tb x tok wg bg w1 b1 w2 b2 gate s).o := by
  have h3 : ¬ k0_cond3 i = 1#1 := mt (cond3_iff i).mp (by omega)
  have h10 : k0_cond10 i = 1#1 := (cond10_iff i).mpr (by omega)
  unfold next
  simp only [if_pos hu, dif_neg h3, dif_pos h10, if_pos hp]

/-! ## The grid's proof data -/

abbrev sc0 : Memref sig .tc .vmem S3x512x912 .f32 := Memref.whole cc0_scratch0
abbrev sc1 : Memref sig .tc .vmem S3x512x912 .f32 := Memref.whole cc0_scratch1
abbrev sc2 : Memref sig .tc .vmem S512x1024 .f32 := Memref.whole cc0_scratch2

/-- Before the first point: the carried buffers at anything. -/
theorem phiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; rfl

/-- The body's half of the three tables. -/
def tabs (c : Dev nD) : sProp 𝕄 :=
  iprop(owns (c : Thread nD τ) (Memref.whole main_arg0) fullShare.right (tE m) ∗ owns (c : Thread nD τ) (Memref.whole main_arg1) fullShare.right (tV m)
    ∗ owns (c : Thread nD τ) (Memref.whole main_arg2) fullShare.right (tF m))

theorem phiT_eq (c : Dev nD) : (Pipeline.ΦT pre0 (pf m) c : sProp 𝕄) = tabs m c := by
  unfold tabs Pipeline.ΦT Pipeline.prefHeld
  rw [bigSep_univ_eq_bigSepL [(0 : Fin 3), (1 : Fin 3), (2 : Fin 3)] (by decide) (by decide)]
  simp only [owns_whole]
  rfl

/-- Between points: the carried buffers at what the kernel kept. -/
def carried (c : Dev nD) (n : ℕ) : sProp 𝕄 :=
  iprop(owns (c : Thread nD τ) sc0 fullShare (kept m T c n).g ∗ owns (c : Thread nD τ) sc1 fullShare (kept m T c n).u ∗ owns (c : Thread nD τ) sc2 fullShare (kept m T c n).x)

/-- The invariant before point `n`. -/
def inv (c : Dev nD) (n : ℕ) : sProp 𝕄 :=
  if n = 0 then iprop(Pipeline.ΦA spec0 c ∗ tabs m c) else iprop((carried m T c n ∗ (∃ r, prngReg c r)) ∗ tabs m c)

/-- The proof data: the arrays as found; each input's buffer left at its block, the result's at what the kernel keeps. -/
def dats (_ : Fin 1) (c : Dev nD) : Dat τ (Elt F) Unit ℕ (UR sig nD τ) ℕ (pcfg m T) c where
  A w := V m c (Pipeline.arrRef spec0 w)
  after w t := match w with

    | ⟨0, _⟩ => iblk m T c 0 t
    | ⟨1, _⟩ => iblk m T c 1 t
    | ⟨2, _⟩ => iblk m T c 2 t
    | ⟨3, _⟩ => iblk m T c 3 t
    | ⟨4, _⟩ => iblk m T c 4 t
    | ⟨5, _⟩ => iblk m T c 5 t
    | ⟨6, _⟩ => iblk m T c 6 t
    | ⟨7, _⟩ => iblk m T c 7 t
    | ⟨8, _⟩ => iblk m T c 8 t
    | ⟨9, _⟩ => (kept m T c (t.val + 1)).o
  Φ t := inv m T c t.val
  q _ := fullShare
  owed _ := 0

theorem A_eq (c : Dev nD) (w : Fin (pcfg m T).W) : (dats m T 0 c).A w = V m c (Pipeline.arrRef spec0 w) := by
  dsimp only [dats]
theorem after_out (c : Dev nD) (t : Fin grid0.N) : (dats m T 0 c).after 9 t = (kept m T c (t.val + 1)).o := by dsimp only [dats]; try rfl

theorem after_0 (c : Dev nD) (t : Fin grid0.N) : (dats m T 0 c).after 0 t = iblk m T c 0 t := by dsimp only [dats]; try rfl
theorem before_0 (c : Dev nD) (t : Fin grid0.N) (d) : (dats m T 0 c).before 0 t d = iblk m T c 0 t :=
  ((dats m T 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin grid0.N) : (dats m T 0 c).after 1 t = iblk m T c 1 t := by dsimp only [dats]; try rfl
theorem before_1 (c : Dev nD) (t : Fin grid0.N) (d) : (dats m T 0 c).before 1 t d = iblk m T c 1 t :=
  ((dats m T 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin grid0.N) : (dats m T 0 c).after 2 t = iblk m T c 2 t := by dsimp only [dats]; try rfl
theorem before_2 (c : Dev nD) (t : Fin grid0.N) (d) : (dats m T 0 c).before 2 t d = iblk m T c 2 t :=
  ((dats m T 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin grid0.N) : (dats m T 0 c).after 3 t = iblk m T c 3 t := by dsimp only [dats]; try rfl
theorem before_3 (c : Dev nD) (t : Fin grid0.N) (d) : (dats m T 0 c).before 3 t d = iblk m T c 3 t :=
  ((dats m T 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin grid0.N) : (dats m T 0 c).after 4 t = iblk m T c 4 t := by dsimp only [dats]; try rfl
theorem before_4 (c : Dev nD) (t : Fin grid0.N) (d) : (dats m T 0 c).before 4 t d = iblk m T c 4 t :=
  ((dats m T 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin grid0.N) : (dats m T 0 c).after 5 t = iblk m T c 5 t := by dsimp only [dats]; try rfl
theorem before_5 (c : Dev nD) (t : Fin grid0.N) (d) : (dats m T 0 c).before 5 t d = iblk m T c 5 t :=
  ((dats m T 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin grid0.N) : (dats m T 0 c).after 6 t = iblk m T c 6 t := by dsimp only [dats]; try rfl
theorem before_6 (c : Dev nD) (t : Fin grid0.N) (d) : (dats m T 0 c).before 6 t d = iblk m T c 6 t :=
  ((dats m T 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin grid0.N) : (dats m T 0 c).after 7 t = iblk m T c 7 t := by dsimp only [dats]; try rfl
theorem before_7 (c : Dev nD) (t : Fin grid0.N) (d) : (dats m T 0 c).before 7 t d = iblk m T c 7 t :=
  ((dats m T 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem after_8 (c : Dev nD) (t : Fin grid0.N) : (dats m T 0 c).after 8 t = iblk m T c 8 t := by dsimp only [dats]; try rfl
theorem before_8 (c : Dev nD) (t : Fin grid0.N) (d) : (dats m T 0 c).before 8 t d = iblk m T c 8 t :=
  ((dats m T 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-! ## When the result's block is written back -/

theorem flush_out (t : Fin grid0.N) : ((pcfg m T).win 9).flush t = decide (t.val = 79 ∨ (t.val % 5 = 4 ∧ t.val / 5 < L)) := by
  have hN : grid0.N = 80 := N_0
  have ix : ∀ t : Fin grid0.N, ((pcfg m T).win 9).index t = ![min (t.val / 5) L, 0] := fun t =>
    (show ((pcfg m T).win 9).index t = cc0_transform_9 k0_off1_inb numel1_S1 (pf m) (grid0.coords t) from rfl).trans (by rw [ix9 m T, coord0])
  have ht : t.val < 80 := lt_of_lt_of_eq t.isLt hN
  rw [Window.flush]
  rw [Bool.eq_iff_iff]
  simp only [Bool.and_eq_true, Bool.or_eq_true, decide_eq_true_eq]
  constructor
  · rintro ⟨-, h | ⟨h, hne⟩⟩
    · have h' : t.val + 1 = grid0.N := h
      exact .inl (by omega)
    · refine .inr ?_
      by_contra hc
      refine hne ?_
      rw [ix, ix]
      have : min ((t.val + 1) / 5) L = min (t.val / 5) L := by omega
      show ![min ((t.val + 1) / 5) L, 0] = _
      rw [this]
  · intro h
    refine ⟨rfl, ?_⟩
    by_cases h79 : t.val = 79
    · exact .inl (show t.val + 1 = grid0.N by omega)
    · refine .inr ⟨show t.val + 1 < grid0.N by omega, fun e => ?_⟩
      rw [ix, ix] at e
      have e0 := congrFun e 0
      have e0' : min ((t.val + 1) / 5) L = min (t.val / 5) L := e0
      omega

theorem fresh_out (n : ℕ) (hn : n ≤ grid0.N) : (pcfg m T).fresh 9 n = decide (n = 80 ∨ (n / 5 ≤ L ∧ n % 5 ≤ 2)) := by
  have hN : grid0.N = 80 := N_0
  have hL := T.lt
  refine Cfg.fresh_tab (pcfg m T) 9 (fun n => decide (n = 80 ∨ (n / 5 ≤ L ∧ n % 5 ≤ 2))) (by simp) (fun t => ?_) n hn
  have ht : t.val < 80 := lt_of_lt_of_eq t.isLt hN
  have hidle : (pcfg m T).idle 9 ((pcfg m T).grid.coords t) = !(decide (t.val / 5 ≤ L) && decide (2 ≤ t.val % 5)) := idle_eq m T t
  rw [flush_out m T t, hidle]
  rw [Bool.eq_iff_iff]
  simp only [Bool.and_eq_true, Bool.or_eq_true, decide_eq_true_eq, Bool.not_eq_true', Bool.and_eq_false_iff, decide_eq_false_iff_not]
  omega

include T in
theorem used_at (t : Fin grid0.N) : k0_cond1 (word (tV m) (grid0.coords t)) = 1#1 ↔ t.val / 5 ≤ L := by
  rw [used_iff m T, coord0]

theorem idle_iff (t : Fin grid0.N) : (pcfg m T).idle 9 (grid0.coords t) = true ↔ ¬ (t.val / 5 ≤ L ∧ 2 ≤ t.val % 5) := by
  have hidle : (pcfg m T).idle 9 (grid0.coords t) = !(decide (t.val / 5 ≤ L) && decide (2 ≤ t.val % 5)) := idle_eq m T t
  rw [hidle]
  simp only [Bool.not_eq_true', Bool.and_eq_false_iff, decide_eq_false_iff_not]
  omega

/-- At an idle point the kernel keeps the result's block. -/
theorem kept_idle (c : Dev nD) (t : Fin grid0.N) (h : ¬ (t.val / 5 ≤ L ∧ 2 ≤ t.val % 5)) : (kept m T c (t.val + 1)).o = (kept m T c t.val).o := by
  rw [kept_succ]
  refine next_o_idle _ _ _ _ _ _ _ _ _ _ _ ?_ _
  rw [used_at m T, coord1]
  exact h

theorem before_out (c : Dev nD) (t : Fin grid0.N) (d) (h : (pcfg m T).fresh 9 t.val = false) :
    (dats m T 0 c).before 9 t d = (kept m T c t.val).o := by
  have h0 : t.val ≠ 0 := fun e => by rw [e, (pcfg m T).fresh_zero 9] at h; exact Bool.noConfusion h
  rw [Dat.before_out_traj (dats m T 0 c) 9 rfl (fun _ _ => rfl) (fun t ht hi _ => by
    rw [after_out, after_out]
    refine (kept_idle m T c t ((idle_iff m T t).mp hi)).trans ?_
    show _ = (kept m T c (t.val - 1 + 1)).o
    rw [Nat.sub_add_cancel (by omega)]) t.val t rfl d, if_neg (by rw [h]; exact Bool.false_ne_true), after_out]
  show (kept m T c (t.val - 1 + 1)).o = _
  rw [Nat.sub_add_cancel (by omega)]

/-- What the body hands back of the result's block: at a point that stores nothing into it, what it was handed. -/
theorem leaves_out (c : Dev nD) (t : Fin grid0.N) (d) (s : St F)
    (hs : s.o = (next (grid0.coords t) (tV m) (blk0 m T c t) (blk1 m T c t) (blk2 m T c t) (blk3 m T c t) (blk4 m T c t) (blk5 m T c t) (blk6 m T c t) (blk7 m T c t) (blk8 m T c t) ⟨(dats m T 0 c).before 9 t d, (kept m T c t.val).g, (kept m T c t.val).u, (kept m T c t.val).x⟩).o) :
    (owns (c : Thread nD τ) (((pcfg m T).win 9).stage ((pcfg m T).slots t 9)) fullShare s.o : sProp 𝕄) ⊢ (dats m T 0 c).leavesExact 9 t := by
  rw [hs]
  have hN : grid0.N = 80 := N_0
  have ht : t.val < 80 := lt_of_lt_of_eq t.isLt hN
  by_cases hi : t.val / 5 ≤ L ∧ 2 ≤ t.val % 5
  · have hidle : (pcfg m T).idle 9 ((pcfg m T).grid.coords t) = false := by
      have := mt (idle_iff m T t).mp (by tauto)
      simpa using this
    have hl : (dats m T 0 c).leavesExact 9 t = owns (c : Thread nD τ) (((pcfg m T).win 9).stage ((pcfg m T).slots t 9)) fullShare ((dats m T 0 c).after 9 t) := by
      unfold Dat.leavesExact; rw [hidle]
    rw [hl, after_out, kept_succ]
    have hu := (used_at m T t).mpr hi.1
    by_cases h2 : t.val % 5 = 2
    · rw [next_o_third _ _ _ _ _ _ _ _ _ _ _ hu (by rw [coord1]; exact h2) (kept m T c t.val) ((dats m T 0 c).before 9 t d)]
    · rw [before_out m T c t d (by rw [fresh_out m T _ t.isLt.le]; simp only [decide_eq_false_iff_not]; omega)]
  · have hidle : (pcfg m T).idle 9 ((pcfg m T).grid.coords t) = true := (idle_iff m T t).mpr hi
    rw [next_o_idle _ _ _ _ _ _ _ _ _ _ _ (by rw [used_at m T, coord1]; exact hi)]
    cases hf : ((pcfg m T).win 9).flush t
    · rw [Dat.leavesExact_idle (dats m T 0 c) 9 t hidle hf]
      iintro H; iexists d; iexact H
    · have hl : (dats m T 0 c).leavesExact 9 t = owns (c : Thread nD τ) (((pcfg m T).win 9).stage ((pcfg m T).slots t 9)) fullShare ((dats m T 0 c).after 9 t) := by
        unfold Dat.leavesExact; rw [hidle, hf]
      rw [hl, after_out, kept_idle m T c t hi]
      rw [flush_out m T t, decide_eq_true_eq] at hf
      rw [before_out m T c t d (by rw [fresh_out m T _ t.isLt.le]; simp only [decide_eq_false_iff_not]; omega)]

end Cert.Proof.Ffn

end
-- ==== Proof.Ffn.Launch.lean ====
/-
  The feed-forward kernel's whole run, when the blocks in use come first: every weakly fair execution ends, with no one waiting, every argument
  unchanged, and the result's array holding what the kernel kept of each block in use.
-/
module

public import proofs.«01_k».proof.Proof.Ffn.Data

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable {L : ℕ} (T : Tab m L)

/-- The body as the grid calls it at a point. -/
abbrev bodyAt (t : Fin grid0.N) : Prog (TpuEff nD τ sig (Elt F) Λ₀ .tc) PUnit :=
  cc0__ffn_kernel (grid0.coords t) (Memref.whole main_arg0) (Memref.isWhole_whole _) (Memref.whole main_arg1) (Memref.isWhole_whole _) (Memref.whole main_arg2) (Memref.isWhole_whole _) (spec0_0.stage ((pcfg m T).slots t 0)) (hstage0_0 (((pcfg m T).slots t 0).cast nbuf0_0)) (spec0_1.stage ((pcfg m T).slots t 1)) (hstage0_1 (((pcfg m T).slots t 1).cast nbuf0_1)) (spec0_2.stage ((pcfg m T).slots t 2)) (hstage0_2 (((pcfg m T).slots t 2).cast nbuf0_2)) (spec0_3.stage ((pcfg m T).slots t 3)) (hstage0_3 (((pcfg m T).slots t 3).cast nbuf0_3)) (spec0_4.stage ((pcfg m T).slots t 4)) (hstage0_4 (((pcfg m T).slots t 4).cast nbuf0_4)) (spec0_5.stage ((pcfg m T).slots t 5)) (hstage0_5 (((pcfg m T).slots t 5).cast nbuf0_5)) (spec0_6.stage ((pcfg m T).slots t 6)) (hstage0_6 (((pcfg m T).slots t 6).cast nbuf0_6)) (spec0_7.stage ((pcfg m T).slots t 7)) (hstage0_7 (((pcfg m T).slots t 7).cast nbuf0_7)) (spec0_8.stage ((pcfg m T).slots t 8)) (hstage0_8 (((pcfg m T).slots t 8).cast nbuf0_8)) (spec0_9.stage ((pcfg m T).slots t 9)) (hstage0_9 (((pcfg m T).slots t 9).cast nbuf0_9)) (Memref.whole cc0_scratch0) (Memref.isWhole_whole _) (Memref.whole cc0_scratch1) (Memref.isWhole_whole _) (Memref.whole cc0_scratch2) (Memref.isWhole_whole _)

theorem defs_row (t : Fin grid0.N) : defs₀ (F := F) .tc (pcfg m T).body ((pcfg m T).bodyArgs t ((pcfg m T).slots t)) = bodyAt m T t := by
  unfold defs₀; rw [Defs.onTc_tc]

theorem N_eq : (pcfg m T).N = 80 := N_0

/-- The carried buffers before a point: at some contents that lead to what the kernel keeps after it. -/
theorem inv_in (c : Dev nD) (t : Fin grid0.N) :
    inv m T c t.val ⊢ iprop(∃ s : St F, ⌜∀ d, (next (grid0.coords t) (tV m) (blk0 m T c t) (blk1 m T c t) (blk2 m T c t) (blk3 m T c t) (blk4 m T c t) (blk5 m T c t) (blk6 m T c t) (blk7 m T c t) (blk8 m T c t) ⟨d, s.g, s.u, s.x⟩).g = (kept m T c (t.val + 1)).g
        ∧ (next (grid0.coords t) (tV m) (blk0 m T c t) (blk1 m T c t) (blk2 m T c t) (blk3 m T c t) (blk4 m T c t) (blk5 m T c t) (blk6 m T c t) (blk7 m T c t) (blk8 m T c t) ⟨d, s.g, s.u, s.x⟩).u = (kept m T c (t.val + 1)).u
        ∧ (next (grid0.coords t) (tV m) (blk0 m T c t) (blk1 m T c t) (blk2 m T c t) (blk3 m T c t) (blk4 m T c t) (blk5 m T c t) (blk6 m T c t) (blk7 m T c t) (blk8 m T c t) ⟨d, s.g, s.u, s.x⟩).x = (kept m T c (t.val + 1)).x
        ∧ (next (grid0.coords t) (tV m) (blk0 m T c t) (blk1 m T c t) (blk2 m T c t) (blk3 m T c t) (blk4 m T c t) (blk5 m T c t) (blk6 m T c t) (blk7 m T c t) (blk8 m T c t) ⟨d, s.g, s.u, s.x⟩).o = (next (grid0.coords t) (tV m) (blk0 m T c t) (blk1 m T c t) (blk2 m T c t) (blk3 m T c t) (blk4 m T c t) (blk5 m T c t) (blk6 m T c t) (blk7 m T c t) (blk8 m T c t) ⟨d, (kept m T c t.val).g, (kept m T c t.val).u, (kept m T c t.val).x⟩).o⌝
      ∗ (owns (c : Thread nD τ) sc0 fullShare s.g ∗ owns (c : Thread nD τ) sc1 fullShare s.u ∗ owns (c : Thread nD τ) sc2 fullShare s.x) ∗ (∃ r, prngReg c r) ∗ tabs m c) := by
  have hN : grid0.N = 80 := N_0
  by_cases h0 : t.val = 0
  · unfold inv
    rw [if_pos h0, phiA_eq]
    iintro ⟨⟨⟨⟨%g, HS0⟩, ⟨%u, HS1⟩, ⟨%x, HS2⟩⟩, Hg⟩, HT⟩
    iexists (⟨constant S512x1024 .f32 0x00000000#32, g, u, x⟩ : St F)
    isplitr
    · ipureintro
      intro d
      have hu : k0_cond1 (word (tV m) (grid0.coords t)) = 1#1 := (used_at m T t).mpr (by omega)
      have hp : (grid0.coords t 1).val = 0 := by rw [coord1, h0]
      have hi : ¬ (k0_cond1 (word (tV m) (grid0.coords t)) = 1#1 ∧ 2 ≤ (grid0.coords t 1).val) := by omega
      rw [kept_succ]
      obtain ⟨e1, e2, e3⟩ := next_first (grid0.coords t) (tV m) (blk0 m T c t) (blk1 m T c t) (blk2 m T c t) (blk3 m T c t) (blk4 m T c t) (blk5 m T c t) (blk6 m T c t) (blk7 m T c t) (blk8 m T c t) hu hp ⟨d, g, u, x⟩ (kept m T c t.val)
      refine ⟨e1, e2, e3, ?_⟩
      exact (next_o_idle (grid0.coords t) (tV m) (blk0 m T c t) (blk1 m T c t) (blk2 m T c t) (blk3 m T c t) (blk4 m T c t) (blk5 m T c t) (blk6 m T c t) (blk7 m T c t) (blk8 m T c t) hi ⟨d, g, u, x⟩).trans (next_o_idle (grid0.coords t) (tV m) (blk0 m T c t) (blk1 m T c t) (blk2 m T c t) (blk3 m T c t) (blk4 m T c t) (blk5 m T c t) (blk6 m T c t) (blk7 m T c t) (blk8 m T c t) hi ⟨d, (kept m T c t.val).g, (kept m T c t.val).u, (kept m T c t.val).x⟩).symm
    isplitl [HS0 HS1 HS2]
    · isplitl [HS0]; · iexact HS0
      isplitl [HS1]; · iexact HS1
      iexact HS2
    isplitl [Hg]; · iexact Hg
    iexact HT
  · unfold inv carried
    rw [if_neg h0]
    iintro ⟨⟨⟨HS0, HS1, HS2⟩, Hg⟩, HT⟩
    iexists kept m T c t.val
    isplitr
    · ipureintro
      intro d
      rw [kept_succ]
      obtain ⟨e1, e2, e3⟩ := next_carried (grid0.coords t) (tV m) (blk0 m T c t) (blk1 m T c t) (blk2 m T c t) (blk3 m T c t) (blk4 m T c t) (blk5 m T c t) (blk6 m T c t) (blk7 m T c t) (blk8 m T c t) (kept m T c t.val) d
      exact ⟨e1, e2, e3, rfl⟩
    isplitl [HS0 HS1 HS2]
    · isplitl [HS0]; · iexact HS0
      isplitl [HS1]; · iexact HS1
      iexact HS2
    isplitl [Hg]; · iexact Hg
    iexact HT

/-- What the body is called with at a point, -/
def bodyPre (c : Dev nD) (t : Fin grid0.N) : sProp 𝕄 :=
  iprop((dats m T 0 c).Φ t.castSucc ∗ (dats m T 0 c).owesAt () t.castSucc
    ∗ (∃ d, owns (c : Thread nD τ) (((pcfg m T).win 0).stage ((pcfg m T).slots t 0)) fullShare ((dats m T 0 c).before 0 t d)) ∗ (∃ d, owns (c : Thread nD τ) (((pcfg m T).win 1).stage ((pcfg m T).slots t 1)) fullShare ((dats m T 0 c).before 1 t d)) ∗ (∃ d, owns (c : Thread nD τ) (((pcfg m T).win 2).stage ((pcfg m T).slots t 2)) fullShare ((dats m T 0 c).before 2 t d)) ∗ (∃ d, owns (c : Thread nD τ) (((pcfg m T).win 3).stage ((pcfg m T).slots t 3)) fullShare ((dats m T 0 c).before 3 t d)) ∗ (∃ d, owns (c : Thread nD τ) (((pcfg m T).win 4).stage ((pcfg m T).slots t 4)) fullShare ((dats m T 0 c).before 4 t d)) ∗ (∃ d, owns (c : Thread nD τ) (((pcfg m T).win 5).stage ((pcfg m T).slots t 5)) fullShare ((dats m T 0 c).before 5 t d)) ∗ (∃ d, owns (c : Thread nD τ) (((pcfg m T).win 6).stage ((pcfg m T).slots t 6)) fullShare ((dats m T 0 c).before 6 t d)) ∗ (∃ d, owns (c : Thread nD τ) (((pcfg m T).win 7).stage ((pcfg m T).slots t 7)) fullShare ((dats m T 0 c).before 7 t d)) ∗ (∃ d, owns (c : Thread nD τ) (((pcfg m T).win 8).stage ((pcfg m T).slots t 8)) fullShare ((dats m T 0 c).before 8 t d)) ∗ (∃ d, owns (c : Thread nD τ) (((pcfg m T).win 9).stage ((pcfg m T).slots t 9)) fullShare ((dats m T 0 c).before 9 t d)))

/-- and what it returns. -/
def bodyPost (c : Dev nD) (t : Fin grid0.N) : sProp 𝕄 :=
  iprop((dats m T 0 c).Φ t.succ ∗ (dats m T 0 c).owesAt () t.succ
    ∗ (dats m T 0 c).leavesExact 0 t ∗ (dats m T 0 c).leavesExact 1 t ∗ (dats m T 0 c).leavesExact 2 t ∗ (dats m T 0 c).leavesExact 3 t ∗ (dats m T 0 c).leavesExact 4 t ∗ (dats m T 0 c).leavesExact 5 t ∗ (dats m T 0 c).leavesExact 6 t ∗ (dats m T 0 c).leavesExact 7 t ∗ (dats m T 0 c).leavesExact 8 t ∗ (dats m T 0 c).leavesExact 9 t)

set_option maxHeartbeats 4000000 in
/-- The body at any point of the grid. -/
theorem body_at (c : Dev nD) (t : Fin grid0.N) :
    bodyPre m T c t ⊢ wp frame (wpE (defs₀ (F := F)) Variants.none c none) Set.univ (bodyAt m T t) (fun _ => bodyPost m T c t) := by
  unfold bodyPre bodyPost bodyAt
  simp only [before_0, before_1, before_2, before_3, before_4, before_5, before_6, before_7, before_8]
  rw [show (dats m T 0 c).owesAt () t.succ = (dats m T 0 c).owesAt () t.castSucc from rfl]
  rw [show (dats m T 0 c).leavesExact 0 t = owns (c : Thread nD τ) (((pcfg m T).win 0).stage ((pcfg m T).slots t 0)) fullShare ((dats m T 0 c).after 0 t) from by
      unfold Dat.leavesExact; rfl, after_0]
  rw [show (dats m T 0 c).leavesExact 1 t = owns (c : Thread nD τ) (((pcfg m T).win 1).stage ((pcfg m T).slots t 1)) fullShare ((dats m T 0 c).after 1 t) from by
      unfold Dat.leavesExact; rfl, after_1]
  rw [show (dats m T 0 c).leavesExact 2 t = owns (c : Thread nD τ) (((pcfg m T).win 2).stage ((pcfg m T).slots t 2)) fullShare ((dats m T 0 c).after 2 t) from by
      unfold Dat.leavesExact; rfl, after_2]
  rw [show (dats m T 0 c).leavesExact 3 t = owns (c : Thread nD τ) (((pcfg m T).win 3).stage ((pcfg m T).slots t 3)) fullShare ((dats m T 0 c).after 3 t) from by
      unfold Dat.leavesExact; rfl, after_3]
  rw [show (dats m T 0 c).leavesExact 4 t = owns (c : Thread nD τ) (((pcfg m T).win 4).stage ((pcfg m T).slots t 4)) fullShare ((dats m T 0 c).after 4 t) from by
      unfold Dat.leavesExact; rfl, after_4]
  rw [show (dats m T 0 c).leavesExact 5 t = owns (c : Thread nD τ) (((pcfg m T).win 5).stage ((pcfg m T).slots t 5)) fullShare ((dats m T 0 c).after 5 t) from by
      unfold Dat.leavesExact; rfl, after_5]
  rw [show (dats m T 0 c).leavesExact 6 t = owns (c : Thread nD τ) (((pcfg m T).win 6).stage ((pcfg m T).slots t 6)) fullShare ((dats m T 0 c).after 6 t) from by
      unfold Dat.leavesExact; rfl, after_6]
  rw [show (dats m T 0 c).leavesExact 7 t = owns (c : Thread nD τ) (((pcfg m T).win 7).stage ((pcfg m T).slots t 7)) fullShare ((dats m T 0 c).after 7 t) from by
      unfold Dat.leavesExact; rfl, after_7]
  rw [show (dats m T 0 c).leavesExact 8 t = owns (c : Thread nD τ) (((pcfg m T).win 8).stage ((pcfg m T).slots t 8)) fullShare ((dats m T 0 c).after 8 t) from by
      unfold Dat.leavesExact; rfl, after_8]
  rw [show (dats m T 0 c).Φ t.castSucc = inv m T c t.val from rfl, show (dats m T 0 c).Φ t.succ = inv m T c (t.val + 1) from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HI := (inv_in m T c t) $$ HI
  icases HI with ⟨%s, %hs, ⟨HS0, HS1, HS2⟩, Hg, HT⟩
  unfold tabs
  icases HT with ⟨HT0, HT1, HT2⟩
  iapply (run_all c (grid0.coords t) (Memref.whole main_arg0) (Memref.isWhole_whole _) (Memref.whole main_arg1) (Memref.isWhole_whole _) (Memref.whole main_arg2) (Memref.isWhole_whole _) (spec0_0.stage ((pcfg m T).slots t 0)) (hstage0_0 (((pcfg m T).slots t 0).cast nbuf0_0)) (spec0_1.stage ((pcfg m T).slots t 1)) (hstage0_1 (((pcfg m T).slots t 1).cast nbuf0_1)) (spec0_2.stage ((pcfg m T).slots t 2)) (hstage0_2 (((pcfg m T).slots t 2).cast nbuf0_2)) (spec0_3.stage ((pcfg m T).slots t 3)) (hstage0_3 (((pcfg m T).slots t 3).cast nbuf0_3)) (spec0_4.stage ((pcfg m T).slots t 4)) (hstage0_4 (((pcfg m T).slots t 4).cast nbuf0_4)) (spec0_5.stage ((pcfg m T).slots t 5)) (hstage0_5 (((pcfg m T).slots t 5).cast nbuf0_5)) (spec0_6.stage ((pcfg m T).slots t 6)) (hstage0_6 (((pcfg m T).slots t 6).cast nbuf0_6)) (spec0_7.stage ((pcfg m T).slots t 7)) (hstage0_7 (((pcfg m T).slots t 7).cast nbuf0_7)) (spec0_8.stage ((pcfg m T).slots t 8)) (hstage0_8 (((pcfg m T).slots t 8).cast nbuf0_8)) (spec0_9.stage ((pcfg m T).slots t 9)) (hstage0_9 (((pcfg m T).slots t 9).cast nbuf0_9)) (Memref.whole cc0_scratch0) (Memref.isWhole_whole _) (Memref.whole cc0_scratch1) (Memref.isWhole_whole _) (Memref.whole cc0_scratch2) (Memref.isWhole_whole _)
    (tV m) fullShare.right (blk0 m T c t) (blk1 m T c t) (blk2 m T c t) (blk3 m T c t) (blk4 m T c t) (blk5 m T c t) (blk6 m T c t) (blk7 m T c t) (blk8 m T c t) ⟨(dats m T 0 c).before 9 t d9, s.g, s.u, s.x⟩ Set.univ _)
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨HT1, H0, H1, H2, H3, H4, H5, H6, H7, H8, H9, HS0, HS1, HS2⟩
  isplitl [HS0 HS1 HS2 Hg HT0 HT1 HT2]
  · unfold inv carried tabs
    rw [if_neg (Nat.succ_ne_zero _), ← (hs ((dats m T 0 c).before 9 t d9)).1, ← (hs ((dats m T 0 c).before 9 t d9)).2.1, ← (hs ((dats m T 0 c).before 9 t d9)).2.2.1]
    isplitl [HS0 HS1 HS2 Hg]
    · isplitl [HS0 HS1 HS2]
      · isplitl [HS0]; · iexact HS0
        isplitl [HS1]; · iexact HS1
        iexact HS2
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves_out m T c t d9 (next (grid0.coords t) (tV m) (blk0 m T c t) (blk1 m T c t) (blk2 m T c t) (blk3 m T c t) (blk4 m T c t) (blk5 m T c t) (blk6 m T c t) (blk7 m T c t) (blk8 m T c t) ⟨(dats m T 0 c).before 9 t d9, s.g, s.u, s.x⟩) (hs ((dats m T 0 c).before 9 t d9)).2.2.2)
  iexact H9

theorem obligation (c : Dev nD) : BodyObligation (dats m T 0 c) (defs₀ (F := F)) Variants.none () Set.univ := fun t => by
  rw [bigSep_W0, bigSep_W0, defs_row]
  exact triple_restated (body_at m T c t) rfl .rfl fun _ => .rfl

theorem inv_start (c : Dev nD) : iprop(Pipeline.ΦA spec0 c ∗ Pipeline.ΦT pre0 (pf m) c) ⊢ (dats m T 0 c).Φ 0 := by
  rw [phiT_eq, show (dats m T 0 c).Φ 0 = inv m T c 0 from rfl]
  unfold inv
  rw [if_pos rfl]

theorem inv_end (c : Dev nD) : (dats m T 0 c).Φ (Fin.last (pcfg m T).N) ⊢ Pipeline.ΦA spec0 c := by
  rw [show (dats m T 0 c).Φ (Fin.last (pcfg m T).N) = inv m T c grid0.N from rfl]
  unfold inv carried
  rw [if_neg (by rw [N_0]; decide), phiA_eq]
  iintro ⟨⟨⟨HS0, HS1, HS2⟩, Hg⟩, HT⟩
  isplitl [HS0 HS1 HS2]
  · isplitl [HS0]
    · iexists _; iexact HS0
    isplitl [HS1]
    · iexists _; iexact HS1
    iexists _; iexact HS2
  iexact Hg

set_option backward.isDefEq.respectTransparency.types false in
/-- The launch. -/
theorem launch : θ_run defs (onTc (τ := τ) (main (F := F))) ⟨m, fun _ => 0, ρ⟩
    (fun r => Pipeline.FramePost (Pipeline.pin pcfgs (adms m T)) (dats m T) 0 (V m) r ∧ r.2.sem = fun _ => 0) :=
  Pipeline.θ_run_frameP_track (Q' := _) pcfgs (adms m T) (dats m T) (0 : Fin 1) launch0 defs₀ Variants.none m ρ main
    (hbody := fun c => (obligation m T c).loose) (hshare := fun c => (dats m T 0 c).share_full fun _ => rfl)
    (howed := fun _ _ => rfl) (V := V m) (hmain := Pipeline.hmainP_region pcfgs 0 defs₀ Variants.none m main fun c => (main_chain c).trans rfl) (hA := A_eq m T)
    (hpf := fun c k => by rw [Subsingleton.elim c 0]; rfl) (hin := inv_start m T) (hout := inv_end m T)

/-- A run that ends with its arrays as the pipeline leaves them ends with its arguments as they began. -/
theorem args_kept (r) (h : Pipeline.FramePost (Pipeline.pin pcfgs (adms m T)) (dats m T) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (show ∀ w : Fin 10, (spec0 w).arr.view.ref ≠ main_arg0 by decide))).trans rfl,
    ((h c).2 main_arg1 (Pipeline.mem_restRefs_of main_arg1 (by decide) (show ∀ w : Fin 10, (spec0 w).arr.view.ref ≠ main_arg1 by decide))).trans rfl,
    ((h c).2 main_arg2 (Pipeline.mem_restRefs_of main_arg2 (by decide) (show ∀ w : Fin 10, (spec0 w).arr.view.ref ≠ main_arg2 by decide))).trans rfl,
    ((h c).1 0).trans (((dats m T 0 c).arrAt_in 0 rfl _).trans (A_eq m T c 0)),
    ((h c).1 1).trans (((dats m T 0 c).arrAt_in 1 rfl _).trans (A_eq m T c 1)),
    ((h c).1 2).trans (((dats m T 0 c).arrAt_in 2 rfl _).trans (A_eq m T c 2)),
    ((h c).1 3).trans (((dats m T 0 c).arrAt_in 3 rfl _).trans (A_eq m T c 3)),
    ((h c).1 4).trans (((dats m T 0 c).arrAt_in 4 rfl _).trans (A_eq m T c 4)),
    ((h c).1 5).trans (((dats m T 0 c).arrAt_in 5 rfl _).trans (A_eq m T c 5)),
    ((h c).1 6).trans (((dats m T 0 c).arrAt_in 6 rfl _).trans (A_eq m T c 6)),
    ((h c).1 7).trans (((dats m T 0 c).arrAt_in 7 rfl _).trans (A_eq m T c 7)),
    ((h c).1 8).trans (((dats m T 0 c).arrAt_in 8 rfl _).trans (A_eq m T c 8))⟩

include T in
/-- The kernel's arguments end as they began, and no one is left waiting. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨args_kept m T r h.1, h.2⟩) (launch m ρ T)

end Cert.Proof.Ffn

end
-- ==== Proof.Ffn.Pre.lean ====
/-
  What the precondition of the feed-forward kernel says of the arrays: which blocks are in use, whose experts they
  are, and which tokens their slots hold.
-/
module

public import proofs.«01_k».proof.Proof.Ffn.Tables
public import proofs.«01_k».proof.Pre_block_table
public import Idealize.ShloMosaic.Lib.ReduceAll
public import Idealize.ShloMosaic.Lib.Pointwise
public import Idealize.ShloMosaic.Lib.ValueLayout

@[expose] public section

set_option maxRecDepth 16384

noncomputable section

namespace Cert.Proof.Ffn

open Cert.FfnIdeal Cert.FfnIdeal.Gen
open Idealize.ShloMosaic Idealize.ShloMosaic.TcCoe Idealize.ShloMosaic.Tactic

variable {F : FTy → Type} [FloatOps F]

/-- A nonnegative word below a small bound, read as a number. -/
theorem word_lt {w : BitVec 32} (b : ℕ) (hb : b < 2 ^ 31) (h0 : IntOp.cmpi .sge w 0#32 = 1#1) (h1 : IntOp.cmpi .slt w (BitVec.ofNat 32 b) = 1#1) : w.toNat < b := by
  have one : ∀ b : Bool, BitVec.ofBool b = 1#1 → b = true := by decide
  have h0' : BitVec.sle 0#32 w = true := one _ h0
  have h1' : BitVec.slt w (BitVec.ofNat 32 b) = true := one _ h1
  rw [BitVec.sle_eq_decide, decide_eq_true_eq, BitVec.toInt_eq_toNat_cond w] at h0'
  rw [BitVec.slt_eq_decide, decide_eq_true_eq, BitVec.toInt_eq_toNat_cond w, BitVec.toInt_eq_toNat_cond (BitVec.ofNat 32 b)] at h1'
  simp only [BitVec.reduceToInt, BitVec.toNat_ofNat] at h0' h1'
  have := w.isLt
  omega

/-- One of the first words against a small one, signed. -/
theorem sle_small {a b : ℕ} (ha : a < 2 ^ 31) (hb : b < 2 ^ 31) : BitVec.sle (BitVec.ofNat 32 a) (BitVec.ofNat 32 b) = decide (a ≤ b) := by
  rw [BitVec.sle_eq_decide, BitVec.toInt_eq_toNat_cond, BitVec.toInt_eq_toNat_cond]
  simp only [BitVec.toNat_ofNat]
  congr 1
  apply propext
  omega

/-- The place of the last entry of a table. -/
abbrev at31 : S32.Idx := fun | ⟨0, _⟩ => ⟨31, show 31 < 32 by decide⟩

/-- What the kernel's tables say of one another. -/
structure Blocks (e v f : Vec F S32 .i32) (s : Vec F S8192x1 .i32) : Prop where
  exp : ∀ j, (e j).toNat < 8
  lt : (f at31).toNat < 16
  fetch : ∀ j, f j = IntOp.minsi (BitVec.ofNat 32 (j 0).val) (f at31)
  val : ∀ j, v j = (IntOp.cmpi .sle (BitVec.ofNat 32 (j 0).val) (f at31)).zeroExtend 32
  tok : ∀ j, (s j).toNat < 2048

/-- The last entry of a table, as the predicates take it. -/
theorem last_eq (f : S32.Idx → BitVec 32) (h : S32.Slices ![31] ⟨1, ![1]⟩) (h' : (⟨1, ![1]⟩ : Shape).ShapeCasts ⟨0, ![]⟩) :
    shapeCast (⟨0, ![]⟩ : Shape) (extractStridedSlice (⟨1, ![1]⟩ : Shape) ![31] f h) h' = fun _ => f at31 := by
  funext j
  unfold shapeCast extractStridedSlice
  refine congrArg f ?_
  funext a
  apply Fin.ext
  match a with
  | ⟨0, _⟩ =>
    have hz := (Shape.reshapeEquiv h' j (0 : Fin 1)).isLt
    show 31 + _ = 31
    have : ∀ x : ℕ, x < 1 → 31 + x = 31 := by omega
    exact this _ hz

theorem both : ∀ a b : BitVec 1, a &&& b = 1#1 → a = 1#1 ∧ b = 1#1 := by decide

theorem eq_of_cmp {a b : BitVec 32} (h : IntOp.cmpi .eq a b = 1#1) : a = b := by
  by_contra hn
  have : (a == b) = false := by simpa using hn
  have h' : BitVec.ofBool (a == b) = 1#1 := h
  rw [this] at h'
  exact absurd h' (by decide)

theorem blocks_of_pre [Cert.Pre_block_table.Facts] {e v f : Vec F S32 .i32} {x : Vec F S2048x1024 .bf16} {s : Vec F S8192x1 .i32}
    {a5 : Vec F S8x1024x2736 .f32} {a6 : Vec F S8x1x2736 .f32} {a7 : Vec F S8x1024x2736 .f32} {a8 : Vec F S8x1x2736 .f32} {a9 : Vec F S8x2736x1024 .f32} {a10 : Vec F S8x1x1024 .f32} {a11 : Vec F S8192x1 .f32}
    (h : Cert.Pre_block_table.fn e v f x s a5 a6 a7 a8 a9 a10 a11 = fun _ => 1#1) : Blocks e v f s := by
  have e := congrFun h fun a => a.elim0
  dsimp only [Cert.Pre_block_table.fn, Cert.Pre_block_table.fn_part1] at e
  rw [show shapeCast Cert.Pre_block_table.S_ (extractStridedSlice Cert.Pre_block_table.S1 ![31] f Cert.Pre_block_table.Facts.slices_S32_S1_31) Cert.Pre_block_table.Facts.shapeCasts_S1_S_ = _ from last_eq f _ _] at e
  obtain ⟨e, hs⟩ := both _ _ e
  obtain ⟨he, e⟩ := both _ _ e
  obtain ⟨e, hv⟩ := both _ _ e
  obtain ⟨hl, hf⟩ := both _ _ e
  obtain ⟨hl0, hl1⟩ := both _ _ hl
  exact {
    exp := fun j => by
      obtain ⟨h0, h1⟩ := both _ _ (Host.reduce_andi_all _ _ _ _ _ he j)
      exact word_lt 8 (by decide) h0 h1
    lt := word_lt 16 (by decide) hl0 hl1
    fetch := fun j => eq_of_cmp (Host.reduce_andi_all _ _ _ _ _ hf j)
    val := fun j => eq_of_cmp (Host.reduce_andi_all _ _ _ _ _ hv j)
    tok := fun j => by
      obtain ⟨h0, h1⟩ := both _ _ (Host.reduce_andi_all _ _ _ _ _ hs j)
      exact word_lt 2048 (by decide) h0 h1 }

variable (m : (ℓ : Loc nD τ sig) → Buf (Elt F) ℓ)

/-- Tables that agree so make the blocks up to the last one's place the blocks in use. -/
theorem tab_of {s : Vec F S8192x1 .i32} (B : Blocks (tE m) (tV m) (tF m) s) : Tab m (tF m at31).toNat := by
  have hl := B.lt
  have hw : tF m at31 = BitVec.ofNat 32 (tF m at31).toNat := by rw [BitVec.ofNat_toNat, BitVec.setWidth_eq]
  have hi : ∀ i : grid0.Coords, (i 0).val < 16 := fun i => (i 0).isLt
  exact {
    lt := hl
    exp := fun i => B.exp _
    val := fun i => by
      have h1 : word (tV m) i = (BitVec.ofBool (BitVec.sle (BitVec.ofNat 32 (i 0).val) (tF m at31))).zeroExtend 32 := B.val _
      have h := hi i
      rw [h1, hw, sle_small (by omega) (by omega), ← hw]
      by_cases hc : (i 0).val ≤ (tF m at31).toNat
      · rw [if_pos hc, decide_eq_true hc]; rfl
      · rw [if_neg hc, decide_eq_false hc]; rfl
    fetch := fun i => by
      have h1 : word (tF m) i = IntOp.minsi (BitVec.ofNat 32 (i 0).val) (tF m at31) := B.fetch _
      have h := hi i
      have h2 : ∀ a b : BitVec 32, IntOp.minsi a b = if BitVec.slt a b then a else b := fun _ _ => rfl
      have h3 : BitVec.slt (BitVec.ofNat 32 (i 0).val) (tF m at31) = decide ((i 0).val < (tF m at31).toNat) := by
        rw [BitVec.slt_eq_decide, BitVec.toInt_eq_toNat_cond, BitVec.toInt_eq_toNat_cond]
        simp only [BitVec.toNat_ofNat]
        congr 1
        apply propext
        omega
      rw [h1, h2, h3]
      by_cases hc : (i 0).val < (tF m at31).toNat
      · rw [if_pos (decide_eq_true hc), Nat.min_eq_left (by omega)]
      · rw [if_neg (by rw [decide_eq_false hc]; decide), Nat.min_eq_right (by omega)]
        exact hw }

end Cert.Proof.Ffn

end
-- ==== Proof.Ffn.Same.lean ====
module

public import proofs.«01_k».proof.Defs
public import proofs.«01_k».proof.Proof.Ffn.Launch
public import proofs.«01_k».proof.Proof.Ffn.Pre
public import proofs.«01_k».proof.Proof.Gen.Ffn
public import proofs.«01_k».proof.Proof.Gen.FfnIdeal
public import proofs.«01_k».proof.Proof.Gen.Pre_block_table

@[expose] public section

/-!
The printed feed-forward over bit patterns is its idealization's text at bit patterns, so its frame is the one proved of that text.
-/

set_option maxRecDepth 16384

noncomputable section

open Idealize.ShloMosaic Idealize.SL.Sem

namespace Cert.Proof.Ffn

set_option maxHeartbeats 4000000

/-- The body of the printed program and that of its idealization are one text. -/
theorem kernel_same : Cert.Ffn.cc0__ffn_kernel (F := Bits) = Cert.FfnIdeal.cc0__ffn_kernel (F := Bits) := rfl

/-- So are the tables of bodies, -/
theorem bodies_same : Cert.Ffn.defs₀ (F := Bits) = Cert.FfnIdeal.defs₀ (F := Bits) := by
  unfold Cert.Ffn.defs₀ Cert.FfnIdeal.defs₀
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun kernel_same _) _) _) _) _) _) _) _) _) _) _) _) _) _) _) _) _) _) _) _) _) _) _) _) _) _) _) _) _) _) _) _) _

/-- with the call they serve, -/
theorem defs_same : Cert.Ffn.defs (F := Bits) = Cert.FfnIdeal.defs (F := Bits) := by
  unfold Cert.Ffn.defs Cert.FfnIdeal.defs
  exact congrArg (Pipeline.defs Cert.FfnIdeal.pcfgs) bodies_same

/-- and the two entry functions. -/
theorem main_same : Cert.Ffn.main (F := Bits) =
    Cert.FfnIdeal.main (F := Bits) := rfl

/-- The frame of the printed program. -/
theorem frame_printed : Cert.quiescent_Ffn := by
  intro m ρ hpre
  rw [defs_same, main_same]
  exact frame_run (F := Bits) m ρ (tab_of (F := Bits) m (blocks_of_pre (F := Bits) (hpre 0)))

end Cert.Proof.Ffn

end
-- ==== Proof.Ffn.Gates.lean ====
/-
  What the precondition of the feed-forward's value and the mask of its result say of the arrays: that the gates are
  nonnegative and finite too, and which rows of the result belong to a block in use.
-/
module

public import proofs.«01_k».proof.Proof.Ffn.Pre
public import proofs.«01_k».proof.Pre_block_table_and_gates
public import proofs.«01_k».proof.On_slots_of_used_blocks
public import Idealize.ShloMosaic.Lib.ReduceAll
public import Idealize.ShloMosaic.Lib.Pointwise
public import Idealize.ShloMosaic.Lib.ValueLayout

@[expose] public section

set_option maxRecDepth 16384

noncomputable section

namespace Cert.Proof.Ffn

open Cert.FfnIdeal Cert.FfnIdeal.Gen
open Idealize.ShloMosaic Idealize.ShloMosaic.TcCoe Idealize.ShloMosaic.Tactic

variable {F : FTy → Type} [FloatOps F]

/-- The precondition of the value, read. -/
theorem blocks_of_gates [Cert.Pre_block_table_and_gates.Facts] {e v f : Vec Ideal S32 .i32} {x : Vec Ideal S2048x1024 .bf16} {s : Vec Ideal S8192x1 .i32}
    {a5 : Vec Ideal S8x1024x2736 .f32} {a6 : Vec Ideal S8x1x2736 .f32} {a7 : Vec Ideal S8x1024x2736 .f32} {a8 : Vec Ideal S8x1x2736 .f32} {a9 : Vec Ideal S8x2736x1024 .f32} {a10 : Vec Ideal S8x1x1024 .f32} {a11 : Vec Ideal S8192x1 .f32}
    (h : Cert.Pre_block_table_and_gates.fn (F := Ideal) e v f x s a5 a6 a7 a8 a9 a10 a11 = fun _ => 1#1) :
    Blocks e v f s ∧ ∀ j, 0 ≤ a11 j ∧ a11 j < (⊤ : EReal) := by
  have e := congrFun h fun a => a.elim0
  dsimp only [Cert.Pre_block_table_and_gates.fn, Cert.Pre_block_table_and_gates.fn_part1, Cert.Pre_block_table_and_gates.fn_part2] at e
  rw [show shapeCast Cert.Pre_block_table_and_gates.S_ (extractStridedSlice Cert.Pre_block_table_and_gates.S1 ![31] f Cert.Pre_block_table_and_gates.Facts.slices_S32_S1_31) Cert.Pre_block_table_and_gates.Facts.shapeCasts_S1_S_ = _ from last_eq f _ _] at e
  obtain ⟨e, hg⟩ := both _ _ e
  obtain ⟨e, hs⟩ := both _ _ e
  obtain ⟨he, e⟩ := both _ _ e
  obtain ⟨e, hv⟩ := both _ _ e
  obtain ⟨hl, hf⟩ := both _ _ e
  obtain ⟨hl0, hl1⟩ := both _ _ hl
  refine ⟨{
    exp := fun j => by
      obtain ⟨h0, h1⟩ := both _ _ (Host.reduce_andi_all _ _ _ _ _ he j)
      exact word_lt 8 (by decide) h0 h1
    lt := word_lt 16 (by decide) hl0 hl1
    fetch := fun j => eq_of_cmp (Host.reduce_andi_all _ _ _ _ _ hf j)
    val := fun j => eq_of_cmp (Host.reduce_andi_all _ _ _ _ _ hv j)
    tok := fun j => by
      obtain ⟨h0, h1⟩ := both _ _ (Host.reduce_andi_all _ _ _ _ _ hs j)
      exact word_lt 2048 (by decide) h0 h1 }, fun j => ?_⟩
  obtain ⟨h0, h1⟩ := both _ _ (Host.reduce_andi_all _ _ _ _ _ hg j)
  have z : Ideal.ofBits .f32 0x00000000#32 = 0 := by simp [Ideal.ofBits, Ideal.ieee]
  have t : Ideal.ofBits .f32 2139095040#32 = ⊤ := by simp [Ideal.ofBits, Ideal.ieee]
  have h0' : Ideal.cmp .oge (a11 j) (Ideal.ofBits .f32 0x00000000#32) = 1#1 := h0
  have h1' : Ideal.cmp .olt (a11 j) (Ideal.ofBits .f32 2139095040#32) = 1#1 := h1
  rw [z] at h0'
  rw [t] at h1'
  constructor
  · by_contra hn
    simp [Ideal.cmp, hn] at h0'
  · by_contra hn
    simp [Ideal.cmp, hn] at h1'

/-- A row's block. -/
theorem div_small {a : ℕ} (ha : a < 8192) : IntOp.divsi .host (BitVec.ofNat 32 a) 512#32 = BitVec.ofNat 32 (a / 512) := by
  have hc : ¬ IntOp.SDivCorner (BitVec.ofNat 32 a) 512#32 := by
    rintro (h | ⟨_, h⟩)
    · exact absurd h (by decide)
    · exact absurd h (by decide)
  have hm : (BitVec.ofNat 32 a).msb = false := by
    rw [BitVec.msb_eq_decide, decide_eq_false_iff_not, BitVec.toNat_ofNat]; omega
  unfold IntOp.divsi
  rw [if_neg hc, BitVec.sdiv_eq, hm]
  apply BitVec.eq_of_toNat_eq
  have h5 : (512#32 : BitVec 32).msb = false := by decide
  rw [h5]
  show (BitVec.ofNat 32 a / 512#32).toNat = _
  rw [BitVec.toNat_udiv, BitVec.toNat_ofNat, BitVec.toNat_ofNat, BitVec.toNat_ofNat,
    Nat.mod_eq_of_lt (show a < 2 ^ 32 by omega), Nat.mod_eq_of_lt (show 512 < 2 ^ 32 by decide), Nat.mod_eq_of_lt (show a / 512 < 2 ^ 32 by omega)]

/-- A row whose bit in the mask is set belongs to a block in use. -/
theorem used_of_mask [Cert.On_slots_of_used_blocks.Facts] {e v f : Vec F S32 .i32} {x : Vec F S2048x1024 .bf16} {s : Vec F S8192x1 .i32}
    {a5 : Vec F S8x1024x2736 .f32} {a6 : Vec F S8x1x2736 .f32} {a7 : Vec F S8x1024x2736 .f32} {a8 : Vec F S8x1x2736 .f32} {a9 : Vec F S8x2736x1024 .f32} {a10 : Vec F S8x1x1024 .f32} {a11 : Vec F S8192x1 .f32}
    (hf : (f at31).toNat < 16) (i : S8192x1024.Idx) (h : Cert.On_slots_of_used_blocks.fn e v f x s a5 a6 a7 a8 a9 a10 a11 i = 1#1) :
    (i 0).val / 512 ≤ (f at31).toNat := by
  have hi : (i 0).val < 8192 := (i 0).isLt
  have e := h
  dsimp only [Cert.On_slots_of_used_blocks.fn] at e
  rw [show shapeCast Cert.On_slots_of_used_blocks.S_ (extractStridedSlice Cert.On_slots_of_used_blocks.S1 ![31] f Cert.On_slots_of_used_blocks.Facts.slices_S32_S1_31) Cert.On_slots_of_used_blocks.Facts.shapeCasts_S1_S_ = _ from last_eq f _ _] at e
  have h1 : BitVec.ofBool (BitVec.sle (IntOp.divsi .host (BitVec.ofNat 32 (i 0).val) 512#32) (f at31)) = 1#1 := e
  have one : ∀ b : Bool, BitVec.ofBool b = 1#1 → b = true := by decide
  have hw : f at31 = BitVec.ofNat 32 (f at31).toNat := by rw [BitVec.ofNat_toNat, BitVec.setWidth_eq]
  rw [div_small hi, hw] at h1
  have h2 := one _ h1
  rw [sle_small (by omega) (by omega), decide_eq_true_eq] at h2
  exact h2

end Cert.Proof.Ffn

end
-- ==== Proof.Ffn.Pays.lean ====
/-
  What the feed-forward kernel stores, read at an entry, over the extended reals.
-/
module

public import proofs.«01_k».proof.Proof.Gen.FfnIdeal
public import proofs.«01_k».proof.Proof.Gen.FfnIdeal.Skeleton
public import Idealize.ShloMosaic.Lib.Pointwise

@[expose] public section

set_option maxRecDepth 16384

noncomputable section

namespace Cert.Proof.FfnValue

open Idealize.ShloMosaic
open Cert.FfnIdeal Cert.FfnIdeal.Gen

/-- The column of the hidden layer that column `l` of the third `p` is. -/
def col (p : Fin 3) (l : Fin 912) : Fin 2736 := ⟨912 * p.val + l.val, by omega⟩

/-- The word of zero. -/
theorem zero_word : Ideal.ofBits .f32 0x00000000#32 = 0 := by simp [Ideal.ofBits, Ideal.ieee]

/-- The word of one. -/
theorem one_word : Ideal.ofBits .f32 0x3F800000#32 = 1 := by
  simp [Ideal.ofBits, Ideal.ieee]
  rw [← EReal.coe_mul]
  norm_num

/-- The rows that the tokens of a block name, picked by a product with ones at those places. -/
theorem pay1_apply (tok : Vec Ideal S512x1 .i32) (x : Vec Ideal S2048x1024 .bf16) (r : Fin 512) (c : Fin 1024) (h : (tok (ix2 r (0 : Fin 1))).toNat < 2048) :
    k0_pay1 (F := Ideal) tok x (ix2 r c) = x (ix2 ⟨(tok (ix2 r (0 : Fin 1))).toNat, h⟩ c) := by
  pointwise [k0_pay1]
  have hr := r.isLt
  rw [Finset.sum_eq_single (⟨(tok (ix2 r (0 : Fin 1))).toNat, h⟩ : Fin 2048)]
  · have e : IntOp.cmpi .eq (BitVec.ofNat 32 (tok (ix2 r (0 : Fin 1))).toNat) (tok (ix2 r (0 : Fin 1))) = 1#1 := by
      rw [BitVec.ofNat_toNat, BitVec.setWidth_eq]
      show BitVec.ofBool (_ == _) = 1#1
      rw [beq_self_eq_true]; rfl
    show Scalar.select (IntOp.cmpi .eq (BitVec.ofNat 32 (tok (ix2 r (0 : Fin 1))).toNat) (tok (ix2 r (0 : Fin 1)))) _ _ = _
    rw [e]; rfl
  · intro k _ hk
    have e : IntOp.cmpi .eq (BitVec.ofNat 32 k.val) (tok (ix2 r (0 : Fin 1))) = 0#1 := by
      have hb : (BitVec.ofNat 32 k.val == tok (ix2 r (0 : Fin 1))) = false := by
        rw [beq_eq_false_iff_ne]
        intro he
        apply hk
        apply Fin.ext
        have h2 := congrArg BitVec.toNat he
        rw [BitVec.toNat_ofNat, Nat.mod_eq_of_lt (by have := k.isLt; omega)] at h2
        exact h2
      show BitVec.ofBool (BitVec.ofNat 32 k.val == tok (ix2 r (0 : Fin 1))) = 0#1
      rw [hb]; rfl
    rw [e]; rfl
  · intro hn; exact absurd (Finset.mem_univ _) hn

/-- The first half of the first product in the third 0, with its bias. -/
theorem pay11_apply (h : Vec Ideal S512x512 .f32) (w : Vec Ideal S1x512x2736 .f32) (b : Vec Ideal S1x1x2736 .f32) (r : Fin 512) (l : Fin 912) :
    k0_pay11 (F := Ideal) h w b (ix3 (0 : Fin 1) r l) = ∑ k : Fin 512, h (ix2 r k) * w (ix3 (0 : Fin 1) k (col 0 l)) + b (ix3 (0 : Fin 1) (0 : Fin 1) (col 0 l)) := by
  pointwise [k0_pay11, k0_pay9, k0_pay7, col]

/-- The first half of the second product in the third 0, with its bias. -/
theorem pay12_apply (h : Vec Ideal S512x512 .f32) (w : Vec Ideal S1x512x2736 .f32) (b : Vec Ideal S1x1x2736 .f32) (r : Fin 512) (l : Fin 912) :
    k0_pay12 (F := Ideal) h w b (ix3 (0 : Fin 1) r l) = ∑ k : Fin 512, h (ix2 r k) * w (ix3 (0 : Fin 1) k (col 0 l)) + b (ix3 (0 : Fin 1) (0 : Fin 1) (col 0 l)) := by
  pointwise [k0_pay12, k0_pay10, k0_pay8, col]

/-- The first half of the first product in the third 1, with its bias. -/
theorem pay17_apply (h : Vec Ideal S512x512 .f32) (w : Vec Ideal S1x512x2736 .f32) (b : Vec Ideal S1x1x2736 .f32) (r : Fin 512) (l : Fin 912) :
    k0_pay17 (F := Ideal) h w b (ix3 (0 : Fin 1) r l) = ∑ k : Fin 512, h (ix2 r k) * w (ix3 (0 : Fin 1) k (col 1 l)) + b (ix3 (0 : Fin 1) (0 : Fin 1) (col 1 l)) := by
  pointwise [k0_pay17, k0_pay15, k0_pay7, col]

/-- The first half of the second product in the third 1, with its bias. -/
theorem pay18_apply (h : Vec Ideal S512x512 .f32) (w : Vec Ideal S1x512x2736 .f32) (b : Vec Ideal S1x1x2736 .f32) (r : Fin 512) (l : Fin 912) :
    k0_pay18 (F := Ideal) h w b (ix3 (0 : Fin 1) r l) = ∑ k : Fin 512, h (ix2 r k) * w (ix3 (0 : Fin 1) k (col 1 l)) + b (ix3 (0 : Fin 1) (0 : Fin 1) (col 1 l)) := by
  pointwise [k0_pay18, k0_pay16, k0_pay8, col]

/-- The first half of the first product in the third 2, with its bias. -/
theorem pay23_apply (h : Vec Ideal S512x512 .f32) (w : Vec Ideal S1x512x2736 .f32) (b : Vec Ideal S1x1x2736 .f32) (r : Fin 512) (l : Fin 912) :
    k0_pay23 (F := Ideal) h w b (ix3 (0 : Fin 1) r l) = ∑ k : Fin 512, h (ix2 r k) * w (ix3 (0 : Fin 1) k (col 2 l)) + b (ix3 (0 : Fin 1) (0 : Fin 1) (col 2 l)) := by
  pointwise [k0_pay23, k0_pay21, k0_pay7, col]

/-- The first half of the second product in the third 2, with its bias. -/
theorem pay24_apply (h : Vec Ideal S512x512 .f32) (w : Vec Ideal S1x512x2736 .f32) (b : Vec Ideal S1x1x2736 .f32) (r : Fin 512) (l : Fin 912) :
    k0_pay24 (F := Ideal) h w b (ix3 (0 : Fin 1) r l) = ∑ k : Fin 512, h (ix2 r k) * w (ix3 (0 : Fin 1) k (col 2 l)) + b (ix3 (0 : Fin 1) (0 : Fin 1) (col 2 l)) := by
  pointwise [k0_pay24, k0_pay22, k0_pay8, col]

/-- The second half of the first product in the third 0, added to what is there. -/
theorem pay13_apply (h : Vec Ideal S512x512 .f32) (w : Vec Ideal S1x512x2736 .f32) (v : Vec Ideal S1x512x912 .f32) (r : Fin 512) (l : Fin 912) :
    k0_pay13 (F := Ideal) h w v (ix3 (0 : Fin 1) r l) = v (ix3 (0 : Fin 1) r l) + ∑ k : Fin 512, h (ix2 r k) * w (ix3 (0 : Fin 1) k (col 0 l)) := by
  pointwise [k0_pay13, k0_pay9, k0_pay7, col]

/-- The second half of the second product in the third 0, added to what is there. -/
theorem pay14_apply (h : Vec Ideal S512x512 .f32) (w : Vec Ideal S1x512x2736 .f32) (v : Vec Ideal S1x512x912 .f32) (r : Fin 512) (l : Fin 912) :
    k0_pay14 (F := Ideal) h w v (ix3 (0 : Fin 1) r l) = v (ix3 (0 : Fin 1) r l) + ∑ k : Fin 512, h (ix2 r k) * w (ix3 (0 : Fin 1) k (col 0 l)) := by
  pointwise [k0_pay14, k0_pay10, k0_pay8, col]

/-- The second half of the first product in the third 1, added to what is there. -/
theorem pay19_apply (h : Vec Ideal S512x512 .f32) (w : Vec Ideal S1x512x2736 .f32) (v : Vec Ideal S1x512x912 .f32) (r : Fin 512) (l : Fin 912) :
    k0_pay19 (F := Ideal) h w v (ix3 (0 : Fin 1) r l) = v (ix3 (0 : Fin 1) r l) + ∑ k : Fin 512, h (ix2 r k) * w (ix3 (0 : Fin 1) k (col 1 l)) := by
  pointwise [k0_pay19, k0_pay15, k0_pay7, col]

/-- The second half of the second product in the third 1, added to what is there. -/
theorem pay20_apply (h : Vec Ideal S512x512 .f32) (w : Vec Ideal S1x512x2736 .f32) (v : Vec Ideal S1x512x912 .f32) (r : Fin 512) (l : Fin 912) :
    k0_pay20 (F := Ideal) h w v (ix3 (0 : Fin 1) r l) = v (ix3 (0 : Fin 1) r l) + ∑ k : Fin 512, h (ix2 r k) * w (ix3 (0 : Fin 1) k (col 1 l)) := by
  pointwise [k0_pay20, k0_pay16, k0_pay8, col]

/-- The second half of the first product in the third 2, added to what is there. -/
theorem pay2_apply (h : Vec Ideal S512x512 .f32) (w : Vec Ideal S1x512x2736 .f32) (v : Vec Ideal S1x512x912 .f32) (r : Fin 512) (l : Fin 912) :
    k0_pay2 (F := Ideal) (k0_pay21 h w) v (ix3 (0 : Fin 1) r l) = v (ix3 (0 : Fin 1) r l) + ∑ k : Fin 512, h (ix2 r k) * w (ix3 (0 : Fin 1) k (col 2 l)) := by
  pointwise [k0_pay2, k0_pay21, k0_pay7, col]

/-- The second half of the second product in the third 2, added to what is there. -/
theorem pay3_apply (h : Vec Ideal S512x512 .f32) (w : Vec Ideal S1x512x2736 .f32) (v : Vec Ideal S1x512x912 .f32) (r : Fin 512) (l : Fin 912) :
    k0_pay3 (F := Ideal) (k0_pay22 h w) v (ix3 (0 : Fin 1) r l) = v (ix3 (0 : Fin 1) r l) + ∑ k : Fin 512, h (ix2 r k) * w (ix3 (0 : Fin 1) k (col 2 l)) := by
  pointwise [k0_pay3, k0_pay22, k0_pay8, col]

/-- A third's share of the second product. -/
theorem pay4_apply (s : Vec Ideal S512x1 .f32) (g u : Vec Ideal S1x512x912 .f32) (w : Vec Ideal S1x912x1024 .f32) (r : Fin 512) (c : Fin 1024) :
    k0_pay4 (F := Ideal) s g u w (ix2 r c)
      = ∑ k : Fin 912, s (ix2 r (0 : Fin 1)) * (g (ix3 (0 : Fin 1) r k) * Ideal.logistic (g (ix3 (0 : Fin 1) r k))) * u (ix3 (0 : Fin 1) r k) * w (ix3 (0 : Fin 1) k c) := by
  pointwise [k0_pay4]

/-- The first third's, with the bias. -/
theorem pay5_apply (s : Vec Ideal S512x1 .f32) (g u : Vec Ideal S1x512x912 .f32) (w : Vec Ideal S1x912x1024 .f32) (b : Vec Ideal S1x1x1024 .f32) (r : Fin 512) (c : Fin 1024) :
    k0_pay5 (F := Ideal) s g u w b (ix2 r c) = k0_pay4 (F := Ideal) s g u w (ix2 r c) + s (ix2 r (0 : Fin 1)) * b (ix3 (0 : Fin 1) (0 : Fin 1) c) := by
  pointwise [k0_pay5]

/-- Another third's, added to what is there. -/
theorem pay6_apply (s : Vec Ideal S512x1 .f32) (g u : Vec Ideal S1x512x912 .f32) (w : Vec Ideal S1x912x1024 .f32) (o : Vec Ideal S512x1024 .f32) (r : Fin 512) (c : Fin 1024) :
    k0_pay6 (F := Ideal) s g u w o (ix2 r c) = o (ix2 r c) + k0_pay4 (F := Ideal) s g u w (ix2 r c) := by
  pointwise [k0_pay6]

end Cert.Proof.FfnValue

end
-- ==== Proof.Ffn.Reading.lean ====
/-
  The feed-forward's reference read at an entry of its result.
-/
module

public import proofs.«01_k».proof.Proof.Gen.FfnReferenceIdeal
public import proofs.«01_k».proof.Proof.Gen.FfnReferenceIdeal.Run
public import Idealize.ShloMosaic.Lib.Pointwise

@[expose] public section

set_option maxRecDepth 16384

noncomputable section

namespace Cert.Proof.FfnValue

open Idealize.ShloMosaic
open Cert.FfnReferenceIdeal Cert.FfnReferenceIdeal.Gen

/-- The row a gather takes for a word that names one: the word clamped to the table is the word. -/
theorem clamp_word {w : BitVec 32} {n : Nat} (hn : n ≤ 2048) (h : w.toNat < n) : min w.toInt.toNat (n - 1) = w.toNat := by
  rw [BitVec.toInt_eq_toNat_cond, if_pos (by omega), Int.toNat_natCast]
  omega

/-! ## The gathers -/

/-- Entry `(b, j, c)` of the gathered rows is column `c` of the row that entry `(b, j, 0)` of the indices names. -/
theorem gather_rows {α : Type} (x : S2048x1024.Idx → α) (idx : IVec S16x512x1 32) (b : Fin 16) (j : Fin 512) (c : Fin 1024)
    (h : (idx (ix3 b j (0 : Fin 1))).toNat < 2048) :
    Host.gather gather_S2048x1024_S16x512x1_S16x512x1024_2_0_n_n_0_2_11024 x idx (ix3 b j c) = x (ix2 ⟨(idx (ix3 b j (0 : Fin 1))).toNat, h⟩ c) := by
  let gd := gather_S2048x1024_S16x512x1_S16x512x1024_2_0_n_n_0_2_11024
  refine congrArg x (funext fun a => Fin.ext ?_)
  match a with
  | 0 =>
    show gd.start (ix3 b j c) idx 0 + gd.batchCoord (ix3 b j c) 0 + gd.offCoord (ix3 b j c) 0 = _
    rw [gd.batchCoord_eq_zero _ _ List.not_mem_nil, gd.offCoord_eq_zero _ _ fun h => ((gd.mem_sKept 0).1 h).1 (List.mem_singleton.2 rfl)]
    refine Eq.trans ?_ (clamp_word (w := idx (ix3 b j (0 : Fin 1))) (n := 2048) (by decide) h)
    have hs : gd.siIdx (ix3 b j c) ⟨0, Nat.zero_lt_one⟩ = ix3 b j (0 : Fin 1) := by
      funext d
      match d with
      | 0 => rfl
      | 1 => rfl
      | 2 => rfl
    rw [← hs]; rfl
  | 1 =>
    show gd.start (ix3 b j c) idx 1 + gd.batchCoord (ix3 b j c) 1 + gd.offCoord (ix3 b j c) 1 = c.val
    rw [gd.batchCoord_eq_zero _ _ List.not_mem_nil]
    have e0 : gd.start (ix3 b j c) idx 1 = 0 := dif_neg (by show (1 : Fin 2) ∉ [(0 : Fin 2)]; decide)
    have e1 : gd.offCoord (ix3 b j c) 1 = c.val := rfl
    rw [e0, e1]; omega

/-- Entry `(b, p, q)` of the gathered tables is entry `(p, q)` of the table that entry `(b, 0)` of the indices names. -/
theorem gather_in_w {α : Type} (x : S8x1024x2736.Idx → α) (idx : IVec S16x1 32) (b : Fin 16) (p : Fin 1024) (q : Fin 2736)
    (h : (idx (ix2 b (0 : Fin 1))).toNat < 8) :
    Host.gather gather_S8x1024x2736_S16x1_S16x1024x2736_12_0_n_n_0_1_110242736 x idx (ix3 b p q) = x (ix3 ⟨(idx (ix2 b (0 : Fin 1))).toNat, h⟩ p q) := by
  let gd := gather_S8x1024x2736_S16x1_S16x1024x2736_12_0_n_n_0_1_110242736
  refine congrArg x (funext fun a => Fin.ext ?_)
  match a with
  | 0 =>
    show gd.start (ix3 b p q) idx 0 + gd.batchCoord (ix3 b p q) 0 + gd.offCoord (ix3 b p q) 0 = _
    rw [gd.batchCoord_eq_zero _ _ List.not_mem_nil, gd.offCoord_eq_zero _ _ fun h => ((gd.mem_sKept 0).1 h).1 (List.mem_singleton.2 rfl)]
    refine Eq.trans ?_ (clamp_word (w := idx (ix2 b (0 : Fin 1))) (n := 8) (by decide) h)
    have hs : gd.siIdx (ix3 b p q) ⟨0, Nat.zero_lt_one⟩ = ix2 b (0 : Fin 1) := by
      funext d
      match d with
      | 0 => rfl
      | 1 => rfl
    rw [← hs]; rfl
  | 1 =>
    show gd.start (ix3 b p q) idx 1 + gd.batchCoord (ix3 b p q) 1 + gd.offCoord (ix3 b p q) 1 = p.val
    rw [gd.batchCoord_eq_zero _ _ List.not_mem_nil]
    have e0 : gd.start (ix3 b p q) idx 1 = 0 := dif_neg (by show (1 : Fin 3) ∉ [(0 : Fin 3)]; decide)
    have e1 : gd.offCoord (ix3 b p q) 1 = p.val := rfl
    rw [e0, e1]; omega
  | 2 =>
    show gd.start (ix3 b p q) idx 2 + gd.batchCoord (ix3 b p q) 2 + gd.offCoord (ix3 b p q) 2 = q.val
    rw [gd.batchCoord_eq_zero _ _ List.not_mem_nil]
    have e0 : gd.start (ix3 b p q) idx 2 = 0 := dif_neg (by show (2 : Fin 3) ∉ [(0 : Fin 3)]; decide)
    have e1 : gd.offCoord (ix3 b p q) 2 = q.val := rfl
    rw [e0, e1]; omega

/-- Entry `(b, p, q)` of the gathered tables is entry `(p, q)` of the table that entry `(b, 0)` of the indices names. -/
theorem gather_in_b {α : Type} (x : S8x1x2736.Idx → α) (idx : IVec S16x1 32) (b : Fin 16) (p : Fin 1) (q : Fin 2736)
    (h : (idx (ix2 b (0 : Fin 1))).toNat < 8) :
    Host.gather gather_S8x1x2736_S16x1_S16x1x2736_12_0_n_n_0_1_112736 x idx (ix3 b p q) = x (ix3 ⟨(idx (ix2 b (0 : Fin 1))).toNat, h⟩ p q) := by
  let gd := gather_S8x1x2736_S16x1_S16x1x2736_12_0_n_n_0_1_112736
  refine congrArg x (funext fun a => Fin.ext ?_)
  match a with
  | 0 =>
    show gd.start (ix3 b p q) idx 0 + gd.batchCoord (ix3 b p q) 0 + gd.offCoord (ix3 b p q) 0 = _
    rw [gd.batchCoord_eq_zero _ _ List.not_mem_nil, gd.offCoord_eq_zero _ _ fun h => ((gd.mem_sKept 0).1 h).1 (List.mem_singleton.2 rfl)]
    refine Eq.trans ?_ (clamp_word (w := idx (ix2 b (0 : Fin 1))) (n := 8) (by decide) h)
    have hs : gd.siIdx (ix3 b p q) ⟨0, Nat.zero_lt_one⟩ = ix2 b (0 : Fin 1) := by
      funext d
      match d with
      | 0 => rfl
      | 1 => rfl
    rw [← hs]; rfl
  | 1 =>
    show gd.start (ix3 b p q) idx 1 + gd.batchCoord (ix3 b p q) 1 + gd.offCoord (ix3 b p q) 1 = p.val
    rw [gd.batchCoord_eq_zero _ _ List.not_mem_nil]
    have e0 : gd.start (ix3 b p q) idx 1 = 0 := dif_neg (by show (1 : Fin 3) ∉ [(0 : Fin 3)]; decide)
    have e1 : gd.offCoord (ix3 b p q) 1 = p.val := rfl
    rw [e0, e1]; omega
  | 2 =>
    show gd.start (ix3 b p q) idx 2 + gd.batchCoord (ix3 b p q) 2 + gd.offCoord (ix3 b p q) 2 = q.val
    rw [gd.batchCoord_eq_zero _ _ List.not_mem_nil]
    have e0 : gd.start (ix3 b p q) idx 2 = 0 := dif_neg (by show (2 : Fin 3) ∉ [(0 : Fin 3)]; decide)
    have e1 : gd.offCoord (ix3 b p q) 2 = q.val := rfl
    rw [e0, e1]; omega

/-- Entry `(b, p, q)` of the gathered tables is entry `(p, q)` of the table that entry `(b, 0)` of the indices names. -/
theorem gather_out_w {α : Type} (x : S8x2736x1024.Idx → α) (idx : IVec S16x1 32) (b : Fin 16) (p : Fin 2736) (q : Fin 1024)
    (h : (idx (ix2 b (0 : Fin 1))).toNat < 8) :
    Host.gather gather_S8x2736x1024_S16x1_S16x2736x1024_12_0_n_n_0_1_127361024 x idx (ix3 b p q) = x (ix3 ⟨(idx (ix2 b (0 : Fin 1))).toNat, h⟩ p q) := by
  let gd := gather_S8x2736x1024_S16x1_S16x2736x1024_12_0_n_n_0_1_127361024
  refine congrArg x (funext fun a => Fin.ext ?_)
  match a with
  | 0 =>
    show gd.start (ix3 b p q) idx 0 + gd.batchCoord (ix3 b p q) 0 + gd.offCoord (ix3 b p q) 0 = _
    rw [gd.batchCoord_eq_zero _ _ List.not_mem_nil, gd.offCoord_eq_zero _ _ fun h => ((gd.mem_sKept 0).1 h).1 (List.mem_singleton.2 rfl)]
    refine Eq.trans ?_ (clamp_word (w := idx (ix2 b (0 : Fin 1))) (n := 8) (by decide) h)
    have hs : gd.siIdx (ix3 b p q) ⟨0, Nat.zero_lt_one⟩ = ix2 b (0 : Fin 1) := by
      funext d
      match d with
      | 0 => rfl
      | 1 => rfl
    rw [← hs]; rfl
  | 1 =>
    show gd.start (ix3 b p q) idx 1 + gd.batchCoord (ix3 b p q) 1 + gd.offCoord (ix3 b p q) 1 = p.val
    rw [gd.batchCoord_eq_zero _ _ List.not_mem_nil]
    have e0 : gd.start (ix3 b p q) idx 1 = 0 := dif_neg (by show (1 : Fin 3) ∉ [(0 : Fin 3)]; decide)
    have e1 : gd.offCoord (ix3 b p q) 1 = p.val := rfl
    rw [e0, e1]; omega
  | 2 =>
    show gd.start (ix3 b p q) idx 2 + gd.batchCoord (ix3 b p q) 2 + gd.offCoord (ix3 b p q) 2 = q.val
    rw [gd.batchCoord_eq_zero _ _ List.not_mem_nil]
    have e0 : gd.start (ix3 b p q) idx 2 = 0 := dif_neg (by show (2 : Fin 3) ∉ [(0 : Fin 3)]; decide)
    have e1 : gd.offCoord (ix3 b p q) 2 = q.val := rfl
    rw [e0, e1]; omega

/-- Entry `(b, p, q)` of the gathered tables is entry `(p, q)` of the table that entry `(b, 0)` of the indices names. -/
theorem gather_out_b {α : Type} (x : S8x1x1024.Idx → α) (idx : IVec S16x1 32) (b : Fin 16) (p : Fin 1) (q : Fin 1024)
    (h : (idx (ix2 b (0 : Fin 1))).toNat < 8) :
    Host.gather gather_S8x1x1024_S16x1_S16x1x1024_12_0_n_n_0_1_111024 x idx (ix3 b p q) = x (ix3 ⟨(idx (ix2 b (0 : Fin 1))).toNat, h⟩ p q) := by
  let gd := gather_S8x1x1024_S16x1_S16x1x1024_12_0_n_n_0_1_111024
  refine congrArg x (funext fun a => Fin.ext ?_)
  match a with
  | 0 =>
    show gd.start (ix3 b p q) idx 0 + gd.batchCoord (ix3 b p q) 0 + gd.offCoord (ix3 b p q) 0 = _
    rw [gd.batchCoord_eq_zero _ _ List.not_mem_nil, gd.offCoord_eq_zero _ _ fun h => ((gd.mem_sKept 0).1 h).1 (List.mem_singleton.2 rfl)]
    refine Eq.trans ?_ (clamp_word (w := idx (ix2 b (0 : Fin 1))) (n := 8) (by decide) h)
    have hs : gd.siIdx (ix3 b p q) ⟨0, Nat.zero_lt_one⟩ = ix2 b (0 : Fin 1) := by
      funext d
      match d with
      | 0 => rfl
      | 1 => rfl
    rw [← hs]; rfl
  | 1 =>
    show gd.start (ix3 b p q) idx 1 + gd.batchCoord (ix3 b p q) 1 + gd.offCoord (ix3 b p q) 1 = p.val
    rw [gd.batchCoord_eq_zero _ _ List.not_mem_nil]
    have e0 : gd.start (ix3 b p q) idx 1 = 0 := dif_neg (by show (1 : Fin 3) ∉ [(0 : Fin 3)]; decide)
    have e1 : gd.offCoord (ix3 b p q) 1 = p.val := rfl
    rw [e0, e1]; omega
  | 2 =>
    show gd.start (ix3 b p q) idx 2 + gd.batchCoord (ix3 b p q) 2 + gd.offCoord (ix3 b p q) 2 = q.val
    rw [gd.batchCoord_eq_zero _ _ List.not_mem_nil]
    have e0 : gd.start (ix3 b p q) idx 2 = 0 := dif_neg (by show (2 : Fin 3) ∉ [(0 : Fin 3)]; decide)
    have e1 : gd.offCoord (ix3 b p q) 2 = q.val := rfl
    rw [e0, e1]; omega

/-! ## The reference's parts -/

/-- The experts of the first sixteen blocks. -/
def expR (e : IVec S32 32) : IVec S16x1 32 := broadcastInDim S16x1 ![0] bcast_S16_S16x1_0 (extractStridedSlice S16 ![0] e slices_S32_S16_0)

theorem expR_apply (e : IVec S32 32) (b : Fin 16) : expR e (ix2 b (0 : Fin 1)) = e (ix1 ⟨b.val, by omega⟩) := by
  pointwise [expR]

/-- The tokens of the slots, block by block. -/
def tokR (s : IVec S8192x1 32) : IVec S16x512x1 32 := broadcastInDim S16x512x1 ![0, 1] bcast_S16x512_S16x512x1_0_1 (shapeCast _ s shapeCasts_S8192x1_S16x512)

/-- The slot that row `j` of block `b` is. -/
def slot (b : Fin 16) (j : Fin 512) : Fin 8192 := ⟨512 * b.val + j.val, by omega⟩

theorem tokR_apply (s : IVec S8192x1 32) (b : Fin 16) (j : Fin 512) : tokR s (ix3 b j (0 : Fin 1)) = s (ix2 (slot b j) (0 : Fin 1)) := by
  pointwise [tokR, slot]
  refine congrArg s (congrArg (ix2 · (0 : Fin 1)) (Fin.ext ?_))
  show b.val * 512 + j.val = 512 * b.val + j.val
  omega

/-- The rows of the slots' tokens. -/
def rowsR (x : FVec Ideal S2048x1024 .bf16) (s : IVec S8192x1 32) : FVec Ideal S16x512x1024 .f32 :=
  extf .f32 (Host.gather gather_S2048x1024_S16x512x1_S16x512x1024_2_0_n_n_0_2_11024 x (tokR s)) bitsLt_bf16_f32

theorem rowsR_apply (x : FVec Ideal S2048x1024 .bf16) (s : IVec S8192x1 32) (b : Fin 16) (j : Fin 512) (c : Fin 1024) (h : (s (ix2 (slot b j) (0 : Fin 1))).toNat < 2048) :
    rowsR x s (ix3 b j c) = x (ix2 ⟨(s (ix2 (slot b j) (0 : Fin 1))).toNat, h⟩ c) := by
  have e := tokR_apply s b j
  show Host.gather gather_S2048x1024_S16x512x1_S16x512x1024_2_0_n_n_0_2_11024 x (tokR s) (ix3 b j c) = _
  rw [gather_rows x (tokR s) b j c (by rw [e]; exact h)]
  congr 3
  rw [e]

/-- A product into the hidden layer, with its bias. -/
def hidR (x : FVec Ideal S2048x1024 .bf16) (s : IVec S8192x1 32) (e : IVec S32 32) (w : FVec Ideal S8x1024x2736 .f32) (v : FVec Ideal S8x1x2736 .f32) : FVec Ideal S16x512x2736 .f32 :=
  addf (Host.dotGeneral dot_S16x512x1024_S16x1024x2736_S16x512x2736_2_1_1_2_0_0 none (rowsR x s) (Host.gather gather_S8x1024x2736_S16x1_S16x1024x2736_12_0_n_n_0_1_110242736 w (expR e)))
    (broadcastInDim S16x512x2736 ![0, 1, 2] bcast_S16x1x2736_S16x512x2736_0_1_2 (Host.gather gather_S8x1x2736_S16x1_S16x1x2736_12_0_n_n_0_1_112736 v (expR e)))

/-- One entry of it: the row's product with the expert's column, and the bias. -/
def hid (x : FVec Ideal S2048x1024 .bf16) (w : FVec Ideal S8x1024x2736 .f32) (v : FVec Ideal S8x1x2736 .f32) (t : Fin 2048) (E : Fin 8) (l : Fin 2736) : EReal :=
  ∑ k : Fin 1024, x (ix2 t k) * w (ix3 E k l) + v (ix3 E (0 : Fin 1) l)

theorem hidR_apply (x : FVec Ideal S2048x1024 .bf16) (s : IVec S8192x1 32) (e : IVec S32 32) (w : FVec Ideal S8x1024x2736 .f32) (v : FVec Ideal S8x1x2736 .f32)
    (b : Fin 16) (j : Fin 512) (l : Fin 2736) (h : (s (ix2 (slot b j) (0 : Fin 1))).toNat < 2048) (hE : (e (ix1 ⟨b.val, by omega⟩)).toNat < 8) :
    hidR x s e w v (ix3 b j l) = hid x w v ⟨(s (ix2 (slot b j) (0 : Fin 1))).toNat, h⟩ ⟨(e (ix1 ⟨b.val, by omega⟩)).toNat, hE⟩ l := by
  have ee := expR_apply e b
  have hE' : (expR e (ix2 b (0 : Fin 1))).toNat < 8 := by rw [ee]; exact hE
  pointwise [hidR, hid]
  simp only [rowsR_apply x s b j _ h]
  rw [gather_in_b v (expR e) b 0 l hE']
  simp only [gather_in_w w (expR e) b _ l hE']
  simp only [ee]

/-- What the reference computes. -/
def refT (e : IVec S32 32) (x : FVec Ideal S2048x1024 .bf16) (s : IVec S8192x1 32) (wg : FVec Ideal S8x1024x2736 .f32) (bg : FVec Ideal S8x1x2736 .f32)
    (w1 : FVec Ideal S8x1024x2736 .f32) (b1 : FVec Ideal S8x1x2736 .f32) (w2 : FVec Ideal S8x2736x1024 .f32) (b2 : FVec Ideal S8x1x1024 .f32) (a : FVec Ideal S8192x1 .f32) : FVec Ideal S8192x1024 .f32 :=
  mulf (broadcastInDim S8192x1024 ![0, 1] bcast_S8192x1_S8192x1024_0_1 a)
    (shapeCast _ (addf (Host.dotGeneral dot_S16x512x2736_S16x2736x1024_S16x512x1024_2_1_1_2_0_0 none
      (mulf (mulf (hidR x s e wg bg) (Host.divf (broadcastInDim S16x512x2736 ![] bcast_S_S16x512x2736 (constant S_ .f32 0x3F800000#32))
        (addf (broadcastInDim S16x512x2736 ![] bcast_S_S16x512x2736 (constant S_ .f32 0x3F800000#32)) (Host.exp (Host.negf (hidR x s e wg bg)))))) (hidR x s e w1 b1))
      (Host.gather gather_S8x2736x1024_S16x1_S16x2736x1024_12_0_n_n_0_1_127361024 w2 (expR e)))
      (broadcastInDim S16x512x1024 ![0, 1, 2] bcast_S16x1x1024_S16x512x1024_0_1_2 (Host.gather gather_S8x1x1024_S16x1_S16x1x1024_12_0_n_n_0_1_111024 b2 (expR e)))) shapeCasts_S16x512x1024_S8192x1024)

/-- One entry of it: the token's gated product through the expert's hidden layer. -/
def out (x : FVec Ideal S2048x1024 .bf16) (wg : FVec Ideal S8x1024x2736 .f32) (bg : FVec Ideal S8x1x2736 .f32)
    (w1 : FVec Ideal S8x1024x2736 .f32) (b1 : FVec Ideal S8x1x2736 .f32) (w2 : FVec Ideal S8x2736x1024 .f32) (b2 : FVec Ideal S8x1x1024 .f32) (t : Fin 2048) (E : Fin 8) (c : Fin 1024) : EReal :=
  ∑ l : Fin 2736, hid x wg bg t E l * Ideal.logistic (hid x wg bg t E l) * hid x w1 b1 t E l * w2 (ix3 E l c) + b2 (ix3 E (0 : Fin 1) c)

/-- The index of row `j` of block `b` in the array of rows, counted through. -/
theorem unblock {α : Type} (y : S16x512x1024.Idx → α) (b : Fin 16) (j : Fin 512) (c : Fin 1024) :
    shapeCast S8192x1024 y shapeCasts_S16x512x1024_S8192x1024 (ix2 (slot b j) c) = y (ix3 b j c) := by
  pointwise [slot]

theorem refT_apply (e : IVec S32 32) (x : FVec Ideal S2048x1024 .bf16) (s : IVec S8192x1 32) (wg : FVec Ideal S8x1024x2736 .f32) (bg : FVec Ideal S8x1x2736 .f32)
    (w1 : FVec Ideal S8x1024x2736 .f32) (b1 : FVec Ideal S8x1x2736 .f32) (w2 : FVec Ideal S8x2736x1024 .f32) (b2 : FVec Ideal S8x1x1024 .f32) (a : FVec Ideal S8192x1 .f32)
    (b : Fin 16) (j : Fin 512) (c : Fin 1024) (h : (s (ix2 (slot b j) (0 : Fin 1))).toNat < 2048) (hE : (e (ix1 ⟨b.val, by omega⟩)).toNat < 8) :
    refT e x s wg bg w1 b1 w2 b2 a (ix2 (slot b j) c)
      = a (ix2 (slot b j) (0 : Fin 1)) * out x wg bg w1 b1 w2 b2 ⟨(s (ix2 (slot b j) (0 : Fin 1))).toNat, h⟩ ⟨(e (ix1 ⟨b.val, by omega⟩)).toNat, hE⟩ c := by
  have ee := expR_apply e b
  have hE' : (expR e (ix2 b (0 : Fin 1))).toNat < 8 := by rw [ee]; exact hE
  unfold refT
  rw [mulf_apply, unblock]
  pointwise [out]
  simp only [hidR_apply x s e wg bg b j _ h hE, hidR_apply x s e w1 b1 b j _ h hE, gather_out_w w2 (expR e) b _ c hE', gather_out_b b2 (expR e) b 0 c hE', ee]
  rfl

end Cert.Proof.FfnValue

end
-- ==== Proof.Ffn.Math.lean ====
/-
  The feed-forward in pieces: the row's product in two halves, the hidden layer in three thirds, and the gate taken
  in under the sum.
-/
module

public import proofs.«01_k».proof.Proof.Ffn.Pays
public import proofs.«01_k».proof.Proof.Ffn.Reading

@[expose] public section

noncomputable section

namespace Cert.Proof.FfnValue

open Idealize.ShloMosaic

/-- A column of a row's half. -/
def row (p : Fin 2) (k : Fin 512) : Fin 1024 := ⟨512 * p.val + k.val, by omega⟩

theorem sum_halves (f : Fin 1024 → EReal) : ∑ k, f k = ∑ k, f (row 0 k) + ∑ k, f (row 1 k) := by
  rw [show (∑ k, f k) = _ from Fin.sum_univ_add (a := 512) (b := 512) f]
  refine congrArg₂ (· + ·) (Finset.sum_congr rfl fun k _ => congrArg f (Fin.ext ?_)) (Finset.sum_congr rfl fun k _ => congrArg f (Fin.ext ?_))
  · show k.val = 512 * 0 + k.val
    omega
  · show 512 + k.val = 512 * 1 + k.val
    omega

theorem sum_thirds (f : Fin 2736 → EReal) : ∑ k, f k = ∑ k, f (col 0 k) + ∑ k, f (col 1 k) + ∑ k, f (col 2 k) := by
  rw [show (∑ k, f k) = _ from Fin.sum_univ_add (a := 1824) (b := 912) f, show (∑ k : Fin 1824, f (Fin.castAdd 912 k)) = _ from Fin.sum_univ_add (a := 912) (b := 912) fun k => f (Fin.castAdd 912 k)]
  refine congrArg₂ (· + ·) (congrArg₂ (· + ·) (Finset.sum_congr rfl fun k _ => congrArg f (Fin.ext ?_)) (Finset.sum_congr rfl fun k _ => congrArg f (Fin.ext ?_)))
    (Finset.sum_congr rfl fun k _ => congrArg f (Fin.ext ?_))
  · show k.val = 912 * 0 + k.val
    omega
  · show 912 + k.val = 912 * 1 + k.val
    omega
  · show 1824 + k.val = 912 * 2 + k.val
    omega

/-- A factor that is neither negative nor infinite goes into a sum. -/
theorem mul_sum_gate {n : Nat} {s : EReal} (h0 : 0 ≤ s) (h1 : s ≠ ⊤) (f : Fin n → EReal) : s * ∑ k, f k = ∑ k, s * f k := by
  classical
  have : ∀ A : Finset (Fin n), s * ∑ k ∈ A, f k = ∑ k ∈ A, s * f k := by
    intro A
    induction A using Finset.induction_on with
    | empty => simp
    | insert a A ha ih => rw [Finset.sum_insert ha, Finset.sum_insert ha, EReal.left_distrib_of_nonneg_of_ne_top h0 h1, ih]
  exact this _

/-- The sum by thirds, the gate in each term and the bias after the first. -/
theorem gated_thirds {s : EReal} (h0 : 0 ≤ s) (h1 : s ≠ ⊤) (g q u w : Fin 2736 → EReal) (b : EReal) :
    ((∑ k, s * (g (col 0 k) * q (col 0 k)) * u (col 0 k) * w (col 0 k) + s * b) + ∑ k, s * (g (col 1 k) * q (col 1 k)) * u (col 1 k) * w (col 1 k))
        + ∑ k, s * (g (col 2 k) * q (col 2 k)) * u (col 2 k) * w (col 2 k)
      = s * (∑ l, g l * q l * u l * w l + b) := by
  rw [EReal.left_distrib_of_nonneg_of_ne_top h0 h1, mul_sum_gate h0 h1, sum_thirds]
  have e : ∀ l, s * (g l * q l) * u l * w l = s * (g l * q l * u l * w l) := fun l => by simp only [mul_assoc]
  simp only [e]
  abel

end Cert.Proof.FfnValue

end
-- ==== Proof.Ffn.Blocks.lean ====
/-
  What each input's block holds at a point of a block in use: the entry of the input it was fetched from.
-/
module

public import proofs.«01_k».proof.Proof.Ffn.Data
public import proofs.«01_k».proof.Proof.Ffn.Math

@[expose] public section

set_option maxRecDepth 16384

noncomputable section

namespace Cert.Proof.FfnValue

open Cert.FfnIdeal Cert.FfnIdeal.Gen
open Idealize.ShloMosaic Idealize.ShloMosaic.TcCoe

variable (m : (ℓ : Loc nD τ sig) → Buf (Elt Ideal) ℓ)
variable {L : ℕ} (T : Ffn.Tab m L)

section

variable (c : Dev nD) (t : Fin grid0.N) {b : Fin 16} (hb : t.val / 5 = b.val) (hL : b.val ≤ L)
  {E : Fin 8} (hE : (Ffn.word (Ffn.tE m) (grid0.coords t)).toNat = E.val)

include hb hL in
theorem half_no {p : Fin 2} (hp : t.val % 5 = p.val) : Ffn.halfNo L (grid0.coords t) = p.val := by
  unfold Ffn.halfNo
  rw [Ffn.coord0, Ffn.coord1, if_pos (by omega)]
  omega

include hb hL in
theorem third_no {p : Fin 3} (hp : t.val % 5 = p.val + 2) : Ffn.thirdNo L (grid0.coords t) = p.val := by
  unfold Ffn.thirdNo
  rw [Ffn.coord0, Ffn.coord1, if_pos (by omega)]
  omega

include hb hL in
theorem blk1_apply (j : Fin 512) : Ffn.blk1 m T c t (ix2 j 0) = Ffn.V m c main_arg4 (ix2 (slot b j) 0) := by
  have e : ∀ a, cc0_transform_1 k0_off1_inb numel1_S1 (Ffn.pf m) (grid0.coords t) a = (![min (t.val / 5) L, 0] : Fin 2 → ℕ) a := fun a => by
    rw [Ffn.ix1 m T, Ffn.coord0]
  show Ffn.V m c main_arg4 ((((Ffn.pcfg m T).win 1).blk t).view.emb (ix2 j 0)) = _
  refine congrArg (Ffn.V m c main_arg4) (funext fun a => Fin.ext ?_)
  match a with
  | ⟨0, _⟩ =>
    show cc0_transform_1 k0_off1_inb numel1_S1 (Ffn.pf m) (grid0.coords t) (0 : Fin 2) * 512 + 1 * j.val = 512 * b.val + j.val
    rw [e]
    show min (t.val / 5) L * 512 + 1 * j.val = 512 * b.val + j.val
    omega
  | ⟨1, _⟩ =>
    show cc0_transform_1 k0_off1_inb numel1_S1 (Ffn.pf m) (grid0.coords t) (1 : Fin 2) * 1 + 1 * 0 = 0
    rw [e]
    show 0 * 1 + 1 * 0 = 0
    rfl

include hb hL in
theorem blk8_apply (j : Fin 512) : Ffn.blk8 m T c t (ix2 j 0) = Ffn.V m c main_arg11 (ix2 (slot b j) 0) := by
  have e : ∀ a, cc0_transform_8 k0_off1_inb numel1_S1 (Ffn.pf m) (grid0.coords t) a = (![min (t.val / 5) L, 0] : Fin 2 → ℕ) a := fun a => by
    rw [Ffn.ix8 m T, Ffn.coord0]
  show Ffn.V m c main_arg11 ((((Ffn.pcfg m T).win 8).blk t).view.emb (ix2 j 0)) = _
  refine congrArg (Ffn.V m c main_arg11) (funext fun a => Fin.ext ?_)
  match a with
  | ⟨0, _⟩ =>
    show cc0_transform_8 k0_off1_inb numel1_S1 (Ffn.pf m) (grid0.coords t) (0 : Fin 2) * 512 + 1 * j.val = 512 * b.val + j.val
    rw [e]
    show min (t.val / 5) L * 512 + 1 * j.val = 512 * b.val + j.val
    omega
  | ⟨1, _⟩ =>
    show cc0_transform_8 k0_off1_inb numel1_S1 (Ffn.pf m) (grid0.coords t) (1 : Fin 2) * 1 + 1 * 0 = 0
    rw [e]
    show 0 * 1 + 1 * 0 = 0
    rfl

include hb hL hE in
theorem blk2_apply {p : Fin 2} (hp : t.val % 5 = p.val) (k : Fin 512) (l : Fin 2736) : Ffn.blk2 m T c t (ix3 0 k l) = Ffn.V m c main_arg5 (ix3 E (row p k) l) := by
  have e : ∀ a, cc0_transform_2 k0_off1_inb numel1_S1 (Ffn.pf m) (grid0.coords t) a = (![E.val, p.val, 0] : Fin 3 → ℕ) a := fun a => by
    rw [Ffn.ix2 m T, hE, half_no (L := L) t hb hL hp]
  show Ffn.V m c main_arg5 ((((Ffn.pcfg m T).win 2).blk t).view.emb (ix3 0 k l)) = _
  refine congrArg (Ffn.V m c main_arg5) (funext fun a => Fin.ext ?_)
  match a with
  | ⟨0, _⟩ =>
    show cc0_transform_2 k0_off1_inb numel1_S1 (Ffn.pf m) (grid0.coords t) (0 : Fin 3) * 1 + 1 * 0 = E.val
    rw [e]
    show E.val * 1 + 1 * 0 = E.val
    omega
  | ⟨1, _⟩ =>
    show cc0_transform_2 k0_off1_inb numel1_S1 (Ffn.pf m) (grid0.coords t) (1 : Fin 3) * 512 + 1 * k.val = 512 * p.val + k.val
    rw [e]
    show p.val * 512 + 1 * k.val = 512 * p.val + k.val
    omega
  | ⟨2, _⟩ =>
    show cc0_transform_2 k0_off1_inb numel1_S1 (Ffn.pf m) (grid0.coords t) (2 : Fin 3) * 2736 + 1 * l.val = l.val
    rw [e]
    show 0 * 2736 + 1 * l.val = l.val
    omega

include hb hL hE in
theorem blk4_apply {p : Fin 2} (hp : t.val % 5 = p.val) (k : Fin 512) (l : Fin 2736) : Ffn.blk4 m T c t (ix3 0 k l) = Ffn.V m c main_arg7 (ix3 E (row p k) l) := by
  have e : ∀ a, cc0_transform_4 k0_off1_inb numel1_S1 (Ffn.pf m) (grid0.coords t) a = (![E.val, p.val, 0] : Fin 3 → ℕ) a := fun a => by
    rw [Ffn.ix4 m T, hE, half_no (L := L) t hb hL hp]
  show Ffn.V m c main_arg7 ((((Ffn.pcfg m T).win 4).blk t).view.emb (ix3 0 k l)) = _
  refine congrArg (Ffn.V m c main_arg7) (funext fun a => Fin.ext ?_)
  match a with
  | ⟨0, _⟩ =>
    show cc0_transform_4 k0_off1_inb numel1_S1 (Ffn.pf m) (grid0.coords t) (0 : Fin 3) * 1 + 1 * 0 = E.val
    rw [e]
    show E.val * 1 + 1 * 0 = E.val
    omega
  | ⟨1, _⟩ =>
    show cc0_transform_4 k0_off1_inb numel1_S1 (Ffn.pf m) (grid0.coords t) (1 : Fin 3) * 512 + 1 * k.val = 512 * p.val + k.val
    rw [e]
    show p.val * 512 + 1 * k.val = 512 * p.val + k.val
    omega
  | ⟨2, _⟩ =>
    show cc0_transform_4 k0_off1_inb numel1_S1 (Ffn.pf m) (grid0.coords t) (2 : Fin 3) * 2736 + 1 * l.val = l.val
    rw [e]
    show 0 * 2736 + 1 * l.val = l.val
    omega

include hb hL hE in
theorem blk6_apply {p : Fin 3} (hp : t.val % 5 = p.val + 2) (k : Fin 912) (d : Fin 1024) : Ffn.blk6 m T c t (ix3 0 k d) = Ffn.V m c main_arg9 (ix3 E (col p k) d) := by
  have e : ∀ a, cc0_transform_6 k0_off1_inb numel1_S1 (Ffn.pf m) (grid0.coords t) a = (![E.val, p.val, 0] : Fin 3 → ℕ) a := fun a => by
    rw [Ffn.ix6 m T, hE, third_no (L := L) t hb hL hp]
  show Ffn.V m c main_arg9 ((((Ffn.pcfg m T).win 6).blk t).view.emb (ix3 0 k d)) = _
  refine congrArg (Ffn.V m c main_arg9) (funext fun a => Fin.ext ?_)
  match a with
  | ⟨0, _⟩ =>
    show cc0_transform_6 k0_off1_inb numel1_S1 (Ffn.pf m) (grid0.coords t) (0 : Fin 3) * 1 + 1 * 0 = E.val
    rw [e]
    show E.val * 1 + 1 * 0 = E.val
    omega
  | ⟨1, _⟩ =>
    show cc0_transform_6 k0_off1_inb numel1_S1 (Ffn.pf m) (grid0.coords t) (1 : Fin 3) * 912 + 1 * k.val = 912 * p.val + k.val
    rw [e]
    show p.val * 912 + 1 * k.val = 912 * p.val + k.val
    omega
  | ⟨2, _⟩ =>
    show cc0_transform_6 k0_off1_inb numel1_S1 (Ffn.pf m) (grid0.coords t) (2 : Fin 3) * 1024 + 1 * d.val = d.val
    rw [e]
    show 0 * 1024 + 1 * d.val = d.val
    omega

include hE in
theorem blk3_apply (l : Fin 2736) : Ffn.blk3 m T c t (ix3 0 0 l) = Ffn.V m c main_arg6 (ix3 E 0 l) := by
  have e : ∀ a, cc0_transform_3 k0_off1_inb numel1_S1 (Ffn.pf m) (grid0.coords t) a = (![E.val, 0, 0] : Fin 3 → ℕ) a := fun a => by
    rw [Ffn.ix3 m, hE]
  show Ffn.V m c main_arg6 ((((Ffn.pcfg m T).win 3).blk t).view.emb (ix3 0 0 l)) = _
  refine congrArg (Ffn.V m c main_arg6) (funext fun a => Fin.ext ?_)
  match a with
  | ⟨0, _⟩ =>
    show cc0_transform_3 k0_off1_inb numel1_S1 (Ffn.pf m) (grid0.coords t) (0 : Fin 3) * 1 + 1 * 0 = E.val
    rw [e]
    show E.val * 1 + 1 * 0 = E.val
    omega
  | ⟨1, _⟩ =>
    show cc0_transform_3 k0_off1_inb numel1_S1 (Ffn.pf m) (grid0.coords t) (1 : Fin 3) * 1 + 1 * 0 = 0
    rw [e]
    show 0 * 1 + 1 * 0 = 0
    rfl
  | ⟨2, _⟩ =>
    show cc0_transform_3 k0_off1_inb numel1_S1 (Ffn.pf m) (grid0.coords t) (2 : Fin 3) * 2736 + 1 * l.val = l.val
    rw [e]
    show 0 * 2736 + 1 * l.val = l.val
    omega

include hE in
theorem blk5_apply (l : Fin 2736) : Ffn.blk5 m T c t (ix3 0 0 l) = Ffn.V m c main_arg8 (ix3 E 0 l) := by
  have e : ∀ a, cc0_transform_5 k0_off1_inb numel1_S1 (Ffn.pf m) (grid0.coords t) a = (![E.val, 0, 0] : Fin 3 → ℕ) a := fun a => by
    rw [Ffn.ix5 m, hE]
  show Ffn.V m c main_arg8 ((((Ffn.pcfg m T).win 5).blk t).view.emb (ix3 0 0 l)) = _
  refine congrArg (Ffn.V m c main_arg8) (funext fun a => Fin.ext ?_)
  match a with
  | ⟨0, _⟩ =>
    show cc0_transform_5 k0_off1_inb numel1_S1 (Ffn.pf m) (grid0.coords t) (0 : Fin 3) * 1 + 1 * 0 = E.val
    rw [e]
    show E.val * 1 + 1 * 0 = E.val
    omega
  | ⟨1, _⟩ =>
    show cc0_transform_5 k0_off1_inb numel1_S1 (Ffn.pf m) (grid0.coords t) (1 : Fin 3) * 1 + 1 * 0 = 0
    rw [e]
    show 0 * 1 + 1 * 0 = 0
    rfl
  | ⟨2, _⟩ =>
    show cc0_transform_5 k0_off1_inb numel1_S1 (Ffn.pf m) (grid0.coords t) (2 : Fin 3) * 2736 + 1 * l.val = l.val
    rw [e]
    show 0 * 2736 + 1 * l.val = l.val
    omega

include hE in
theorem blk7_apply (l : Fin 1024) : Ffn.blk7 m T c t (ix3 0 0 l) = Ffn.V m c main_arg10 (ix3 E 0 l) := by
  have e : ∀ a, cc0_transform_7 k0_off1_inb numel1_S1 (Ffn.pf m) (grid0.coords t) a = (![E.val, 0, 0] : Fin 3 → ℕ) a := fun a => by
    rw [Ffn.ix7 m, hE]
  show Ffn.V m c main_arg10 ((((Ffn.pcfg m T).win 7).blk t).view.emb (ix3 0 0 l)) = _
  refine congrArg (Ffn.V m c main_arg10) (funext fun a => Fin.ext ?_)
  match a with
  | ⟨0, _⟩ =>
    show cc0_transform_7 k0_off1_inb numel1_S1 (Ffn.pf m) (grid0.coords t) (0 : Fin 3) * 1 + 1 * 0 = E.val
    rw [e]
    show E.val * 1 + 1 * 0 = E.val
    omega
  | ⟨1, _⟩ =>
    show cc0_transform_7 k0_off1_inb numel1_S1 (Ffn.pf m) (grid0.coords t) (1 : Fin 3) * 1 + 1 * 0 = 0
    rw [e]
    show 0 * 1 + 1 * 0 = 0
    rfl
  | ⟨2, _⟩ =>
    show cc0_transform_7 k0_off1_inb numel1_S1 (Ffn.pf m) (grid0.coords t) (2 : Fin 3) * 1024 + 1 * l.val = l.val
    rw [e]
    show 0 * 1024 + 1 * l.val = l.val
    omega

theorem blk0_apply (r : Fin 2048) (d : Fin 1024) : Ffn.blk0 m T c t (ix2 r d) = Ffn.V m c main_arg3 (ix2 r d) := by
  have e : ∀ a, cc0_transform_0 (grid0.coords t) a = (![0, 0] : Fin 2 → ℕ) a := fun a => rfl
  show Ffn.V m c main_arg3 ((((Ffn.pcfg m T).win 0).blk t).view.emb (ix2 r d)) = _
  refine congrArg (Ffn.V m c main_arg3) (funext fun a => Fin.ext ?_)
  match a with
  | ⟨0, _⟩ =>
    show cc0_transform_0 (grid0.coords t) (0 : Fin 2) * 2048 + 1 * r.val = r.val
    rw [e]
    show 0 * 2048 + 1 * r.val = r.val
    omega
  | ⟨1, _⟩ =>
    show cc0_transform_0 (grid0.coords t) (1 : Fin 2) * 1024 + 1 * d.val = d.val
    rw [e]
    show 0 * 1024 + 1 * d.val = d.val
    omega

end

end Cert.Proof.FfnValue

end
-- ==== Proof.Ffn.Parts.lean ====
/-
  The halves of the rows and the thirds of the hidden units, entry by entry.
-/
module

public import proofs.«01_k».proof.Proof.Ffn.Blocks

@[expose] public section

set_option maxRecDepth 16384

noncomputable section

namespace Cert.Proof.FfnValue

open Cert.FfnIdeal Cert.FfnIdeal.Gen
open Idealize.ShloMosaic Idealize.ShloMosaic.TcCoe

theorem off2_word (q : Fin 5) : (Scalar.indexCast (Scalar.muli (BitVec.ofNat 32 q.val) 512#32) : BitVec 32).toNat = 512 * q.val := by
  revert q; decide
theorem off3_word (q : Fin 5) (h : 2 ≤ q.val) : (Scalar.indexCast (Scalar.subi (BitVec.ofNat 32 q.val) 2#32) : BitVec 32).toNat = q.val - 2 := by
  revert q; decide

theorem half_apply (xs : Vec Ideal S512x1024 .f32) (i : grid0.Coords) (h : k0_cond3 i = 1#1) {p : Fin 2} (hp : (i 1).val = p.val) (r : Fin 512) (k : Fin 512) :
    Ffn.half xs i h (ix2 r k) = xs (ix2 r (row p k)) := by
  refine congrArg xs (funext fun a => Fin.ext ?_)
  match a with
  | ⟨0, _⟩ => show 0 + 1 * r.val = r.val; omega
  | ⟨1, _⟩ =>
    show (Scalar.indexCast (Scalar.muli (BitVec.ofNat 32 (i 1).val) 512#32) : BitVec 32).toNat + 1 * k.val = 512 * p.val + k.val
    rw [off2_word (i 1), hp]; omega

theorem third_apply (g : Vec Ideal S3x512x912 .f32) (i : grid0.Coords) (h : k0_cond10 i = 1#1) {p : Fin 3} (hp : (i 1).val = p.val + 2) (r : Fin 512) (l : Fin 912) :
    Ffn.third g i h (ix3 0 r l) = g (ix3 p r l) := by
  refine congrArg g (funext fun a => Fin.ext ?_)
  match a with
  | ⟨0, _⟩ =>
    show (Scalar.indexCast (Scalar.subi (BitVec.ofNat 32 (i 1).val) 2#32) : BitVec 32).toNat + 1 * 0 = p.val
    rw [off3_word (i 1) (by omega), hp]; omega
  | ⟨1, _⟩ => show 0 + 1 * r.val = r.val; omega
  | ⟨2, _⟩ => show 0 + 1 * l.val = l.val; omega

theorem slab0_apply (g : Vec Ideal S3x512x912 .f32) (r : Fin 512) (l : Fin 912) : Ffn.slab0 g (ix3 0 r l) = g (ix3 0 r l) := by
  refine congrArg g (funext fun a => Fin.ext ?_)
  match a with
  | ⟨0, _⟩ => rfl
  | ⟨1, _⟩ => show 0 + 1 * r.val = r.val; omega
  | ⟨2, _⟩ => show 0 + 1 * l.val = l.val; omega
theorem slab1_apply (g : Vec Ideal S3x512x912 .f32) (r : Fin 512) (l : Fin 912) : Ffn.slab1 g (ix3 0 r l) = g (ix3 1 r l) := by
  refine congrArg g (funext fun a => Fin.ext ?_)
  match a with
  | ⟨0, _⟩ => rfl
  | ⟨1, _⟩ => show 0 + 1 * r.val = r.val; omega
  | ⟨2, _⟩ => show 0 + 1 * l.val = l.val; omega
theorem slab2_apply (g : Vec Ideal S3x512x912 .f32) (r : Fin 512) (l : Fin 912) : Ffn.slab2 g (ix3 0 r l) = g (ix3 2 r l) := by
  refine congrArg g (funext fun a => Fin.ext ?_)
  match a with
  | ⟨0, _⟩ => rfl
  | ⟨1, _⟩ => show 0 + 1 * r.val = r.val; omega
  | ⟨2, _⟩ => show 0 + 1 * l.val = l.val; omega

variable (g : Vec Ideal S3x512x912 .f32) (a b d : Vec Ideal S1x512x912 .f32) (r : Fin 512) (l : Fin 912)

theorem slabs0 : Ffn.slabs g a b d (ix3 0 r l) = a (ix3 0 r l) := by
  refine (slab0_apply _ r l).symm.trans ?_
  unfold Ffn.slab0 Ffn.slabs
  rw [VecWindow.window_put_of_disjoint (a := 0) (ha := .inl (by decide)), VecWindow.window_put_of_disjoint (a := 0) (ha := .inl (by decide)), VecWindow.window_put_same]
theorem slabs1 : Ffn.slabs g a b d (ix3 1 r l) = b (ix3 0 r l) := by
  refine (slab1_apply _ r l).symm.trans ?_
  unfold Ffn.slab1 Ffn.slabs
  rw [VecWindow.window_put_of_disjoint (a := 0) (ha := .inl (by decide)), VecWindow.window_put_same]
theorem slabs2 : Ffn.slabs g a b d (ix3 2 r l) = d (ix3 0 r l) := by
  refine (slab2_apply _ r l).symm.trans ?_
  unfold Ffn.slab2 Ffn.slabs
  rw [VecWindow.window_put_same]

end Cert.Proof.FfnValue

end
-- ==== Proof.Ffn.Value.lean ====
/-
  What the feed-forward kernel has of a block after the block's five points: each row the expert's feed-forward of its token, times its gate.
-/
module

public import proofs.«01_k».proof.Proof.Ffn.Parts

@[expose] public section

set_option maxRecDepth 16384

noncomputable section

namespace Cert.Proof.FfnValue

open Cert.FfnIdeal Cert.FfnIdeal.Gen
open Idealize.ShloMosaic Idealize.ShloMosaic.TcCoe

variable (m : (ℓ : Loc nD τ sig) → Buf (Elt Ideal) ℓ)
variable {L : ℕ} (T : Ffn.Tab m L)

/-- The tokens. -/
abbrev aX (c : Dev nD) : FVec Ideal Cert.FfnReferenceIdeal.S2048x1024 .bf16 := Ffn.V m c main_arg3
/-- The first product's weights. -/
abbrev aG (c : Dev nD) : FVec Ideal Cert.FfnReferenceIdeal.S8x1024x2736 .f32 := Ffn.V m c main_arg5
/-- The first product's bias. -/
abbrev aGb (c : Dev nD) : FVec Ideal Cert.FfnReferenceIdeal.S8x1x2736 .f32 := Ffn.V m c main_arg6
/-- The second product's weights. -/
abbrev aU (c : Dev nD) : FVec Ideal Cert.FfnReferenceIdeal.S8x1024x2736 .f32 := Ffn.V m c main_arg7
/-- The second product's bias. -/
abbrev aUb (c : Dev nD) : FVec Ideal Cert.FfnReferenceIdeal.S8x1x2736 .f32 := Ffn.V m c main_arg8
/-- The last product's weights. -/
abbrev aD (c : Dev nD) : FVec Ideal Cert.FfnReferenceIdeal.S8x2736x1024 .f32 := Ffn.V m c main_arg9
/-- The last product's bias. -/
abbrev aDb (c : Dev nD) : FVec Ideal Cert.FfnReferenceIdeal.S8x1x1024 .f32 := Ffn.V m c main_arg10
/-- The gates. -/
abbrev aS (c : Dev nD) : FVec Ideal Cert.FfnReferenceIdeal.S8192x1 .f32 := Ffn.V m c main_arg11

/-- A block's point for a phase. -/
def pt (b : Fin 16) (p : Fin 5) : Fin grid0.N := ⟨5 * b.val + p.val, by have := N_0; omega⟩

theorem pt_div (b : Fin 16) (p : Fin 5) : (pt b p).val / 5 = b.val := by
  show (5 * b.val + p.val) / 5 = b.val
  omega
theorem pt_mod (b : Fin 16) (p : Fin 5) : (pt b p).val % 5 = p.val := by
  show (5 * b.val + p.val) % 5 = p.val
  omega

section

variable (c : Dev nD) {b : Fin 16} (hL : b.val ≤ L) {E : Fin 8} (hE : ∀ p, (Ffn.word (Ffn.tE m) (grid0.coords (pt b p))).toNat = E.val)
  (r : Fin 512) {t : Fin 2048} (ht : (Ffn.V m c main_arg4 (ix2 (slot b r) 0)).toNat = t.val)

include hL ht in
/-- The rows gathered at the block's first point. -/
theorem rows_apply (p : Fin 5) (d : Fin 1024) :
    k0_pay1 (Ffn.blk1 m T c (pt b p)) (Ffn.blk0 m T c (pt b p)) (ix2 r d) = aX m c (ix2 t d) := by
  have e : (Ffn.blk1 m T c (pt b p) (ix2 r 0)).toNat = t.val := by
    rw [blk1_apply m T c (pt b p) (pt_div b p) hL]
    exact ht
  rw [pay1_apply _ _ r d (by rw [e]; exact t.isLt), blk0_apply]
  exact congrArg (fun t' => aX m c (ix2 t' d)) (Fin.ext e)

include hL ht in
theorem x_first (d : Fin 1024) : (Ffn.kept m T c (5 * b.val + 1)).x (ix2 r d) = aX m c (ix2 t d) := by
  have hu : k0_cond1 (Ffn.word (Ffn.tV m) (grid0.coords (pt b 0))) = 1#1 := (Ffn.used_at m T _).mpr (by rw [pt_div]; exact hL)
  have h1 : (grid0.coords (pt b 0) 1).val = 0 := (Ffn.coord1 _).trans (pt_mod b 0)
  have h3 : k0_cond3 (grid0.coords (pt b 0)) = 1#1 := (Ffn.cond3_iff _).mpr (by omega)
  have e := Ffn.kept_succ m T c (pt b 0)
  unfold Ffn.next at e
  rw [if_pos hu, dif_pos h3, if_pos h1] at e
  refine (congrFun (congrArg Ffn.St.x e) _).trans ?_
  exact rows_apply m T c hL r ht 0 d

include hL hE ht in
/-- The first half of the first product, after the block's first point. -/
theorem g_first (p : Fin 3) (l : Fin 912) : (Ffn.kept m T c (5 * b.val + 1)).g (ix3 p r l)
    = ∑ k : Fin 512, aX m c (ix2 t (row 0 k)) * aG m c (ix3 E (row 0 k) (col p l)) + aGb m c (ix3 E 0 (col p l)) := by
  have hu : k0_cond1 (Ffn.word (Ffn.tV m) (grid0.coords (pt b 0))) = 1#1 := (Ffn.used_at m T _).mpr (by rw [pt_div]; exact hL)
  have h1 : (grid0.coords (pt b 0) 1).val = 0 := (Ffn.coord1 _).trans (pt_mod b 0)
  have h3 : k0_cond3 (grid0.coords (pt b 0)) = 1#1 := (Ffn.cond3_iff _).mpr (by omega)
  have e := Ffn.kept_succ m T c (pt b 0)
  unfold Ffn.next at e
  rw [if_pos hu, dif_pos h3, if_pos h1] at e
  refine (congrFun (congrArg Ffn.St.g e) _).trans ?_
  have hx : ∀ k, Ffn.half (k0_pay1 (Ffn.blk1 m T c (pt b 0)) (Ffn.blk0 m T c (pt b 0))) (grid0.coords (pt b 0)) h3 (ix2 r k) = aX m c (ix2 t (row 0 k)) := fun k =>
    (half_apply _ _ h3 (p := 0) h1 r k).trans (rows_apply m T c hL r ht 0 _)
  have hw := blk2_apply m T c (pt b 0) (pt_div b 0) hL (hE 0) (p := 0) (pt_mod b 0)
  have hv := blk3_apply m T c (pt b 0) (hE 0)
  obtain rfl | rfl | rfl : p = 0 ∨ p = 1 ∨ p = 2 := by omega
  · dsimp only
    refine (slabs0 _ _ _ _ r l).trans ((pay11_apply _ _ _ r l).trans ?_)
    simp only [hx, hw, hv]
    try rfl
  · dsimp only
    refine (slabs1 _ _ _ _ r l).trans ((pay17_apply _ _ _ r l).trans ?_)
    simp only [hx, hw, hv]
    try rfl
  · dsimp only
    refine (slabs2 _ _ _ _ r l).trans ((pay23_apply _ _ _ r l).trans ?_)
    simp only [hx, hw, hv]
    try rfl

include hL hE ht in
/-- The first half of the second product, after the block's first point. -/
theorem u_first (p : Fin 3) (l : Fin 912) : (Ffn.kept m T c (5 * b.val + 1)).u (ix3 p r l)
    = ∑ k : Fin 512, aX m c (ix2 t (row 0 k)) * aU m c (ix3 E (row 0 k) (col p l)) + aUb m c (ix3 E 0 (col p l)) := by
  have hu : k0_cond1 (Ffn.word (Ffn.tV m) (grid0.coords (pt b 0))) = 1#1 := (Ffn.used_at m T _).mpr (by rw [pt_div]; exact hL)
  have h1 : (grid0.coords (pt b 0) 1).val = 0 := (Ffn.coord1 _).trans (pt_mod b 0)
  have h3 : k0_cond3 (grid0.coords (pt b 0)) = 1#1 := (Ffn.cond3_iff _).mpr (by omega)
  have e := Ffn.kept_succ m T c (pt b 0)
  unfold Ffn.next at e
  rw [if_pos hu, dif_pos h3, if_pos h1] at e
  refine (congrFun (congrArg Ffn.St.u e) _).trans ?_
  have hx : ∀ k, Ffn.half (k0_pay1 (Ffn.blk1 m T c (pt b 0)) (Ffn.blk0 m T c (pt b 0))) (grid0.coords (pt b 0)) h3 (ix2 r k) = aX m c (ix2 t (row 0 k)) := fun k =>
    (half_apply _ _ h3 (p := 0) h1 r k).trans (rows_apply m T c hL r ht 0 _)
  have hw := blk4_apply m T c (pt b 0) (pt_div b 0) hL (hE 0) (p := 0) (pt_mod b 0)
  have hv := blk5_apply m T c (pt b 0) (hE 0)
  obtain rfl | rfl | rfl : p = 0 ∨ p = 1 ∨ p = 2 := by omega
  · dsimp only
    refine (slabs0 _ _ _ _ r l).trans ((pay12_apply _ _ _ r l).trans ?_)
    simp only [hx, hw, hv]
    try rfl
  · dsimp only
    refine (slabs1 _ _ _ _ r l).trans ((pay18_apply _ _ _ r l).trans ?_)
    simp only [hx, hw, hv]
    try rfl
  · dsimp only
    refine (slabs2 _ _ _ _ r l).trans ((pay24_apply _ _ _ r l).trans ?_)
    simp only [hx, hw, hv]
    try rfl

include hL ht in
theorem x_half (k : Fin 512) (h3 : k0_cond3 (grid0.coords (pt b 1)) = 1#1) :
    Ffn.half (Ffn.kept m T c (5 * b.val + 1)).x (grid0.coords (pt b 1)) h3 (ix2 r k) = aX m c (ix2 t (row 1 k)) :=
  (half_apply _ _ h3 (p := 1) ((Ffn.coord1 _).trans (pt_mod b 1)) r k).trans (x_first m T c hL r ht _)

include hL hE ht in
/-- The whole first product, after the block's second point. -/
theorem g_second (p : Fin 3) (l : Fin 912) : (Ffn.kept m T c (5 * b.val + 2)).g (ix3 p r l)
    = hid (aX m c) (aG m c) (aGb m c) t E (col p l) := by
  have hu : k0_cond1 (Ffn.word (Ffn.tV m) (grid0.coords (pt b 1))) = 1#1 := (Ffn.used_at m T _).mpr (by rw [pt_div]; exact hL)
  have h1 : (grid0.coords (pt b 1) 1).val = 1 := (Ffn.coord1 _).trans (pt_mod b 1)
  have h3 : k0_cond3 (grid0.coords (pt b 1)) = 1#1 := (Ffn.cond3_iff _).mpr (by omega)
  have e := Ffn.kept_succ m T c (pt b 1)
  unfold Ffn.next at e
  rw [if_pos hu, dif_pos h3, if_neg (by omega)] at e
  refine (congrFun (congrArg Ffn.St.g e) _).trans ?_
  have hx : ∀ k, Ffn.half (Ffn.kept m T c (pt b 1).val).x (grid0.coords (pt b 1)) h3 (ix2 r k) = aX m c (ix2 t (row 1 k)) := fun k =>
    x_half m T c hL r ht k h3
  have hw := blk2_apply m T c (pt b 1) (pt_div b 1) hL (hE 1) (p := 1) (pt_mod b 1)
  have hs : (Ffn.kept m T c (pt b 1).val).g (ix3 p r l) = _ := g_first m T c hL hE r ht p l
  unfold hid
  rw [sum_halves, add_right_comm]
  obtain rfl | rfl | rfl : p = 0 ∨ p = 1 ∨ p = 2 := by omega
  · dsimp only
    refine (slabs0 _ _ _ _ r l).trans ((pay13_apply _ _ _ r l).trans ?_)
    rw [slab0_apply, hs]
    simp only [hx, hw]
    try rfl
  · dsimp only
    refine (slabs1 _ _ _ _ r l).trans ((pay19_apply _ _ _ r l).trans ?_)
    rw [slab1_apply, hs]
    simp only [hx, hw]
    try rfl
  · dsimp only
    refine (slabs2 _ _ _ _ r l).trans ((pay2_apply _ _ _ r l).trans ?_)
    rw [slab2_apply, hs]
    simp only [hx, hw]
    try rfl

include hL hE ht in
/-- The whole second product, after the block's second point. -/
theorem u_second (p : Fin 3) (l : Fin 912) : (Ffn.kept m T c (5 * b.val + 2)).u (ix3 p r l)
    = hid (aX m c) (aU m c) (aUb m c) t E (col p l) := by
  have hu : k0_cond1 (Ffn.word (Ffn.tV m) (grid0.coords (pt b 1))) = 1#1 := (Ffn.used_at m T _).mpr (by rw [pt_div]; exact hL)
  have h1 : (grid0.coords (pt b 1) 1).val = 1 := (Ffn.coord1 _).trans (pt_mod b 1)
  have h3 : k0_cond3 (grid0.coords (pt b 1)) = 1#1 := (Ffn.cond3_iff _).mpr (by omega)
  have e := Ffn.kept_succ m T c (pt b 1)
  unfold Ffn.next at e
  rw [if_pos hu, dif_pos h3, if_neg (by omega)] at e
  refine (congrFun (congrArg Ffn.St.u e) _).trans ?_
  have hx : ∀ k, Ffn.half (Ffn.kept m T c (pt b 1).val).x (grid0.coords (pt b 1)) h3 (ix2 r k) = aX m c (ix2 t (row 1 k)) := fun k =>
    x_half m T c hL r ht k h3
  have hw := blk4_apply m T c (pt b 1) (pt_div b 1) hL (hE 1) (p := 1) (pt_mod b 1)
  have hs : (Ffn.kept m T c (pt b 1).val).u (ix3 p r l) = _ := u_first m T c hL hE r ht p l
  unfold hid
  rw [sum_halves, add_right_comm]
  obtain rfl | rfl | rfl : p = 0 ∨ p = 1 ∨ p = 2 := by omega
  · dsimp only
    refine (slabs0 _ _ _ _ r l).trans ((pay14_apply _ _ _ r l).trans ?_)
    rw [slab0_apply, hs]
    simp only [hx, hw]
    try rfl
  · dsimp only
    refine (slabs1 _ _ _ _ r l).trans ((pay20_apply _ _ _ r l).trans ?_)
    rw [slab1_apply, hs]
    simp only [hx, hw]
    try rfl
  · dsimp only
    refine (slabs2 _ _ _ _ r l).trans ((pay3_apply _ _ _ r l).trans ?_)
    rw [slab2_apply, hs]
    simp only [hx, hw]
    try rfl

include hL hE ht in
theorem g_2 (p : Fin 3) (l : Fin 912) : (Ffn.kept m T c (5 * b.val + 3)).g (ix3 p r l)
    = hid (aX m c) (aG m c) (aGb m c) t E (col p l) := by
  have hu : k0_cond1 (Ffn.word (Ffn.tV m) (grid0.coords (pt b 2))) = 1#1 := (Ffn.used_at m T _).mpr (by rw [pt_div]; exact hL)
  have h1 : (grid0.coords (pt b 2) 1).val = 2 := (Ffn.coord1 _).trans (pt_mod b 2)
  have h3 : ¬ k0_cond3 (grid0.coords (pt b 2)) = 1#1 := mt (Ffn.cond3_iff _).mp (by omega)
  have h10 : k0_cond10 (grid0.coords (pt b 2)) = 1#1 := (Ffn.cond10_iff _).mpr (by omega)
  have e := Ffn.kept_succ m T c (pt b 2)
  unfold Ffn.next at e
  rw [if_pos hu, dif_neg h3, dif_pos h10, if_pos h1] at e
  refine (congrFun (congrArg Ffn.St.g e) _).trans ?_
  exact g_second m T c hL hE r ht p l

include hL hE ht in
theorem u_2 (p : Fin 3) (l : Fin 912) : (Ffn.kept m T c (5 * b.val + 3)).u (ix3 p r l)
    = hid (aX m c) (aU m c) (aUb m c) t E (col p l) := by
  have hu : k0_cond1 (Ffn.word (Ffn.tV m) (grid0.coords (pt b 2))) = 1#1 := (Ffn.used_at m T _).mpr (by rw [pt_div]; exact hL)
  have h1 : (grid0.coords (pt b 2) 1).val = 2 := (Ffn.coord1 _).trans (pt_mod b 2)
  have h3 : ¬ k0_cond3 (grid0.coords (pt b 2)) = 1#1 := mt (Ffn.cond3_iff _).mp (by omega)
  have h10 : k0_cond10 (grid0.coords (pt b 2)) = 1#1 := (Ffn.cond10_iff _).mpr (by omega)
  have e := Ffn.kept_succ m T c (pt b 2)
  unfold Ffn.next at e
  rw [if_pos hu, dif_neg h3, dif_pos h10, if_pos h1] at e
  refine (congrFun (congrArg Ffn.St.u e) _).trans ?_
  exact u_second m T c hL hE r ht p l

include hL hE ht in
theorem g_3 (p : Fin 3) (l : Fin 912) : (Ffn.kept m T c (5 * b.val + 4)).g (ix3 p r l)
    = hid (aX m c) (aG m c) (aGb m c) t E (col p l) := by
  have hu : k0_cond1 (Ffn.word (Ffn.tV m) (grid0.coords (pt b 3))) = 1#1 := (Ffn.used_at m T _).mpr (by rw [pt_div]; exact hL)
  have h1 : (grid0.coords (pt b 3) 1).val = 3 := (Ffn.coord1 _).trans (pt_mod b 3)
  have h3 : ¬ k0_cond3 (grid0.coords (pt b 3)) = 1#1 := mt (Ffn.cond3_iff _).mp (by omega)
  have h10 : k0_cond10 (grid0.coords (pt b 3)) = 1#1 := (Ffn.cond10_iff _).mpr (by omega)
  have e := Ffn.kept_succ m T c (pt b 3)
  unfold Ffn.next at e
  rw [if_pos hu, dif_neg h3, dif_pos h10, if_neg (by omega)] at e
  refine (congrFun (congrArg Ffn.St.g e) _).trans ?_
  exact g_2 m T c hL hE r ht p l

include hL hE ht in
theorem u_3 (p : Fin 3) (l : Fin 912) : (Ffn.kept m T c (5 * b.val + 4)).u (ix3 p r l)
    = hid (aX m c) (aU m c) (aUb m c) t E (col p l) := by
  have hu : k0_cond1 (Ffn.word (Ffn.tV m) (grid0.coords (pt b 3))) = 1#1 := (Ffn.used_at m T _).mpr (by rw [pt_div]; exact hL)
  have h1 : (grid0.coords (pt b 3) 1).val = 3 := (Ffn.coord1 _).trans (pt_mod b 3)
  have h3 : ¬ k0_cond3 (grid0.coords (pt b 3)) = 1#1 := mt (Ffn.cond3_iff _).mp (by omega)
  have h10 : k0_cond10 (grid0.coords (pt b 3)) = 1#1 := (Ffn.cond10_iff _).mpr (by omega)
  have e := Ffn.kept_succ m T c (pt b 3)
  unfold Ffn.next at e
  rw [if_pos hu, dif_neg h3, dif_pos h10, if_neg (by omega)] at e
  refine (congrFun (congrArg Ffn.St.u e) _).trans ?_
  exact u_2 m T c hL hE r ht p l

/-- A third's share of the result. -/
def share (s : EReal) (x : FVec Ideal Cert.FfnReferenceIdeal.S2048x1024 .bf16) (wg : FVec Ideal Cert.FfnReferenceIdeal.S8x1024x2736 .f32) (bg : FVec Ideal Cert.FfnReferenceIdeal.S8x1x2736 .f32)
    (w1 : FVec Ideal Cert.FfnReferenceIdeal.S8x1024x2736 .f32) (b1 : FVec Ideal Cert.FfnReferenceIdeal.S8x1x2736 .f32) (w2 : FVec Ideal Cert.FfnReferenceIdeal.S8x2736x1024 .f32)
    (t : Fin 2048) (E : Fin 8) (d : Fin 1024) (p : Fin 3) : EReal :=
  ∑ k : Fin 912, s * (hid x wg bg t E (col p k) * Ideal.logistic (hid x wg bg t E (col p k))) * hid x w1 b1 t E (col p k) * w2 (ix3 E (col p k) d)

include hL hE ht in
theorem o_2 (d : Fin 1024) : (Ffn.kept m T c (5 * b.val + 3)).o (ix2 r d)
    = share (aS m c (ix2 (slot b r) 0)) (aX m c) (aG m c) (aGb m c) (aU m c) (aUb m c) (aD m c) t E d 0 + aS m c (ix2 (slot b r) 0) * aDb m c (ix3 E 0 d) := by
  have hu : k0_cond1 (Ffn.word (Ffn.tV m) (grid0.coords (pt b 2))) = 1#1 := (Ffn.used_at m T _).mpr (by rw [pt_div]; exact hL)
  have h1 : (grid0.coords (pt b 2) 1).val = 2 := (Ffn.coord1 _).trans (pt_mod b 2)
  have h3 : ¬ k0_cond3 (grid0.coords (pt b 2)) = 1#1 := mt (Ffn.cond3_iff _).mp (by omega)
  have h10 : k0_cond10 (grid0.coords (pt b 2)) = 1#1 := (Ffn.cond10_iff _).mpr (by omega)
  have e := Ffn.kept_succ m T c (pt b 2)
  unfold Ffn.next at e
  rw [if_pos hu, dif_neg h3, dif_pos h10, if_pos h1] at e
  refine (congrFun (congrArg Ffn.St.o e) _).trans ?_
  have hg : ∀ l, Ffn.third (Ffn.kept m T c (pt b 2).val).g (grid0.coords (pt b 2)) h10 (ix3 0 r l) = _ := fun l =>
    (third_apply _ _ h10 (p := 0) h1 r l).trans (g_second m T c hL hE r ht 0 l)
  have hv : ∀ l, Ffn.third (Ffn.kept m T c (pt b 2).val).u (grid0.coords (pt b 2)) h10 (ix3 0 r l) = _ := fun l =>
    (third_apply _ _ h10 (p := 0) h1 r l).trans (u_second m T c hL hE r ht 0 l)
  have hw := blk6_apply m T c (pt b 2) (pt_div b 2) hL (hE 2) (p := 0) (pt_mod b 2)
  have hb := blk7_apply m T c (pt b 2) (hE 2)
  have hs := blk8_apply m T c (pt b 2) (pt_div b 2) hL r
  refine (pay5_apply _ _ _ _ _ r d).trans ?_
  rw [pay4_apply]
  unfold share
  simp only [hg, hv, hw, hb, hs]
  try rfl

include hL hE ht in
theorem o_3 (d : Fin 1024) : (Ffn.kept m T c (5 * b.val + 4)).o (ix2 r d)
    = (Ffn.kept m T c (5 * b.val + 3)).o (ix2 r d) + share (aS m c (ix2 (slot b r) 0)) (aX m c) (aG m c) (aGb m c) (aU m c) (aUb m c) (aD m c) t E d 1 := by
  have hu : k0_cond1 (Ffn.word (Ffn.tV m) (grid0.coords (pt b 3))) = 1#1 := (Ffn.used_at m T _).mpr (by rw [pt_div]; exact hL)
  have h1 : (grid0.coords (pt b 3) 1).val = 3 := (Ffn.coord1 _).trans (pt_mod b 3)
  have h3 : ¬ k0_cond3 (grid0.coords (pt b 3)) = 1#1 := mt (Ffn.cond3_iff _).mp (by omega)
  have h10 : k0_cond10 (grid0.coords (pt b 3)) = 1#1 := (Ffn.cond10_iff _).mpr (by omega)
  have e := Ffn.kept_succ m T c (pt b 3)
  unfold Ffn.next at e
  rw [if_pos hu, dif_neg h3, dif_pos h10, if_neg (by omega)] at e
  refine (congrFun (congrArg Ffn.St.o e) _).trans ?_
  have hg : ∀ l, Ffn.third (Ffn.kept m T c (pt b 3).val).g (grid0.coords (pt b 3)) h10 (ix3 0 r l) = _ := fun l =>
    (third_apply _ _ h10 (p := 1) h1 r l).trans (g_2 m T c hL hE r ht 1 l)
  have hv : ∀ l, Ffn.third (Ffn.kept m T c (pt b 3).val).u (grid0.coords (pt b 3)) h10 (ix3 0 r l) = _ := fun l =>
    (third_apply _ _ h10 (p := 1) h1 r l).trans (u_2 m T c hL hE r ht 1 l)
  have hw := blk6_apply m T c (pt b 3) (pt_div b 3) hL (hE 3) (p := 1) (pt_mod b 3)
  have hb := blk7_apply m T c (pt b 3) (hE 3)
  have hs := blk8_apply m T c (pt b 3) (pt_div b 3) hL r
  refine (pay6_apply _ _ _ _ _ r d).trans ?_
  rw [pay4_apply]
  unfold share
  simp only [hg, hv, hw, hb, hs]
  try rfl

include hL hE ht in
theorem o_4 (d : Fin 1024) : (Ffn.kept m T c (5 * b.val + 5)).o (ix2 r d)
    = (Ffn.kept m T c (5 * b.val + 4)).o (ix2 r d) + share (aS m c (ix2 (slot b r) 0)) (aX m c) (aG m c) (aGb m c) (aU m c) (aUb m c) (aD m c) t E d 2 := by
  have hu : k0_cond1 (Ffn.word (Ffn.tV m) (grid0.coords (pt b 4))) = 1#1 := (Ffn.used_at m T _).mpr (by rw [pt_div]; exact hL)
  have h1 : (grid0.coords (pt b 4) 1).val = 4 := (Ffn.coord1 _).trans (pt_mod b 4)
  have h3 : ¬ k0_cond3 (grid0.coords (pt b 4)) = 1#1 := mt (Ffn.cond3_iff _).mp (by omega)
  have h10 : k0_cond10 (grid0.coords (pt b 4)) = 1#1 := (Ffn.cond10_iff _).mpr (by omega)
  have e := Ffn.kept_succ m T c (pt b 4)
  unfold Ffn.next at e
  rw [if_pos hu, dif_neg h3, dif_pos h10, if_neg (by omega)] at e
  refine (congrFun (congrArg Ffn.St.o e) _).trans ?_
  have hg : ∀ l, Ffn.third (Ffn.kept m T c (pt b 4).val).g (grid0.coords (pt b 4)) h10 (ix3 0 r l) = _ := fun l =>
    (third_apply _ _ h10 (p := 2) h1 r l).trans (g_3 m T c hL hE r ht 2 l)
  have hv : ∀ l, Ffn.third (Ffn.kept m T c (pt b 4).val).u (grid0.coords (pt b 4)) h10 (ix3 0 r l) = _ := fun l =>
    (third_apply _ _ h10 (p := 2) h1 r l).trans (u_3 m T c hL hE r ht 2 l)
  have hw := blk6_apply m T c (pt b 4) (pt_div b 4) hL (hE 4) (p := 2) (pt_mod b 4)
  have hb := blk7_apply m T c (pt b 4) (hE 4)
  have hs := blk8_apply m T c (pt b 4) (pt_div b 4) hL r
  refine (pay6_apply _ _ _ _ _ r d).trans ?_
  rw [pay4_apply]
  unfold share
  simp only [hg, hv, hw, hb, hs]
  try rfl

include hL hE ht in
/-- The block's rows after its last point. -/
theorem kept_o (h0 : 0 ≤ aS m c (ix2 (slot b r) 0)) (h1 : aS m c (ix2 (slot b r) 0) ≠ ⊤) (d : Fin 1024) :
    (Ffn.kept m T c (5 * b.val + 5)).o (ix2 r d)
      = aS m c (ix2 (slot b r) 0) * out (aX m c) (aG m c) (aGb m c) (aU m c) (aUb m c) (aD m c) (aDb m c) t E d := by
  rw [o_4 m T c hL hE r ht d, o_3 m T c hL hE r ht d, o_2 m T c hL hE r ht d]
  unfold share out
  exact gated_thirds h0 h1 (fun l => hid (aX m c) (aG m c) (aGb m c) t E l)
    (fun l => Ideal.logistic (hid (aX m c) (aG m c) (aGb m c) t E l))
    (fun l => hid (aX m c) (aU m c) (aUb m c) t E l) (fun l => aD m c (ix3 E l d)) _

end

end Cert.Proof.FfnValue

end
-- ==== Proof.Ffn.Final.lean ====
/-
  What the feed-forward kernel's array ends with: the rows of each block in use as the block's last point left them.
-/
module

public import proofs.«01_k».proof.Proof.Ffn.Value
public import proofs.«01_k».proof.Proof.Ffn.Launch
public import proofs.«01_k».proof.Proof.Ffn.Pre

@[expose] public section

set_option maxRecDepth 16384

noncomputable section

namespace Cert.Proof.FfnValue

open Cert.FfnIdeal Cert.FfnIdeal.Gen
open Idealize.ShloMosaic Idealize.ShloMosaic.TcCoe
open Idealize.ShloMosaic.Pipeline (Dat Cfg Window)

variable (m : (ℓ : Loc nD τ sig) → Buf (Elt Ideal) ℓ)
variable {L : ℕ} (T : Ffn.Tab m L)

theorem index_out (t : Fin grid0.N) : ((Ffn.pcfg m T).win 9).index t = ![min (t.val / 5) L, 0] :=
  (show ((Ffn.pcfg m T).win 9).index t = cc0_transform_9 k0_off1_inb numel1_S1 (Ffn.pf m) (grid0.coords t) from rfl).trans (by rw [Ffn.ix9 m T, Ffn.coord0])

/-- No two write-backs meet. -/
theorem apart (t t' : Fin (Ffn.pcfg m T).N) (h : ((Ffn.pcfg m T).win 9).flush t = true) (h' : ((Ffn.pcfg m T).win 9).flush t' = true) (hne : t ≠ t') :
    Disjoint (((Ffn.pcfg m T).win 9).blk t).view.set (((Ffn.pcfg m T).win 9).blk t').view.set := by
  refine Window.disjoint_blk ((Ffn.pcfg m T).win 9) fun e => hne (Fin.ext ?_)
  have hN : grid0.N = 80 := N_0
  have k : t.val < grid0.N := t.isLt
  have k' : t'.val < grid0.N := t'.isLt
  have hl := T.lt
  rw [show _ = decide _ from Ffn.flush_out m T t, decide_eq_true_eq] at h
  rw [show _ = decide _ from Ffn.flush_out m T t', decide_eq_true_eq] at h'
  rw [show _ = ![min (t.val / 5) L, 0] from index_out m T t, show _ = ![min (t'.val / 5) L, 0] from index_out m T t'] at e
  have e0 : min (t.val / 5) L = min (t'.val / 5) L := congrFun e 0
  omega

/-- After the last block in use nothing changes. -/
theorem kept_rest (c : Dev nD) (n : ℕ) (h : 5 * L + 5 + n ≤ 80) : (Ffn.kept m T c (5 * L + 5 + n)).o = (Ffn.kept m T c (5 * L + 5)).o := by
  induction n with
  | zero => rfl
  | succ n ih =>
    have hN : grid0.N = 80 := N_0
    exact (Ffn.kept_idle m T c ⟨5 * L + 5 + n, by omega⟩ (fun hc => by
      have : (5 * L + 5 + n) / 5 ≤ L := hc.1
      omega)).trans (ih (by omega))

theorem final_o (c : Dev nD) {b : Fin 16} (hL : b.val ≤ L) (r : Fin 512) (d : Fin 1024) :
    ((Ffn.dats m T 0 c).arrAt 9 (Ffn.pcfg m T).N : S8192x1024.Idx → EReal) (ix2 (slot b r) d) = (Ffn.kept m T c (5 * b.val + 5)).o (ix2 r d) := by
  have hN : grid0.N = 80 := N_0
  have hl := T.lt
  have main : ∀ t : Fin grid0.N, ((Ffn.pcfg m T).win 9).flush t = true → min (t.val / 5) L = b.val →
      ((Ffn.dats m T 0 c).arrAt 9 (Ffn.pcfg m T).N : S8192x1024.Idx → EReal) (ix2 (slot b r) d) = (Ffn.kept m T c (t.val + 1)).o (ix2 r d) := fun t hf hb => by
    have e := (Ffn.dats m T 0 c).arrAt_emb_eq_flushed 9 (apart m T) t hf (ix2 r d)
    have ei : (((Ffn.pcfg m T).win 9).blk t).view.emb (ix2 r d) = (ix2 (slot b r) d : S8192x1024.Idx) := funext fun a => Fin.ext (by
      have hi := index_out m T t
      match a with
      | ⟨0, _⟩ =>
        show ((Ffn.pcfg m T).win 9).index t (0 : Fin 2) * 512 + 1 * r.val = 512 * b.val + r.val
        rw [hi]
        show min (t.val / 5) L * 512 + 1 * r.val = 512 * b.val + r.val
        omega
      | ⟨1, _⟩ =>
        show ((Ffn.pcfg m T).win 9).index t (1 : Fin 2) * 1024 + 1 * d.val = d.val
        rw [hi]
        show 0 * 1024 + 1 * d.val = d.val
        omega)
    refine (congrArg ((Ffn.dats m T 0 c).arrAt 9 (Ffn.pcfg m T).N) ei.symm).trans (e.trans ?_)
    exact congrFun (Ffn.after_out m T c t) (ix2 r d)
  by_cases h : b.val < L
  · exact main (pt b 4) ((Ffn.flush_out m T (pt b 4)).trans (decide_eq_true (.inr ⟨pt_mod b 4, by rw [pt_div]; exact h⟩))) (by rw [pt_div]; omega)
  · have eb : L = b.val := by omega
    subst eb
    refine (main ⟨79, by omega⟩ ((Ffn.flush_out m T ⟨79, by omega⟩).trans (decide_eq_true (.inl rfl))) (show min (79 / 5) b.val = b.val by omega)).trans ?_
    have k := kept_rest m T c (75 - 5 * b.val) (by omega)
    rw [show 5 * b.val + 5 + (75 - 5 * b.val) = 79 + 1 by omega] at k
    exact congrFun k _

theorem word_at (t : Vec Ideal S32 .i32) (b : Fin 16) (p : Fin 5) : Ffn.word t (grid0.coords (pt b p)) = t (ix1 ⟨b.val, by omega⟩) :=
  congrArg t (funext fun a => Fin.ext (by
    match a with
    | ⟨0, _⟩ => exact (Ffn.coord0 _).trans (pt_div b p)))

/-- On the rows of the blocks in use the array ends as the reference's. -/
theorem final_ref (B : Ffn.Blocks (Ffn.tE m) (Ffn.tV m) (Ffn.tF m) (Ffn.V m 0 main_arg4)) (hg : ∀ j, 0 ≤ aS m 0 j ∧ aS m 0 j < (⊤ : EReal))
    (i : S8192x1024.Idx) (hi : (i 0).val / 512 ≤ (Ffn.tF m Ffn.at31).toNat) :
    ((Ffn.dats m (Ffn.tab_of m B) 0 0).arrAt 9 (Ffn.pcfg m (Ffn.tab_of m B)).N : S8192x1024.Idx → EReal) i
      = refT (Ffn.tE m) (aX m 0) (Ffn.V m 0 main_arg4) (aG m 0) (aGb m 0) (aU m 0) (aUb m 0) (aD m 0) (aDb m 0) (aS m 0) i := by
  have h0 : (i 0).val < 8192 := (i 0).isLt
  have h1 : (i 1).val < 1024 := (i 1).isLt
  obtain ⟨b, r, d, rfl⟩ : ∃ (b : Fin 16) (r : Fin 512) (d : Fin 1024), i = ix2 (slot b r) d :=
    ⟨⟨(i 0).val / 512, by omega⟩, ⟨(i 0).val % 512, by omega⟩, ⟨(i 1).val, h1⟩, funext fun a => Fin.ext (by
      match a with
      | ⟨0, _⟩ => show (i 0).val = 512 * ((i 0).val / 512) + (i 0).val % 512; omega
      | ⟨1, _⟩ => rfl)⟩
  have hL : b.val ≤ (Ffn.tF m Ffn.at31).toNat := by
    have : (512 * b.val + r.val) / 512 ≤ (Ffn.tF m Ffn.at31).toNat := hi
    omega
  rw [final_o m (Ffn.tab_of m B) 0 hL r d]
  refine (kept_o m (Ffn.tab_of m B) 0 hL (E := ⟨(Ffn.tE m (ix1 ⟨b.val, by omega⟩)).toNat, B.exp _⟩) (fun p => congrArg BitVec.toNat (word_at _ b p)) r
    (t := ⟨(Ffn.V m 0 main_arg4 (ix2 (slot b r) 0)).toNat, B.tok _⟩) rfl (hg _).1 (hg _).2.ne d).trans ?_
  exact (refT_apply (Ffn.tE m) (aX m 0) (Ffn.V m 0 main_arg4) (aG m 0) (aGb m 0) (aU m 0) (aUb m 0) (aD m 0) (aDb m 0) (aS m 0) b r d (B.tok _) (B.exp _)).symm

end Cert.Proof.FfnValue

end
-- ==== Proof.lean ====
/-
  The proof of `Cert.Claim`, for the combine, the dispatch, the router and the feed-forward. A program of the first two and its idealization are
  one text, so the run (Launch.lean of each, over any float interpretation) is written once and read twice; the reference's
  run is read at the same values (Ref.lean of each, and Value.lean of the router).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_pos_in_rows
public import proofs.«01_k».proof.Proof.Gen.Dispatch
public import proofs.«01_k».proof.Proof.Gen.Dispatch.Skeleton
public import proofs.«01_k».proof.Proof.Gen.DispatchIdeal
public import proofs.«01_k».proof.Proof.Gen.DispatchIdeal.Skeleton
public import proofs.«01_k».proof.Proof.Gen.DispatchReferenceIdeal
public import proofs.«01_k».proof.Proof.Gen.DispatchReferenceIdeal.Run
public import proofs.«01_k».proof.Proof.Gen.Pre_sel_is_expert
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Value
public import proofs.«01_k».proof.Proof.Gen.RouterReferenceIdeal
public import proofs.«01_k».proof.Proof.Gen.RouterReferenceIdeal.Run
public import proofs.«01_k».proof.Proof.Gen.Pre_tokens_finite
public import proofs.«01_k».proof.Proof.Gen.Pre_block_table
public import proofs.«01_k».proof.Proof.Gen.Pre_block_table_and_gates
public import proofs.«01_k».proof.Proof.Gen.On_slots_of_used_blocks
public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnReferenceIdeal
public import proofs.«01_k».proof.Proof.Gen.FfnReferenceIdeal.Run
public import proofs.«01_k».proof.Proof.Combine.Launch
public import proofs.«01_k».proof.Proof.Combine.Ref
public import proofs.«01_k».proof.Proof.Dispatch.Launch
public import proofs.«01_k».proof.Proof.Dispatch.Ref
public import proofs.«01_k».proof.Proof.Router.Value
public import proofs.«01_k».proof.Proof.Ffn.Launch
public import proofs.«01_k».proof.Proof.Ffn.Same
public import proofs.«01_k».proof.Proof.Ffn.Gates
public import proofs.«01_k».proof.Proof.Ffn.Final
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.Combine (run_main words_lt ref_value res)

/-- The program as printed, over bit patterns. -/
theorem frame_kernel : Cert.quiescent_Kernel := fun m ρ hpre =>
  (θ_run (Cert.KernelIdeal.defs (F := Bits)) _ _).mono (fun _ h => ⟨fun c => ⟨(h.1 c).1, (h.1 c).2.1⟩, h.2⟩)
    (run_main (F := Bits) m ρ fun d j => words_lt (hpre d) j)

/-- The program over the extended reals. -/
theorem frame_kernelIdeal : Cert.quiescent_KernelIdeal := fun m ρ hpre =>
  (θ_run (Cert.KernelIdeal.defs (F := Ideal)) _ _).mono (fun _ h => ⟨fun c => ⟨(h.1 c).1, (h.1 c).2.1⟩, h.2⟩)
    (run_main (F := Ideal) m ρ fun d j => words_lt (hpre d) j)

/-- The reference, from any memory: it declares no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- The shared value is `result` of the program's two arguments. -/
theorem algebraic : Cert.algebraic_KernelIdeal_ReferenceIdeal := by
  intro m ρ m' ρ' hpre hagree
  have hp : ∀ d j, (m (Cert.Proof.Combine.pLoc d) j).toNat < 8192 := fun d j => words_lt (hpre d) j
  refine ⟨fun c => res m c, (θ_run (Cert.KernelIdeal.defs (F := Ideal)) _ _).mono
    (fun _ h c => ⟨(h.1 c).2.2, (h.1 c).1, (h.1 c).2.1⟩) (run_main (F := Ideal) m ρ hp), ?_⟩
  refine (θ_run (Cert.ReferenceIdeal.defs (F := Ideal)) _ _).mono (fun _ h c => ⟨(h c).1.trans ?_, (h c).2⟩)
    (Cert.ReferenceIdeal.Value.run (F := Ideal) m' ρ')
  have e0 := (hagree c).1
  have e1 := (hagree c).2
  rw [e0, e1]
  exact ref_value _ _ (hp c)

/-! ## The dispatch -/

/-- The program as printed, over bit patterns. -/
theorem frame_dispatch : Cert.quiescent_Dispatch := fun m ρ hpre =>
  (θ_run (Cert.DispatchIdeal.defs (F := Bits)) _ _).mono (fun _ h => ⟨fun c => ⟨(h.1 c).1, (h.1 c).2.1⟩, h.2⟩)
    (Dispatch.run_main (F := Bits) m ρ fun d j => Dispatch.choices_lt (hpre d) j)

/-- The program over the extended reals. -/
theorem frame_dispatchIdeal : Cert.quiescent_DispatchIdeal := fun m ρ hpre =>
  (θ_run (Cert.DispatchIdeal.defs (F := Ideal)) _ _).mono (fun _ h => ⟨fun c => ⟨(h.1 c).1, (h.1 c).2.1⟩, h.2⟩)
    (Dispatch.run_main (F := Ideal) m ρ fun d j => Dispatch.choices_lt (hpre d) j)

/-- The reference, from any memory: it declares no semaphore. -/
theorem frame_dispatchReference : Cert.quiescent_DispatchReferenceIdeal := fun m ρ _ =>
  (θ_run (Cert.DispatchReferenceIdeal.defs (F := Ideal)) _ _).mono
    (fun r h => ⟨fun c => (h c).2.2.2.2, sem_eq_zero_of_no_sems (by decide) r.2⟩)
    (Cert.DispatchReferenceIdeal.Value.run (F := Ideal) m ρ)

/-- The shared values are the plan's four arrays, of the program's two arguments. -/
theorem algebraic_dispatch : Cert.algebraic_DispatchIdeal_DispatchReferenceIdeal := by
  intro m ρ m' ρ' hpre hagree
  have hp : ∀ d j, (m (Dispatch.sLoc d) j).toNat < 8 := fun d j => Dispatch.choices_lt (hpre d) j
  refine ⟨fun c => Dispatch.rTok m c, fun c => Dispatch.rGate m c, fun c => Dispatch.rPos m c, fun c => Dispatch.rTab m c,
    (θ_run (Cert.DispatchIdeal.defs (F := Ideal)) _ _).mono
      (fun _ h c => ⟨(h.1 c).2.2.1, (h.1 c).2.2.2.1, (h.1 c).2.2.2.2.1, (h.1 c).2.2.2.2.2, (h.1 c).1, (h.1 c).2.1⟩) (Dispatch.run_main (F := Ideal) m ρ hp), ?_⟩
  refine (θ_run (Cert.DispatchReferenceIdeal.defs (F := Ideal)) _ _).mono
    (fun _ h c => ⟨(h c).1.trans ?_, (h c).2.1.trans ?_, (h c).2.2.1.trans ?_, (h c).2.2.2.1.trans ?_, (h c).2.2.2.2⟩)
    (Cert.DispatchReferenceIdeal.Value.run (F := Ideal) m' ρ')
  all_goals
    have e0 := (hagree c).1
    have e1 := (hagree c).2
    have hs : ∀ a, Dispatch.ex (m (Dispatch.sLoc c)) a < 8 := fun a => by unfold Dispatch.ex; exact hp c _
  · unfold Cert.DispatchReferenceIdeal.Value.res_main_v47; rw [e0]; exact Dispatch.tokensR _ hs
  · unfold Cert.DispatchReferenceIdeal.Value.res_main_v55; rw [e0, e1]; exact Dispatch.gatesR _ hs _
  · rw [e0]; exact Dispatch.slotsR_eq _ hs
  · rw [e0]; exact Dispatch.tableR _ hs

/-! ## The router -/

/-- The reference, from any memory: it declares no semaphore. -/
theorem frame_routerReference : Cert.quiescent_RouterReferenceIdeal := fun m ρ _ =>
  (θ_run (Cert.RouterReferenceIdeal.defs (F := Ideal)) _ _).mono
    (fun r h => ⟨fun c => (h c).2.2.2, sem_eq_zero_of_no_sems (by decide) r.2⟩)
    (Cert.RouterReferenceIdeal.Value.run (F := Ideal) m ρ)

/-- The shared values are the kernel's three arrays, of the program's two arguments. -/
theorem algebraic_router : Cert.algebraic_RouterIdeal_RouterReferenceIdeal_pre_tokens_finite := by
  intro m ρ m' ρ' hpre hagree
  refine ⟨_, _, _, Cert.RouterIdeal.Value.run (F := Ideal) m ρ, ?_⟩
  refine (θ_run (Cert.RouterReferenceIdeal.defs (F := Ideal)) _ _).mono
    (fun _ h c => ⟨(h c).1.trans ?_, (h c).2.1.trans ?_, (h c).2.2.1.trans ?_, (h c).2.2.2⟩)
    (Cert.RouterReferenceIdeal.Value.run (F := Ideal) m' ρ')
  all_goals
    have e0 := (hagree c).1
    have e1 := (hagree c).2
    have hf := Router.finite_of_pre (hpre c)
  · rw [e0, e1]; exact Router.places_eq hf.1 hf.2
  · unfold Cert.RouterReferenceIdeal.Value.res_main_v18; rw [e0, e1]; exact Router.weights_eq hf.1 hf.2
  · rw [e0]; rfl

/-! ## The feed-forward -/

/-- The program over the extended reals. -/
theorem frame_ffnIdeal : Cert.quiescent_FfnIdeal := fun m ρ hpre =>
  Ffn.frame_run (F := Ideal) m ρ (Ffn.tab_of (F := Ideal) m (Ffn.blocks_of_pre (F := Ideal) (hpre 0)))

/-- The same, where the gates are finite too. -/
theorem frame_ffnIdeal_gates : Cert.quiescent_FfnIdeal_pre_block_table_and_gates := fun m ρ hpre =>
  Ffn.frame_run (F := Ideal) m ρ (Ffn.tab_of (F := Ideal) m (Ffn.blocks_of_gates (hpre 0)).1)

/-- The reference, from any memory: it declares no semaphore. -/
theorem frame_ffnReference : Cert.quiescent_FfnReferenceIdeal := fun m ρ _ =>
  (θ_run (Cert.FfnReferenceIdeal.defs (F := Ideal)) _ _).mono
    (fun r h => ⟨fun c => (h c).2, sem_eq_zero_of_no_sems (by decide) r.2⟩)
    (Cert.FfnReferenceIdeal.Value.run (F := Ideal) m ρ)

/-- The shared value is the kernel's array, on the rows of the blocks in use. -/
theorem algebraic_ffn : Cert.algebraic_FfnIdeal_FfnReferenceIdeal_on_slots_of_used_blocks_pre_block_table_and_gates := by
  intro m ρ m' ρ' hpre hagree
  obtain ⟨B, hg⟩ := Ffn.blocks_of_gates (hpre 0)
  have T := Ffn.tab_of (F := Ideal) m B
  refine ⟨fun c => (Ffn.dats m T 0 c).arrAt 9 (Ffn.pcfg m T).N, ?_, ?_⟩
  · refine (θ_run Cert.FfnIdeal.defs _ _).mono (fun _ h c => ⟨fun i _ => congrFun ((h.1 c).1 9) i, ?_⟩) (Ffn.launch (F := Ideal) m ρ T)
    exact Ffn.args_kept m T _ h.1 c
  · refine (θ_run (Cert.FfnReferenceIdeal.defs (F := Ideal)) _ _).mono (fun _ h c => ⟨fun i hi => (congrFun (h c).1 i).trans ?_, (h c).2⟩)
      (Cert.FfnReferenceIdeal.Value.run (F := Ideal) m' ρ')
    obtain rfl : c = 0 := Subsingleton.elim c 0
    obtain ⟨e0, e1, e2, e3, e4, e5, e6, e7, e8, e9, e10, e11⟩ := hagree 0
    rw [e0, e3, e4, e5, e6, e7, e8, e9, e10, e11]
    exact (FfnValue.final_ref m B hg i (Ffn.used_of_mask B.lt i hi)).symm

/-- Everything that is claimed. -/
theorem claim : Cert.Claim :=
  ⟨Cert.Kernel.Gen.facts, Cert.KernelIdeal.Gen.facts, Cert.ReferenceIdeal.Gen.facts, Cert.Dispatch.Gen.facts, Cert.DispatchIdeal.Gen.facts,
    Cert.DispatchReferenceIdeal.Gen.facts, Cert.Router.Gen.facts, Cert.RouterIdeal.Gen.facts, Cert.RouterReferenceIdeal.Gen.facts,
    Cert.Ffn.Gen.facts, Cert.FfnIdeal.Gen.facts, Cert.FfnReferenceIdeal.Gen.facts,
    Cert.Pre_pos_in_rows.Gen.facts, Cert.Pre_sel_is_expert.Gen.facts, Cert.Pre_tokens_finite.Gen.facts,
    Cert.Pre_block_table.Gen.facts, Cert.Pre_block_table_and_gates.Gen.facts, Cert.On_slots_of_used_blocks.Gen.facts,
    frame_kernel, frame_kernelIdeal, frame_reference, fun m ρ _ => frame_reference m ρ trivial,
    frame_dispatch, frame_dispatchIdeal, frame_dispatchReference, fun m ρ _ => frame_dispatchReference m ρ trivial,
    fun m ρ _ => Cert.Router.Gen.frame m ρ, fun m ρ _ => Cert.RouterIdeal.Gen.frame m ρ, fun m ρ _ => Cert.RouterIdeal.Gen.frame m ρ,
    frame_routerReference, fun m ρ _ => frame_routerReference m ρ trivial,
    Ffn.frame_printed, frame_ffnIdeal, frame_ffnIdeal_gates, frame_ffnReference, fun m ρ _ => frame_ffnReference m ρ trivial,
    trivial, algebraic, trivial, algebraic_dispatch, trivial, algebraic_router, trivial, algebraic_ffn⟩

end Cert.Proof

end
